-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)) (v4 : (c : Dev Cert.KernelIdeal.nD) → Buf (Elt Ideal) ((c.tc : Thread Cert.KernelIdeal.nD Cert.KernelIdeal.τ).loc Cert.KernelIdeal.main_v57_4)) (v5 : (c : Dev Cert.KernelIdeal.nD) → Buf (Elt Ideal) ((c.tc : Thread Cert.KernelIdeal.nD Cert.KernelIdeal.τ).loc Cert.KernelIdeal.main_v57_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_v57_4) = v4 c
          ∧ r.2.mem ((c.tc : Thread Cert.KernelIdeal.nD Cert.KernelIdeal.τ).loc Cert.KernelIdeal.main_v57_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v171) = v4 c
          ∧ r.2.mem ((c.tc : Thread Cert.ReferenceIdeal.nD Cert.ReferenceIdeal.τ).loc Cert.ReferenceIdeal.main_v159) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_on_gate_rows [hKernel6Ideal : Cert.Kernel6Ideal.Facts] [hReference6Ideal : Cert.Reference6Ideal.Facts] [hOn_gate_rows : Cert.On_gate_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![6656, 1024]⟩ : Shape).Idx, (Cert.On_gate_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Kernel6Ideal.nD Cert.Kernel6Ideal.τ).loc Cert.Kernel6Ideal.main_v4) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![6656, 1024]⟩ : Shape).Idx, (Cert.On_gate_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) i = 1#1 → r.2.mem ((c.tc : Thread Cert.Reference6Ideal.nD Cert.Reference6Ideal.τ).loc Cert.Reference6Ideal.main_v7) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v75) = v0 c
          ∧ r.2.mem ((c.tc : Thread Cert.Reference8Ideal.nD Cert.Reference8Ideal.τ).loc Cert.Reference8Ideal.main_v77) = v1 c
          ∧ r.2.mem ((c.tc : Thread Cert.Reference8Ideal.nD Cert.Reference8Ideal.τ).loc Cert.Reference8Ideal.main_v79) = v2 c
          ∧ r.2.mem ((c.tc : Thread Cert.Reference8Ideal.nD Cert.Reference8Ideal.τ).loc Cert.Reference8Ideal.main_v74) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)) (v4 : (c : Dev Cert.Kernel9Ideal.nD) → Buf (Elt Ideal) ((c.tc : Thread Cert.Kernel9Ideal.nD Cert.Kernel9Ideal.τ).loc Cert.Kernel9Ideal.main_v4_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_v4_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_v30) = v3 c
          ∧ r.2.mem ((c.tc : Thread Cert.Reference9Ideal.nD Cert.Reference9Ideal.τ).loc Cert.Reference9Ideal.main_v32) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference4Ideal [hKernel11Ideal : Cert.Kernel11Ideal.Facts] [hReference4Ideal : Cert.Reference4Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel11Ideal m →
    (∀ c : Dev Cert.Kernel11Ideal.nD,
      m' ((c.tc : Thread Cert.Reference4Ideal.nD Cert.Reference4Ideal.τ).loc Cert.Reference4Ideal.main_arg0) = m ((c.tc : Thread Cert.Kernel11Ideal.nD Cert.Kernel11Ideal.τ).loc Cert.Kernel11Ideal.main_arg0)
      ∧ m' ((c.tc : Thread Cert.Reference4Ideal.nD Cert.Reference4Ideal.τ).loc Cert.Reference4Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel12_Kernel12Ideal : Prop :=
  True

def algebraic_Kernel12Ideal_Reference5Ideal [hKernel12Ideal : Cert.Kernel12Ideal.Facts] [hReference5Ideal : Cert.Reference5Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel12Ideal m →
    (∀ c : Dev Cert.Kernel12Ideal.nD,
      m' ((c.tc : Thread Cert.Reference5Ideal.nD Cert.Reference5Ideal.τ).loc Cert.Reference5Ideal.main_arg0) = m ((c.tc : Thread Cert.Kernel12Ideal.nD Cert.Kernel12Ideal.τ).loc Cert.Kernel12Ideal.main_arg0)
      ∧ m' ((c.tc : Thread Cert.Reference5Ideal.nD Cert.Reference5Ideal.τ).loc Cert.Reference5Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel13_Kernel13Ideal : Prop :=
  True

def algebraic_Kernel13Ideal_Reference6Ideal_on_gate_rows [hKernel13Ideal : Cert.Kernel13Ideal.Facts] [hReference6Ideal : Cert.Reference6Ideal.Facts] [hOn_gate_rows : Cert.On_gate_rows.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel13Ideal m →
    (∀ c : Dev Cert.Kernel13Ideal.nD,
      m' ((c.tc : Thread Cert.Reference6Ideal.nD Cert.Reference6Ideal.τ).loc Cert.Reference6Ideal.main_arg0) = m ((c.tc : Thread Cert.Kernel13Ideal.nD Cert.Kernel13Ideal.τ).loc Cert.Kernel13Ideal.main_arg0)
      ∧ m' ((c.tc : Thread Cert.Reference6Ideal.nD Cert.Reference6Ideal.τ).loc Cert.Reference6Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![6656, 1024]⟩ : Shape).Idx, (Cert.On_gate_rows.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Kernel13Ideal.nD Cert.Kernel13Ideal.τ).loc Cert.Kernel13Ideal.main_v4) i = v0 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![6656, 1024]⟩ : Shape).Idx, (Cert.On_gate_rows.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Reference6Ideal.nD Cert.Reference6Ideal.τ).loc Cert.Reference6Ideal.main_v7) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel14_Kernel14Ideal : Prop :=
  True

def algebraic_Kernel14Ideal_Reference7Ideal [hKernel14Ideal : Cert.Kernel14Ideal.Facts] [hReference7Ideal : Cert.Reference7Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel14Ideal m →
    (∀ c : Dev Cert.Kernel14Ideal.nD,
      m' ((c.tc : Thread Cert.Reference7Ideal.nD Cert.Reference7Ideal.τ).loc Cert.Reference7Ideal.main_arg0) = m ((c.tc : Thread Cert.Kernel14Ideal.nD Cert.Kernel14Ideal.τ).loc Cert.Kernel14Ideal.main_arg0)
      ∧ m' ((c.tc : Thread Cert.Reference7Ideal.nD Cert.Reference7Ideal.τ).loc Cert.Reference7Ideal.main_arg1) = m ((c.tc : Thread Cert.Kernel14Ideal.nD Cert.Kernel14Ideal.τ).loc Cert.Kernel14Ideal.main_arg1)
      ∧ m' ((c.tc : Thread Cert.Reference7Ideal.nD Cert.Reference7Ideal.τ).loc Cert.Reference7Ideal.main_arg2) = m ((c.tc : Thread Cert.Kernel14Ideal.nD Cert.Kernel14Ideal.τ).loc Cert.Kernel14Ideal.main_arg2)
      ∧ m' ((c.tc : Thread Cert.Reference7Ideal.nD Cert.Reference7Ideal.τ).loc Cert.Reference7Ideal.main_arg3) = m ((c.tc : Thread Cert.Kernel14Ideal.nD Cert.Kernel14Ideal.τ).loc Cert.Kernel14Ideal.main_arg3)
      ∧ m' ((c.tc : Thread Cert.Reference7Ideal.nD Cert.Reference7Ideal.τ).loc Cert.Reference7Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v12)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts) (hOn_gate_rows : Cert.On_gate_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_gate_rows (hKernel6Ideal := hKernel6Ideal) (hReference6Ideal := hReference6Ideal) (hOn_gate_rows := hOn_gate_rows)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference4Ideal (hKernel11Ideal := hKernel11Ideal) (hReference4Ideal := hReference4Ideal)
    ∧ preserves_Kernel12_Kernel12Ideal
    ∧ algebraic_Kernel12Ideal_Reference5Ideal (hKernel12Ideal := hKernel12Ideal) (hReference5Ideal := hReference5Ideal)
    ∧ preserves_Kernel13_Kernel13Ideal
    ∧ algebraic_Kernel13Ideal_Reference6Ideal_on_gate_rows (hKernel13Ideal := hKernel13Ideal) (hReference6Ideal := hReference6Ideal) (hOn_gate_rows := hOn_gate_rows)
    ∧ preserves_Kernel14_Kernel14Ideal
    ∧ algebraic_Kernel14Ideal_Reference7Ideal (hKernel14Ideal := hKernel14Ideal) (hReference7Ideal := hReference7Ideal)
-- ==== On_gate_rows.lean ====
abbrev S4x2048x1024 : Shape := ⟨3, ![4, 2048, 1024]⟩
abbrev S4x2048x5120 : Shape := ⟨3, ![4, 2048, 5120]⟩
abbrev S6656x1024 : Shape := ⟨2, ![6656, 1024]⟩
abbrev S_ : Shape := ⟨0, ![]⟩

class Facts : Prop where
  bcast_S_S6656x1024 : S_.BroadcastsInDim S6656x1024 (![] : Fin 0 → Fin S6656x1024.rank)

variable [Facts]

def fn {F : FTy → Type} [FloatOps F] (main_arg0 : FVec F S4x2048x1024 .f32) (main_arg1 : FVec F S4x2048x5120 .f32) : IVec S6656x1024 1 :=
  let main_v0 : IVec S6656x1024 32 := iotaInDim S6656x1024 32 0
  let main_c : IVec S_ 32 := constantI S_ 32 1536#32
  let main_v1 : IVec S6656x1024 32 := broadcastInDim S6656x1024 ![] bcast_S_S6656x1024 main_c
  let main_v2 : IVec S6656x1024 1 := cmpi .sge main_v0 main_v1
  main_v2
-- ==== Kernel.lean ====
abbrev S4x2048x1024 : Shape := ⟨3, ![4, 2048, 1024]⟩
abbrev S4x2048x5120 : Shape := ⟨3, ![4, 2048, 5120]⟩
abbrev S1024x1024 : Shape := ⟨2, ![1024, 1024]⟩
abbrev S2x2048 : Shape := ⟨2, ![2, 2048]⟩
abbrev S2x3x1024 : Shape := ⟨3, ![2, 3, 1024]⟩
abbrev S2x1024 : Shape := ⟨2, ![2, 1024]⟩
abbrev S1x1024x1024 : Shape := ⟨3, ![1, 1024, 1024]⟩
abbrev S3x1024x1024 : Shape := ⟨3, ![3, 1024, 1024]⟩
abbrev S_ : Shape := ⟨0, ![]⟩
abbrev S2x8x1024 : Shape := ⟨3, ![2, 8, 1024]⟩
abbrev S2x2x1024 : Shape := ⟨3, ![2, 2, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S4x2x1024 : Shape := ⟨3, ![4, 2, 1024]⟩
abbrev S4x2050x1024 : Shape := ⟨3, ![4, 2050, 1024]⟩
abbrev S1x1x1024 : Shape := ⟨3, ![1, 1, 1024]⟩
abbrev S8192x1024 : Shape := ⟨2, ![8192, 1024]⟩
abbrev S8192x5120 : Shape := ⟨2, ![8192, 5120]⟩
abbrev S1024x8192 : Shape := ⟨2, ![1024, 8192]⟩
abbrev S8x1024 : Shape := ⟨2, ![8, 1024]⟩
abbrev S512x1024 : Shape := ⟨2, ![512, 1024]⟩
abbrev S1x2x1024 : Shape := ⟨3, ![1, 2, 1024]⟩
abbrev S1x8x1024 : Shape := ⟨3, ![1, 8, 1024]⟩
abbrev S512x5120 : Shape := ⟨2, ![512, 5120]⟩
abbrev S1024x512 : Shape := ⟨2, ![1024, 512]⟩

abbrev nBuf : Space → Nat
  | .hbm => 75
  | .vmem => 35
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5120, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048, .f32⟩
  | .hbm, ⟨7, _⟩ => ⟨S2x3x1024, .f32⟩
  | .hbm, ⟨8, _⟩ => ⟨S2x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S3x1024x1024, .f32⟩
  | .hbm, ⟨13, _⟩ => ⟨S3x1024x1024, .bf16⟩
  | .hbm, ⟨14, _⟩ => ⟨S_, .i32⟩
  | .hbm, ⟨15, _⟩ => ⟨S_, .f32⟩
  | .hbm, ⟨16, _⟩ => ⟨S2x8x1024, .f32⟩
  | .hbm, ⟨17, _⟩ => ⟨S2x2x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S1x3x1024, .f32⟩
  | .hbm, ⟨24, _⟩ => ⟨S3x1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S4x2x1024, .f32⟩
  | .hbm, ⟨29, _⟩ => ⟨S4x2048x1024, .f32⟩
  | .hbm, ⟨30, _⟩ => ⟨S4x2050x1024, .f32⟩
  | .hbm, ⟨31, _⟩ => ⟨S1x1024, .f32⟩
  | .hbm, ⟨32, _⟩ => ⟨S1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S1x1024, .f32⟩
  | .hbm, ⟨38, _⟩ => ⟨S1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S1x1024, .f32⟩
  | .hbm, ⟨45, _⟩ => ⟨S1024, .f32⟩
  | .hbm, ⟨46, _⟩ => ⟨S4x2048x1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S8192x1024, .f32⟩
  | .hbm, ⟨61, _⟩ => ⟨S8192x5120, .f32⟩
  | .hbm, ⟨62, _⟩ => ⟨S8192x5120, .bf16⟩
  | .hbm, ⟨63, _⟩ => ⟨S8192x1024, .f32⟩
  | .hbm, ⟨64, _⟩ => ⟨S8192x1024, .bf16⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S8192x1024, .bf16⟩
  | .hbm, ⟨69, _⟩ => ⟨S8192x5120, .bf16⟩
  | .hbm, ⟨70, _⟩ => ⟨S1024x8192, .bf16⟩
  | .hbm, ⟨71, _⟩ => ⟨S8192x1024, .bf16⟩
  | .hbm, ⟨72, _⟩ => ⟨S8192x1024, .bf16⟩
  | .hbm, ⟨73, _⟩ => ⟨S8192x1024, .bf16⟩
  | .hbm, ⟨74, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x2x1024, .f32⟩
  | .local _ .vmem, ⟨22, _⟩ => ⟨S1x8x1024, .f32⟩
  | .local _ .vmem, ⟨23, _⟩ => ⟨S512x5120, .bf16⟩
  | .local _ .vmem, ⟨24, _⟩ => ⟨S512x5120, .bf16⟩
  | .local _ .vmem, ⟨25, _⟩ => ⟨S1024x512, .bf16⟩
  | .local _ .vmem, ⟨26, _⟩ => ⟨S1024x512, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57_0 : Ref sig .tc := ⟨.hbm, 69, rfl⟩
abbrev main_v57_1 : Ref sig .tc := ⟨.hbm, 70, rfl⟩
abbrev main_v57_2 : Ref sig .tc := ⟨.hbm, 71, rfl⟩
abbrev main_v57_3 : Ref sig .tc := ⟨.hbm, 72, rfl⟩
abbrev main_v57_4 : Ref sig .tc := ⟨.hbm, 73, rfl⟩
abbrev main_v57_5 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x5120 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S4x2048x1024 : Shape := ⟨3, ![4, 2048, 1024]⟩
abbrev S4x2048x5120 : Shape := ⟨3, ![4, 2048, 5120]⟩
abbrev S1024x1024 : Shape := ⟨2, ![1024, 1024]⟩
abbrev S2x2048 : Shape := ⟨2, ![2, 2048]⟩
abbrev S2x3x1024 : Shape := ⟨3, ![2, 3, 1024]⟩
abbrev S2x1024 : Shape := ⟨2, ![2, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S4x2x1024 : Shape := ⟨3, ![4, 2, 1024]⟩
abbrev S4x2050x1024 : Shape := ⟨3, ![4, 2050, 1024]⟩
abbrev S1x1x1024 : Shape := ⟨3, ![1, 1, 1024]⟩
abbrev S1x2048 : Shape := ⟨2, ![1, 2048]⟩
abbrev S2048 : Shape := ⟨1, ![2048]⟩
abbrev S8x1024 : Shape := ⟨2, ![8, 1024]⟩
abbrev S8192x5120 : Shape := ⟨2, ![8192, 5120]⟩
abbrev S8192x1024 : Shape := ⟨2, ![8192, 1024]⟩
abbrev S1024x8192 : Shape := ⟨2, ![1024, 8192]⟩

abbrev nBuf : Space → Nat
  | .hbm => 217
  | .vmem => 0
  | .smem => 0
  | _ => 0

abbrev hbmTy0_0 (i : Nat) : BufTy := match i % 128 with
  | 0 => ⟨S4x2048x1024, .f32⟩
  | 1 => ⟨S4x2048x5120, .f32⟩
  | 2 => ⟨S4x2048x1024, .f32⟩
  | 3 => ⟨S1024x1024, .f32⟩
  | 4 => ⟨S1024x1024, .f32⟩
  | 5 => ⟨S1024x1024, .f32⟩
  | 6 => ⟨S2x2048, .f32⟩
  | 7 => ⟨S2x3x1024, .f32⟩
  | 8 => ⟨S2x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S1x3x1024, .f32⟩
  | 16 => ⟨S3x1024, .f32⟩
  | 17 => ⟨S1x1024, .f32⟩
  | 18 => ⟨S1024, .f32⟩
  | 19 => ⟨S_, .f32⟩
  | 20 => ⟨S4x2x1024, .f32⟩
  | 21 => ⟨S4x2048x1024, .f32⟩
  | 22 => ⟨S4x2050x1024, .f32⟩
  | 23 => ⟨S_, .f32⟩
  | 24 => ⟨S4x2x1024, .f32⟩
  | 25 => ⟨S1x1024, .f32⟩
  | 26 => ⟨S1024, .f32⟩
  | 27 => ⟨S4x2048x1024, .f32⟩
  | 28 => ⟨S1x1x1024, .f32⟩
  | 29 => ⟨S4x2048x1024, .f32⟩
  | 30 => ⟨S4x2048x1024, .f32⟩
  | 31 => ⟨S1x1024, .f32⟩
  | 32 => ⟨S1024, .f32⟩
  | 33 => ⟨S4x2048x1024, .f32⟩
  | 34 => ⟨S1x1x1024, .f32⟩
  | 35 => ⟨S4x2048x1024, .f32⟩
  | 36 => ⟨S4x2048x1024, .f32⟩
  | 37 => ⟨S4x2048x1024, .f32⟩
  | 38 => ⟨S1x1024, .f32⟩
  | 39 => ⟨S1024, .f32⟩
  | 40 => ⟨S4x2048x1024, .f32⟩
  | 41 => ⟨S1x1x1024, .f32⟩
  | 42 => ⟨S4x2048x1024, .f32⟩
  | 43 => ⟨S4x2048x1024, .f32⟩
  | 44 => ⟨S4x2048x1024, .f32⟩
  | 45 => ⟨S1x1x1024, .f32⟩
  | 46 => ⟨S4x2048x1024, .f32⟩
  | 47 => ⟨S4x2048x1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S_, .f32⟩
  | 69 => ⟨S4x2048x1024, .f32⟩
  | 70 => ⟨S4x2048x1024, .f32⟩
  | 71 => ⟨S_, .f32⟩
  | 72 => ⟨S4x2048x1024, .f32⟩
  | 73 => ⟨S4x2048x1024, .f32⟩
  | 74 => ⟨S4x2048x1024, .f32⟩
  | 75 => ⟨S1x1024, .f32⟩
  | 76 => ⟨S1024, .f32⟩
  | 77 => ⟨S1x1x1024, .f32⟩
  | 78 => ⟨S4x2048x1024, .f32⟩
  | 79 => ⟨S4x2048x1024, .f32⟩
  | 80 => ⟨S4x2048x1024, .f32⟩
  | 81 => ⟨S4x2048x1024, .f32⟩
  | 82 => ⟨S_, .f32⟩
  | 83 => ⟨S4x2048x1024, .f32⟩
  | 84 => ⟨S4x2048x1024, .f32⟩
  | 85 => ⟨S_, .f32⟩
  | 86 => ⟨S4x2048x1024, .f32⟩
  | 87 => ⟨S4x2048x1024, .f32⟩
  | 88 => ⟨S_, .f32⟩
  | 89 => ⟨S4x2048x1024, .f32⟩
  | 90 => ⟨S4x2048x1024, .f32⟩
  | 91 => ⟨S4x2048x1024, .f32⟩
  | 92 => ⟨S4x2048x1024, .f32⟩
  | 93 => ⟨S4x2048x1024, .f32⟩
  | 94 => ⟨S4x2048x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S_, .f32⟩
  | 103 => ⟨S1024, .f32⟩
  | 104 => ⟨S1x1x1024, .f32⟩
  | 105 => ⟨S_, .f32⟩
  | 106 => ⟨S1024, .f32⟩
  | 107 => ⟨S1x1024, .f32⟩
  | 108 => ⟨S_, .f32⟩
  | 109 => ⟨S2x2048, .f32⟩
  | 110 => ⟨S4x2048x1024, .f32⟩
  | 111 => ⟨S_, .f32⟩
  | 112 => ⟨S1024, .f32⟩
  | 113 => ⟨S1x1x1024, .f32⟩
  | 114 => ⟨S_, .f32⟩
  | 115 => ⟨S1024, .f32⟩
  | 116 => ⟨S1x1024, .f32⟩
  | 117 => ⟨S_, .f32⟩
  | 118 => ⟨S2x2048, .f32⟩
  | 119 => ⟨S2x2048, .f32⟩
  | 120 => ⟨S_, .f32⟩
  | 121 => ⟨S4x2048x1024, .f32⟩
  | 122 => ⟨S_, .f32⟩
  | 123 => ⟨S4x2048x1024, .f32⟩
  | 124 => ⟨S_, .f32⟩
  | 125 => ⟨S4x2048x1024, .f32⟩
  | 126 => ⟨S4x2048x5120, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S1024, .f32⟩
  | 4 => ⟨S1x1x1024, .f32⟩
  | 5 => ⟨S_, .f32⟩
  | 6 => ⟨S1024, .f32⟩
  | 7 => ⟨S4x2048x1024, .f32⟩
  | 8 => ⟨S4x2048x1024, .f32⟩
  | 9 => ⟨S4x2048x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S_, .f32⟩
  | 16 => ⟨S4x2050x1024, .f32⟩
  | 17 => ⟨S1x1024, .f32⟩
  | 18 => ⟨S_, .f32⟩
  | 19 => ⟨S3x1024, .f32⟩
  | 20 => ⟨S4x2048x1024, .f32⟩
  | 21 => ⟨S4x2048x1024, .f32⟩
  | 22 => ⟨S4x2048x1024, .f32⟩
  | 23 => ⟨S_, .f32⟩
  | 24 => ⟨S1024, .f32⟩
  | 25 => ⟨S1x1x1024, .f32⟩
  | 26 => ⟨S_, .f32⟩
  | 27 => ⟨S1024, .f32⟩
  | 28 => ⟨S_, .f32⟩
  | 29 => ⟨S4x2050x1024, .f32⟩
  | 30 => ⟨S4x2050x1024, .f32⟩
  | 31 => ⟨S1x1024, .f32⟩
  | 32 => ⟨S_, .f32⟩
  | 33 => ⟨S3x1024, .f32⟩
  | 34 => ⟨S3x1024, .f32⟩
  | 35 => ⟨S4x2048x1024, .f32⟩
  | 36 => ⟨S4x2048x1024, .f32⟩
  | 37 => ⟨S4x2048x1024, .f32⟩
  | 38 => ⟨S_, .f32⟩
  | 39 => ⟨S1024, .f32⟩
  | 40 => ⟨S1x1x1024, .f32⟩
  | 41 => ⟨S_, .f32⟩
  | 42 => ⟨S1024, .f32⟩
  | 43 => ⟨S_, .f32⟩
  | 44 => ⟨S4x2050x1024, .f32⟩
  | 45 => ⟨S4x2050x1024, .f32⟩
  | 46 => ⟨S1x1024, .f32⟩
  | 47 => ⟨S_, .f32⟩
  | 48 => ⟨S3x1024, .f32⟩
  | 49 => ⟨S3x1024, .f32⟩
  | 50 => ⟨S4x2x1024, .f32⟩
  | 51 => ⟨S4x2048x1024, .f32⟩
  | 52 => ⟨S4x2048x1024, .f32⟩
  | 53 => ⟨S4x2048x1024, .f32⟩
  | 54 => ⟨S1x1024, .f32⟩
  | 55 => ⟨S_, .f32⟩
  | 56 => ⟨S2x1024, .f32⟩
  | 57 => ⟨S1x3x1024, .f32⟩
  | 58 => ⟨S_, .f32⟩
  | 59 => ⟨S2x3x1024, .f32⟩
  | 60 => ⟨S4x2048x1024, .f32⟩
  | 61 => ⟨S_, .f32⟩
  | 62 => ⟨S4x2048x1024, .f32⟩
  | 63 => ⟨S_, .f32⟩
  | 64 => ⟨S4x2048x1024, .f32⟩
  | 65 => ⟨S4x2048x5120, .f32⟩
  | 66 => ⟨S1x2048, .f32⟩
  | 67 => ⟨S2048, .f32⟩
  | 68 => ⟨S2x1024, .f32⟩
  | 69 => ⟨S1x1024, .f32⟩
  | 70 => ⟨S1024, .f32⟩
  | 71 => ⟨S1x1024, .f32⟩
  | 72 => ⟨S1x3x1024, .f32⟩
  | 73 => ⟨S3x1024, .f32⟩
  | 74 => ⟨S_, .f32⟩
  | 75 => ⟨S2x1024, .f32⟩
  | 76 => ⟨S8x1024, .f32⟩
  | 77 => ⟨S4x2048x5120, .f32⟩
  | 78 => ⟨S8192x5120, .f32⟩
  | 79 => ⟨S8192x5120, .bf16⟩
  | 80 => ⟨S8192x1024, .f32⟩
  | 81 => ⟨S8192x1024, .bf16⟩
  | 82 => ⟨S1024x8192, .bf16⟩
  | 83 => ⟨S8192x1024, .f32⟩
  | 84 => ⟨S8192x1024, .bf16⟩
  | 85 => ⟨S8192x1024, .f32⟩
  | 86 => ⟨S8192x1024, .bf16⟩
  | 87 => ⟨S8192x1024, .f32⟩
  | 88 => ⟨S8192x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_1 : Ref sig .tc := ⟨.hbm, 65, rfl⟩
abbrev main_v54 : Ref sig .tc := ⟨.hbm, 66, rfl⟩
abbrev main_v55 : Ref sig .tc := ⟨.hbm, 67, rfl⟩
abbrev main_cst_2 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_4 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_7 : Ref sig .tc := ⟨.hbm, 102, rfl⟩
abbrev main_v85 : Ref sig .tc := ⟨.hbm, 103, rfl⟩
abbrev main_v86 : Ref sig .tc := ⟨.hbm, 104, rfl⟩
abbrev main_cst_8 : Ref sig .tc := ⟨.hbm, 105, rfl⟩
abbrev main_v87 : Ref sig .tc := ⟨.hbm, 106, rfl⟩
abbrev main_v88 : Ref sig .tc := ⟨.hbm, 107, rfl⟩
abbrev main_cst_9 : Ref sig .tc := ⟨.hbm, 108, rfl⟩
abbrev main_v89 : Ref sig .tc := ⟨.hbm, 109, rfl⟩
abbrev main_v90 : Ref sig .tc := ⟨.hbm, 110, rfl⟩
abbrev main_cst_10 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_cst_14 : Ref sig .tc := ⟨.hbm, 122, rfl⟩
abbrev main_v98 : Ref sig .tc := ⟨.hbm, 123, rfl⟩
abbrev main_cst_15 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_16 : Ref sig .tc := ⟨.hbm, 130, rfl⟩
abbrev main_v104 : Ref sig .tc := ⟨.hbm, 131, rfl⟩
abbrev main_v105 : Ref sig .tc := ⟨.hbm, 132, rfl⟩
abbrev main_cst_17 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_18 : Ref sig .tc := ⟨.hbm, 138, rfl⟩
abbrev main_v110 : Ref sig .tc := ⟨.hbm, 139, rfl⟩
abbrev main_v111 : Ref sig .tc := ⟨.hbm, 140, rfl⟩
abbrev main_cst_19 : Ref sig .tc := ⟨.hbm, 141, rfl⟩
abbrev main_v112 : Ref sig .tc := ⟨.hbm, 142, rfl⟩
abbrev main_cst_20 : Ref sig .tc := ⟨.hbm, 143, rfl⟩
abbrev main_v113 : Ref sig .tc := ⟨.hbm, 144, rfl⟩
abbrev main_v114 : Ref sig .tc := ⟨.hbm, 145, rfl⟩
abbrev main_cst_21 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_22 : Ref sig .tc := ⟨.hbm, 151, rfl⟩
abbrev main_v119 : Ref sig .tc := ⟨.hbm, 152, rfl⟩
abbrev main_v120 : Ref sig .tc := ⟨.hbm, 153, rfl⟩
abbrev main_cst_23 : Ref sig .tc := ⟨.hbm, 154, rfl⟩
abbrev main_v121 : Ref sig .tc := ⟨.hbm, 155, rfl⟩
abbrev main_cst_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_25 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_26 : Ref sig .tc := ⟨.hbm, 166, rfl⟩
abbrev main_v130 : Ref sig .tc := ⟨.hbm, 167, rfl⟩
abbrev main_v131 : Ref sig .tc := ⟨.hbm, 168, rfl⟩
abbrev main_cst_27 : Ref sig .tc := ⟨.hbm, 169, rfl⟩
abbrev main_v132 : Ref sig .tc := ⟨.hbm, 170, rfl⟩
abbrev main_cst_28 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_29 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_30 : Ref sig .tc := ⟨.hbm, 183, rfl⟩
abbrev main_v143 : Ref sig .tc := ⟨.hbm, 184, rfl⟩
abbrev main_v144 : Ref sig .tc := ⟨.hbm, 185, rfl⟩
abbrev main_cst_31 : Ref sig .tc := ⟨.hbm, 186, rfl⟩
abbrev main_v145 : Ref sig .tc := ⟨.hbm, 187, rfl⟩
abbrev main_v146 : Ref sig .tc := ⟨.hbm, 188, rfl⟩
abbrev main_cst_32 : Ref sig .tc := ⟨.hbm, 189, rfl⟩
abbrev main_v147 : Ref sig .tc := ⟨.hbm, 190, rfl⟩
abbrev main_cst_33 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_34 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩

abbrev nD : Nat := 1
abbrev τ : Topo := Topo.v7x

variable {F : FTy → Type} [FloatOps F]
-- ==== Kernel2.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x4096x1024 : Shape := ⟨3, ![1, 4096, 1024]⟩
abbrev S2x4096x1024 : Shape := ⟨3, ![2, 4096, 1024]⟩
abbrev S8192x1024 : Shape := ⟨2, ![8192, 1024]⟩
abbrev S8192x4096 : Shape := ⟨2, ![8192, 4096]⟩
abbrev S2x1x1024 : Shape := ⟨3, ![2, 1, 1024]⟩
abbrev S8x1024 : Shape := ⟨2, ![8, 1024]⟩
abbrev S512x1024 : Shape := ⟨2, ![512, 1024]⟩
abbrev S512x4096 : Shape := ⟨2, ![512, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 38
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S2x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x4096, .f32⟩
  | .hbm, ⟨24, _⟩ => ⟨S4096x1024, .f32⟩
  | .hbm, ⟨25, _⟩ => ⟨S1x4096x1024, .f32⟩
  | .hbm, ⟨26, _⟩ => ⟨S1x4096x1024, .f32⟩
  | .hbm, ⟨27, _⟩ => ⟨S2x4096x1024, .f32⟩
  | .hbm, ⟨28, _⟩ => ⟨S2x4096x1024, .bf16⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S8192x4096, .bf16⟩
  | .hbm, ⟨33, _⟩ => ⟨S2x1x1024, .f32⟩
  | .hbm, ⟨34, _⟩ => ⟨S8192x4096, .bf16⟩
  | .hbm, ⟨35, _⟩ => ⟨S8192x1024, .f32⟩
  | .hbm, ⟨36, _⟩ => ⟨S8192x1024, .bf16⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1x1x1024, .f32⟩
  | .local _ .vmem, ⟨7, _⟩ => ⟨S1x4096x1024, .bf16⟩
  | .local _ .vmem, ⟨8, _⟩ => ⟨S1x4096x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S7x1024 : Shape := ⟨2, ![7, 1024]⟩
abbrev S8x1024 : Shape := ⟨2, ![8, 1024]⟩
abbrev S8192x4096 : Shape := ⟨2, ![8192, 4096]⟩
abbrev S8192x1024 : Shape := ⟨2, ![8192, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S2x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x4096, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S4x2048x4096, .f32⟩
  | .hbm, ⟨33, _⟩ => ⟨S4x2048x4096, .i1⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x4096, .f32⟩
  | .hbm, ⟨44, _⟩ => ⟨S4x2048x4096, .f32⟩
  | .hbm, ⟨45, _⟩ => ⟨S_, .f32⟩
  | .hbm, ⟨46, _⟩ => ⟨S4x2048x4096, .f32⟩
  | .hbm, ⟨47, _⟩ => ⟨S4x2048x4096, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S4x2048x1024, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S1x1024, .f32⟩
  | .hbm, ⟨75, _⟩ => ⟨S_, .f32⟩
  | .hbm, ⟨76, _⟩ => ⟨S2x1024, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S7x1024, .f32⟩
  | .hbm, ⟨82, _⟩ => ⟨S8x1024, .f32⟩
  | .hbm, ⟨83, _⟩ => ⟨S8192x4096, .f32⟩
  | .hbm, ⟨84, _⟩ => ⟨S8192x4096, .bf16⟩
  | .hbm, ⟨85, _⟩ => ⟨S4x2048x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x2048x256 : Shape := ⟨3, ![4, 2048, 256]⟩
abbrev S4x2048x5120 : Shape := ⟨3, ![4, 2048, 5120]⟩
abbrev S2x1024 : Shape := ⟨2, ![2, 1024]⟩
abbrev S1024x6656 : Shape := ⟨2, ![1024, 6656]⟩
abbrev S8192x5120 : Shape := ⟨2, ![8192, 5120]⟩
abbrev S8192x1024 : Shape := ⟨2, ![8192, 1024]⟩
abbrev S1024x8192 : Shape := ⟨2, ![1024, 8192]⟩
abbrev S8192x256 : Shape := ⟨2, ![8192, 256]⟩
abbrev S256x8192 : Shape := ⟨2, ![256, 8192]⟩
abbrev S2x1x1024 : Shape := ⟨3, ![2, 1, 1024]⟩
abbrev S6656x1024 : Shape := ⟨2, ![6656, 1024]⟩
abbrev S8x1024 : Shape := ⟨2, ![8, 1024]⟩
abbrev S512x5120 : Shape := ⟨2, ![512, 5120]⟩
abbrev S1024x512 : Shape := ⟨2, ![1024, 512]⟩
abbrev S256x512 : Shape := ⟨2, ![256, 512]⟩
abbrev S512x1024 : Shape := ⟨2, ![512, 1024]⟩
abbrev S1x1x1024 : Shape := ⟨3, ![1, 1, 1024]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩
abbrev S256x5120 : Shape := ⟨2, ![256, 5120]⟩
abbrev S5120x1024 : Shape := ⟨2, ![5120, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S4x2048x256, .f32⟩
  | .hbm, ⟨3, _⟩ => ⟨S4x2048x5120, .f32⟩
  | .hbm, ⟨4, _⟩ => ⟨S4x2048x1024, .f32⟩
  | .hbm, ⟨5, _⟩ => ⟨S4x2048x1024, .f32⟩
  | .hbm, ⟨6, _⟩ => ⟨S2x1024, .f32⟩
  | .hbm, ⟨7, _⟩ => ⟨S1024x6656, .f32⟩
  | .hbm, ⟨8, _⟩ => ⟨S8192x5120, .f32⟩
  | .hbm, ⟨9, _⟩ => ⟨S8192x5120, .bf16⟩
  | .hbm, ⟨10, _⟩ => ⟨S8192x1024, .f32⟩
  | .hbm, ⟨11, _⟩ => ⟨S1024x8192, .f32⟩
  | .hbm, ⟨12, _⟩ => ⟨S1024x8192, .bf16⟩
  | .hbm, ⟨13, _⟩ => ⟨S8192x256, .f32⟩
  | .hbm, ⟨14, _⟩ => ⟨S256x8192, .f32⟩
  | .hbm, ⟨15, _⟩ => ⟨S256x8192, .bf16⟩
  | .hbm, ⟨16, _⟩ => ⟨S8192x256, .f32⟩
  | .hbm, ⟨17, _⟩ => ⟨S256x8192, .f32⟩
  | .hbm, ⟨18, _⟩ => ⟨S256x8192, .bf16⟩
  | .hbm, ⟨19, _⟩ => ⟨S8192x1024, .f32⟩
  | .hbm, ⟨20, _⟩ => ⟨S8192x1024, .f32⟩
  | .hbm, ⟨21, _⟩ => ⟨S2x1x1024, .f32⟩
  | .hbm, ⟨22, _⟩ => ⟨S6656x1024, .f32⟩
  | .hbm, ⟨23, _⟩ => ⟨S6656x1024, .bf16⟩
  | .hbm, ⟨24, _⟩ => ⟨S8192x1024, .f32⟩
  | .hbm, ⟨25, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S6656x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6656x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4x2048x1024 : Shape := ⟨3, ![4, 2048, 1024]⟩
abbrev S4x2048x256 : Shape := ⟨3, ![4, 2048, 256]⟩
abbrev S4x2048x5120 : Shape := ⟨3, ![4, 2048, 5120]⟩
abbrev S2x1024 : Shape := ⟨2, ![2, 1024]⟩
abbrev S1024x6656 : Shape := ⟨2, ![1024, 6656]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x6656 : Shape := ⟨3, ![4, 2048, 6656]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S4x2048x256, .f32⟩
  | .hbm, ⟨3, _⟩ => ⟨S4x2048x5120, .f32⟩
  | .hbm, ⟨4, _⟩ => ⟨S4x2048x1024, .f32⟩
  | .hbm, ⟨5, _⟩ => ⟨S4x2048x1024, .f32⟩
  | .hbm, ⟨6, _⟩ => ⟨S2x1024, .f32⟩
  | .hbm, ⟨7, _⟩ => ⟨S1024x6656, .f32⟩
  | .hbm, ⟨8, _⟩ => ⟨S1x1024, .f32⟩
  | .hbm, ⟨9, _⟩ => ⟨S1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x6656, .f32⟩
  | .hbm, ⟨31, _⟩ => ⟨S4x2048x6656, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S1024, .f32⟩
  | .hbm, ⟨41, _⟩ => ⟨S4x2048x1024, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S4x2048x1024, .f32⟩
  | .hbm, ⟨46, _⟩ => ⟨S4x2048x1024, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S1x1024, .f32⟩
  | .hbm, ⟨59, _⟩ => ⟨S_, .f32⟩
  | .hbm, ⟨60, _⟩ => ⟨S2x1024, .f32⟩
  | .hbm, ⟨61, _⟩ => ⟨S4x2048x1024, .f32⟩
  | .hbm, ⟨62, _⟩ => ⟨S8192x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S7x1024, .f32⟩
  | .hbm, ⟨68, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel4.lean ====
abbrev S4x2048x4096 : Shape := ⟨3, ![4, 2048, 4096]⟩
abbrev S4x2048x1024 : Shape := ⟨3, ![4, 2048, 1024]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1024, .f32⟩
  | .hbm, ⟨2, _⟩ => ⟨S8192x4096, .f32⟩
  | .hbm, ⟨3, _⟩ => ⟨S8192x4096, .bf16⟩
  | .hbm, ⟨4, _⟩ => ⟨S8192x1024, .f32⟩
  | .hbm, ⟨5, _⟩ => ⟨S8192x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x2048x4096 : Shape := ⟨3, ![4, 2048, 4096]⟩
abbrev S4x2048x1024 : Shape := ⟨3, ![4, 2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S4x2048x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x4096 : Shape := ⟨3, ![4, 2048, 4096]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x4096, .f32⟩
  | .hbm, ⟨2, _⟩ => ⟨S8192x4096, .f32⟩
  | .hbm, ⟨3, _⟩ => ⟨S8192x4096, .bf16⟩
  | .hbm, ⟨4, _⟩ => ⟨S8192x1024, .f32⟩
  | .hbm, ⟨5, _⟩ => ⟨S8192x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4x2048x1024 : Shape := ⟨3, ![4, 2048, 1024]⟩
abbrev S4x2048x4096 : Shape := ⟨3, ![4, 2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x4096, .f32⟩
  | .hbm, ⟨2, _⟩ => ⟨S_, .f32⟩
  | .hbm, ⟨3, _⟩ => ⟨S1024x4096, .f32⟩
  | .hbm, ⟨4, _⟩ => ⟨S4x2048x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4x2048x1024 : Shape := ⟨3, ![4, 2048, 1024]⟩
abbrev S4x2048x5120 : Shape := ⟨3, ![4, 2048, 5120]⟩
abbrev S8192x5120 : Shape := ⟨2, ![8192, 5120]⟩
abbrev S8192x1024 : Shape := ⟨2, ![8192, 1024]⟩
abbrev S6656x1024 : Shape := ⟨2, ![6656, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5120, .f32⟩
  | .hbm, ⟨2, _⟩ => ⟨S8192x5120, .f32⟩
  | .hbm, ⟨3, _⟩ => ⟨S8192x5120, .bf16⟩
  | .hbm, ⟨4, _⟩ => ⟨S8192x1024, .f32⟩
  | .hbm, ⟨5, _⟩ => ⟨S8192x1024, .bf16⟩
  | .hbm, ⟨6, _⟩ => ⟨S6656x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![v0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4x2048x1024 : Shape := ⟨3, ![4, 2048, 1024]⟩
abbrev S4x2048x5120 : Shape := ⟨3, ![4, 2048, 5120]⟩
abbrev S_ : Shape := ⟨0, ![]⟩
abbrev S1024x6656 : Shape := ⟨2, ![1024, 6656]⟩
abbrev S4x2048x6656 : Shape := ⟨3, ![4, 2048, 6656]⟩
abbrev S6656x1024 : Shape := ⟨2, ![6656, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5120, .f32⟩
  | .hbm, ⟨2, _⟩ => ⟨S_, .f32⟩
  | .hbm, ⟨3, _⟩ => ⟨S1024x6656, .f32⟩
  | .hbm, ⟨4, _⟩ => ⟨S4x2048x6656, .f32⟩
  | .hbm, ⟨5, _⟩ => ⟨S4x2048x5120, .f32⟩
  | .hbm, ⟨6, _⟩ => ⟨S_, .f32⟩
  | .hbm, ⟨7, _⟩ => ⟨S4x2048x6656, .f32⟩
  | .hbm, ⟨8, _⟩ => ⟨S6656x1024, .f32⟩
  | .hbm, ⟨9, _⟩ => ⟨S1024x6656, .f32⟩
  | .hbm, ⟨10, _⟩ => ⟨S6656x1024, .f32⟩
  | .hbm, ⟨11, _⟩ => ⟨S6656x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4x2048x1024 : Shape := ⟨3, ![4, 2048, 1024]⟩
abbrev S4x2048x256 : Shape := ⟨3, ![4, 2048, 256]⟩
abbrev S6656x1024 : Shape := ⟨2, ![6656, 1024]⟩
abbrev S8192x1024 : Shape := ⟨2, ![8192, 1024]⟩
abbrev S1024x8192 : Shape := ⟨2, ![1024, 8192]⟩
abbrev S8192x256 : Shape := ⟨2, ![8192, 256]⟩
abbrev S256x8192 : Shape := ⟨2, ![256, 8192]⟩
abbrev S1024x2048 : Shape := ⟨2, ![1024, 2048]⟩
abbrev S256x2048 : Shape := ⟨2, ![256, 2048]⟩
abbrev S2048x1024 : Shape := ⟨2, ![2048, 1024]⟩
abbrev S1536x1024 : Shape := ⟨2, ![1536, 1024]⟩
abbrev S1024x1024 : Shape := ⟨2, ![1024, 1024]⟩
abbrev S256x1024 : Shape := ⟨2, ![256, 1024]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x256, .f32⟩
  | .hbm, ⟨3, _⟩ => ⟨S4x2048x256, .f32⟩
  | .hbm, ⟨4, _⟩ => ⟨S6656x1024, .f32⟩
  | .hbm, ⟨5, _⟩ => ⟨S8192x1024, .f32⟩
  | .hbm, ⟨6, _⟩ => ⟨S1024x8192, .f32⟩
  | .hbm, ⟨7, _⟩ => ⟨S1024x8192, .bf16⟩
  | .hbm, ⟨8, _⟩ => ⟨S8192x256, .f32⟩
  | .hbm, ⟨9, _⟩ => ⟨S256x8192, .f32⟩
  | .hbm, ⟨10, _⟩ => ⟨S256x8192, .bf16⟩
  | .hbm, ⟨11, _⟩ => ⟨S8192x256, .f32⟩
  | .hbm, ⟨12, _⟩ => ⟨S256x8192, .f32⟩
  | .hbm, ⟨13, _⟩ => ⟨S256x8192, .bf16⟩
  | .hbm, ⟨14, _⟩ => ⟨S8192x1024, .f32⟩
  | .hbm, ⟨15, _⟩ => ⟨S8192x1024, .bf16⟩
  | .hbm, ⟨16, _⟩ => ⟨S6656x1024, .bf16⟩
  | .hbm, ⟨17, _⟩ => ⟨S6656x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1536x1024, .bf16⟩
  | .local _ .vmem, ⟨9, _⟩ => ⟨S1536x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S4x2048x1024 : Shape := ⟨3, ![4, 2048, 1024]⟩
abbrev S4x2048x256 : Shape := ⟨3, ![4, 2048, 256]⟩
abbrev S6656x1024 : Shape := ⟨2, ![6656, 1024]⟩
abbrev S_ : Shape := ⟨0, ![]⟩
abbrev S1024x1536 : Shape := ⟨2, ![1024, 1536]⟩
abbrev S4x2048x1536 : Shape := ⟨3, ![4, 2048, 1536]⟩
abbrev S1536x1024 : Shape := ⟨2, ![1536, 1024]⟩
abbrev S5120x1024 : Shape := ⟨2, ![5120, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x256, .f32⟩
  | .hbm, ⟨3, _⟩ => ⟨S4x2048x256, .f32⟩
  | .hbm, ⟨4, _⟩ => ⟨S6656x1024, .f32⟩
  | .hbm, ⟨5, _⟩ => ⟨S_, .f32⟩
  | .hbm, ⟨6, _⟩ => ⟨S1024x1536, .f32⟩
  | .hbm, ⟨7, _⟩ => ⟨S4x2048x1536, .f32⟩
  | .hbm, ⟨8, _⟩ => ⟨S4x2048x1024, .f32⟩
  | .hbm, ⟨9, _⟩ => ⟨S4x2048x256, .f32⟩
  | .hbm, ⟨10, _⟩ => ⟨S4x2048x256, .f32⟩
  | .hbm, ⟨11, _⟩ => ⟨S4x2048x1536, .f32⟩
  | .hbm, ⟨12, _⟩ => ⟨S1536x1024, .f32⟩
  | .hbm, ⟨13, _⟩ => ⟨S1024x1536, .f32⟩
  | .hbm, ⟨14, _⟩ => ⟨S1536x1024, .f32⟩
  | .hbm, ⟨15, _⟩ => ⟨S5120x1024, .f32⟩
  | .hbm, ⟨16, _⟩ => ⟨S6656x1024, .f32⟩
  | .hbm, ⟨17, _⟩ => ⟨S6656x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S1x4096x1024 : Shape := ⟨3, ![1, 4096, 1024]⟩
abbrev S2x4096x1024 : Shape := ⟨3, ![2, 4096, 1024]⟩
abbrev S8192x1024 : Shape := ⟨2, ![8192, 1024]⟩
abbrev S2x1x1024 : Shape := ⟨3, ![2, 1, 1024]⟩
abbrev S1x1024 : Shape := ⟨2, ![1, 1024]⟩
abbrev S8192x4096 : Shape := ⟨2, ![8192, 4096]⟩
abbrev S8x1024 : Shape := ⟨2, ![8, 1024]⟩
abbrev S512x1024 : Shape := ⟨2, ![512, 1024]⟩
abbrev S1x1x1024 : Shape := ⟨3, ![1, 1, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1 : Shape := ⟨1, ![1]⟩
abbrev S1x1x1 : Shape := ⟨3, ![1, 1, 1]⟩

abbrev nBuf : Space → Nat
  | .hbm => 19
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x4096, .f32⟩
  | .hbm, ⟨3, _⟩ => ⟨S4096x1024, .f32⟩
  | .hbm, ⟨4, _⟩ => ⟨S4x2048x1024, .f32⟩
  | .hbm, ⟨5, _⟩ => ⟨S1024, .f32⟩
  | .hbm, ⟨6, _⟩ => ⟨S4096x1024, .f32⟩
  | .hbm, ⟨7, _⟩ => ⟨S1x4096x1024, .f32⟩
  | .hbm, ⟨8, _⟩ => ⟨S1x4096x1024, .f32⟩
  | .hbm, ⟨9, _⟩ => ⟨S2x4096x1024, .f32⟩
  | .hbm, ⟨10, _⟩ => ⟨S2x4096x1024, .bf16⟩
  | .hbm, ⟨11, _⟩ => ⟨S8192x1024, .f32⟩
  | .hbm, ⟨12, _⟩ => ⟨S2x1x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S8192x4096, .bf16⟩
  | .hbm, ⟨18, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x4096x1024, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S6x1024 : Shape := ⟨2, ![6, 1024]⟩
abbrev S8x1024 : Shape := ⟨2, ![8, 1024]⟩
abbrev S8192x1024 : Shape := ⟨2, ![8192, 1024]⟩
abbrev S8192x4096 : Shape := ⟨2, ![8192, 4096]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x4096, .f32⟩
  | .hbm, ⟨3, _⟩ => ⟨S4096x1024, .f32⟩
  | .hbm, ⟨4, _⟩ => ⟨S4x2048x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1024, .f32⟩
  | .hbm, ⟨47, _⟩ => ⟨S4x2048x1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4x2048, .f32⟩
  | .hbm, ⟨60, _⟩ => ⟨S4x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4x2048, .f32⟩
  | .hbm, ⟨69, _⟩ => ⟨S_, .f32⟩
  | .hbm, ⟨70, _⟩ => ⟨S4x2048, .f32⟩
  | .hbm, ⟨71, _⟩ => ⟨S4x2048, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S_, .f32⟩
  | .hbm, ⟨76, _⟩ => ⟨S1024, .f32⟩
  | .hbm, ⟨77, _⟩ => ⟨S1x1x1024, .f32⟩
  | .hbm, ⟨78, _⟩ => ⟨S4x2048x1024, .f32⟩
  | .hbm, ⟨79, _⟩ => ⟨S4x2048x1024, .f32⟩
  | .hbm, ⟨80, _⟩ => ⟨S_, .f32⟩
  | .hbm, ⟨81, _⟩ => ⟨S1024, .f32⟩
  | .hbm, ⟨82, _⟩ => ⟨S4x2048x1024, .f32⟩
  | .hbm, ⟨83, _⟩ => ⟨S_, .f32⟩
  | .hbm, ⟨84, _⟩ => ⟨S4x2048, .f32⟩
  | .hbm, ⟨85, _⟩ => ⟨S4x2048x1, .f32⟩
  | .hbm, ⟨86, _⟩ => ⟨S4x2048x1024, .f32⟩
  | .hbm, ⟨87, _⟩ => ⟨S4x2048x1024, .f32⟩
  | .hbm, ⟨88, _⟩ => ⟨S4x2048x1, .f32⟩
  | .hbm, ⟨89, _⟩ => ⟨S_, .f32⟩
  | .hbm, ⟨90, _⟩ => ⟨S4x2048x1, .f32⟩
  | .hbm, ⟨91, _⟩ => ⟨S4x2048x1, .f32⟩
  | .hbm, ⟨92, _⟩ => ⟨S_, .f32⟩
  | .hbm, ⟨93, _⟩ => ⟨S4x2048, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S6x1024, .f32⟩
  | .hbm, ⟨103, _⟩ => ⟨S8x1024, .f32⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S8192x4096, .f32⟩
  | .hbm, ⟨108, _⟩ => ⟨S8192x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Kernel9.lean ====
abbrev S4x2048x1024 : Shape := ⟨3, ![4, 2048, 1024]⟩
abbrev S2x1024 : Shape := ⟨2, ![2, 1024]⟩
abbrev S1024x6656 : Shape := ⟨2, ![1024, 6656]⟩
abbrev S8192x1024 : Shape := ⟨2, ![8192, 1024]⟩
abbrev S2x1x1024 : Shape := ⟨3, ![2, 1, 1024]⟩
abbrev S6656x1024 : Shape := ⟨2, ![6656, 1024]⟩
abbrev S8192x5120 : Shape := ⟨2, ![8192, 5120]⟩
abbrev S1024x8192 : Shape := ⟨2, ![1024, 8192]⟩
abbrev S256x8192 : Shape := ⟨2, ![256, 8192]⟩
abbrev S512x1024 : Shape := ⟨2, ![512, 1024]⟩
abbrev S1x1x1024 : Shape := ⟨3, ![1, 1, 1024]⟩
abbrev S512x5120 : Shape := ⟨2, ![512, 5120]⟩
abbrev S1024x512 : Shape := ⟨2, ![1024, 512]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S256x256 : Shape := ⟨2, ![256, 256]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x6656, .f32⟩
  | .hbm, ⟨3, _⟩ => ⟨S8192x1024, .f32⟩
  | .hbm, ⟨4, _⟩ => ⟨S2x1x1024, .f32⟩
  | .hbm, ⟨5, _⟩ => ⟨S6656x1024, .f32⟩
  | .hbm, ⟨6, _⟩ => ⟨S6656x1024, .bf16⟩
  | .hbm, ⟨7, _⟩ => ⟨S8192x5120, .bf16⟩
  | .hbm, ⟨8, _⟩ => ⟨S1024x8192, .bf16⟩
  | .hbm, ⟨9, _⟩ => ⟨S256x8192, .bf16⟩
  | .hbm, ⟨10, _⟩ => ⟨S256x8192, .bf16⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S6656x1024, .bf16⟩
  | .local _ .vmem, ⟨4, _⟩ => ⟨S512x5120, .bf16⟩
  | .local _ .vmem, ⟨5, _⟩ => ⟨S512x5120, .bf16⟩
  | .local _ .vmem, ⟨6, _⟩ => ⟨S1024x512, .bf16⟩
  | .local _ .vmem, ⟨7, _⟩ => ⟨S1024x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S512x1024, .bf16⟩
  | .local _ .vmem, ⟨13, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6656x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4x2048x1024 : Shape := ⟨3, ![4, 2048, 1024]⟩
abbrev S2x1024 : Shape := ⟨2, ![2, 1024]⟩
abbrev S1024x6656 : Shape := ⟨2, ![1024, 6656]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x6656 : Shape := ⟨3, ![4, 2048, 6656]⟩
abbrev S4x2048x256 : Shape := ⟨3, ![4, 2048, 256]⟩
abbrev S4x2048x5120 : Shape := ⟨3, ![4, 2048, 5120]⟩
abbrev S8192x5120 : Shape := ⟨2, ![8192, 5120]⟩
abbrev S8192x1024 : Shape := ⟨2, ![8192, 1024]⟩
abbrev S1024x8192 : Shape := ⟨2, ![1024, 8192]⟩
abbrev S8192x256 : Shape := ⟨2, ![8192, 256]⟩
abbrev S256x8192 : Shape := ⟨2, ![256, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x6656, .f32⟩
  | .hbm, ⟨3, _⟩ => ⟨S1x1024, .f32⟩
  | .hbm, ⟨4, _⟩ => ⟨S1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x6656, .f32⟩
  | .hbm, ⟨22, _⟩ => ⟨S4x2048x1024, .f32⟩
  | .hbm, ⟨23, _⟩ => ⟨S4x2048x256, .f32⟩
  | .hbm, ⟨24, _⟩ => ⟨S4x2048x256, .f32⟩
  | .hbm, ⟨25, _⟩ => ⟨S4x2048x5120, .f32⟩
  | .hbm, ⟨26, _⟩ => ⟨S8192x5120, .f32⟩
  | .hbm, ⟨27, _⟩ => ⟨S8192x5120, .bf16⟩
  | .hbm, ⟨28, _⟩ => ⟨S8192x1024, .f32⟩
  | .hbm, ⟨29, _⟩ => ⟨S1024x8192, .f32⟩
  | .hbm, ⟨30, _⟩ => ⟨S1024x8192, .bf16⟩
  | .hbm, ⟨31, _⟩ => ⟨S8192x256, .f32⟩
  | .hbm, ⟨32, _⟩ => ⟨S256x8192, .f32⟩
  | .hbm, ⟨33, _⟩ => ⟨S256x8192, .bf16⟩
  | .hbm, ⟨34, _⟩ => ⟨S8192x256, .f32⟩
  | .hbm, ⟨35, _⟩ => ⟨S256x8192, .f32⟩
  | .hbm, ⟨36, _⟩ => ⟨S256x8192, .bf16⟩
  | .hbm, ⟨37, _⟩ => ⟨S8192x1024, .f32⟩
  | .hbm, ⟨38, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel10.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S8192x1024 : Shape := ⟨2, ![8192, 1024]⟩
abbrev S2x1x1024 : Shape := ⟨3, ![2, 1, 1024]⟩
abbrev S8192x4096 : Shape := ⟨2, ![8192, 4096]⟩
abbrev S512x1024 : Shape := ⟨2, ![512, 1024]⟩
abbrev S1x1x1024 : Shape := ⟨3, ![1, 1, 1024]⟩
abbrev S512x4096 : Shape := ⟨2, ![512, 4096]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 14
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S2x4096x1024, .f32⟩
  | .hbm, ⟨8, _⟩ => ⟨S2x4096x1024, .bf16⟩
  | .hbm, ⟨9, _⟩ => ⟨S8192x1024, .f32⟩
  | .hbm, ⟨10, _⟩ => ⟨S2x1x1024, .f32⟩
  | .hbm, ⟨11, _⟩ => ⟨S8192x1024, .f32⟩
  | .hbm, ⟨12, _⟩ => ⟨S8192x1024, .bf16⟩
  | .hbm, ⟨13, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x4096x1024, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4x2048x1024 : Shape := ⟨3, ![4, 2048, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S8192x1024 : Shape := ⟨2, ![8192, 1024]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x1024, .f32⟩
  | .hbm, ⟨28, _⟩ => ⟨S4x2048x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x4096, .f32⟩
  | .hbm, ⟨33, _⟩ => ⟨S8192x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel11.lean ====
abbrev S4x2048x4096 : Shape := ⟨3, ![4, 2048, 4096]⟩
abbrev S4x2048x1024 : Shape := ⟨3, ![4, 2048, 1024]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1024, .f32⟩
  | .hbm, ⟨2, _⟩ => ⟨S8192x4096, .f32⟩
  | .hbm, ⟨3, _⟩ => ⟨S8192x4096, .bf16⟩
  | .hbm, ⟨4, _⟩ => ⟨S8192x1024, .f32⟩
  | .hbm, ⟨5, _⟩ => ⟨S8192x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel12.lean ====
abbrev S4x2048x1024 : Shape := ⟨3, ![4, 2048, 1024]⟩
abbrev S4x2048x4096 : Shape := ⟨3, ![4, 2048, 4096]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x4096, .f32⟩
  | .hbm, ⟨2, _⟩ => ⟨S8192x4096, .f32⟩
  | .hbm, ⟨3, _⟩ => ⟨S8192x4096, .bf16⟩
  | .hbm, ⟨4, _⟩ => ⟨S8192x1024, .f32⟩
  | .hbm, ⟨5, _⟩ => ⟨S8192x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel13.lean ====
abbrev S4x2048x1024 : Shape := ⟨3, ![4, 2048, 1024]⟩
abbrev S4x2048x5120 : Shape := ⟨3, ![4, 2048, 5120]⟩
abbrev S8192x5120 : Shape := ⟨2, ![8192, 5120]⟩
abbrev S8192x1024 : Shape := ⟨2, ![8192, 1024]⟩
abbrev S6656x1024 : Shape := ⟨2, ![6656, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5120, .f32⟩
  | .hbm, ⟨2, _⟩ => ⟨S8192x5120, .f32⟩
  | .hbm, ⟨3, _⟩ => ⟨S8192x5120, .bf16⟩
  | .hbm, ⟨4, _⟩ => ⟨S8192x1024, .f32⟩
  | .hbm, ⟨5, _⟩ => ⟨S8192x1024, .bf16⟩
  | .hbm, ⟨6, _⟩ => ⟨S6656x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![v0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel14.lean ====
abbrev S4x2048x1024 : Shape := ⟨3, ![4, 2048, 1024]⟩
abbrev S4x2048x256 : Shape := ⟨3, ![4, 2048, 256]⟩
abbrev S6656x1024 : Shape := ⟨2, ![6656, 1024]⟩
abbrev S8192x1024 : Shape := ⟨2, ![8192, 1024]⟩
abbrev S1024x8192 : Shape := ⟨2, ![1024, 8192]⟩
abbrev S8192x256 : Shape := ⟨2, ![8192, 256]⟩
abbrev S256x8192 : Shape := ⟨2, ![256, 8192]⟩
abbrev S1024x2048 : Shape := ⟨2, ![1024, 2048]⟩
abbrev S256x2048 : Shape := ⟨2, ![256, 2048]⟩
abbrev S2048x1024 : Shape := ⟨2, ![2048, 1024]⟩
abbrev S1536x1024 : Shape := ⟨2, ![1536, 1024]⟩
abbrev S1024x1024 : Shape := ⟨2, ![1024, 1024]⟩
abbrev S256x1024 : Shape := ⟨2, ![256, 1024]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x256, .f32⟩
  | .hbm, ⟨3, _⟩ => ⟨S4x2048x256, .f32⟩
  | .hbm, ⟨4, _⟩ => ⟨S6656x1024, .f32⟩
  | .hbm, ⟨5, _⟩ => ⟨S8192x1024, .f32⟩
  | .hbm, ⟨6, _⟩ => ⟨S1024x8192, .f32⟩
  | .hbm, ⟨7, _⟩ => ⟨S1024x8192, .bf16⟩
  | .hbm, ⟨8, _⟩ => ⟨S8192x256, .f32⟩
  | .hbm, ⟨9, _⟩ => ⟨S256x8192, .f32⟩
  | .hbm, ⟨10, _⟩ => ⟨S256x8192, .bf16⟩
  | .hbm, ⟨11, _⟩ => ⟨S8192x256, .f32⟩
  | .hbm, ⟨12, _⟩ => ⟨S256x8192, .f32⟩
  | .hbm, ⟨13, _⟩ => ⟨S256x8192, .bf16⟩
  | .hbm, ⟨14, _⟩ => ⟨S8192x1024, .f32⟩
  | .hbm, ⟨15, _⟩ => ⟨S8192x1024, .bf16⟩
  | .hbm, ⟨16, _⟩ => ⟨S6656x1024, .bf16⟩
  | .hbm, ⟨17, _⟩ => ⟨S6656x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1536x1024, .bf16⟩
  | .local _ .vmem, ⟨9, _⟩ => ⟨S1536x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.Norm.lean ====
/-
  The gradient of a root-mean-square normalisation over the extended reals, as the kernels compute it and as the
  reference's vector-Jacobian product writes it: the two are the same at every row, the infinities included.
-/
module

public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Norm

/-- The mean square of a row of 1024 entries, plus the normalisation's small constant. -/
def msq (x : Fin 1024 → EReal) : EReal :=
  Ideal.div (∑ k, x k * x k) (Ideal.ofBits .f32 0x44800000#32) + Ideal.ofBits .f32 0x358637BD#32

/-- The reciprocal root mean square of a row. -/
def rinv (x : Fin 1024 → EReal) : EReal := Ideal.rsqrt (msq x)

/-- The gradient of the normalised row `x` against the cotangent row `d`, at entry `j`, as the kernels write it. -/
def grad (d x : Fin 1024 → EReal) (j : Fin 1024) : EReal :=
  rinv x * (d j - x j * rinv x * Ideal.div (∑ k, d k * (x k * rinv x)) (Ideal.ofBits .f32 0x44800000#32))

/-- The common factor of the gradient's two equal parts, as the reference writes it. -/
def half (d x : Fin 1024 → EReal) : EReal :=
  Ideal.div ((∑ k, x k * d k) * (Ideal.ofBits .f32 0xBF000000#32 * Ideal.div (rinv x) (msq x))) (Ideal.ofBits .f32 0x44800000#32)

theorem c1024 : Ideal.ofBits .f32 0x44800000#32 = ((1024 : ℝ) : EReal) := by
  simp [Ideal.ofBits, Ideal.ieee, -EReal.coe_mul]; norm_num

theorem chalf : Ideal.ofBits .f32 0xBF000000#32 = ((-(1 / 2) : ℝ) : EReal) := by
  simp [Ideal.ofBits, Ideal.ieee, -EReal.coe_mul]; norm_num

theorem ceps : ∃ e : ℝ, 0 < e ∧ Ideal.ofBits .f32 0x358637BD#32 = (e : EReal) := by
  refine ⟨_, ?_, by simp [Ideal.ofBits, Ideal.ieee, -EReal.coe_mul]; rfl⟩
  positivity

theorem sq_nonneg (x : EReal) : 0 ≤ x * x := by
  induction x with
  | bot => simp
  | top => simp
  | coe r => exact_mod_cast mul_self_nonneg r

theorem twice (w : EReal) : w + w = w * ((2 : ℝ) : EReal) := by
  induction w with
  | bot => rw [EReal.bot_mul_coe_of_pos (by norm_num)]; rfl
  | top => rw [EReal.top_mul_coe_of_pos (by norm_num)]; rfl
  | coe r => rw [← EReal.coe_add, ← EReal.coe_mul]; congr 1; ring

/-- The mean square is a positive real or infinite. -/
theorem msq_cases (x : Fin 1024 → EReal) : msq x = ⊤ ∨ ∃ v : ℝ, 0 < v ∧ msq x = (v : EReal) := by
  obtain ⟨e, he, h⟩ := ceps
  have hq : 0 ≤ ∑ k, x k * x k := Finset.sum_nonneg fun k _ => sq_nonneg _
  unfold msq
  rw [h, c1024, Ideal.div_coe (by norm_num)]
  revert hq
  generalize ∑ k, x k * x k = q
  intro hq
  induction q with
  | bot => simp at hq
  | top => left; rw [EReal.top_mul_coe_of_pos (by norm_num)]; rfl
  | coe r =>
    right
    have hr : 0 ≤ r := by exact_mod_cast hq
    exact ⟨r * (1 / 1024) + e, by positivity, by rw [EReal.coe_add, EReal.coe_mul]⟩

/-- The reciprocal root mean square is a nonnegative real. -/
theorem rinv_cases (x : Fin 1024 → EReal) : ∃ r : ℝ, 0 ≤ r ∧ rinv x = (r : EReal)
    ∧ Ideal.div (rinv x) (msq x) = ((r * r * r : ℝ) : EReal) := by
  rcases msq_cases x with h | ⟨v, hv, h⟩
  · refine ⟨0, le_rfl, ?_, ?_⟩
    · unfold rinv; rw [h]; rfl
    · unfold rinv; rw [h, Ideal.rsqrt_top, Ideal.div, if_neg (by simp), zero_mul]; simp
  · have hs := Real.sqrt_pos.mpr hv
    have hr : rinv x = (((Real.sqrt v)⁻¹ : ℝ) : EReal) := by
      unfold rinv
      rw [h, Ideal.rsqrt_coe, if_neg (not_lt.mpr hv.le), if_neg hv.ne']
    refine ⟨(Real.sqrt v)⁻¹, by positivity, hr, ?_⟩
    rw [hr, h, Ideal.div_coe hv.ne', ← EReal.coe_mul]
    congr 1
    have : v = Real.sqrt v * Real.sqrt v := (Real.mul_self_sqrt hv.le).symm
    generalize Real.sqrt v = w at *
    subst this
    field_simp

theorem sum_scale (r : ℝ) (hr : 0 ≤ r) (s : Finset (Fin 1024)) (f : Fin 1024 → EReal) : ∑ k ∈ s, f k * (r : EReal) = (∑ k ∈ s, f k) * (r : EReal) := by
  induction s using Finset.cons_induction with
  | empty => simp
  | cons a s ha ih =>
    rw [Finset.sum_cons, Finset.sum_cons, ih,
      EReal.right_distrib_of_nonneg_of_ne_top (EReal.coe_nonneg.mpr hr) (EReal.coe_ne_top r)]

/-- The kernels' gradient of the normalisation is the reference's. -/
theorem grad_eq (d x : Fin 1024 → EReal) (j : Fin 1024) :
    grad d x j = d j * rinv x + x j * half d x + half d x * x j := by
  obtain ⟨r, hr, h, h'⟩ := rinv_cases x
  unfold grad half
  rw [h', h, chalf, c1024, Ideal.div_coe (by norm_num), Ideal.div_coe (by norm_num)]
  have hs : ∑ k, d k * (x k * (r : EReal)) = (∑ k, x k * d k) * (r : EReal) := by
    rw [← sum_scale r hr]
    exact Finset.sum_congr rfl fun k _ => by rw [← mul_assoc, mul_comm (d k)]
  rw [hs]
  generalize ∑ k, x k * d k = S
  rw [sub_eq_add_neg, EReal.left_distrib_of_nonneg_of_ne_top (EReal.coe_nonneg.mpr hr) (EReal.coe_ne_top r), add_assoc, mul_comm _ (x j),
    twice, mul_comm (r : EReal) (d j)]
  congr 1
  have e1 : (r : EReal) * -(x j * (r : EReal) * (S * (r : EReal) * ((1 / 1024 : ℝ) : EReal)))
      = x j * S * ((-(r * r * r * (1 / 1024)) : ℝ) : EReal) := by
    rw [EReal.coe_neg, EReal.coe_mul, EReal.coe_mul, EReal.coe_mul, mul_neg, mul_neg]
    congr 1
    ac_rfl
  rw [e1, ← EReal.coe_mul]
  have e2 : x j * (S * ((-(1 / 2) * (r * r * r) : ℝ) : EReal) * ((1 / 1024 : ℝ) : EReal)) * ((2 : ℝ) : EReal)
      = x j * S * (((-(1 / 2) * (r * r * r) : ℝ) : EReal) * ((1 / 1024 : ℝ) : EReal) * ((2 : ℝ) : EReal)) := by ac_rfl
  rw [e2, ← EReal.coe_mul, ← EReal.coe_mul]
  congr 2
  ring

/-! ## Stores into the first row of an accumulator of eight rows -/

/-- An accumulator's shape, and the rectangle of its first row. -/
abbrev SA : Shape := ⟨2, ![8, 1024]⟩

theorem row_mem (inb : ∀ a, (![0, 0] : Fin 2 → ℕ) a + (![1, 1024] : Fin 2 → ℕ) a ≤ SA.size a) (y : SA.Idx) (h : (y 0).val = 0) :
    y = (Rect.unit (s := SA) ![0, 0] ![1, 1024] inb).emb (ix2 0 (y 1)) := by
  blk_ext

theorem row_read {sig : RefSig} {κ : Kind} {sp : Space} (v : View sig κ sp SA .f32) (f : v.ty.Contents (Elt Ideal)) (inb)
    (w : (⟨2, ![1, 1024]⟩ : Shape).Idx → EReal) (L : List (View.Piece (Elt Ideal) SA .f32)) (y : SA.Idx) :
    v.read (Elt Ideal) (v.writes (Elt Ideal) f (⟨Rect.unit (s := SA) ![0, 0] ![1, 1024] inb, w⟩ :: L)) y
      = if (y 0).val = 0 then w (ix2 0 (y 1)) else v.read (Elt Ideal) (v.writes (Elt Ideal) f L) y := by
  by_cases h : (y 0).val = 0
  · rw [if_pos h]
    exact View.read_writes_cons_unit_of_mem v f inb w L y (ix2 0 (y 1)) rfl
      (Fin.forall_fin_two.mpr ⟨h, (Nat.zero_add _).symm⟩)
  · rw [if_neg h]
    exact View.read_writes_cons_unit_of_not_mem v f inb w L y rfl 0 (Or.inr (by show 0 + 1 ≤ (y 0).val; omega))

theorem row_canon (inb) (w : (⟨2, ![1, 1024]⟩ : Shape).Idx → EReal) (L : List (View.Piece (Elt Ideal) SA .f32)) (y : SA.Idx) :
    View.canon (⟨Rect.unit (s := SA) ![0, 0] ![1, 1024] inb, w⟩ :: L) y
      = if (y 0).val = 0 then w (ix2 0 (y 1)) else View.canon L y := by
  by_cases h : (y 0).val = 0
  · rw [if_pos h]
    have e := View.canon_cons_emb (Val := Elt Ideal) (s := SA) (e := .f32) (Rect.unit (s := SA) ![0, 0] ![1, 1024] inb) w L (ix2 0 (y 1))
    rw [← row_mem inb y h] at e
    exact e
  · rw [if_neg h]
    refine View.canon_cons_of_not_mem _ L fun hm => h ?_
    have h2 : (y 0).val < 0 + 1 := ((Rect.mem_set_unit (inb := inb)).mp hm 0).2
    omega

theorem row_ld (X : Vec Ideal SA .f32) (inb) (j : Fin 1024) :
    View.ld X (Rect.unit (s := SA) ![0, 0] ![1, 1024] inb) (ix2 0 j) = X (ix2 0 j) :=
  (congrArg X (row_mem inb (ix2 0 j) rfl)).symm

/-- What a grid point of two halves adds: the sum over both. -/
theorem two_halves (a : EReal) (f : Fin 512 → EReal) :
    a + ∑ z : Fin 256, f ⟨z.val, by omega⟩ + ∑ z : Fin 256, f ⟨256 + z.val, by omega⟩ = a + ∑ p : Fin 512, f p := by
  rw [add_assoc, Fin.sum_univ_tiles 2 256 rfl, Fin.sum_univ_two]
  refine congrArg (a + ·) (congrArg₂ (· + ·) (Finset.sum_congr rfl fun z _ => congrArg f (Fin.ext ?_)) (Finset.sum_congr rfl fun z _ => congrArg f (Fin.ext ?_)))
  · show z.val = 0 * 256 + z.val; omega
  · show 256 + z.val = 1 * 256 + z.val; omega

/-! ## Sums over the tokens -/

/-- The host's sum over the first two of three axes. -/
theorem sum_01 {n0 n1 n2 : ℕ} (h : (⟨3, ![n0, n1, n2]⟩ : Shape).ReducesTo [0, 1] ⟨1, ![n2]⟩) (v : (⟨3, ![n0, n1, n2]⟩ : Shape).Idx → EReal)
    (init : EReal) (c : Fin n2) : Ideal.hostReduceAdd h v init (ix1 c) = init + ∑ k0 : Fin n0, ∑ k1 : Fin n1, v (ix3 k0 k1 c) := by
  refine congrArg (init + ·) ?_
  refine (Finset.sum_filter_eq_sum_of_fiber _ (fun k : Fin n0 × Fin n1 => (ix3 k.1 k.2 c : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The tokens counted by sixteen grid points of 512 are those of four sequences of 2048. -/
theorem regroup {N : ℕ} (hN : N = 16) (F : Fin 4 → Fin 2048 → EReal) :
    ∑ t : Fin N, ∑ p : Fin 512, F ⟨(512 * t.val + p.val) / 2048, by omega⟩ ⟨(512 * t.val + p.val) % 2048, by omega⟩
      = ∑ b : Fin 4, ∑ s : Fin 2048, F b s := by
  subst hN
  have h1 := Fin.sum_univ_tiles 16 512 rfl fun n : Fin 8192 => F ⟨n.val / 2048, by omega⟩ ⟨n.val % 2048, by omega⟩
  have h2 := Fin.sum_univ_tiles 4 2048 rfl fun n : Fin 8192 => F ⟨n.val / 2048, by omega⟩ ⟨n.val % 2048, by omega⟩
  refine Eq.trans ?_ (h1.symm.trans (h2.trans ?_))
  · refine Finset.sum_congr rfl fun t _ => Finset.sum_congr rfl fun p _ => congrArg₂ F (Fin.ext ?_) (Fin.ext ?_) <;> dsimp only <;> omega
  · refine Finset.sum_congr rfl fun t _ => Finset.sum_congr rfl fun p _ => congrArg₂ F (Fin.ext ?_) (Fin.ext ?_) <;> dsimp only <;> omega

end Cert.Norm

end
-- ==== Proof.Rows.lean ====
/-
  Stores into one row of an accumulator of eight rows, and what a load of a row reads.
-/
module

public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

theorem rowr_mem (r : ℕ) (hr : r < 8) (inb : ∀ a, (![r, 0] : Fin 2 → ℕ) a + (![1, 1024] : Fin 2 → ℕ) a ≤ SA.size a) (y : SA.Idx) (h : (y 0).val = r) :
    y = (Rect.unit (s := SA) ![r, 0] ![1, 1024] inb).emb (ix2 0 (y 1)) := by
  blk_ext

theorem rowr_read {sig : RefSig} {κ : Kind} {sp : Space} (r : ℕ) (v : View sig κ sp SA .f32) (f : v.ty.Contents (Elt Ideal)) (inb)
    (w : (⟨2, ![1, 1024]⟩ : Shape).Idx → EReal) (L : List (View.Piece (Elt Ideal) SA .f32)) (y : SA.Idx) :
    v.read (Elt Ideal) (v.writes (Elt Ideal) f (⟨Rect.unit (s := SA) ![r, 0] ![1, 1024] inb, w⟩ :: L)) y
      = if (y 0).val = r then w (ix2 0 (y 1)) else v.read (Elt Ideal) (v.writes (Elt Ideal) f L) y := by
  by_cases h : (y 0).val = r
  · rw [if_pos h]
    exact View.read_writes_cons_unit_of_mem v f inb w L y (ix2 0 (y 1)) rfl
      (Fin.forall_fin_two.mpr ⟨h.trans (Nat.add_zero _).symm, (Nat.zero_add _).symm⟩)
  · rw [if_neg h]
    exact View.read_writes_cons_unit_of_not_mem v f inb w L y rfl 0
      ((Nat.lt_or_gt_of_ne h).imp (fun h => h) fun h => Nat.succ_le_of_lt h)

theorem rowr_canon (r : ℕ) (hr : r < 8) (inb) (w : (⟨2, ![1, 1024]⟩ : Shape).Idx → EReal) (L : List (View.Piece (Elt Ideal) SA .f32)) (y : SA.Idx) :
    View.canon (⟨Rect.unit (s := SA) ![r, 0] ![1, 1024] inb, w⟩ :: L) y
      = if (y 0).val = r then w (ix2 0 (y 1)) else View.canon L y := by
  by_cases h : (y 0).val = r
  · rw [if_pos h]
    have e := View.canon_cons_emb (Val := Elt Ideal) (s := SA) (e := .f32) (Rect.unit (s := SA) ![r, 0] ![1, 1024] inb) w L (ix2 0 (y 1))
    rw [← rowr_mem r hr inb y h] at e
    exact e
  · rw [if_neg h]
    refine View.canon_cons_of_not_mem _ L fun hm => h ?_
    have h1 : r ≤ (y 0).val := ((Rect.mem_set_unit (inb := inb)).mp hm 0).1
    have h2 : (y 0).val < r + 1 := ((Rect.mem_set_unit (inb := inb)).mp hm 0).2
    omega

theorem rowr_ld (r : ℕ) (hr : r < 8) (X : Vec Ideal SA .f32) (inb) (j : Fin 1024) :
    View.ld X (Rect.unit (s := SA) ![r, 0] ![1, 1024] inb) (ix2 0 j) = X (ix2 ⟨r, hr⟩ j) :=
  (congrArg X (rowr_mem r hr inb (ix2 ⟨r, hr⟩ j) rfl)).symm

/-- A sum times a nonnegative real is the sum of the products. -/
theorem sum_mul_real {ι : Type} (r : ℝ) (hr : 0 ≤ r) (s : Finset ι) (f : ι → EReal) : ∑ k ∈ s, f k * (r : EReal) = (∑ k ∈ s, f k) * (r : EReal) := by
  induction s using Finset.cons_induction with
  | empty => simp
  | cons a s ha ih =>
    rw [Finset.sum_cons, Finset.sum_cons, ih,
      EReal.right_distrib_of_nonneg_of_ne_top (EReal.coe_nonneg.mpr hr) (EReal.coe_ne_top r)]

/-- The loss's gradient scale: the reference's two factors are the kernel's one. -/
theorem err_scale (e : EReal) : e * Ideal.ofBits .f32 0x3A800000#32
    = Ideal.div (Ideal.ofBits .f32 0x3F000000#32 * Ideal.ofBits .f32 0x3F800000#32) (Ideal.ofBits .f32 0x44800000#32)
      * (Ideal.ofBits .f32 0x40000000#32 * e) := by
  have h1 : Ideal.ofBits .f32 0x3A800000#32 = ((1 / 1024 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h3 : Ideal.ofBits .f32 0x3F800000#32 = ((1 : ℝ) : EReal) := by
    simp [Ideal.ofBits, Ideal.ieee, -EReal.coe_mul]; norm_num
  have h4 : Ideal.ofBits .f32 0x40000000#32 = ((2 : ℝ) : EReal) := by
    simp [Ideal.ofBits, Ideal.ieee, -EReal.coe_mul]; norm_num
  rw [h1, h2, h3, h4, c1024, Ideal.div_coe (by norm_num), ← mul_assoc, ← EReal.coe_mul, ← EReal.coe_mul, ← EReal.coe_mul, mul_comm]
  congr 2
  norm_num

/-- The loss: half the mean over the columns, summed over the tokens, is the kernel's one factor times the sum of all. -/
theorem loss_scale (F : Fin 4 → Fin 2048 → Fin 1024 → EReal) :
    Ideal.ofBits .f32 0x3A000000#32 * ∑ j, ∑ b, ∑ s, F b s j
      = Ideal.ofBits .f32 0x3F000000#32 * ∑ b, ∑ s, Ideal.div (∑ j, F b s j) (Ideal.ofBits .f32 0x44800000#32) := by
  have h1 : Ideal.ofBits .f32 0x3A000000#32 = ((1 / 2048 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  rw [h1, h2, c1024]
  simp only [Ideal.div_coe (show (1024 : ℝ) ≠ 0 by norm_num)]
  have e : ∑ j, ∑ b, ∑ s, F b s j = ∑ b, ∑ s, ∑ j, F b s j := by
    rw [Finset.sum_comm]
    exact Finset.sum_congr rfl fun b _ => Finset.sum_comm
  rw [e]
  have e2 : ∑ b, ∑ s, (∑ j, F b s j) * ((1 / 1024 : ℝ) : EReal) = (∑ b, ∑ s, ∑ j, F b s j) * ((1 / 1024 : ℝ) : EReal) := by
    rw [← sum_mul_real _ (by norm_num)]
    exact Finset.sum_congr rfl fun b _ => sum_mul_real _ (by norm_num) _ _
  rw [e2, mul_comm _ ((1 / 1024 : ℝ) : EReal), ← mul_assoc, ← EReal.coe_mul]
  congr 2
  norm_num

end Cert.Norm

end
-- ==== Proof.MixerBlock.lean ====
/-
  The gradient of the last layer's mixer (program `Kernel`): what a grid point computes of its blocks and of the two rows
  that it carries over from the point before, which holds the tokens that follow.
-/
module

public import proofs.«01_k».proof.Proof.Gen.KernelIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen

variable (m : (ℓ : Loc nD τ sig) → Buf (Elt Ideal) ℓ)

/-- The windows' block indices at every grid point: the rows of tokens from the last to the first. -/
theorem idx : ∀ t : Fin cfg0.N, win0_0.index t = ![15 - t.val, 0] ∧ win0_1.index t = ![15 - t.val, 0] ∧ win0_2.index t = ![15 - t.val, 1]
    ∧ win0_3.index t = ![15 - t.val, 2] ∧ win0_4.index t = ![15 - t.val, 3] ∧ win0_5.index t = ![15 - t.val, 4]
    ∧ win0_6.index t = ![15 - t.val, 0] ∧ win0_7.index t = ![15 - t.val, 0] ∧ win0_8.index t = ![15 - t.val, 0]
    ∧ win0_9.index t = ![0, 0, 0] ∧ win0_10.index t = ![1, 0, 0] ∧ win0_11.index t = ![2, 0, 0]
    ∧ win0_12.index t = ![1, 0, 0] ∧ win0_13.index t = ![1, 0, 0] ∧ win0_14.index t = ![15 - t.val, 0]
    ∧ win0_15.index t = ![0, 15 - t.val] ∧ win0_16.index t = ![15 - t.val, 0] ∧ win0_17.index t = ![15 - t.val, 0]
    ∧ win0_18.index t = ![15 - t.val, 0] ∧ win0_19.index t = ![0, 0] :=
  (by decide +kernel : ∀ t : Fin grid0.N, _)

/-- The rows one later: the last is the first carried row. -/
def up1 (f : Fin 512 → Fin 1024 → EReal) (k0 : Fin 1024 → EReal) (p : Fin 512) (k : Fin 1024) : EReal :=
  if h : p.val + 1 < 512 then f ⟨p.val + 1, h⟩ k else k0 k

/-- The rows two later: the last two are the two carried rows. -/
def up2 (f : Fin 512 → Fin 1024 → EReal) (k0 k1 : Fin 1024 → EReal) (p : Fin 512) (k : Fin 1024) : EReal :=
  if h : p.val + 2 < 512 then f ⟨p.val + 2, h⟩ k else if p.val = 510 then k0 k else k1 k

/-- A choice on the row number. -/
theorem sel_row (p : Fin 512) (n : ℕ) (hn : n < 512) (a b : EReal) :
    Scalar.select (IntOp.cmpi CmpIPredicate.eq (BitVec.ofNat 32 p.val) (BitVec.ofNat 32 n)) a b = if p.val = n then a else b := by
  have hp := p.isLt
  rw [WordCmp.cmpi_eq_eq_toNat, BitVec.toNat_ofNat, BitVec.toNat_ofNat, Nat.mod_eq_of_lt (by omega), Nat.mod_eq_of_lt (by omega)]
  by_cases h : p.val = n
  · rw [if_pos h, decide_eq_true h]; rfl
  · rw [if_neg h, decide_eq_false h]; rfl

section
variable (x0 : Vec Ideal S512x1024 .f32) (x1 x2 x3 x4 x5 x6 x7 x8 : Vec Ideal S512x1024 .bf16) (x9 x10 x11 : Vec Ideal S1x1024x1024 .bf16)
  (x12 : Vec Ideal S1x2x1024 .f32) (x13 : Vec Ideal S1x8x1024 .f32)

/-- The gradient at the mixed value. -/
def dm (p : Fin 512) (k : Fin 1024) : EReal := ∑ f : Fin 1024, x0 (ix2 p f) * x11 (ix3 0 k f)

/-- The two gates. -/
def sa (p : Fin 512) (k : Fin 1024) : EReal := Ideal.logistic (x4 (ix2 p k) + x12 (ix3 0 0 k))

def sc (p : Fin 512) (k : Fin 1024) : EReal := Ideal.logistic (x5 (ix2 p k) + x12 (ix3 0 1 k))

/-- The gradients of the gated values. -/
def dya (p : Fin 512) (k : Fin 1024) : EReal := dm x0 x11 p k * sa x4 x12 p k

def dyc (p : Fin 512) (k : Fin 1024) : EReal := dm x0 x11 p k * sc x5 x12 p k

/-- The gradients of the gates before the logistic function. -/
def dga (p : Fin 512) (k : Fin 1024) : EReal :=
  dya x0 x4 x11 x12 p k * x6 (ix2 p k) * (Ideal.ofBits .f32 0x3F800000#32 - sa x4 x12 p k)

def dgc (p : Fin 512) (k : Fin 1024) : EReal :=
  dyc x0 x5 x11 x12 p k * x7 (ix2 p k) * (Ideal.ofBits .f32 0x3F800000#32 - sc x5 x12 p k)

/-- The attention output's gradient. -/
def da (i : Fin 1024) (p : Fin 512) : EReal := ∑ f : Fin 1024, x9 (ix3 0 i f) * dya x0 x4 x11 x12 p f

/-- The convolution branch's gradient. -/
def dco (p : Fin 512) (k : Fin 1024) : EReal := ∑ f : Fin 1024, dyc x0 x5 x11 x12 p f * x10 (ix3 0 k f)

def dz (p : Fin 512) (k : Fin 1024) : EReal := dco x0 x5 x10 x11 x12 p k * x1 (ix2 p k)

/-- The gradient of the convolution's input. -/
def dy (k0 k1 : Fin 1024 → EReal) (p : Fin 512) (k : Fin 1024) : EReal :=
  x13 (ix3 0 2 k) * dz x0 x1 x5 x10 x11 x12 p k + x13 (ix3 0 1 k) * up1 (dz x0 x1 x5 x10 x11 x12) k0 p k
    + x13 (ix3 0 0 k) * up2 (dz x0 x1 x5 x10 x11 x12) k0 k1 p k

/-- The gradient of the five gate segments. -/
def dg (k0 k1 : Fin 1024 → EReal) (p : Fin 512) (f : Fin 5120) : EReal :=
  if f.val / 1024 = 0 then dco x0 x5 x10 x11 x12 p ⟨f.val % 1024, Nat.mod_lt _ (by decide)⟩ * x8 (ix2 p ⟨f.val % 1024, Nat.mod_lt _ (by decide)⟩)
  else if f.val / 1024 = 1 then dy x0 x1 x5 x10 x11 x12 x13 k0 k1 p ⟨f.val % 1024, Nat.mod_lt _ (by decide)⟩ * x3 (ix2 p ⟨f.val % 1024, Nat.mod_lt _ (by decide)⟩)
  else if f.val / 1024 = 2 then dy x0 x1 x5 x10 x11 x12 x13 k0 k1 p ⟨f.val % 1024, Nat.mod_lt _ (by decide)⟩ * x2 (ix2 p ⟨f.val % 1024, Nat.mod_lt _ (by decide)⟩)
  else if f.val / 1024 = 3 then dga x0 x4 x6 x11 x12 p ⟨f.val % 1024, Nat.mod_lt _ (by decide)⟩
  else dgc x0 x5 x7 x11 x12 p ⟨f.val % 1024, Nat.mod_lt _ (by decide)⟩

/-- What one token adds to the eight rows of sums. -/
def rows (k0 k1 : Fin 1024 → EReal) (p : Fin 512) (r : ℕ) (k : Fin 1024) : EReal :=
  if r = 5 then dz x0 x1 x5 x10 x11 x12 p k * (x2 (ix2 p k) * x3 (ix2 p k))
  else if r = 4 then up1 (dz x0 x1 x5 x10 x11 x12) k0 p k * (x2 (ix2 p k) * x3 (ix2 p k))
  else if r = 3 then up2 (dz x0 x1 x5 x10 x11 x12) k0 k1 p k * (x2 (ix2 p k) * x3 (ix2 p k))
  else if r = 2 then dz x0 x1 x5 x10 x11 x12 p k
  else if r = 1 then dgc x0 x5 x7 x11 x12 p k
  else if r = 0 then dga x0 x4 x6 x11 x12 p k
  else 0

theorem dm_at (p : Fin 512) (k : Fin 1024) : ((k0_pay6 x0 x11) : FVec Ideal S512x1024 .f32) (ix2 p k)
    = dm x0 x11 p k := by
  unfold dm
  pointwise [k0_pay6, k0_pay5]
theorem dya_at (b0) (p : Fin 512) (k : Fin 1024) : (k0_pay12 (k0_pay6 x0 x11) (k0_pay7 x4) (View.ld x12 (Rect.unit (s := S1x2x1024) ![0, 0, 0] ![1, 1, 1024] b0)) : FVec Ideal S512x1024 .bf16) (ix2 p k)
    = dya x0 x4 x11 x12 p k := by
  have h := dm_at x0 x11 p k
  unfold dya sa
  pointwise [k0_pay12, k0_pay10, k0_pay8, k0_pay7]
  simp only [h]
theorem dyc_at (b1) (p : Fin 512) (k : Fin 1024) : (k0_pay13 (k0_pay6 x0 x11) x5 (View.ld x12 (Rect.unit (s := S1x2x1024) ![0, 1, 0] ![1, 1, 1024] b1)) : FVec Ideal S512x1024 .bf16) (ix2 p k)
    = dyc x0 x5 x11 x12 p k := by
  have h := dm_at x0 x11 p k
  unfold dyc sc
  pointwise [k0_pay13, k0_pay11, k0_pay9]
  simp only [h]
theorem dga_at (b0) (p : Fin 512) (k : Fin 1024) : (k0_pay14 (k0_pay6 x0 x11) (k0_pay7 x4) (View.ld x12 (Rect.unit (s := S1x2x1024) ![0, 0, 0] ![1, 1, 1024] b0)) x6 : FVec Ideal S512x1024 .f32) (ix2 p k)
    = dga x0 x4 x6 x11 x12 p k := by
  have h := dm_at x0 x11 p k
  unfold dga dya sa
  pointwise [k0_pay14, k0_pay10, k0_pay8, k0_pay7]
  simp only [h]
theorem dgc_at (b1) (p : Fin 512) (k : Fin 1024) : (k0_pay15 (k0_pay6 x0 x11) x5 (View.ld x12 (Rect.unit (s := S1x2x1024) ![0, 1, 0] ![1, 1, 1024] b1)) x7 : FVec Ideal S512x1024 .f32) (ix2 p k)
    = dgc x0 x5 x7 x11 x12 p k := by
  have h := dm_at x0 x11 p k
  unfold dgc dyc sc
  pointwise [k0_pay15, k0_pay11, k0_pay9]
  simp only [h]
theorem da_at (b0) (i : Fin 1024) (p : Fin 512) : (k0_pay20 (k0_pay12 (k0_pay6 x0 x11) (k0_pay7 x4) (View.ld x12 (Rect.unit (s := S1x2x1024) ![0, 0, 0] ![1, 1, 1024] b0))) x9 : FVec Ideal S1024x512 .bf16) (ix2 i p)
    = da x0 x4 x9 x11 x12 i p := by
  have h := dya_at x0 x4 x11 x12 b0 p
  unfold da
  pointwise [k0_pay20]
  simp only [h]
theorem dco_at (b1) (p : Fin 512) (k : Fin 1024) : ((k0_pay21 (k0_pay13 (k0_pay6 x0 x11) x5 (View.ld x12 (Rect.unit (s := S1x2x1024) ![0, 1, 0] ![1, 1, 1024] b1))) x10) : FVec Ideal S512x1024 .f32) (ix2 p k)
    = dco x0 x5 x10 x11 x12 p k := by
  have h := dyc_at x0 x5 x11 x12 b1 p
  unfold dco
  pointwise [k0_pay21]
  simp only [h]
theorem dz_at (b1) (p : Fin 512) (k : Fin 1024) : ((k0_pay26 (k0_pay21 (k0_pay13 (k0_pay6 x0 x11) x5 (View.ld x12 (Rect.unit (s := S1x2x1024) ![0, 1, 0] ![1, 1, 1024] b1))) x10) x1) : FVec Ideal S512x1024 .f32) (ix2 p k)
    = dz x0 x1 x5 x10 x11 x12 p k := by
  have h := dco_at x0 x5 x10 x11 x12 b1 p k
  unfold dz
  pointwise [k0_pay26]
  simp only [h]
theorem up1_at (b1) (q0 : Vec Ideal S1x1024 .f32) (c0 : Fin 1024 → EReal) (e0 : ∀ k, q0 (ix2 0 k) = c0 k) (p : Fin 512) (k : Fin 1024) : ((k0_pay27 (k0_pay21 (k0_pay13 (k0_pay6 x0 x11) x5 (View.ld x12 (Rect.unit (s := S1x2x1024) ![0, 1, 0] ![1, 1, 1024] b1))) x10) x1 q0) : FVec Ideal S512x1024 .f32) (ix2 p k)
    = up1 (dz x0 x1 x5 x10 x11 x12) c0 p k := by
  have h := fun p => dz_at x0 x1 x5 x10 x11 x12 b1 p k
  unfold up1
  pointwise [k0_pay27]
  simp only [h]
  have hp := p.isLt
  refine (sel_row p 511 (by decide) _ _).trans ?_
  by_cases h1 : p.val + 1 < 512
  · refine (if_neg (by omega)).trans (.trans ?_ (dif_pos h1).symm)
    refine congrArg (fun w => dz x0 x1 x5 x10 x11 x12 w k) (Fin.ext ?_)
    show (p.val + 512 - 511) % 512 = p.val + 1
    omega
  · refine .trans ?_ (dif_neg h1).symm
    exact (if_pos (by omega)).trans (e0 k)
theorem up2_at (b1) (q0 q1 : Vec Ideal S1x1024 .f32) (c0 c1 : Fin 1024 → EReal) (e0 : ∀ k, q0 (ix2 0 k) = c0 k) (e1 : ∀ k, q1 (ix2 0 k) = c1 k) (p : Fin 512) (k : Fin 1024) : ((k0_pay28 (k0_pay21 (k0_pay13 (k0_pay6 x0 x11) x5 (View.ld x12 (Rect.unit (s := S1x2x1024) ![0, 1, 0] ![1, 1, 1024] b1))) x10) x1 q0 q1) : FVec Ideal S512x1024 .f32) (ix2 p k)
    = up2 (dz x0 x1 x5 x10 x11 x12) c0 c1 p k := by
  have h := fun p => dz_at x0 x1 x5 x10 x11 x12 b1 p k
  unfold up2
  pointwise [k0_pay28]
  simp only [h]
  have hp := p.isLt
  refine (sel_row p 511 (by decide) _ _).trans ?_
  by_cases h2 : p.val + 2 < 512
  · refine (if_neg (by omega)).trans ((sel_row p 510 (by decide) _ _).trans ((if_neg (by omega)).trans (.trans ?_ (dif_pos h2).symm)))
    refine congrArg (fun w => dz x0 x1 x5 x10 x11 x12 w k) (Fin.ext ?_)
    show (p.val + 512 - 510) % 512 = p.val + 2
    omega
  refine .trans ?_ (dif_neg h2).symm
  by_cases h3 : p.val = 510
  · exact (if_neg (by omega)).trans ((sel_row p 510 (by decide) _ _).trans ((if_pos h3).trans ((e0 k).trans (if_pos h3).symm)))
  · exact (if_pos (by omega)).trans ((e1 k).trans (if_neg h3).symm)
theorem dy_at (b1) (d0) (d1) (d2) (q0 q1 : Vec Ideal S1x1024 .f32) (c0 c1 : Fin 1024 → EReal) (e0 : ∀ k, q0 (ix2 0 k) = c0 k) (e1 : ∀ k, q1 (ix2 0 k) = c1 k) (p : Fin 512) (k : Fin 1024) : ((k0_pay35 (k0_pay26 (k0_pay21 (k0_pay13 (k0_pay6 x0 x11) x5 (View.ld x12 (Rect.unit (s := S1x2x1024) ![0, 1, 0] ![1, 1, 1024] b1))) x10) x1) (k0_pay27 (k0_pay21 (k0_pay13 (k0_pay6 x0 x11) x5 (View.ld x12 (Rect.unit (s := S1x2x1024) ![0, 1, 0] ![1, 1, 1024] b1))) x10) x1 q0) (k0_pay28 (k0_pay21 (k0_pay13 (k0_pay6 x0 x11) x5 (View.ld x12 (Rect.unit (s := S1x2x1024) ![0, 1, 0] ![1, 1, 1024] b1))) x10) x1 q0 q1) (View.ld x13 (Rect.unit (s := S1x8x1024) ![0, 2, 0] ![1, 1, 1024] d2)) (View.ld x13 (Rect.unit (s := S1x8x1024) ![0, 1, 0] ![1, 1, 1024] d1)) (View.ld x13 (Rect.unit (s := S1x8x1024) ![0, 0, 0] ![1, 1, 1024] d0))) : FVec Ideal S512x1024 .f32) (ix2 p k)
    = dy x0 x1 x5 x10 x11 x12 x13 c0 c1 p k := by
  have hz := dz_at x0 x1 x5 x10 x11 x12 b1 p k
  have h1 := up1_at x0 x1 x5 x10 x11 x12 b1 q0 c0 e0 p k
  have h2 := up2_at x0 x1 x5 x10 x11 x12 b1 q0 q1 c0 c1 e0 e1 p k
  unfold dy
  pointwise [k0_pay35]
  simp only [hz, h1, h2]
theorem dg_col0 (c0 c1 : Fin 1024 → EReal) (p : Fin 512) (k : Fin 1024) : dg x0 x1 x2 x3 x4 x5 x6 x7 x8 x10 x11 x12 x13 c0 c1 p ⟨0 + k.val, by have := k.isLt; omega⟩ = dco x0 x5 x10 x11 x12 p k * x8 (ix2 p k) := by
  have hq : (0 + k.val) / 1024 = 0 := by have := k.isLt; omega
  have hk : (⟨(0 + k.val) % 1024, Nat.mod_lt _ (by decide)⟩ : Fin 1024) = k := Fin.ext (by have := k.isLt; show (0 + k.val) % 1024 = k.val; omega)
  simp only [dg, hq, hk]
  rfl
theorem dg_col1 (c0 c1 : Fin 1024 → EReal) (p : Fin 512) (k : Fin 1024) : dg x0 x1 x2 x3 x4 x5 x6 x7 x8 x10 x11 x12 x13 c0 c1 p ⟨1024 + k.val, by have := k.isLt; omega⟩ = dy x0 x1 x5 x10 x11 x12 x13 c0 c1 p k * x3 (ix2 p k) := by
  have hq : (1024 + k.val) / 1024 = 1 := by have := k.isLt; omega
  have hk : (⟨(1024 + k.val) % 1024, Nat.mod_lt _ (by decide)⟩ : Fin 1024) = k := Fin.ext (by have := k.isLt; show (1024 + k.val) % 1024 = k.val; omega)
  simp only [dg, hq, hk]
  rfl
theorem dg_col2 (c0 c1 : Fin 1024 → EReal) (p : Fin 512) (k : Fin 1024) : dg x0 x1 x2 x3 x4 x5 x6 x7 x8 x10 x11 x12 x13 c0 c1 p ⟨2048 + k.val, by have := k.isLt; omega⟩ = dy x0 x1 x5 x10 x11 x12 x13 c0 c1 p k * x2 (ix2 p k) := by
  have hq : (2048 + k.val) / 1024 = 2 := by have := k.isLt; omega
  have hk : (⟨(2048 + k.val) % 1024, Nat.mod_lt _ (by decide)⟩ : Fin 1024) = k := Fin.ext (by have := k.isLt; show (2048 + k.val) % 1024 = k.val; omega)
  simp only [dg, hq, hk]
  rfl
theorem dg_col3 (c0 c1 : Fin 1024 → EReal) (p : Fin 512) (k : Fin 1024) : dg x0 x1 x2 x3 x4 x5 x6 x7 x8 x10 x11 x12 x13 c0 c1 p ⟨3072 + k.val, by have := k.isLt; omega⟩ = dga x0 x4 x6 x11 x12 p k := by
  have hq : (3072 + k.val) / 1024 = 3 := by have := k.isLt; omega
  have hk : (⟨(3072 + k.val) % 1024, Nat.mod_lt _ (by decide)⟩ : Fin 1024) = k := Fin.ext (by have := k.isLt; show (3072 + k.val) % 1024 = k.val; omega)
  simp only [dg, hq, hk]
  rfl
theorem dg_col4 (c0 c1 : Fin 1024 → EReal) (p : Fin 512) (k : Fin 1024) : dg x0 x1 x2 x3 x4 x5 x6 x7 x8 x10 x11 x12 x13 c0 c1 p ⟨4096 + k.val, by have := k.isLt; omega⟩ = dgc x0 x5 x7 x11 x12 p k := by
  have hq : (4096 + k.val) / 1024 = 4 := by have := k.isLt; omega
  have hk : (⟨(4096 + k.val) % 1024, Nat.mod_lt _ (by decide)⟩ : Fin 1024) = k := Fin.ext (by have := k.isLt; show (4096 + k.val) % 1024 = k.val; omega)
  simp only [dg, hq, hk]
  rfl

theorem dgw_0 (c0 c1 : Fin 1024 → EReal) (b0 : ∀ a, (![0, 0, 0] : Fin 3 → ℕ) a + (![1, 1, 1024] : Fin 3 → ℕ) a ≤ S1x2x1024.size a) (b1 : ∀ a, (![0, 1, 0] : Fin 3 → ℕ) a + (![1, 1, 1024] : Fin 3 → ℕ) a ≤ S1x2x1024.size a) (d0 : ∀ a, (![0, 0, 0] : Fin 3 → ℕ) a + (![1, 1, 1024] : Fin 3 → ℕ) a ≤ S1x8x1024.size a) (d1 : ∀ a, (![0, 1, 0] : Fin 3 → ℕ) a + (![1, 1, 1024] : Fin 3 → ℕ) a ≤ S1x8x1024.size a) (d2 : ∀ a, (![0, 2, 0] : Fin 3 → ℕ) a + (![1, 1, 1024] : Fin 3 → ℕ) a ≤ S1x8x1024.size a)  (inb : ∀ a, (![0, 0] : Fin 2 → ℕ) a + (![512, 1024] : Fin 2 → ℕ) a ≤ S512x5120.size a) :
    ∀ z, (k0_pay25 (k0_pay13 (k0_pay6 x0 x11) x5 (View.ld x12 (Rect.unit (s := S1x2x1024) ![0, 1, 0] ![1, 1, 1024] b1))) x10 x8 : FVec Ideal S512x1024 .bf16) z
      = (fun j : S512x5120.Idx => dg x0 x1 x2 x3 x4 x5 x6 x7 x8 x10 x11 x12 x13 c0 c1 (j 0) (j 1)) ((Rect.unit (s := S512x5120) ![0, 0] ![512, 1024] inb).emb z) := by
  intro y
  obtain ⟨z0, z1, rfl⟩ : ∃ z0 z1, y = ix2 z0 z1 := ⟨y 0, y 1, eq_ix2 y⟩
  have e : (Rect.unit (s := S512x5120) ![0, 0] ![512, 1024] inb).emb (ix2 z0 z1) = (ix2 z0 ⟨0 + z1.val, by have := z1.isLt; omega⟩ : S512x5120.Idx) := by blk_ext
  refine .trans ?_ (congrArg (fun j : S512x5120.Idx => dg x0 x1 x2 x3 x4 x5 x6 x7 x8 x10 x11 x12 x13 c0 c1 (j 0) (j 1)) e).symm
  refine .trans ?_ (dg_col0 x0 x1 x2 x3 x4 x5 x6 x7 x8 x10 x11 x12 x13 c0 c1 z0 z1).symm
  have h := dco_at x0 x5 x10 x11 x12 b1 z0 z1
  pointwise [k0_pay25]
  simp only [h]

theorem dgw_1 (c0 c1 : Fin 1024 → EReal) (b0 : ∀ a, (![0, 0, 0] : Fin 3 → ℕ) a + (![1, 1, 1024] : Fin 3 → ℕ) a ≤ S1x2x1024.size a) (b1 : ∀ a, (![0, 1, 0] : Fin 3 → ℕ) a + (![1, 1, 1024] : Fin 3 → ℕ) a ≤ S1x2x1024.size a) (d0 : ∀ a, (![0, 0, 0] : Fin 3 → ℕ) a + (![1, 1, 1024] : Fin 3 → ℕ) a ≤ S1x8x1024.size a) (d1 : ∀ a, (![0, 1, 0] : Fin 3 → ℕ) a + (![1, 1, 1024] : Fin 3 → ℕ) a ≤ S1x8x1024.size a) (d2 : ∀ a, (![0, 2, 0] : Fin 3 → ℕ) a + (![1, 1, 1024] : Fin 3 → ℕ) a ≤ S1x8x1024.size a) (q0 q1 : Vec Ideal S1x1024 .f32)(e0 : ∀ k, q0 (ix2 0 k) = c0 k)(e1 : ∀ k, q1 (ix2 0 k) = c1 k) (inb : ∀ a, (![0, 1024] : Fin 2 → ℕ) a + (![512, 1024] : Fin 2 → ℕ) a ≤ S512x5120.size a) :
    ∀ z, (k0_pay36 (k0_pay23 x3) (k0_pay26 (k0_pay21 (k0_pay13 (k0_pay6 x0 x11) x5 (View.ld x12 (Rect.unit (s := S1x2x1024) ![0, 1, 0] ![1, 1, 1024] b1))) x10) x1) (k0_pay27 (k0_pay21 (k0_pay13 (k0_pay6 x0 x11) x5 (View.ld x12 (Rect.unit (s := S1x2x1024) ![0, 1, 0] ![1, 1, 1024] b1))) x10) x1 q0) (k0_pay28 (k0_pay21 (k0_pay13 (k0_pay6 x0 x11) x5 (View.ld x12 (Rect.unit (s := S1x2x1024) ![0, 1, 0] ![1, 1, 1024] b1))) x10) x1 q0 q1) (View.ld x13 (Rect.unit (s := S1x8x1024) ![0, 2, 0] ![1, 1, 1024] d2)) (View.ld x13 (Rect.unit (s := S1x8x1024) ![0, 1, 0] ![1, 1, 1024] d1)) (View.ld x13 (Rect.unit (s := S1x8x1024) ![0, 0, 0] ![1, 1, 1024] d0)) : FVec Ideal S512x1024 .bf16) z
      = (fun j : S512x5120.Idx => dg x0 x1 x2 x3 x4 x5 x6 x7 x8 x10 x11 x12 x13 c0 c1 (j 0) (j 1)) ((Rect.unit (s := S512x5120) ![0, 1024] ![512, 1024] inb).emb z) := by
  intro y
  obtain ⟨z0, z1, rfl⟩ : ∃ z0 z1, y = ix2 z0 z1 := ⟨y 0, y 1, eq_ix2 y⟩
  have e : (Rect.unit (s := S512x5120) ![0, 1024] ![512, 1024] inb).emb (ix2 z0 z1) = (ix2 z0 ⟨1024 + z1.val, by have := z1.isLt; omega⟩ : S512x5120.Idx) := by blk_ext
  refine .trans ?_ (congrArg (fun j : S512x5120.Idx => dg x0 x1 x2 x3 x4 x5 x6 x7 x8 x10 x11 x12 x13 c0 c1 (j 0) (j 1)) e).symm
  refine .trans ?_ (dg_col1 x0 x1 x2 x3 x4 x5 x6 x7 x8 x10 x11 x12 x13 c0 c1 z0 z1).symm
  have h := dy_at x0 x1 x5 x10 x11 x12 x13 b1 d0 d1 d2 q0 q1 c0 c1 e0 e1 z0 z1
  pointwise [k0_pay36, k0_pay23]
  exact congrArg (· * _) h

theorem dgw_2 (c0 c1 : Fin 1024 → EReal) (b0 : ∀ a, (![0, 0, 0] : Fin 3 → ℕ) a + (![1, 1, 1024] : Fin 3 → ℕ) a ≤ S1x2x1024.size a) (b1 : ∀ a, (![0, 1, 0] : Fin 3 → ℕ) a + (![1, 1, 1024] : Fin 3 → ℕ) a ≤ S1x2x1024.size a) (d0 : ∀ a, (![0, 0, 0] : Fin 3 → ℕ) a + (![1, 1, 1024] : Fin 3 → ℕ) a ≤ S1x8x1024.size a) (d1 : ∀ a, (![0, 1, 0] : Fin 3 → ℕ) a + (![1, 1, 1024] : Fin 3 → ℕ) a ≤ S1x8x1024.size a) (d2 : ∀ a, (![0, 2, 0] : Fin 3 → ℕ) a + (![1, 1, 1024] : Fin 3 → ℕ) a ≤ S1x8x1024.size a) (q0 q1 : Vec Ideal S1x1024 .f32)(e0 : ∀ k, q0 (ix2 0 k) = c0 k)(e1 : ∀ k, q1 (ix2 0 k) = c1 k) (inb : ∀ a, (![0, 2048] : Fin 2 → ℕ) a + (![512, 1024] : Fin 2 → ℕ) a ≤ S512x5120.size a) :
    ∀ z, (k0_pay1 (k0_pay22 x2) (k0_pay35 (k0_pay26 (k0_pay21 (k0_pay13 (k0_pay6 x0 x11) x5 (View.ld x12 (Rect.unit (s := S1x2x1024) ![0, 1, 0] ![1, 1, 1024] b1))) x10) x1) (k0_pay27 (k0_pay21 (k0_pay13 (k0_pay6 x0 x11) x5 (View.ld x12 (Rect.unit (s := S1x2x1024) ![0, 1, 0] ![1, 1, 1024] b1))) x10) x1 q0) (k0_pay28 (k0_pay21 (k0_pay13 (k0_pay6 x0 x11) x5 (View.ld x12 (Rect.unit (s := S1x2x1024) ![0, 1, 0] ![1, 1, 1024] b1))) x10) x1 q0 q1) (View.ld x13 (Rect.unit (s := S1x8x1024) ![0, 2, 0] ![1, 1, 1024] d2)) (View.ld x13 (Rect.unit (s := S1x8x1024) ![0, 1, 0] ![1, 1, 1024] d1)) (View.ld x13 (Rect.unit (s := S1x8x1024) ![0, 0, 0] ![1, 1, 1024] d0))) : FVec Ideal S512x1024 .bf16) z
      = (fun j : S512x5120.Idx => dg x0 x1 x2 x3 x4 x5 x6 x7 x8 x10 x11 x12 x13 c0 c1 (j 0) (j 1)) ((Rect.unit (s := S512x5120) ![0, 2048] ![512, 1024] inb).emb z) := by
  intro y
  obtain ⟨z0, z1, rfl⟩ : ∃ z0 z1, y = ix2 z0 z1 := ⟨y 0, y 1, eq_ix2 y⟩
  have e : (Rect.unit (s := S512x5120) ![0, 2048] ![512, 1024] inb).emb (ix2 z0 z1) = (ix2 z0 ⟨2048 + z1.val, by have := z1.isLt; omega⟩ : S512x5120.Idx) := by blk_ext
  refine .trans ?_ (congrArg (fun j : S512x5120.Idx => dg x0 x1 x2 x3 x4 x5 x6 x7 x8 x10 x11 x12 x13 c0 c1 (j 0) (j 1)) e).symm
  refine .trans ?_ (dg_col2 x0 x1 x2 x3 x4 x5 x6 x7 x8 x10 x11 x12 x13 c0 c1 z0 z1).symm
  have h := dy_at x0 x1 x5 x10 x11 x12 x13 b1 d0 d1 d2 q0 q1 c0 c1 e0 e1 z0 z1
  pointwise [k0_pay1, k0_pay22]
  simp only [h]

theorem dgw_3 (c0 c1 : Fin 1024 → EReal) (b0 : ∀ a, (![0, 0, 0] : Fin 3 → ℕ) a + (![1, 1, 1024] : Fin 3 → ℕ) a ≤ S1x2x1024.size a) (b1 : ∀ a, (![0, 1, 0] : Fin 3 → ℕ) a + (![1, 1, 1024] : Fin 3 → ℕ) a ≤ S1x2x1024.size a) (d0 : ∀ a, (![0, 0, 0] : Fin 3 → ℕ) a + (![1, 1, 1024] : Fin 3 → ℕ) a ≤ S1x8x1024.size a) (d1 : ∀ a, (![0, 1, 0] : Fin 3 → ℕ) a + (![1, 1, 1024] : Fin 3 → ℕ) a ≤ S1x8x1024.size a) (d2 : ∀ a, (![0, 2, 0] : Fin 3 → ℕ) a + (![1, 1, 1024] : Fin 3 → ℕ) a ≤ S1x8x1024.size a)  (inb : ∀ a, (![0, 3072] : Fin 2 → ℕ) a + (![512, 1024] : Fin 2 → ℕ) a ≤ S512x5120.size a) :
    ∀ z, (k0_pay16 (k0_pay6 x0 x11) (k0_pay7 x4) (View.ld x12 (Rect.unit (s := S1x2x1024) ![0, 0, 0] ![1, 1, 1024] b0)) x6 : FVec Ideal S512x1024 .bf16) z
      = (fun j : S512x5120.Idx => dg x0 x1 x2 x3 x4 x5 x6 x7 x8 x10 x11 x12 x13 c0 c1 (j 0) (j 1)) ((Rect.unit (s := S512x5120) ![0, 3072] ![512, 1024] inb).emb z) := by
  intro y
  obtain ⟨z0, z1, rfl⟩ : ∃ z0 z1, y = ix2 z0 z1 := ⟨y 0, y 1, eq_ix2 y⟩
  have e : (Rect.unit (s := S512x5120) ![0, 3072] ![512, 1024] inb).emb (ix2 z0 z1) = (ix2 z0 ⟨3072 + z1.val, by have := z1.isLt; omega⟩ : S512x5120.Idx) := by blk_ext
  refine .trans ?_ (congrArg (fun j : S512x5120.Idx => dg x0 x1 x2 x3 x4 x5 x6 x7 x8 x10 x11 x12 x13 c0 c1 (j 0) (j 1)) e).symm
  refine .trans ?_ (dg_col3 x0 x1 x2 x3 x4 x5 x6 x7 x8 x10 x11 x12 x13 c0 c1 z0 z1).symm
  have h := dga_at x0 x4 x6 x11 x12 b0 z0 z1
  refine .trans ?_ h
  pointwise [k0_pay16]

theorem dgw_4 (c0 c1 : Fin 1024 → EReal) (b0 : ∀ a, (![0, 0, 0] : Fin 3 → ℕ) a + (![1, 1, 1024] : Fin 3 → ℕ) a ≤ S1x2x1024.size a) (b1 : ∀ a, (![0, 1, 0] : Fin 3 → ℕ) a + (![1, 1, 1024] : Fin 3 → ℕ) a ≤ S1x2x1024.size a) (d0 : ∀ a, (![0, 0, 0] : Fin 3 → ℕ) a + (![1, 1, 1024] : Fin 3 → ℕ) a ≤ S1x8x1024.size a) (d1 : ∀ a, (![0, 1, 0] : Fin 3 → ℕ) a + (![1, 1, 1024] : Fin 3 → ℕ) a ≤ S1x8x1024.size a) (d2 : ∀ a, (![0, 2, 0] : Fin 3 → ℕ) a + (![1, 1, 1024] : Fin 3 → ℕ) a ≤ S1x8x1024.size a)  (inb : ∀ a, (![0, 4096] : Fin 2 → ℕ) a + (![512, 1024] : Fin 2 → ℕ) a ≤ S512x5120.size a) :
    ∀ z, (k0_pay17 (k0_pay6 x0 x11) x5 (View.ld x12 (Rect.unit (s := S1x2x1024) ![0, 1, 0] ![1, 1, 1024] b1)) x7 : FVec Ideal S512x1024 .bf16) z
      = (fun j : S512x5120.Idx => dg x0 x1 x2 x3 x4 x5 x6 x7 x8 x10 x11 x12 x13 c0 c1 (j 0) (j 1)) ((Rect.unit (s := S512x5120) ![0, 4096] ![512, 1024] inb).emb z) := by
  intro y
  obtain ⟨z0, z1, rfl⟩ : ∃ z0 z1, y = ix2 z0 z1 := ⟨y 0, y 1, eq_ix2 y⟩
  have e : (Rect.unit (s := S512x5120) ![0, 4096] ![512, 1024] inb).emb (ix2 z0 z1) = (ix2 z0 ⟨4096 + z1.val, by have := z1.isLt; omega⟩ : S512x5120.Idx) := by blk_ext
  refine .trans ?_ (congrArg (fun j : S512x5120.Idx => dg x0 x1 x2 x3 x4 x5 x6 x7 x8 x10 x11 x12 x13 c0 c1 (j 0) (j 1)) e).symm
  refine .trans ?_ (dg_col4 x0 x1 x2 x3 x4 x5 x6 x7 x8 x10 x11 x12 x13 c0 c1 z0 z1).symm
  have h := dgc_at x0 x5 x7 x11 x12 b1 z0 z1
  refine .trans ?_ h
  pointwise [k0_pay17]
theorem row_0 (c0 c1 : Fin 1024 → EReal) (b0 : ∀ a, (![0, 0, 0] : Fin 3 → ℕ) a + (![1, 1, 1024] : Fin 3 → ℕ) a ≤ S1x2x1024.size a)  (q : Vec Ideal S1x1024 .f32) (k : Fin 1024) : (k0_pay18 (k0_pay14 (k0_pay6 x0 x11) (k0_pay7 x4) (View.ld x12 (Rect.unit (s := S1x2x1024) ![0, 0, 0] ![1, 1, 1024] b0)) x6) q : FVec Ideal S1x1024 .f32) (ix2 0 k)
    = q (ix2 0 k) + ∑ p : Fin 512, rows x0 x1 x2 x3 x4 x5 x6 x7 x10 x11 x12 c0 c1 p 0 k := by
  have h := fun p => dga_at x0 x4 x6 x11 x12 b0 p k
  simp only [rows, if_true, if_false, reduceIte, Nat.reduceEqDiff, OfNat.zero_ne_ofNat, OfNat.ofNat_ne_zero, zero_ne_one, one_ne_zero, OfNat.ofNat_ne_one, OfNat.one_ne_ofNat]
  pointwise [k0_pay18]
  simp only [h]
theorem row_1 (c0 c1 : Fin 1024 → EReal) (b1 : ∀ a, (![0, 1, 0] : Fin 3 → ℕ) a + (![1, 1, 1024] : Fin 3 → ℕ) a ≤ S1x2x1024.size a)  (q : Vec Ideal S1x1024 .f32) (k : Fin 1024) : (k0_pay19 (k0_pay15 (k0_pay6 x0 x11) x5 (View.ld x12 (Rect.unit (s := S1x2x1024) ![0, 1, 0] ![1, 1, 1024] b1)) x7) q : FVec Ideal S1x1024 .f32) (ix2 0 k)
    = q (ix2 0 k) + ∑ p : Fin 512, rows x0 x1 x2 x3 x4 x5 x6 x7 x10 x11 x12 c0 c1 p 1 k := by
  have h := fun p => dgc_at x0 x5 x7 x11 x12 b1 p k
  simp only [rows, if_true, if_false, reduceIte, Nat.reduceEqDiff, OfNat.zero_ne_ofNat, OfNat.ofNat_ne_zero, zero_ne_one, one_ne_zero, OfNat.ofNat_ne_one, OfNat.one_ne_ofNat]
  pointwise [k0_pay19]
  simp only [h]
theorem row_2 (c0 c1 : Fin 1024 → EReal) (b1 : ∀ a, (![0, 1, 0] : Fin 3 → ℕ) a + (![1, 1, 1024] : Fin 3 → ℕ) a ≤ S1x2x1024.size a)  (q : Vec Ideal S1x1024 .f32) (k : Fin 1024) : (k0_pay29 (k0_pay21 (k0_pay13 (k0_pay6 x0 x11) x5 (View.ld x12 (Rect.unit (s := S1x2x1024) ![0, 1, 0] ![1, 1, 1024] b1))) x10) x1 q : FVec Ideal S1x1024 .f32) (ix2 0 k)
    = q (ix2 0 k) + ∑ p : Fin 512, rows x0 x1 x2 x3 x4 x5 x6 x7 x10 x11 x12 c0 c1 p 2 k := by
  have h := fun p => dz_at x0 x1 x5 x10 x11 x12 b1 p k
  simp only [rows, if_true, if_false, reduceIte, Nat.reduceEqDiff, OfNat.zero_ne_ofNat, OfNat.ofNat_ne_zero, zero_ne_one, one_ne_zero, OfNat.ofNat_ne_one, OfNat.one_ne_ofNat]
  pointwise [k0_pay29]
  simp only [h]
theorem row_3 (c0 c1 : Fin 1024 → EReal) (b1 : ∀ a, (![0, 1, 0] : Fin 3 → ℕ) a + (![1, 1, 1024] : Fin 3 → ℕ) a ≤ S1x2x1024.size a) (q0 q1 : Vec Ideal S1x1024 .f32)(e0 : ∀ k, q0 (ix2 0 k) = c0 k)(e1 : ∀ k, q1 (ix2 0 k) = c1 k) (q : Vec Ideal S1x1024 .f32) (k : Fin 1024) : (k0_pay32 (k0_pay30 q) (k0_pay31 (k0_pay21 (k0_pay13 (k0_pay6 x0 x11) x5 (View.ld x12 (Rect.unit (s := S1x2x1024) ![0, 1, 0] ![1, 1, 1024] b1))) x10) (k0_pay24 x2 x3) x1 q0 q1) : FVec Ideal S1x1024 .f32) (ix2 0 k)
    = q (ix2 0 k) + ∑ p : Fin 512, rows x0 x1 x2 x3 x4 x5 x6 x7 x10 x11 x12 c0 c1 p 3 k := by
  have h := fun p => up2_at x0 x1 x5 x10 x11 x12 b1 q0 q1 c0 c1 e0 e1 p k
  simp only [rows, if_true, if_false, reduceIte, Nat.reduceEqDiff, OfNat.zero_ne_ofNat, OfNat.ofNat_ne_zero, zero_ne_one, one_ne_zero, OfNat.ofNat_ne_one, OfNat.one_ne_ofNat]
  have hu : ∀ p : Fin 512, (k0_pay31 (k0_pay21 (k0_pay13 (k0_pay6 x0 x11) x5 (View.ld x12 (Rect.unit (s := S1x2x1024) ![0, 1, 0] ![1, 1, 1024] b1))) x10) (k0_pay24 x2 x3) x1 q0 q1 : FVec Ideal S512x1024 .f32) (ix2 p k) = up2 (dz x0 x1 x5 x10 x11 x12) c0 c1 p k * (x2 (ix2 p k) * x3 (ix2 p k)) := fun p => by
    have e : (k0_pay31 (k0_pay21 (k0_pay13 (k0_pay6 x0 x11) x5 (View.ld x12 (Rect.unit (s := S1x2x1024) ![0, 1, 0] ![1, 1, 1024] b1))) x10) (k0_pay24 x2 x3) x1 q0 q1 : FVec Ideal S512x1024 .f32) (ix2 p k) = ((k0_pay28 (k0_pay21 (k0_pay13 (k0_pay6 x0 x11) x5 (View.ld x12 (Rect.unit (s := S1x2x1024) ![0, 1, 0] ![1, 1, 1024] b1))) x10) x1 q0 q1) : FVec Ideal S512x1024 .f32) (ix2 p k) * (x2 (ix2 p k) * x3 (ix2 p k)) := by
      pointwise [k0_pay31, k0_pay28, k0_pay24, k0_pay22, k0_pay23]
    rw [e, h p]
  pointwise [k0_pay32, k0_pay30]
  simp only [hu]
theorem row_4 (c0 c1 : Fin 1024 → EReal) (b1 : ∀ a, (![0, 1, 0] : Fin 3 → ℕ) a + (![1, 1, 1024] : Fin 3 → ℕ) a ≤ S1x2x1024.size a) (q0 : Vec Ideal S1x1024 .f32) (e0 : ∀ k, q0 (ix2 0 k) = c0 k) (q : Vec Ideal S1x1024 .f32) (k : Fin 1024) : (k0_pay33 (k0_pay24 x2 x3) (k0_pay27 (k0_pay21 (k0_pay13 (k0_pay6 x0 x11) x5 (View.ld x12 (Rect.unit (s := S1x2x1024) ![0, 1, 0] ![1, 1, 1024] b1))) x10) x1 q0) q : FVec Ideal S1x1024 .f32) (ix2 0 k)
    = q (ix2 0 k) + ∑ p : Fin 512, rows x0 x1 x2 x3 x4 x5 x6 x7 x10 x11 x12 c0 c1 p 4 k := by
  have h := fun p => up1_at x0 x1 x5 x10 x11 x12 b1 q0 c0 e0 p k
  simp only [rows, if_true, if_false, reduceIte, Nat.reduceEqDiff, OfNat.zero_ne_ofNat, OfNat.ofNat_ne_zero, zero_ne_one, one_ne_zero, OfNat.ofNat_ne_one, OfNat.one_ne_ofNat]
  pointwise [k0_pay33, k0_pay24, k0_pay22, k0_pay23]
  simp only [h]
theorem row_5 (c0 c1 : Fin 1024 → EReal) (b1 : ∀ a, (![0, 1, 0] : Fin 3 → ℕ) a + (![1, 1, 1024] : Fin 3 → ℕ) a ≤ S1x2x1024.size a)  (q : Vec Ideal S1x1024 .f32) (k : Fin 1024) : (k0_pay34 (k0_pay24 x2 x3) (k0_pay26 (k0_pay21 (k0_pay13 (k0_pay6 x0 x11) x5 (View.ld x12 (Rect.unit (s := S1x2x1024) ![0, 1, 0] ![1, 1, 1024] b1))) x10) x1) q : FVec Ideal S1x1024 .f32) (ix2 0 k)
    = q (ix2 0 k) + ∑ p : Fin 512, rows x0 x1 x2 x3 x4 x5 x6 x7 x10 x11 x12 c0 c1 p 5 k := by
  have h := fun p => dz_at x0 x1 x5 x10 x11 x12 b1 p k
  simp only [rows, if_true, if_false, reduceIte, Nat.reduceEqDiff, OfNat.zero_ne_ofNat, OfNat.ofNat_ne_zero, zero_ne_one, one_ne_zero, OfNat.ofNat_ne_one, OfNat.one_ne_ofNat]
  pointwise [k0_pay34, k0_pay24, k0_pay22, k0_pay23]
  simp only [h]
theorem scr_at (b1 : ∀ a, (![0, 1, 0] : Fin 3 → ℕ) a + (![1, 1, 1024] : Fin 3 → ℕ) a ≤ S1x2x1024.size a) (r : Fin 8) (k : Fin 1024) : (k0_pay2 (k0_pay26 (k0_pay21 (k0_pay13 (k0_pay6 x0 x11) x5 (View.ld x12 (Rect.unit (s := S1x2x1024) ![0, 1, 0] ![1, 1, 1024] b1))) x10) x1) : FVec Ideal S8x1024 .f32) (ix2 r k)
    = dz x0 x1 x5 x10 x11 x12 ⟨r.val, Nat.lt_of_lt_of_le r.isLt (by decide)⟩ k := by
  refine .trans ?_ (dz_at x0 x1 x5 x10 x11 x12 b1 _ k)
  pointwise [k0_pay2]
end

/-! ## What a grid point leaves in its windows and in its carried rows -/

theorem point_lt (t : Fin cfg0.N) : t.val < 16 := Nat.lt_of_lt_of_eq t.isLt N_0

/-- The row of the last-but-one gradient that a point carries to the next. -/
def dzt (c : Dev nD) (t : Fin cfg0.N) (r : Fin 8) (k : Fin 1024) : EReal :=
  dz (iblk m c 0 t) (iblk m c 1 t) (iblk m c 5 t) (iblk m c 10 t) (iblk m c 11 t) (iblk m c 12 t) ⟨r.val, Nat.lt_of_lt_of_le r.isLt (by decide)⟩ k

/-- What a point reads of the rows carried to it: nothing where its rows end a sequence. -/
def car (c : Dev nD) (t : Fin cfg0.N) (r : Fin 8) (k : Fin 1024) : EReal :=
  if t.val % 4 = 0 then 0 else dzt m c ⟨t.val - 1, Nat.lt_of_le_of_lt (Nat.sub_le _ _) t.isLt⟩ r k

theorem scr (c : Dev nD) (t : Fin cfg0.N) (y : S8x1024.Idx) : (outsAt0 m c t.val t.isLt).2.2.2.2.2.2 y = dzt m c t (y 0) (y 1) := by
  by_cases h0 : t.val % 16 = 0
  · have h1 : t.val % 4 = 0 := by omega
    rw [outsAt0_A m c t h0 h1]
    frame_out
    exact (congrArg _ (eq_ix2 y)).trans (scr_at _ _ _ _ _ _ _ (y 0) (y 1))
  · by_cases h1 : t.val % 4 = 0
    · rw [outsAt0_C m c t h0 h1]
      frame_out
      exact (congrArg _ (eq_ix2 y)).trans (scr_at _ _ _ _ _ _ _ (y 0) (y 1))
    · rw [outsAt0_B m c t h0 h1]
      frame_out
      exact (congrArg _ (eq_ix2 y)).trans (scr_at _ _ _ _ _ _ _ (y 0) (y 1))

theorem out15 (c : Dev nD) (t : Fin cfg0.N) (y : S1024x512.Idx) : (outsAt0 m c t.val t.isLt).2.1 y = da (iblk m c 0 t) (iblk m c 4 t) (iblk m c 9 t) (iblk m c 11 t) (iblk m c 12 t) (y 0) (y 1) := by
  by_cases h0 : t.val % 16 = 0
  · have h1 : t.val % 4 = 0 := by omega
    rw [outsAt0_A m c t h0 h1]
    frame_out
    exact (congrArg _ (eq_ix2 y)).trans (da_at _ _ _ _ _ _ (y 0) (y 1))
  · by_cases h1 : t.val % 4 = 0
    · rw [outsAt0_C m c t h0 h1]
      frame_out
      exact (congrArg _ (eq_ix2 y)).trans (da_at _ _ _ _ _ _ (y 0) (y 1))
    · rw [outsAt0_B m c t h0 h1]
      frame_out
      exact (congrArg _ (eq_ix2 y)).trans (da_at _ _ _ _ _ _ (y 0) (y 1))

theorem out16 (c : Dev nD) (t : Fin cfg0.N) (y : S512x1024.Idx) : (outsAt0 m c t.val t.isLt).2.2.1 y = dya (iblk m c 0 t) (iblk m c 4 t) (iblk m c 11 t) (iblk m c 12 t) (y 0) (y 1) := by
  by_cases h0 : t.val % 16 = 0
  · have h1 : t.val % 4 = 0 := by omega
    rw [outsAt0_A m c t h0 h1]
    frame_out
    exact (congrArg _ (eq_ix2 y)).trans (dya_at _ _ _ _ _ (y 0) (y 1))
  · by_cases h1 : t.val % 4 = 0
    · rw [outsAt0_C m c t h0 h1]
      frame_out
      exact (congrArg _ (eq_ix2 y)).trans (dya_at _ _ _ _ _ (y 0) (y 1))
    · rw [outsAt0_B m c t h0 h1]
      frame_out
      exact (congrArg _ (eq_ix2 y)).trans (dya_at _ _ _ _ _ (y 0) (y 1))

theorem out17 (c : Dev nD) (t : Fin cfg0.N) (y : S512x1024.Idx) : (outsAt0 m c t.val t.isLt).2.2.2.1 y = dyc (iblk m c 0 t) (iblk m c 5 t) (iblk m c 11 t) (iblk m c 12 t) (y 0) (y 1) := by
  by_cases h0 : t.val % 16 = 0
  · have h1 : t.val % 4 = 0 := by omega
    rw [outsAt0_A m c t h0 h1]
    frame_out
    exact (congrArg _ (eq_ix2 y)).trans (dyc_at _ _ _ _ _ (y 0) (y 1))
  · by_cases h1 : t.val % 4 = 0
    · rw [outsAt0_C m c t h0 h1]
      frame_out
      exact (congrArg _ (eq_ix2 y)).trans (dyc_at _ _ _ _ _ (y 0) (y 1))
    · rw [outsAt0_B m c t h0 h1]
      frame_out
      exact (congrArg _ (eq_ix2 y)).trans (dyc_at _ _ _ _ _ (y 0) (y 1))

theorem out18 (c : Dev nD) (t : Fin cfg0.N) (y : S512x1024.Idx) : (outsAt0 m c t.val t.isLt).2.2.2.2.1 y = iblk m c 0 t y := by
  by_cases h0 : t.val % 16 = 0
  · have h1 : t.val % 4 = 0 := by omega
    rw [outsAt0_A m c t h0 h1]
    frame_out
    pointwise [k0_pay5]
  · by_cases h1 : t.val % 4 = 0
    · rw [outsAt0_C m c t h0 h1]
      frame_out
      pointwise [k0_pay5]
    · rw [outsAt0_B m c t h0 h1]
      frame_out
      pointwise [k0_pay5]

theorem pay4_zero (y : S8x1024.Idx) : (k0_pay4 : FVec Ideal S8x1024 .f32) y = 0 := by
  pointwise [k0_pay4]

theorem car_zero (c : Dev nD) (t : Fin cfg0.N) (h : t.val % 4 = 0) (r : ℕ) (hr : r < 8) (inb) (X : Vec Ideal S8x1024 .f32) (hX : ∀ y, X y = 0)
    (k : Fin 1024) : View.ld X (Rect.unit (s := S8x1024) ![r, 0] ![1, 1024] inb) (ix2 0 k) = car m c t ⟨r, hr⟩ k :=
  (Norm.rowr_ld r hr X inb k).trans ((hX _).trans (if_pos h).symm)

theorem car_prev (c : Dev nD) (t : Fin cfg0.N) (h : ¬t.val % 4 = 0) (r : ℕ) (hr : r < 8) (inb) (X : Vec Ideal S8x1024 .f32)
    (hX : X = (outsAt0 m c (t.val - 1) (Nat.lt_of_le_of_lt (Nat.sub_le _ _) t.isLt)).2.2.2.2.2.2) (k : Fin 1024) :
    View.ld X (Rect.unit (s := S8x1024) ![r, 0] ![1, 1024] inb) (ix2 0 k) = car m c t ⟨r, hr⟩ k :=
  (Norm.rowr_ld r hr X inb k).trans ((congrFun hX _).trans ((scr m c ⟨t.val - 1, Nat.lt_of_le_of_lt (Nat.sub_le _ _) t.isLt⟩ _).trans (if_neg h).symm))

theorem out14 (c : Dev nD) (t : Fin cfg0.N) (y : S512x5120.Idx) : (outsAt0 m c t.val t.isLt).1 y = dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) (y 0) (y 1) := by
  by_cases h0 : t.val % 16 = 0
  · have h1 : t.val % 4 = 0 := by omega
    rw [outsAt0_A m c t h0 h1]
    frame_out
    simp (disch := decide) only [↓ View.readCov_skip, ↓ View.readCov_cons_toLoadRect, ↓ View.readCov_fill]
    exact View.canon_append_of_piecesOf (Val := Elt Ideal) (s := S512x5120) (e := .bf16) (fun j => dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) (j 0) (j 1)) [] [_, _, _, _, _]
      ⟨dgw_2 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_zero m c t h1 0 (by decide) _ _ pay4_zero) (car_zero m c t h1 1 (by decide) _ _ pay4_zero) inb_S512x5120_S512x1024_0_2048, dgw_1 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_zero m c t h1 0 (by decide) _ _ pay4_zero) (car_zero m c t h1 1 (by decide) _ _ pay4_zero) inb_S512x5120_S512x1024_0_1024, dgw_0 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_0, dgw_4 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_4096, dgw_3 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_3072, trivial⟩ y
      (View.cover_of_tiledBy (s := S512x5120) _ (![512, 1024] : Fin 2 → ℕ) (by sl_kernel_rfl) _)
  · by_cases h1 : t.val % 4 = 0
    · rw [outsAt0_C m c t h0 h1]
      frame_out
      simp (disch := decide) only [↓ View.readCov_skip, ↓ View.readCov_cons_toLoadRect, ↓ View.readCov_fill]
      exact View.canon_append_of_piecesOf (Val := Elt Ideal) (s := S512x5120) (e := .bf16) (fun j => dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) (j 0) (j 1)) [] [_, _, _, _, _]
        ⟨dgw_2 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_zero m c t h1 0 (by decide) _ _ pay4_zero) (car_zero m c t h1 1 (by decide) _ _ pay4_zero) inb_S512x5120_S512x1024_0_2048, dgw_1 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_zero m c t h1 0 (by decide) _ _ pay4_zero) (car_zero m c t h1 1 (by decide) _ _ pay4_zero) inb_S512x5120_S512x1024_0_1024, dgw_0 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_0, dgw_4 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_4096, dgw_3 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_3072, trivial⟩ y
        (View.cover_of_tiledBy (s := S512x5120) _ (![512, 1024] : Fin 2 → ℕ) (by sl_kernel_rfl) _)
    · rw [outsAt0_B m c t h0 h1]
      frame_out
      exact View.canon_append_of_piecesOf (Val := Elt Ideal) (s := S512x5120) (e := .bf16) (fun j => dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) (j 0) (j 1)) [] [_, _, _, _, _]
        ⟨dgw_2 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_prev m c t h1 0 (by decide) _ _ (Memref.IsWhole.read_unread _ _)) (car_prev m c t h1 1 (by decide) _ _ (Memref.IsWhole.read_unread _ _)) inb_S512x5120_S512x1024_0_2048, dgw_1 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0 _ _ (car_prev m c t h1 0 (by decide) _ _ (Memref.IsWhole.read_unread _ _)) (car_prev m c t h1 1 (by decide) _ _ (Memref.IsWhole.read_unread _ _)) inb_S512x5120_S512x1024_0_1024, dgw_0 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_0, dgw_4 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_4096, dgw_3 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) inb_S1x2x1024_S1x1x1024_0_0_0 inb_S1x2x1024_S1x1x1024_0_1_0 inb_S1x8x1024_S1x1x1024_0_0_0 inb_S1x8x1024_S1x1x1024_0_1_0 inb_S1x8x1024_S1x1x1024_0_2_0  inb_S512x5120_S512x1024_0_3072, trivial⟩ y
        (View.cover_of_tiledBy (s := S512x5120) _ (![512, 1024] : Fin 2 → ℕ) (by sl_kernel_rfl) _)

/-- What a point adds to a row of the accumulator. -/
def part (c : Dev nD) (t : Fin cfg0.N) (r : ℕ) (k : Fin 1024) : EReal := ∑ p : Fin 512, rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p r k

theorem acc_A (c : Dev nD) (t : Fin cfg0.N) (h0 : t.val % 16 = 0) (y : S8x1024.Idx) :
    (outsAt0 m c t.val t.isLt).2.2.2.2.2.1 y = 0 + part m c t (y 0).val (y 1) := by
  have h1 : t.val % 4 = 0 := by omega
  rw [outsAt0_A m c t h0 h1]
  frame_out
  simp (disch := decide) only [↓ View.readCov_skip, ↓ View.readCov_cons_toLoadRect, ↓ View.readCov_fill]
  refine (Norm.rowr_canon 5 (by decide) _ _ _ _).trans ?_
  by_cases h_5 : (y 0).val = 5
  · rw [if_pos h_5]
    refine (row_5 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => 0 + part m c t r (y 1)) h_5.symm)
    exact congrArg (· + part m c t 5 (y 1)) ((Norm.rowr_ld 5 (by decide) _ _ _).trans (show _ = (0 : EReal) by pointwise [k0_pay3]))
  rw [if_neg h_5]
  refine (Norm.rowr_canon 4 (by decide) _ _ _ _).trans ?_
  by_cases h_4 : (y 0).val = 4
  · rw [if_pos h_4]
    refine (row_4 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ (car_zero m c t h1 0 (by decide) _ _ pay4_zero) _ _).trans ?_
    refine .trans ?_ (congrArg (fun r => 0 + part m c t r (y 1)) h_4.symm)
    exact congrArg (· + part m c t 4 (y 1)) ((Norm.rowr_ld 4 (by decide) _ _ _).trans (show _ = (0 : EReal) by pointwise [k0_pay3]))
  rw [if_neg h_4]
  refine (Norm.rowr_canon 3 (by decide) _ _ _ _).trans ?_
  by_cases h_3 : (y 0).val = 3
  · rw [if_pos h_3]
    refine (row_3 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ _ (car_zero m c t h1 0 (by decide) _ _ pay4_zero) (car_zero m c t h1 1 (by decide) _ _ pay4_zero) _ _).trans ?_
    refine .trans ?_ (congrArg (fun r => 0 + part m c t r (y 1)) h_3.symm)
    exact congrArg (· + part m c t 3 (y 1)) ((Norm.rowr_ld 3 (by decide) _ _ _).trans (show _ = (0 : EReal) by pointwise [k0_pay3]))
  rw [if_neg h_3]
  refine (Norm.rowr_canon 2 (by decide) _ _ _ _).trans ?_
  by_cases h_2 : (y 0).val = 2
  · rw [if_pos h_2]
    refine (row_2 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => 0 + part m c t r (y 1)) h_2.symm)
    exact congrArg (· + part m c t 2 (y 1)) ((Norm.rowr_ld 2 (by decide) _ _ _).trans (show _ = (0 : EReal) by pointwise [k0_pay3]))
  rw [if_neg h_2]
  refine (Norm.rowr_canon 1 (by decide) _ _ _ _).trans ?_
  by_cases h_1 : (y 0).val = 1
  · rw [if_pos h_1]
    refine (row_1 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => 0 + part m c t r (y 1)) h_1.symm)
    exact congrArg (· + part m c t 1 (y 1)) ((Norm.rowr_ld 1 (by decide) _ _ _).trans (show _ = (0 : EReal) by pointwise [k0_pay3]))
  rw [if_neg h_1]
  refine (Norm.rowr_canon 0 (by decide) _ _ _ _).trans ?_
  by_cases h_0 : (y 0).val = 0
  · rw [if_pos h_0]
    refine (row_0 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => 0 + part m c t r (y 1)) h_0.symm)
    exact congrArg (· + part m c t 0 (y 1)) ((Norm.rowr_ld 0 (by decide) _ _ _).trans (show _ = (0 : EReal) by pointwise [k0_pay3]))
  rw [if_neg h_0]
  have hp : part m c t (y 0).val (y 1) = 0 := by
    unfold part rows
    simp only [if_neg h_5, if_neg h_4, if_neg h_3, if_neg h_2, if_neg h_1, if_neg h_0, Finset.sum_const_zero]
  rw [hp, add_zero]
  refine (congrFun (View.canon_unit_zero (Val := Elt Ideal) (S := S8x1024) (e := .f32) (by decide) _ _) y).trans ?_
  pointwise [k0_pay3]

theorem acc_B (c : Dev nD) (t : Fin cfg0.N) (h0 : ¬t.val % 16 = 0) (h1 : ¬t.val % 4 = 0) (y : S8x1024.Idx) :
    (outsAt0 m c t.val t.isLt).2.2.2.2.2.1 y = (outsAt0 m c (t.val - 1) (Nat.lt_of_le_of_lt (Nat.sub_le _ _) t.isLt)).2.2.2.2.2.1 y + part m c t (y 0).val (y 1) := by
  rw [outsAt0_B m c t h0 h1]
  frame_out
  refine (Norm.rowr_read 5 _ _ _ _ _ _).trans ?_
  by_cases h_5 : (y 0).val = 5
  · rw [if_pos h_5]
    refine (row_5 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_5.symm)
    exact congrArg (· + part m c t 5 (y 1)) ((Norm.rowr_ld 5 (by decide) _ _ _).trans (congrArg (outsAt0 m c (t.val - 1) (Nat.lt_of_le_of_lt (Nat.sub_le _ _) t.isLt)).2.2.2.2.2.1 (by blk_ext)))
  rw [if_neg h_5]
  refine (Norm.rowr_read 4 _ _ _ _ _ _).trans ?_
  by_cases h_4 : (y 0).val = 4
  · rw [if_pos h_4]
    refine (row_4 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ (car_prev m c t h1 0 (by decide) _ _ (Memref.IsWhole.read_unread _ _)) _ _).trans ?_
    refine .trans ?_ (congrArg (fun r => (outsAt0 m c (t.val - 1) (Nat.lt_of_le_of_lt (Nat.sub_le _ _) t.isLt)).2.2.2.2.2.1 y + part m c t r (y 1)) h_4.symm)
    exact congrArg (· + part m c t 4 (y 1)) ((Norm.rowr_ld 4 (by decide) _ _ _).trans (congrArg (outsAt0 m c (t.val - 1) (Nat.lt_of_le_of_lt (Nat.sub_le _ _) t.isLt)).2.2.2.2.2.1 (by blk_ext)))
  rw [if_neg h_4]
  refine (Norm.rowr_read 3 _ _ _ _ _ _).trans ?_
  by_cases h_3 : (y 0).val = 3
  · rw [if_pos h_3]
    refine (row_3 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ _ (car_prev m c t h1 0 (by decide) _ _ (Memref.IsWhole.read_unread _ _)) (car_prev m c t h1 1 (by decide) _ _ (Memref.IsWhole.read_unread _ _)) _ _).trans ?_
    refine .trans ?_ (congrArg (fun r => (outsAt0 m c (t.val - 1) (Nat.lt_of_le_of_lt (Nat.sub_le _ _) t.isLt)).2.2.2.2.2.1 y + part m c t r (y 1)) h_3.symm)
    exact congrArg (· + part m c t 3 (y 1)) ((Norm.rowr_ld 3 (by decide) _ _ _).trans (congrArg (outsAt0 m c (t.val - 1) (Nat.lt_of_le_of_lt (Nat.sub_le _ _) t.isLt)).2.2.2.2.2.1 (by blk_ext)))
  rw [if_neg h_3]
  refine (Norm.rowr_read 2 _ _ _ _ _ _).trans ?_
  by_cases h_2 : (y 0).val = 2
  · rw [if_pos h_2]
    refine (row_2 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_2.symm)
    exact congrArg (· + part m c t 2 (y 1)) ((Norm.rowr_ld 2 (by decide) _ _ _).trans (congrArg (outsAt0 m c (t.val - 1) (Nat.lt_of_le_of_lt (Nat.sub_le _ _) t.isLt)).2.2.2.2.2.1 (by blk_ext)))
  rw [if_neg h_2]
  refine (Norm.rowr_read 1 _ _ _ _ _ _).trans ?_
  by_cases h_1 : (y 0).val = 1
  · rw [if_pos h_1]
    refine (row_1 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_1.symm)
    exact congrArg (· + part m c t 1 (y 1)) ((Norm.rowr_ld 1 (by decide) _ _ _).trans (congrArg (outsAt0 m c (t.val - 1) (Nat.lt_of_le_of_lt (Nat.sub_le _ _) t.isLt)).2.2.2.2.2.1 (by blk_ext)))
  rw [if_neg h_1]
  refine (Norm.rowr_read 0 _ _ _ _ _ _).trans ?_
  by_cases h_0 : (y 0).val = 0
  · rw [if_pos h_0]
    refine (row_0 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_0.symm)
    exact congrArg (· + part m c t 0 (y 1)) ((Norm.rowr_ld 0 (by decide) _ _ _).trans (congrArg (outsAt0 m c (t.val - 1) (Nat.lt_of_le_of_lt (Nat.sub_le _ _) t.isLt)).2.2.2.2.2.1 (by blk_ext)))
  rw [if_neg h_0]
  have hp : part m c t (y 0).val (y 1) = 0 := by
    unfold part rows
    simp only [if_neg h_5, if_neg h_4, if_neg h_3, if_neg h_2, if_neg h_1, if_neg h_0, Finset.sum_const_zero]
  rw [hp, add_zero]
  exact congrFun (Memref.IsWhole.read_unread _ _) y

theorem acc_C (c : Dev nD) (t : Fin cfg0.N) (h0 : ¬t.val % 16 = 0) (h1 : t.val % 4 = 0) (y : S8x1024.Idx) :
    (outsAt0 m c t.val t.isLt).2.2.2.2.2.1 y = (outsAt0 m c (t.val - 1) (Nat.lt_of_le_of_lt (Nat.sub_le _ _) t.isLt)).2.2.2.2.2.1 y + part m c t (y 0).val (y 1) := by
  rw [outsAt0_C m c t h0 h1]
  frame_out
  simp (disch := decide) only [↓ View.readCov_skip, ↓ View.readCov_cons_toLoadRect, ↓ View.readCov_fill]
  refine (Norm.rowr_read 5 _ _ _ _ _ _).trans ?_
  by_cases h_5 : (y 0).val = 5
  · rw [if_pos h_5]
    refine (row_5 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_5.symm)
    exact congrArg (· + part m c t 5 (y 1)) ((Norm.rowr_ld 5 (by decide) _ _ _).trans (congrArg (outsAt0 m c (t.val - 1) (Nat.lt_of_le_of_lt (Nat.sub_le _ _) t.isLt)).2.2.2.2.2.1 (by blk_ext)))
  rw [if_neg h_5]
  refine (Norm.rowr_read 4 _ _ _ _ _ _).trans ?_
  by_cases h_4 : (y 0).val = 4
  · rw [if_pos h_4]
    refine (row_4 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ (car_zero m c t h1 0 (by decide) _ _ pay4_zero) _ _).trans ?_
    refine .trans ?_ (congrArg (fun r => (outsAt0 m c (t.val - 1) (Nat.lt_of_le_of_lt (Nat.sub_le _ _) t.isLt)).2.2.2.2.2.1 y + part m c t r (y 1)) h_4.symm)
    exact congrArg (· + part m c t 4 (y 1)) ((Norm.rowr_ld 4 (by decide) _ _ _).trans (congrArg (outsAt0 m c (t.val - 1) (Nat.lt_of_le_of_lt (Nat.sub_le _ _) t.isLt)).2.2.2.2.2.1 (by blk_ext)))
  rw [if_neg h_4]
  refine (Norm.rowr_read 3 _ _ _ _ _ _).trans ?_
  by_cases h_3 : (y 0).val = 3
  · rw [if_pos h_3]
    refine (row_3 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _ _ _ (car_zero m c t h1 0 (by decide) _ _ pay4_zero) (car_zero m c t h1 1 (by decide) _ _ pay4_zero) _ _).trans ?_
    refine .trans ?_ (congrArg (fun r => (outsAt0 m c (t.val - 1) (Nat.lt_of_le_of_lt (Nat.sub_le _ _) t.isLt)).2.2.2.2.2.1 y + part m c t r (y 1)) h_3.symm)
    exact congrArg (· + part m c t 3 (y 1)) ((Norm.rowr_ld 3 (by decide) _ _ _).trans (congrArg (outsAt0 m c (t.val - 1) (Nat.lt_of_le_of_lt (Nat.sub_le _ _) t.isLt)).2.2.2.2.2.1 (by blk_ext)))
  rw [if_neg h_3]
  refine (Norm.rowr_read 2 _ _ _ _ _ _).trans ?_
  by_cases h_2 : (y 0).val = 2
  · rw [if_pos h_2]
    refine (row_2 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_2.symm)
    exact congrArg (· + part m c t 2 (y 1)) ((Norm.rowr_ld 2 (by decide) _ _ _).trans (congrArg (outsAt0 m c (t.val - 1) (Nat.lt_of_le_of_lt (Nat.sub_le _ _) t.isLt)).2.2.2.2.2.1 (by blk_ext)))
  rw [if_neg h_2]
  refine (Norm.rowr_read 1 _ _ _ _ _ _).trans ?_
  by_cases h_1 : (y 0).val = 1
  · rw [if_pos h_1]
    refine (row_1 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_1.symm)
    exact congrArg (· + part m c t 1 (y 1)) ((Norm.rowr_ld 1 (by decide) _ _ _).trans (congrArg (outsAt0 m c (t.val - 1) (Nat.lt_of_le_of_lt (Nat.sub_le _ _) t.isLt)).2.2.2.2.2.1 (by blk_ext)))
  rw [if_neg h_1]
  refine (Norm.rowr_read 0 _ _ _ _ _ _).trans ?_
  by_cases h_0 : (y 0).val = 0
  · rw [if_pos h_0]
    refine (row_0 (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) _  _ _).trans ?_
    refine .trans ?_ (congrArg (fun r => (outsAt0 m c (t.val - 1) (Nat.lt_of_le_of_lt (Nat.sub_le _ _) t.isLt)).2.2.2.2.2.1 y + part m c t r (y 1)) h_0.symm)
    exact congrArg (· + part m c t 0 (y 1)) ((Norm.rowr_ld 0 (by decide) _ _ _).trans (congrArg (outsAt0 m c (t.val - 1) (Nat.lt_of_le_of_lt (Nat.sub_le _ _) t.isLt)).2.2.2.2.2.1 (by blk_ext)))
  rw [if_neg h_0]
  have hp : part m c t (y 0).val (y 1) = 0 := by
    unfold part rows
    simp only [if_neg h_5, if_neg h_4, if_neg h_3, if_neg h_2, if_neg h_1, if_neg h_0, Finset.sum_const_zero]
  rw [hp, add_zero]
  exact congrFun (Memref.IsWhole.read_unread _ _) y

end Cert.KernelIdeal.Mixer

end
-- ==== Proof.MixerRef.lean ====
/-
  The gradient of the last layer's mixer (program `Kernel`): the reference's values, named, and the call's blocks read as
  the arguments' entries.
-/
module

public import proofs.«01_k».proof.Proof.MixerBlock
public import proofs.«01_k».proof.Proof.Gen.ReferenceIdeal.Run
public import Idealize.ShloMosaic.Lib.KernelVsHost
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen

variable (m : (ℓ : Loc nD τ sig) → Buf (Elt Ideal) ℓ)

/-- The sum over all tokens. -/
def SUM (x : FVec Ideal Cert.ReferenceIdeal.S4x2048x1024 .f32) : FVec Ideal Cert.ReferenceIdeal.S1024 .f32 :=
  Host.reduceAdd (shapeCast Cert.ReferenceIdeal.S1x1x1024 (Host.reduceAdd x (constant Cert.ReferenceIdeal.S_ .f32 0x00000000#32) Cert.ReferenceIdeal.Gen.reducesTo_S4x2048x1024_S1024_d0_1 Cert.ReferenceIdeal.Gen.h_S_) Cert.ReferenceIdeal.Gen.shapeCasts_S1024_S1x1x1024) (constant Cert.ReferenceIdeal.S_ .f32 0x00000000#32) Cert.ReferenceIdeal.Gen.reducesTo_S1x1x1024_S1024_d0_1 Cert.ReferenceIdeal.Gen.h_S_

/-- The segments of the projection. -/
def V0 (a1 : FVec Ideal Cert.ReferenceIdeal.S4x2048x5120 .f32) : FVec Ideal Cert.ReferenceIdeal.S4x2048x1024 .f32 :=
  (extractStridedSlice Cert.ReferenceIdeal.S4x2048x1024 ![0, 0, 0] a1 Cert.ReferenceIdeal.Gen.slices_S4x2048x5120_S4x2048x1024_0_0_0)

def V1 (a1 : FVec Ideal Cert.ReferenceIdeal.S4x2048x5120 .f32) : FVec Ideal Cert.ReferenceIdeal.S4x2048x1024 .f32 :=
  (extractStridedSlice Cert.ReferenceIdeal.S4x2048x1024 ![0, 0, 1024] a1 Cert.ReferenceIdeal.Gen.slices_S4x2048x5120_S4x2048x1024_0_0_1024)

def V2 (a1 : FVec Ideal Cert.ReferenceIdeal.S4x2048x5120 .f32) : FVec Ideal Cert.ReferenceIdeal.S4x2048x1024 .f32 :=
  (extractStridedSlice Cert.ReferenceIdeal.S4x2048x1024 ![0, 0, 2048] a1 Cert.ReferenceIdeal.Gen.slices_S4x2048x5120_S4x2048x1024_0_0_2048)

/-- The attention output's projection. -/
def V5 (a2 : FVec Ideal Cert.ReferenceIdeal.S4x2048x1024 .f32) (a3 : FVec Ideal Cert.ReferenceIdeal.S1024x1024 .f32) : FVec Ideal Cert.ReferenceIdeal.S4x2048x1024 .f32 :=
  (Host.dotGeneral Cert.ReferenceIdeal.dot_S4x2048x1024_S1024x1024_S4x2048x1024_2_0_01_1_n_n none a2 a3)

/-- The taps and the bias of the last layer. -/
def V7 (a7 : FVec Ideal Cert.ReferenceIdeal.S2x3x1024 .f32) : FVec Ideal Cert.ReferenceIdeal.S3x1024 .f32 :=
  (shapeCast _ (extractStridedSlice Cert.ReferenceIdeal.S1x3x1024 ![1, 0, 0] a7 Cert.ReferenceIdeal.Gen.slices_S2x3x1024_S1x3x1024_1_0_0) Cert.ReferenceIdeal.Gen.shapeCasts_S1x3x1024_S3x1024)

def V9 (a8 : FVec Ideal Cert.ReferenceIdeal.S2x1024 .f32) : FVec Ideal Cert.ReferenceIdeal.S1024 .f32 :=
  (shapeCast _ (extractStridedSlice Cert.ReferenceIdeal.S1x1024 ![1, 0] a8 Cert.ReferenceIdeal.Gen.slices_S2x1024_S1x1024_1_0) Cert.ReferenceIdeal.Gen.shapeCasts_S1x1024_S1024)

/-- The product of two segments, behind two rows of nothing. -/
def V12 (a1 : FVec Ideal Cert.ReferenceIdeal.S4x2048x5120 .f32) : FVec Ideal Cert.ReferenceIdeal.S4x2050x1024 .f32 :=
  (concatenate Cert.ReferenceIdeal.S4x2050x1024 1 [⟨Cert.ReferenceIdeal.S4x2x1024, (broadcastInDim Cert.ReferenceIdeal.S4x2x1024 ![] Cert.ReferenceIdeal.Gen.bcast_S_S4x2x1024 (constant Cert.ReferenceIdeal.S_ .f32 0x00000000#32))⟩, ⟨Cert.ReferenceIdeal.S4x2048x1024, (mulf (V1 a1) (V2 a1))⟩] Cert.ReferenceIdeal.Gen.concatenates_S4x2x1024_S4x2048x1024_S4x2050x1024_d1)

/-- The same two rows, one row and no row earlier, with the taps. -/
def V16 (a1 : FVec Ideal Cert.ReferenceIdeal.S4x2048x5120 .f32) : FVec Ideal Cert.ReferenceIdeal.S4x2048x1024 .f32 :=
  (extractStridedSlice Cert.ReferenceIdeal.S4x2048x1024 ![0, 0, 0] (V12 a1) Cert.ReferenceIdeal.Gen.slices_S4x2050x1024_S4x2048x1024_0_0_0)

def V17 (a7 : FVec Ideal Cert.ReferenceIdeal.S2x3x1024 .f32) : FVec Ideal Cert.ReferenceIdeal.S1x1x1024 .f32 :=
  (broadcastInDim Cert.ReferenceIdeal.S1x1x1024 ![2] Cert.ReferenceIdeal.Gen.bcast_S1024_S1x1x1024_2 (shapeCast _ (extractStridedSlice Cert.ReferenceIdeal.S1x1024 ![0, 0] (V7 a7) Cert.ReferenceIdeal.Gen.slices_S3x1024_S1x1024_0_0) Cert.ReferenceIdeal.Gen.shapeCasts_S1x1024_S1024))

def V22 (a1 : FVec Ideal Cert.ReferenceIdeal.S4x2048x5120 .f32) : FVec Ideal Cert.ReferenceIdeal.S4x2048x1024 .f32 :=
  (extractStridedSlice Cert.ReferenceIdeal.S4x2048x1024 ![0, 1, 0] (V12 a1) Cert.ReferenceIdeal.Gen.slices_S4x2050x1024_S4x2048x1024_0_1_0)

def V23 (a7 : FVec Ideal Cert.ReferenceIdeal.S2x3x1024 .f32) : FVec Ideal Cert.ReferenceIdeal.S1x1x1024 .f32 :=
  (broadcastInDim Cert.ReferenceIdeal.S1x1x1024 ![2] Cert.ReferenceIdeal.Gen.bcast_S1024_S1x1x1024_2 (shapeCast _ (extractStridedSlice Cert.ReferenceIdeal.S1x1024 ![1, 0] (V7 a7) Cert.ReferenceIdeal.Gen.slices_S3x1024_S1x1024_1_0) Cert.ReferenceIdeal.Gen.shapeCasts_S1x1024_S1024))

def V29 (a1 : FVec Ideal Cert.ReferenceIdeal.S4x2048x5120 .f32) : FVec Ideal Cert.ReferenceIdeal.S4x2048x1024 .f32 :=
  (extractStridedSlice Cert.ReferenceIdeal.S4x2048x1024 ![0, 2, 0] (V12 a1) Cert.ReferenceIdeal.Gen.slices_S4x2050x1024_S4x2048x1024_0_2_0)

def V30 (a7 : FVec Ideal Cert.ReferenceIdeal.S2x3x1024 .f32) : FVec Ideal Cert.ReferenceIdeal.S1x1x1024 .f32 :=
  (broadcastInDim Cert.ReferenceIdeal.S1x1x1024 ![2] Cert.ReferenceIdeal.Gen.bcast_S1024_S1x1x1024_2 (shapeCast _ (extractStridedSlice Cert.ReferenceIdeal.S1x1024 ![2, 0] (V7 a7) Cert.ReferenceIdeal.Gen.slices_S3x1024_S1x1024_2_0) Cert.ReferenceIdeal.Gen.shapeCasts_S1x1024_S1024))

/-- The convolution, and with its bias. -/
def V33 (a1 : FVec Ideal Cert.ReferenceIdeal.S4x2048x5120 .f32) (a7 : FVec Ideal Cert.ReferenceIdeal.S2x3x1024 .f32) : FVec Ideal Cert.ReferenceIdeal.S4x2048x1024 .f32 :=
  (addf (addf (mulf (broadcastInDim Cert.ReferenceIdeal.S4x2048x1024 ![0, 1, 2] Cert.ReferenceIdeal.Gen.bcast_S1x1x1024_S4x2048x1024_0_1_2 (V17 a7)) (V16 a1)) (mulf (broadcastInDim Cert.ReferenceIdeal.S4x2048x1024 ![0, 1, 2] Cert.ReferenceIdeal.Gen.bcast_S1x1x1024_S4x2048x1024_0_1_2 (V23 a7)) (V22 a1))) (mulf (broadcastInDim Cert.ReferenceIdeal.S4x2048x1024 ![0, 1, 2] Cert.ReferenceIdeal.Gen.bcast_S1x1x1024_S4x2048x1024_0_1_2 (V30 a7)) (V29 a1)))

def V36 (a1 : FVec Ideal Cert.ReferenceIdeal.S4x2048x5120 .f32) (a7 : FVec Ideal Cert.ReferenceIdeal.S2x3x1024 .f32) (a8 : FVec Ideal Cert.ReferenceIdeal.S2x1024 .f32) : FVec Ideal Cert.ReferenceIdeal.S4x2048x1024 .f32 :=
  (addf (V33 a1 a7) (broadcastInDim Cert.ReferenceIdeal.S4x2048x1024 ![0, 1, 2] Cert.ReferenceIdeal.Gen.bcast_S1x1x1024_S4x2048x1024_0_1_2 (broadcastInDim Cert.ReferenceIdeal.S1x1x1024 ![2] Cert.ReferenceIdeal.Gen.bcast_S1024_S1x1x1024_2 (V9 a8))))

/-- The convolution branch's projection. -/
def V41 (a1 : FVec Ideal Cert.ReferenceIdeal.S4x2048x5120 .f32) (a4 : FVec Ideal Cert.ReferenceIdeal.S1024x1024 .f32) (a7 : FVec Ideal Cert.ReferenceIdeal.S2x3x1024 .f32) (a8 : FVec Ideal Cert.ReferenceIdeal.S2x1024 .f32) : FVec Ideal Cert.ReferenceIdeal.S4x2048x1024 .f32 :=
  (Host.dotGeneral Cert.ReferenceIdeal.dot_S4x2048x1024_S1024x1024_S4x2048x1024_2_0_01_1_n_n none (mulf (V0 a1) (V36 a1 a7 a8)) a4)

/-- The two gates. -/
def V57 (a1 : FVec Ideal Cert.ReferenceIdeal.S4x2048x5120 .f32) (a6 : FVec Ideal Cert.ReferenceIdeal.S2x2048 .f32) : FVec Ideal Cert.ReferenceIdeal.S4x2048x1024 .f32 :=
  (Host.divf (broadcastInDim Cert.ReferenceIdeal.S4x2048x1024 ![] Cert.ReferenceIdeal.Gen.bcast_S_S4x2048x1024 (constant Cert.ReferenceIdeal.S_ .f32 0x3F800000#32)) (addf (broadcastInDim Cert.ReferenceIdeal.S4x2048x1024 ![] Cert.ReferenceIdeal.Gen.bcast_S_S4x2048x1024 (constant Cert.ReferenceIdeal.S_ .f32 0x3F800000#32)) (Host.exp (Host.negf (addf (extractStridedSlice Cert.ReferenceIdeal.S4x2048x1024 ![0, 0, 3072] a1 Cert.ReferenceIdeal.Gen.slices_S4x2048x5120_S4x2048x1024_0_0_3072) (broadcastInDim Cert.ReferenceIdeal.S4x2048x1024 ![0, 1, 2] Cert.ReferenceIdeal.Gen.bcast_S1x1x1024_S4x2048x1024_0_1_2 (broadcastInDim Cert.ReferenceIdeal.S1x1x1024 ![2] Cert.ReferenceIdeal.Gen.bcast_S1024_S1x1x1024_2 (shapeCast _ (extractStridedSlice Cert.ReferenceIdeal.S1x1024 ![1, 0] a6 Cert.ReferenceIdeal.Gen.slices_S2x2048_S1x1024_1_0) Cert.ReferenceIdeal.Gen.shapeCasts_S1x1024_S1024))))))))

def V71 (a1 : FVec Ideal Cert.ReferenceIdeal.S4x2048x5120 .f32) (a6 : FVec Ideal Cert.ReferenceIdeal.S2x2048 .f32) : FVec Ideal Cert.ReferenceIdeal.S4x2048x1024 .f32 :=
  (Host.divf (broadcastInDim Cert.ReferenceIdeal.S4x2048x1024 ![] Cert.ReferenceIdeal.Gen.bcast_S_S4x2048x1024 (constant Cert.ReferenceIdeal.S_ .f32 0x3F800000#32)) (addf (broadcastInDim Cert.ReferenceIdeal.S4x2048x1024 ![] Cert.ReferenceIdeal.Gen.bcast_S_S4x2048x1024 (constant Cert.ReferenceIdeal.S_ .f32 0x3F800000#32)) (Host.exp (Host.negf (addf (extractStridedSlice Cert.ReferenceIdeal.S4x2048x1024 ![0, 0, 4096] a1 Cert.ReferenceIdeal.Gen.slices_S4x2048x5120_S4x2048x1024_0_0_4096) (broadcastInDim Cert.ReferenceIdeal.S4x2048x1024 ![0, 1, 2] Cert.ReferenceIdeal.Gen.bcast_S1x1x1024_S4x2048x1024_0_1_2 (broadcastInDim Cert.ReferenceIdeal.S1x1x1024 ![2] Cert.ReferenceIdeal.Gen.bcast_S1024_S1x1x1024_2 (shapeCast _ (extractStridedSlice Cert.ReferenceIdeal.S1x1024 ![1, 1024] a6 Cert.ReferenceIdeal.Gen.slices_S2x2048_S1x1024_1_1024) Cert.ReferenceIdeal.Gen.shapeCasts_S1x1024_S1024))))))))

/-- The gradient at the mixed value. -/
def V79 (a0 : FVec Ideal Cert.ReferenceIdeal.S4x2048x1024 .f32) (a5 : FVec Ideal Cert.ReferenceIdeal.S1024x1024 .f32) : FVec Ideal Cert.ReferenceIdeal.S4x2048x1024 .f32 :=
  (Host.dotGeneral Cert.ReferenceIdeal.dot_S4x2048x1024_S1024x1024_S4x2048x1024_2_1_01_0_n_n none a0 a5)

/-- The gradients of the gated values. -/
def V80 (a0 : FVec Ideal Cert.ReferenceIdeal.S4x2048x1024 .f32) (a1 : FVec Ideal Cert.ReferenceIdeal.S4x2048x5120 .f32) (a5 : FVec Ideal Cert.ReferenceIdeal.S1024x1024 .f32) (a6 : FVec Ideal Cert.ReferenceIdeal.S2x2048 .f32) : FVec Ideal Cert.ReferenceIdeal.S4x2048x1024 .f32 :=
  (mulf (V71 a1 a6) (V79 a0 a5))

def V82 (a0 : FVec Ideal Cert.ReferenceIdeal.S4x2048x1024 .f32) (a1 : FVec Ideal Cert.ReferenceIdeal.S4x2048x5120 .f32) (a5 : FVec Ideal Cert.ReferenceIdeal.S1024x1024 .f32) (a6 : FVec Ideal Cert.ReferenceIdeal.S2x2048 .f32) : FVec Ideal Cert.ReferenceIdeal.S4x2048x1024 .f32 :=
  (mulf (V57 a1 a6) (V79 a0 a5))

/-- The gradients of the gates before the logistic function. -/
def V84 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) : FVec Ideal Cert.ReferenceIdeal.S4x2048x1024 .f32 :=
  (mulf (mulf (V79 a0 a5) (V41 a1 a4 a7 a8)) (mulf (V71 a1 a6) (subf (broadcastInDim Cert.ReferenceIdeal.S4x2048x1024 ![] Cert.ReferenceIdeal.Gen.bcast_S_S4x2048x1024 (constant Cert.ReferenceIdeal.S_ .f32 0x3F800000#32)) (V71 a1 a6))))

def V90 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S4x2048x1024 .f32 :=
  (mulf (mulf (V79 a0 a5) (V5 a2 a3)) (mulf (V57 a1 a6) (subf (broadcastInDim Cert.ReferenceIdeal.S4x2048x1024 ![] Cert.ReferenceIdeal.Gen.bcast_S_S4x2048x1024 (constant Cert.ReferenceIdeal.S_ .f32 0x3F800000#32)) (V57 a1 a6))))

/-- The convolution branch's gradient, and the convolution's. -/
def V101 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S4x2048x1024 .f32 :=
  (Host.dotGeneral Cert.ReferenceIdeal.dot_S4x2048x1024_S1024x1024_S4x2048x1024_2_1_01_0_n_n none (V80 a0 a1 a5 a6) a4)

def V102 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S4x2048x1024 .f32 :=
  (mulf (V0 a1) (V101 a0 a1 a4 a5 a6))

/-- The gradient of the convolution's input. -/
def V134 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) : FVec Ideal Cert.ReferenceIdeal.S4x2050x1024 .f32 :=
  (addf (addf (pad Cert.ReferenceIdeal.S4x2050x1024 ![0, 2, 0] ![0, 0, 0] ![0, 0, 0] (mulf (broadcastInDim Cert.ReferenceIdeal.S4x2048x1024 ![0, 1, 2] Cert.ReferenceIdeal.Gen.bcast_S1x1x1024_S4x2048x1024_0_1_2 (V30 a7)) (V102 a0 a1 a4 a5 a6)) (constant Cert.ReferenceIdeal.S_ .f32 0x00000000#32) Cert.ReferenceIdeal.Gen.pads_S4x2048x1024_S4x2050x1024_000_200_000 Cert.ReferenceIdeal.Gen.h_S_) (pad Cert.ReferenceIdeal.S4x2050x1024 ![0, 1, 0] ![0, 1, 0] ![0, 0, 0] (mulf (broadcastInDim Cert.ReferenceIdeal.S4x2048x1024 ![0, 1, 2] Cert.ReferenceIdeal.Gen.bcast_S1x1x1024_S4x2048x1024_0_1_2 (V23 a7)) (V102 a0 a1 a4 a5 a6)) (constant Cert.ReferenceIdeal.S_ .f32 0x00000000#32) Cert.ReferenceIdeal.Gen.pads_S4x2048x1024_S4x2050x1024_000_110_000 Cert.ReferenceIdeal.Gen.h_S_)) (pad Cert.ReferenceIdeal.S4x2050x1024 ![0, 0, 0] ![0, 2, 0] ![0, 0, 0] (mulf (broadcastInDim Cert.ReferenceIdeal.S4x2048x1024 ![0, 1, 2] Cert.ReferenceIdeal.Gen.bcast_S1x1x1024_S4x2048x1024_0_1_2 (V17 a7)) (V102 a0 a1 a4 a5 a6)) (constant Cert.ReferenceIdeal.S_ .f32 0x00000000#32) Cert.ReferenceIdeal.Gen.pads_S4x2048x1024_S4x2050x1024_000_020_000 Cert.ReferenceIdeal.Gen.h_S_))

def V139 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) : FVec Ideal Cert.ReferenceIdeal.S4x2048x1024 .f32 :=
  (extractStridedSlice Cert.ReferenceIdeal.S4x2048x1024 ![0, 2, 0] (V134 a0 a1 a4 a5 a6 a7) Cert.ReferenceIdeal.Gen.slices_S4x2050x1024_S4x2048x1024_0_2_0)

def REF14 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) : FVec Ideal Cert.ReferenceIdeal.S8192x5120 .bf16 :=
  (truncf .bf16 (shapeCast _ (addf (concatenate Cert.ReferenceIdeal.S4x2048x5120 2 [⟨Cert.ReferenceIdeal.S4x2048x1024, ((broadcastInDim Cert.ReferenceIdeal.S4x2048x1024 ![] Cert.ReferenceIdeal.Gen.bcast_S_S4x2048x1024 (constant Cert.ReferenceIdeal.S_ .f32 0x00000000#32)))⟩, ⟨Cert.ReferenceIdeal.S4x2048x1024, ((broadcastInDim Cert.ReferenceIdeal.S4x2048x1024 ![] Cert.ReferenceIdeal.Gen.bcast_S_S4x2048x1024 (constant Cert.ReferenceIdeal.S_ .f32 0x00000000#32)))⟩, ⟨Cert.ReferenceIdeal.S4x2048x1024, ((broadcastInDim Cert.ReferenceIdeal.S4x2048x1024 ![] Cert.ReferenceIdeal.Gen.bcast_S_S4x2048x1024 (constant Cert.ReferenceIdeal.S_ .f32 0x00000000#32)))⟩, ⟨Cert.ReferenceIdeal.S4x2048x1024, ((V90 a0 a1 a2 a3 a5 a6))⟩, ⟨Cert.ReferenceIdeal.S4x2048x1024, ((V84 a0 a1 a4 a5 a6 a7 a8))⟩] Cert.ReferenceIdeal.Gen.concatenates_S4x2048x1024_S4x2048x1024_S4x2048x1024_S4x2048x1024_S4x2048x1024_S4x2048x5120_d2) (concatenate Cert.ReferenceIdeal.S4x2048x5120 2 [⟨Cert.ReferenceIdeal.S4x2048x1024, ((mulf (V101 a0 a1 a4 a5 a6) (V36 a1 a7 a8)))⟩, ⟨Cert.ReferenceIdeal.S4x2048x1024, ((mulf (V139 a0 a1 a4 a5 a6 a7) (V2 a1)))⟩, ⟨Cert.ReferenceIdeal.S4x2048x1024, ((mulf (V1 a1) (V139 a0 a1 a4 a5 a6 a7)))⟩, ⟨Cert.ReferenceIdeal.S4x2048x1024, ((broadcastInDim Cert.ReferenceIdeal.S4x2048x1024 ![] Cert.ReferenceIdeal.Gen.bcast_S_S4x2048x1024 (constant Cert.ReferenceIdeal.S_ .f32 0x00000000#32)))⟩, ⟨Cert.ReferenceIdeal.S4x2048x1024, ((broadcastInDim Cert.ReferenceIdeal.S4x2048x1024 ![] Cert.ReferenceIdeal.Gen.bcast_S_S4x2048x1024 (constant Cert.ReferenceIdeal.S_ .f32 0x00000000#32)))⟩] Cert.ReferenceIdeal.Gen.concatenates_S4x2048x1024_S4x2048x1024_S4x2048x1024_S4x2048x1024_S4x2048x1024_S4x2048x5120_d2)) Cert.ReferenceIdeal.Gen.shapeCasts_S4x2048x5120_S8192x5120) Cert.ReferenceIdeal.Gen.bitsLt_bf16_f32)

def REF15 (a0 : FVec Ideal Cert.ReferenceIdeal.S4x2048x1024 .f32) (a1 : FVec Ideal Cert.ReferenceIdeal.S4x2048x5120 .f32) (a3 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S1024x8192 .bf16 :=
  (transpose Cert.ReferenceIdeal.S1024x8192 [1, 0] (truncf .bf16 (shapeCast _ (Host.dotGeneral Cert.ReferenceIdeal.dot_S4x2048x1024_S1024x1024_S4x2048x1024_2_1_01_0_n_n none (V82 a0 a1 a5 a6) a3) Cert.ReferenceIdeal.Gen.shapeCasts_S4x2048x1024_S8192x1024) Cert.ReferenceIdeal.Gen.bitsLt_bf16_f32) Cert.ReferenceIdeal.Gen.transposes_S8192x1024_S1024x8192_1_0)

def REF16 (a0 : FVec Ideal Cert.ReferenceIdeal.S4x2048x1024 .f32) (a1 : FVec Ideal Cert.ReferenceIdeal.S4x2048x5120 .f32) (a5 : FVec Ideal Cert.ReferenceIdeal.S1024x1024 .f32) (a6 : FVec Ideal Cert.ReferenceIdeal.S2x2048 .f32) : FVec Ideal Cert.ReferenceIdeal.S8192x1024 .bf16 :=
  (truncf .bf16 (shapeCast _ (V82 a0 a1 a5 a6) Cert.ReferenceIdeal.Gen.shapeCasts_S4x2048x1024_S8192x1024) Cert.ReferenceIdeal.Gen.bitsLt_bf16_f32)

def REF17 (a0 : FVec Ideal Cert.ReferenceIdeal.S4x2048x1024 .f32) (a1 : FVec Ideal Cert.ReferenceIdeal.S4x2048x5120 .f32) (a5 : FVec Ideal Cert.ReferenceIdeal.S1024x1024 .f32) (a6 : FVec Ideal Cert.ReferenceIdeal.S2x2048 .f32) : FVec Ideal Cert.ReferenceIdeal.S8192x1024 .bf16 :=
  (truncf .bf16 (shapeCast _ (V80 a0 a1 a5 a6) Cert.ReferenceIdeal.Gen.shapeCasts_S4x2048x1024_S8192x1024) Cert.ReferenceIdeal.Gen.bitsLt_bf16_f32)

def REF18 (a0 : FVec Ideal Cert.ReferenceIdeal.S4x2048x1024 .f32) : FVec Ideal Cert.ReferenceIdeal.S8192x1024 .bf16 :=
  (truncf .bf16 (shapeCast _ a0 Cert.ReferenceIdeal.Gen.shapeCasts_S4x2048x1024_S8192x1024) Cert.ReferenceIdeal.Gen.bitsLt_bf16_f32)

def DBG (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) : FVec Ideal Cert.ReferenceIdeal.S2x1024 .f32 :=
  ((shapeCast _ (shapeCast _ (extractStridedSlice Cert.ReferenceIdeal.S1x2048 ![1, 0] (addf (pad Cert.ReferenceIdeal.S2x2048 ![1, 1024] ![0, 0] ![0, 0] (broadcastInDim Cert.ReferenceIdeal.S1x1024 ![1] Cert.ReferenceIdeal.Gen.bcast_S1024_S1x1024_1 (SUM (V84 a0 a1 a4 a5 a6 a7 a8))) (constant Cert.ReferenceIdeal.S_ .f32 0x00000000#32) Cert.ReferenceIdeal.Gen.pads_S1x1024_S2x2048_100_102400 Cert.ReferenceIdeal.Gen.h_S_) (pad Cert.ReferenceIdeal.S2x2048 ![1, 0] ![0, 1024] ![0, 0] (broadcastInDim Cert.ReferenceIdeal.S1x1024 ![1] Cert.ReferenceIdeal.Gen.bcast_S1024_S1x1024_1 (SUM (V90 a0 a1 a2 a3 a5 a6))) (constant Cert.ReferenceIdeal.S_ .f32 0x00000000#32) Cert.ReferenceIdeal.Gen.pads_S1x1024_S2x2048_100_010240 Cert.ReferenceIdeal.Gen.h_S_)) Cert.ReferenceIdeal.Gen.slices_S2x2048_S1x2048_1_0) Cert.ReferenceIdeal.Gen.shapeCasts_S1x2048_S2048) Cert.ReferenceIdeal.Gen.shapeCasts_S2048_S2x1024))

def DB (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S1x1024 .f32 :=
  ((shapeCast _ (shapeCast _ (extractStridedSlice Cert.ReferenceIdeal.S1x1024 ![1, 0] (pad Cert.ReferenceIdeal.S2x1024 ![1, 0] ![0, 0] ![0, 0] (broadcastInDim Cert.ReferenceIdeal.S1x1024 ![1] Cert.ReferenceIdeal.Gen.bcast_S1024_S1x1024_1 (SUM (V102 a0 a1 a4 a5 a6))) (constant Cert.ReferenceIdeal.S_ .f32 0x00000000#32) Cert.ReferenceIdeal.Gen.pads_S1x1024_S2x1024_100_000 Cert.ReferenceIdeal.Gen.h_S_) Cert.ReferenceIdeal.Gen.slices_S2x1024_S1x1024_1_0) Cert.ReferenceIdeal.Gen.shapeCasts_S1x1024_S1024) Cert.ReferenceIdeal.Gen.shapeCasts_S1024_S1x1024))

def DCW (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) : FVec Ideal Cert.ReferenceIdeal.S3x1024 .f32 :=
  ((shapeCast _ (extractStridedSlice Cert.ReferenceIdeal.S1x3x1024 ![1, 0, 0] (pad Cert.ReferenceIdeal.S2x3x1024 ![1, 0, 0] ![0, 0, 0] ![0, 0, 0] (broadcastInDim Cert.ReferenceIdeal.S1x3x1024 ![1, 2] Cert.ReferenceIdeal.Gen.bcast_S3x1024_S1x3x1024_1_2 (addf (addf (pad Cert.ReferenceIdeal.S3x1024 ![2, 0] ![0, 0] ![0, 0] (broadcastInDim Cert.ReferenceIdeal.S1x1024 ![1] Cert.ReferenceIdeal.Gen.bcast_S1024_S1x1024_1 (SUM (mulf (V102 a0 a1 a4 a5 a6) (V29 a1)))) (constant Cert.ReferenceIdeal.S_ .f32 0x00000000#32) Cert.ReferenceIdeal.Gen.pads_S1x1024_S3x1024_200_000 Cert.ReferenceIdeal.Gen.h_S_) (pad Cert.ReferenceIdeal.S3x1024 ![1, 0] ![1, 0] ![0, 0] (broadcastInDim Cert.ReferenceIdeal.S1x1024 ![1] Cert.ReferenceIdeal.Gen.bcast_S1024_S1x1024_1 (SUM (mulf (V102 a0 a1 a4 a5 a6) (V22 a1)))) (constant Cert.ReferenceIdeal.S_ .f32 0x00000000#32) Cert.ReferenceIdeal.Gen.pads_S1x1024_S3x1024_110_000 Cert.ReferenceIdeal.Gen.h_S_)) (pad Cert.ReferenceIdeal.S3x1024 ![0, 0] ![2, 0] ![0, 0] (broadcastInDim Cert.ReferenceIdeal.S1x1024 ![1] Cert.ReferenceIdeal.Gen.bcast_S1024_S1x1024_1 (SUM (mulf (V102 a0 a1 a4 a5 a6) (V16 a1)))) (constant Cert.ReferenceIdeal.S_ .f32 0x00000000#32) Cert.ReferenceIdeal.Gen.pads_S1x1024_S3x1024_020_000 Cert.ReferenceIdeal.Gen.h_S_))) (constant Cert.ReferenceIdeal.S_ .f32 0x00000000#32) Cert.ReferenceIdeal.Gen.pads_S1x3x1024_S2x3x1024_100_000_000 Cert.ReferenceIdeal.Gen.h_S_) Cert.ReferenceIdeal.Gen.slices_S2x3x1024_S1x3x1024_1_0_0) Cert.ReferenceIdeal.Gen.shapeCasts_S1x3x1024_S3x1024))

def REF19 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) : FVec Ideal Cert.ReferenceIdeal.S8x1024 .f32 :=
  (concatenate Cert.ReferenceIdeal.S8x1024 0 [⟨Cert.ReferenceIdeal.S2x1024, (DBG a0 a1 a2 a3 a4 a5 a6 a7 a8)⟩, ⟨Cert.ReferenceIdeal.S1x1024, (DB a0 a1 a4 a5 a6)⟩, ⟨Cert.ReferenceIdeal.S3x1024, (DCW a0 a1 a4 a5 a6)⟩, ⟨Cert.ReferenceIdeal.S2x1024, ((broadcastInDim Cert.ReferenceIdeal.S2x1024 ![] Cert.ReferenceIdeal.Gen.bcast_S_S2x1024 (constant Cert.ReferenceIdeal.S_ .f32 0x00000000#32)))⟩] Cert.ReferenceIdeal.Gen.concatenates_S2x1024_S1x1024_S3x1024_S2x1024_S8x1024_d0)

/-! ## The operands that the call is handed -/

theorem entry4 (c : Dev nD) : V m c main_v4 = (truncf .bf16 (concatenate S3x1024x1024 0 [⟨S1x1024x1024, broadcastInDim S1x1024x1024 ![1, 2] bcast_S1024x1024_S1x1024x1024_1_2 (m ((c : Thread nD τ).loc main_arg3))⟩, ⟨S1x1024x1024, broadcastInDim S1x1024x1024 ![1, 2] bcast_S1024x1024_S1x1024x1024_1_2 (m ((c : Thread nD τ).loc main_arg4))⟩, ⟨S1x1024x1024, broadcastInDim S1x1024x1024 ![1, 2] bcast_S1024x1024_S1x1024x1024_1_2 (m ((c : Thread nD τ).loc main_arg5))⟩] concatenates_S1x1024x1024_S1x1024x1024_S1x1024x1024_S3x1024x1024_d0) bitsLt_bf16_f32 : FVec Ideal S3x1024x1024 .bf16) := by
  entry_read
  rfl

theorem entry48 (c : Dev nD) : V m c main_v48 = (shapeCast S8192x1024 (m ((c : Thread nD τ).loc main_arg0)) shapeCasts_S4x2048x1024_S8192x1024 : FVec Ideal S8192x1024 .f32) := by
  entry_read
  rfl

theorem entry50 (c : Dev nD) : V m c main_v50 = (truncf .bf16 (shapeCast S8192x5120 (m ((c : Thread nD τ).loc main_arg1)) shapeCasts_S4x2048x5120_S8192x5120) bitsLt_bf16_f32 : FVec Ideal S8192x5120 .bf16) := by
  entry_read
  rfl

theorem entry6 (c : Dev nD) : V m c main_v6 = (shapeCast S2x2x1024 (m ((c : Thread nD τ).loc main_arg6)) shapeCasts_S2x2048_S2x2x1024 : FVec Ideal S2x2x1024 .f32) := by
  entry_read
  rfl

theorem entry5 (c : Dev nD) : V m c main_v5 = (pad S2x8x1024 ![0, 0, 0] ![0, 5, 0] ![0, 0, 0] (m ((c : Thread nD τ).loc main_arg7)) (sitofp .f32 (constantI S_ 32 0) : FVec Ideal S_ .f32) pads_S2x3x1024_S2x8x1024_000_050_000 h_S_ : FVec Ideal S2x8x1024 .f32) := by
  entry_read
  rfl

theorem entry52 (c : Dev nD) : V m c main_v52 = (truncf .bf16 (shapeCast S8192x1024 (V5 (m ((c : Thread nD τ).loc main_arg2)) (m ((c : Thread nD τ).loc main_arg3))) shapeCasts_S4x2048x1024_S8192x1024) bitsLt_bf16_f32 : FVec Ideal S8192x1024 .bf16) := by
  entry_read
  rfl

theorem entry54 (c : Dev nD) : V m c main_v54 = (truncf .bf16 (shapeCast S8192x1024 (V41 (m ((c : Thread nD τ).loc main_arg1)) (m ((c : Thread nD τ).loc main_arg4)) (m ((c : Thread nD τ).loc main_arg7)) (m ((c : Thread nD τ).loc main_arg8))) shapeCasts_S4x2048x1024_S8192x1024) bitsLt_bf16_f32 : FVec Ideal S8192x1024 .bf16) := by
  entry_read
  rfl

theorem entry56 (c : Dev nD) : V m c main_v56 = (truncf .bf16 (shapeCast S8192x1024 (V36 (m ((c : Thread nD τ).loc main_arg1)) (m ((c : Thread nD τ).loc main_arg7)) (m ((c : Thread nD τ).loc main_arg8))) shapeCasts_S4x2048x1024_S8192x1024) bitsLt_bf16_f32 : FVec Ideal S8192x1024 .bf16) := by
  entry_read
  rfl

/-- A token of the flattened arrays is the token of its sequence. -/
theorem tok_at (x : FVec Ideal S4x2048x1024 .f32) (n : Fin 8192) (k : Fin 1024) : shapeCast S8192x1024 x shapeCasts_S4x2048x1024_S8192x1024 (ix2 n k)
    = x (ix3 ⟨n.val / 2048, by omega⟩ ⟨n.val % 2048, by omega⟩ k) := by
  pointwise []

theorem tok5_at (x : FVec Ideal S4x2048x5120 .f32) (n : Fin 8192) (k : Fin 5120) :
    (truncf .bf16 (shapeCast S8192x5120 x shapeCasts_S4x2048x5120_S8192x5120) bitsLt_bf16_f32 : FVec Ideal S8192x5120 .bf16) (ix2 n k)
    = x (ix3 ⟨n.val / 2048, by omega⟩ ⟨n.val % 2048, by omega⟩ k) := by
  pointwise []

theorem seg_V0 (a1 : FVec Ideal Cert.ReferenceIdeal.S4x2048x5120 .f32) (b : Fin 4) (s : Fin 2048) (k : Fin 1024) : V0 a1 (ix3 b s k) = a1 (ix3 b s ⟨0 + k.val, by omega⟩) := by
  pointwise [V0]

theorem seg_V1 (a1 : FVec Ideal Cert.ReferenceIdeal.S4x2048x5120 .f32) (b : Fin 4) (s : Fin 2048) (k : Fin 1024) : V1 a1 (ix3 b s k) = a1 (ix3 b s ⟨1024 + k.val, by omega⟩) := by
  pointwise [V1]

theorem seg_V2 (a1 : FVec Ideal Cert.ReferenceIdeal.S4x2048x5120 .f32) (b : Fin 4) (s : Fin 2048) (k : Fin 1024) : V2 a1 (ix3 b s k) = a1 (ix3 b s ⟨2048 + k.val, by omega⟩) := by
  pointwise [V2]

/-! ## The blocks read as the arguments' entries -/

theorem blk0 (c : Dev nD) (t : Fin cfg0.N) (p : Fin 512) (k : Fin 1024) : (show Vec Ideal S512x1024 .f32 from iblk m c 0 t) (ix2 p k)
    = (m ((c : Thread nD τ).loc main_arg0)) (ix3 ⟨(512 * (15 - t.val) + p.val) / 2048, by omega⟩ ⟨(512 * (15 - t.val) + p.val) % 2048, by omega⟩ k) := by
  have hi := idx t
  have e : (win0_0.blk t).view.emb (ix2 p k) = (ix2 ⟨512 * (15 - t.val) + p.val, by omega⟩ k : S8192x1024.Idx) := by
    blk_ext [hi]
  refine (congrArg (V m c main_v48) e).trans ?_
  rw [entry48]
  clear hi e
  exact tok_at _ _ _

theorem blk1 (c : Dev nD) (t : Fin cfg0.N) (p : Fin 512) (k : Fin 1024) : (show Vec Ideal S512x1024 .bf16 from iblk m c 1 t) (ix2 p k)
    = (V0 (m ((c : Thread nD τ).loc main_arg1))) (ix3 ⟨(512 * (15 - t.val) + p.val) / 2048, by omega⟩ ⟨(512 * (15 - t.val) + p.val) % 2048, by omega⟩ k) := by
  have hi := idx t
  have e : (win0_1.blk t).view.emb (ix2 p k) = (ix2 ⟨512 * (15 - t.val) + p.val, by omega⟩ ⟨0 + k.val, by omega⟩ : S8192x5120.Idx) := by
    blk_ext [hi]
  refine (congrArg (V m c main_v50) e).trans ?_
  rw [entry50]
  clear hi e
  exact (tok5_at _ _ _).trans (seg_V0 _ _ _ _).symm

theorem blk2 (c : Dev nD) (t : Fin cfg0.N) (p : Fin 512) (k : Fin 1024) : (show Vec Ideal S512x1024 .bf16 from iblk m c 2 t) (ix2 p k)
    = (V1 (m ((c : Thread nD τ).loc main_arg1))) (ix3 ⟨(512 * (15 - t.val) + p.val) / 2048, by omega⟩ ⟨(512 * (15 - t.val) + p.val) % 2048, by omega⟩ k) := by
  have hi := idx t
  have e : (win0_2.blk t).view.emb (ix2 p k) = (ix2 ⟨512 * (15 - t.val) + p.val, by omega⟩ ⟨1024 + k.val, by omega⟩ : S8192x5120.Idx) := by
    blk_ext [hi]
  refine (congrArg (V m c main_v50) e).trans ?_
  rw [entry50]
  clear hi e
  exact (tok5_at _ _ _).trans (seg_V1 _ _ _ _).symm

theorem blk3 (c : Dev nD) (t : Fin cfg0.N) (p : Fin 512) (k : Fin 1024) : (show Vec Ideal S512x1024 .bf16 from iblk m c 3 t) (ix2 p k)
    = (V2 (m ((c : Thread nD τ).loc main_arg1))) (ix3 ⟨(512 * (15 - t.val) + p.val) / 2048, by omega⟩ ⟨(512 * (15 - t.val) + p.val) % 2048, by omega⟩ k) := by
  have hi := idx t
  have e : (win0_3.blk t).view.emb (ix2 p k) = (ix2 ⟨512 * (15 - t.val) + p.val, by omega⟩ ⟨2048 + k.val, by omega⟩ : S8192x5120.Idx) := by
    blk_ext [hi]
  refine (congrArg (V m c main_v50) e).trans ?_
  rw [entry50]
  clear hi e
  exact (tok5_at _ _ _).trans (seg_V2 _ _ _ _).symm

theorem blk4 (c : Dev nD) (t : Fin cfg0.N) (p : Fin 512) (k : Fin 1024) : (show Vec Ideal S512x1024 .bf16 from iblk m c 4 t) (ix2 p k)
    = (m ((c : Thread nD τ).loc main_arg1)) (ix3 ⟨(512 * (15 - t.val) + p.val) / 2048, by omega⟩ ⟨(512 * (15 - t.val) + p.val) % 2048, by omega⟩ ⟨3072 + k.val, by omega⟩) := by
  have hi := idx t
  have e : (win0_4.blk t).view.emb (ix2 p k) = (ix2 ⟨512 * (15 - t.val) + p.val, by omega⟩ ⟨3072 + k.val, by omega⟩ : S8192x5120.Idx) := by
    blk_ext [hi]
  refine (congrArg (V m c main_v50) e).trans ?_
  rw [entry50]
  clear hi e
  exact tok5_at _ _ _

theorem blk5 (c : Dev nD) (t : Fin cfg0.N) (p : Fin 512) (k : Fin 1024) : (show Vec Ideal S512x1024 .bf16 from iblk m c 5 t) (ix2 p k)
    = (m ((c : Thread nD τ).loc main_arg1)) (ix3 ⟨(512 * (15 - t.val) + p.val) / 2048, by omega⟩ ⟨(512 * (15 - t.val) + p.val) % 2048, by omega⟩ ⟨4096 + k.val, by omega⟩) := by
  have hi := idx t
  have e : (win0_5.blk t).view.emb (ix2 p k) = (ix2 ⟨512 * (15 - t.val) + p.val, by omega⟩ ⟨4096 + k.val, by omega⟩ : S8192x5120.Idx) := by
    blk_ext [hi]
  refine (congrArg (V m c main_v50) e).trans ?_
  rw [entry50]
  clear hi e
  exact tok5_at _ _ _

theorem blk6 (c : Dev nD) (t : Fin cfg0.N) (p : Fin 512) (k : Fin 1024) : (show Vec Ideal S512x1024 .bf16 from iblk m c 6 t) (ix2 p k)
    = (V5 (m ((c : Thread nD τ).loc main_arg2)) (m ((c : Thread nD τ).loc main_arg3))) (ix3 ⟨(512 * (15 - t.val) + p.val) / 2048, by omega⟩ ⟨(512 * (15 - t.val) + p.val) % 2048, by omega⟩ k) := by
  have hi := idx t
  have e : (win0_6.blk t).view.emb (ix2 p k) = (ix2 ⟨512 * (15 - t.val) + p.val, by omega⟩ k : S8192x1024.Idx) := by
    blk_ext [hi]
  refine (congrArg (V m c main_v52) e).trans ?_
  rw [entry52]
  clear hi e
  pointwise []

theorem blk7 (c : Dev nD) (t : Fin cfg0.N) (p : Fin 512) (k : Fin 1024) : (show Vec Ideal S512x1024 .bf16 from iblk m c 7 t) (ix2 p k)
    = (V41 (m ((c : Thread nD τ).loc main_arg1)) (m ((c : Thread nD τ).loc main_arg4)) (m ((c : Thread nD τ).loc main_arg7)) (m ((c : Thread nD τ).loc main_arg8))) (ix3 ⟨(512 * (15 - t.val) + p.val) / 2048, by omega⟩ ⟨(512 * (15 - t.val) + p.val) % 2048, by omega⟩ k) := by
  have hi := idx t
  have e : (win0_7.blk t).view.emb (ix2 p k) = (ix2 ⟨512 * (15 - t.val) + p.val, by omega⟩ k : S8192x1024.Idx) := by
    blk_ext [hi]
  refine (congrArg (V m c main_v54) e).trans ?_
  rw [entry54]
  clear hi e
  pointwise []

theorem blk8 (c : Dev nD) (t : Fin cfg0.N) (p : Fin 512) (k : Fin 1024) : (show Vec Ideal S512x1024 .bf16 from iblk m c 8 t) (ix2 p k)
    = (V36 (m ((c : Thread nD τ).loc main_arg1)) (m ((c : Thread nD τ).loc main_arg7)) (m ((c : Thread nD τ).loc main_arg8))) (ix3 ⟨(512 * (15 - t.val) + p.val) / 2048, by omega⟩ ⟨(512 * (15 - t.val) + p.val) % 2048, by omega⟩ k) := by
  have hi := idx t
  have e : (win0_8.blk t).view.emb (ix2 p k) = (ix2 ⟨512 * (15 - t.val) + p.val, by omega⟩ k : S8192x1024.Idx) := by
    blk_ext [hi]
  refine (congrArg (V m c main_v56) e).trans ?_
  rw [entry56]
  clear hi e
  pointwise []

theorem blk9 (c : Dev nD) (t : Fin cfg0.N) (k : Fin 1024) (f : Fin 1024) : (show Vec Ideal S1x1024x1024 .bf16 from iblk m c 9 t) (ix3 0 k f)
    = (m ((c : Thread nD τ).loc main_arg3)) (ix2 k f) := by
  have hi := idx t
  have e : (win0_9.blk t).view.emb (ix3 0 k f) = (ix3 0 k f : S3x1024x1024.Idx) := by
    blk_ext [hi]
  refine (congrArg (V m c main_v4) e).trans ?_
  rw [entry4]
  clear hi e
  pointwise []

theorem blk10 (c : Dev nD) (t : Fin cfg0.N) (k : Fin 1024) (f : Fin 1024) : (show Vec Ideal S1x1024x1024 .bf16 from iblk m c 10 t) (ix3 0 k f)
    = (m ((c : Thread nD τ).loc main_arg4)) (ix2 k f) := by
  have hi := idx t
  have e : (win0_10.blk t).view.emb (ix3 0 k f) = (ix3 1 k f : S3x1024x1024.Idx) := by
    blk_ext [hi]
  refine (congrArg (V m c main_v4) e).trans ?_
  rw [entry4]
  clear hi e
  pointwise []

theorem blk11 (c : Dev nD) (t : Fin cfg0.N) (k : Fin 1024) (f : Fin 1024) : (show Vec Ideal S1x1024x1024 .bf16 from iblk m c 11 t) (ix3 0 k f)
    = (m ((c : Thread nD τ).loc main_arg5)) (ix2 k f) := by
  have hi := idx t
  have e : (win0_11.blk t).view.emb (ix3 0 k f) = (ix3 2 k f : S3x1024x1024.Idx) := by
    blk_ext [hi]
  refine (congrArg (V m c main_v4) e).trans ?_
  rw [entry4]
  clear hi e
  pointwise []

theorem blk12a (c : Dev nD) (t : Fin cfg0.N) (k : Fin 1024) : (show Vec Ideal S1x2x1024 .f32 from iblk m c 12 t) (ix3 0 0 k)
    = (m ((c : Thread nD τ).loc main_arg6)) (ix2 1 ⟨k.val, by omega⟩) := by
  have hi := idx t
  have e : (win0_12.blk t).view.emb (ix3 0 0 k) = (ix3 1 0 k : S2x2x1024.Idx) := by
    blk_ext [hi]
  refine (congrArg (V m c main_v6) e).trans ?_
  rw [entry6]
  clear hi e
  pointwise []

theorem blk12c (c : Dev nD) (t : Fin cfg0.N) (k : Fin 1024) : (show Vec Ideal S1x2x1024 .f32 from iblk m c 12 t) (ix3 0 1 k)
    = (m ((c : Thread nD τ).loc main_arg6)) (ix2 1 ⟨1024 + k.val, by omega⟩) := by
  have hi := idx t
  have e : (win0_12.blk t).view.emb (ix3 0 1 k) = (ix3 1 1 k : S2x2x1024.Idx) := by
    blk_ext [hi]
  refine (congrArg (V m c main_v6) e).trans ?_
  rw [entry6]
  clear hi e
  pointwise []

theorem blk13_0 (c : Dev nD) (t : Fin cfg0.N) (k : Fin 1024) : (show Vec Ideal S1x8x1024 .f32 from iblk m c 13 t) (ix3 0 0 k)
    = (V17 (m ((c : Thread nD τ).loc main_arg7))) (ix3 0 0 k) := by
  have hi := idx t
  have e : (win0_13.blk t).view.emb (ix3 0 0 k) = (ix3 1 0 k : S2x8x1024.Idx) := by
    blk_ext [hi]
  refine (congrArg (V m c main_v5) e).trans ?_
  rw [entry5]
  clear hi e
  refine (pad_apply_of_inside _ _ _ _ _ _ _ _ (ix3 1 0 k : S2x3x1024.Idx) (Fin.forall_fin_succ.mpr ⟨rfl, Fin.forall_fin_two.mpr ⟨rfl, ?_⟩⟩)).trans ?_
  · show k.val = 0 + k.val * (0 + 1)
    omega
  pointwise [V17, V23, V30, V7]

theorem blk13_1 (c : Dev nD) (t : Fin cfg0.N) (k : Fin 1024) : (show Vec Ideal S1x8x1024 .f32 from iblk m c 13 t) (ix3 0 1 k)
    = (V23 (m ((c : Thread nD τ).loc main_arg7))) (ix3 0 0 k) := by
  have hi := idx t
  have e : (win0_13.blk t).view.emb (ix3 0 1 k) = (ix3 1 1 k : S2x8x1024.Idx) := by
    blk_ext [hi]
  refine (congrArg (V m c main_v5) e).trans ?_
  rw [entry5]
  clear hi e
  refine (pad_apply_of_inside _ _ _ _ _ _ _ _ (ix3 1 1 k : S2x3x1024.Idx) (Fin.forall_fin_succ.mpr ⟨rfl, Fin.forall_fin_two.mpr ⟨rfl, ?_⟩⟩)).trans ?_
  · show k.val = 0 + k.val * (0 + 1)
    omega
  pointwise [V17, V23, V30, V7]

theorem blk13_2 (c : Dev nD) (t : Fin cfg0.N) (k : Fin 1024) : (show Vec Ideal S1x8x1024 .f32 from iblk m c 13 t) (ix3 0 2 k)
    = (V30 (m ((c : Thread nD τ).loc main_arg7))) (ix3 0 0 k) := by
  have hi := idx t
  have e : (win0_13.blk t).view.emb (ix3 0 2 k) = (ix3 1 2 k : S2x8x1024.Idx) := by
    blk_ext [hi]
  refine (congrArg (V m c main_v5) e).trans ?_
  rw [entry5]
  clear hi e
  refine (pad_apply_of_inside _ _ _ _ _ _ _ _ (ix3 1 2 k : S2x3x1024.Idx) (Fin.forall_fin_succ.mpr ⟨rfl, Fin.forall_fin_two.mpr ⟨rfl, ?_⟩⟩)).trans ?_
  · show k.val = 0 + k.val * (0 + 1)
    omega
  pointwise [V17, V23, V30, V7]

end Cert.KernelIdeal.Mixer

end
-- ==== Proof.MixerTok.lean ====
/-
  The value of the gradient of the last layer's mixer (program `Kernel`), against the reference: what the points compute
  are the reference's values at their tokens.
-/
module

public import proofs.«01_k».proof.Proof.MixerRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen

variable (m : (ℓ : Loc nD τ sig) → Buf (Elt Ideal) ℓ)

/-- A sum against the values one row earlier is the sum of the values one row later. -/
theorem shift1 (f g : Fin 2048 → EReal) : ∑ s : Fin 2048, f s * (if h : 1 ≤ s.val then g ⟨s.val - 1, by omega⟩ else 0)
    = ∑ s : Fin 2048, (if h : s.val + 1 < 2048 then f ⟨s.val + 1, h⟩ else 0) * g s := by
  refine (Fin.sum_univ_add (a := 1) (b := 2047) _).trans (.trans ?_ (Fin.sum_univ_add (a := 2047) (b := 1) _).symm)
  rw [Finset.sum_eq_zero (s := (Finset.univ : Finset (Fin 1))) (f := fun i : Fin 1 => f (Fin.castAdd 2047 i) * _) fun i _ => by
      exact (congrArg₂ (· * ·) rfl (dif_neg (show ¬1 ≤ (Fin.castAdd 2047 i).val by have := i.isLt; rw [Fin.val_castAdd]; omega))).trans (mul_zero _),
    Finset.sum_eq_zero (s := (Finset.univ : Finset (Fin 1))) (f := fun i : Fin 1 => _ * g (Fin.natAdd 2047 i)) fun i _ => by
      exact (congrArg (· * _) (dif_neg (show ¬(Fin.natAdd 2047 i).val + 1 < 2048 by rw [Fin.val_natAdd]; omega))).trans (zero_mul _),
    zero_add, add_zero]
  refine Finset.sum_congr rfl fun i _ => ?_
  have hi := i.isLt
  refine congrArg₂ (· * ·) (.trans ?_ (dif_pos (show i.val + 1 < 2048 by omega)).symm) ((dif_pos (show 1 ≤ 1 + i.val by omega)).trans ?_)
  · exact congrArg f (Fin.ext (show 1 + i.val = i.val + 1 by omega))
  · exact congrArg g (Fin.ext (show 1 + i.val - 1 = i.val by omega))

/-- A sum against the values two rows earlier is the sum of the values two rows later. -/
theorem shift2 (f g : Fin 2048 → EReal) : ∑ s : Fin 2048, f s * (if h : 2 ≤ s.val then g ⟨s.val - 2, by omega⟩ else 0)
    = ∑ s : Fin 2048, (if h : s.val + 2 < 2048 then f ⟨s.val + 2, h⟩ else 0) * g s := by
  refine (Fin.sum_univ_add (a := 2) (b := 2046) _).trans (.trans ?_ (Fin.sum_univ_add (a := 2046) (b := 2) _).symm)
  rw [Finset.sum_eq_zero (s := (Finset.univ : Finset (Fin 2))) (f := fun i : Fin 2 => f (Fin.castAdd 2046 i) * _) fun i _ => by
      exact (congrArg₂ (· * ·) rfl (dif_neg (show ¬2 ≤ (Fin.castAdd 2046 i).val by have := i.isLt; rw [Fin.val_castAdd]; omega))).trans (mul_zero _),
    Finset.sum_eq_zero (s := (Finset.univ : Finset (Fin 2))) (f := fun i : Fin 2 => _ * g (Fin.natAdd 2046 i)) fun i _ => by
      exact (congrArg (· * _) (dif_neg (show ¬(Fin.natAdd 2046 i).val + 2 < 2048 by rw [Fin.val_natAdd]; omega))).trans (zero_mul _),
    zero_add, add_zero]
  refine Finset.sum_congr rfl fun i _ => ?_
  have hi := i.isLt
  refine congrArg₂ (· * ·) (.trans ?_ (dif_pos (show i.val + 2 < 2048 by omega)).symm) ((dif_pos (show 2 ≤ 2 + i.val by omega)).trans ?_)
  · exact congrArg f (Fin.ext (show 2 + i.val = i.val + 2 by omega))
  · exact congrArg g (Fin.ext (show 2 + i.val - 2 = i.val by omega))

/-- The sum over all points, which take the tokens from the last to the first, and their rows is the sum over all tokens. -/
theorem regroup_rev (F : Fin 4 → Fin 2048 → EReal) : ∑ t : Fin cfg0.N, ∑ p : Fin 512,
      F ⟨(512 * (15 - t.val) + p.val) / 2048, by omega⟩ ⟨(512 * (15 - t.val) + p.val) % 2048, by omega⟩
    = ∑ b : Fin 4, ∑ s : Fin 2048, F b s := by
  have hN : cfg0.N = 16 := N_0
  rw [← Norm.regroup N_0 F]
  refine Fintype.sum_equiv Fin.revPerm _ _ fun t => Finset.sum_congr rfl fun p _ => ?_
  have h : (Fin.revPerm t).val = 15 - t.val := by
    have := t.isLt
    show cfg0.N - (t.val + 1) = 15 - t.val
    omega
  exact congrArg₂ F (Fin.ext (by show _ = (512 * (Fin.revPerm t).val + p.val) / 2048; rw [h])) (Fin.ext (by show _ = (512 * (Fin.revPerm t).val + p.val) % 2048; rw [h]))

/-- The convolution's gradient one and two tokens later, nothing past the sequence's end. -/
def U1 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (b : Fin 4) (s : Fin 2048) (k : Fin 1024) : EReal := if h : s.val + 1 < 2048 then (V102 a0 a1 a4 a5 a6) (ix3 b ⟨s.val + 1, h⟩ k) else 0

def U2 (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (b : Fin 4) (s : Fin 2048) (k : Fin 1024) : EReal := if h : s.val + 2 < 2048 then (V102 a0 a1 a4 a5 a6) (ix3 b ⟨s.val + 2, h⟩ k) else 0

section
variable (c : Dev nD) (t : Fin cfg0.N) (p : Fin 512) (k : Fin 1024)

theorem dm_eq : dm (iblk m c 0 t) (iblk m c 11 t) p k = (V79 (m ((c : Thread nD τ).loc main_arg0)) (m ((c : Thread nD τ).loc main_arg5))) (ix3 ⟨(512 * (15 - t.val) + p.val) / 2048, by omega⟩ ⟨(512 * (15 - t.val) + p.val) % 2048, by omega⟩ k) := by
  unfold dm
  pointwise [V79]
  exact Finset.sum_congr rfl fun f _ => congrArg₂ (· * ·) (blk0 m c t p f) (blk11 m c t k f)

theorem sa_eq : sa (iblk m c 4 t) (iblk m c 12 t) p k = (V57 (m ((c : Thread nD τ).loc main_arg1)) (m ((c : Thread nD τ).loc main_arg6))) (ix3 ⟨(512 * (15 - t.val) + p.val) / 2048, by omega⟩ ⟨(512 * (15 - t.val) + p.val) % 2048, by omega⟩ k) := by
  unfold sa
  pointwise [V57]
  exact congrArg (fun w => Ideal.div 1 (1 + Ideal.exp (-w))) (congrArg₂ (· + ·) (blk4 m c t p k) (blk12a m c t k))

theorem sc_eq : sc (iblk m c 5 t) (iblk m c 12 t) p k = (V71 (m ((c : Thread nD τ).loc main_arg1)) (m ((c : Thread nD τ).loc main_arg6))) (ix3 ⟨(512 * (15 - t.val) + p.val) / 2048, by omega⟩ ⟨(512 * (15 - t.val) + p.val) % 2048, by omega⟩ k) := by
  unfold sc
  pointwise [V71]
  exact congrArg (fun w => Ideal.div 1 (1 + Ideal.exp (-w))) (congrArg₂ (· + ·) (blk5 m c t p k) (blk12c m c t k))

theorem dya_eq : dya (iblk m c 0 t) (iblk m c 4 t) (iblk m c 11 t) (iblk m c 12 t) p k = (V82 (m ((c : Thread nD τ).loc main_arg0)) (m ((c : Thread nD τ).loc main_arg1)) (m ((c : Thread nD τ).loc main_arg5)) (m ((c : Thread nD τ).loc main_arg6))) (ix3 ⟨(512 * (15 - t.val) + p.val) / 2048, by omega⟩ ⟨(512 * (15 - t.val) + p.val) % 2048, by omega⟩ k) := by
  unfold dya
  refine (congrArg₂ (· * ·) (dm_eq m c t p k) (sa_eq m c t p k)).trans ?_
  pointwise [V82]
  exact mul_comm _ _

theorem dyc_eq : dyc (iblk m c 0 t) (iblk m c 5 t) (iblk m c 11 t) (iblk m c 12 t) p k = (V80 (m ((c : Thread nD τ).loc main_arg0)) (m ((c : Thread nD τ).loc main_arg1)) (m ((c : Thread nD τ).loc main_arg5)) (m ((c : Thread nD τ).loc main_arg6))) (ix3 ⟨(512 * (15 - t.val) + p.val) / 2048, by omega⟩ ⟨(512 * (15 - t.val) + p.val) % 2048, by omega⟩ k) := by
  unfold dyc
  refine (congrArg₂ (· * ·) (dm_eq m c t p k) (sc_eq m c t p k)).trans ?_
  pointwise [V80]
  exact mul_comm _ _

theorem dga_eq : dga (iblk m c 0 t) (iblk m c 4 t) (iblk m c 6 t) (iblk m c 11 t) (iblk m c 12 t) p k = (V90 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (ix3 ⟨(512 * (15 - t.val) + p.val) / 2048, by omega⟩ ⟨(512 * (15 - t.val) + p.val) % 2048, by omega⟩ k) := by
  unfold dga dya
  refine (congrArg₂ (· * ·) (congrArg₂ (· * ·) (congrArg₂ (· * ·) (dm_eq m c t p k) (sa_eq m c t p k)) (blk6 m c t p k)) (congrArg (_ - ·) (sa_eq m c t p k))).trans ?_
  pointwise [V90]
  exact (congrArg (· * _) (mul_right_comm _ _ _)).trans (mul_assoc _ _ _)

theorem dgc_eq : dgc (iblk m c 0 t) (iblk m c 5 t) (iblk m c 7 t) (iblk m c 11 t) (iblk m c 12 t) p k = (V84 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (ix3 ⟨(512 * (15 - t.val) + p.val) / 2048, by omega⟩ ⟨(512 * (15 - t.val) + p.val) % 2048, by omega⟩ k) := by
  unfold dgc dyc
  refine (congrArg₂ (· * ·) (congrArg₂ (· * ·) (congrArg₂ (· * ·) (dm_eq m c t p k) (sc_eq m c t p k)) (blk7 m c t p k)) (congrArg (_ - ·) (sc_eq m c t p k))).trans ?_
  pointwise [V84]
  exact (congrArg (· * _) (mul_right_comm _ _ _)).trans (mul_assoc _ _ _)

theorem dco_eq : dco (iblk m c 0 t) (iblk m c 5 t) (iblk m c 10 t) (iblk m c 11 t) (iblk m c 12 t) p k = (V101 (m ((c : Thread nD τ).loc main_arg0)) (m ((c : Thread nD τ).loc main_arg1)) (m ((c : Thread nD τ).loc main_arg4)) (m ((c : Thread nD τ).loc main_arg5)) (m ((c : Thread nD τ).loc main_arg6))) (ix3 ⟨(512 * (15 - t.val) + p.val) / 2048, by omega⟩ ⟨(512 * (15 - t.val) + p.val) % 2048, by omega⟩ k) := by
  unfold dco
  pointwise [V101]
  exact Finset.sum_congr rfl fun f _ => congrArg₂ (· * ·) (dyc_eq m c t p f) (blk10 m c t k f)

theorem dz_eq : dz (iblk m c 0 t) (iblk m c 1 t) (iblk m c 5 t) (iblk m c 10 t) (iblk m c 11 t) (iblk m c 12 t) p k = (V102 (m ((c : Thread nD τ).loc main_arg0)) (m ((c : Thread nD τ).loc main_arg1)) (m ((c : Thread nD τ).loc main_arg4)) (m ((c : Thread nD τ).loc main_arg5)) (m ((c : Thread nD τ).loc main_arg6))) (ix3 ⟨(512 * (15 - t.val) + p.val) / 2048, by omega⟩ ⟨(512 * (15 - t.val) + p.val) % 2048, by omega⟩ k) := by
  unfold dz
  refine (congrArg₂ (· * ·) (dco_eq m c t p k) (blk1 m c t p k)).trans ?_
  pointwise [V102]
  exact mul_comm _ _

/-- The same at any token that the row is. -/
theorem dz_tok (b : Fin 4) (s : Fin 2048) (h : 2048 * b.val + s.val = 512 * (15 - t.val) + p.val) : dz (iblk m c 0 t) (iblk m c 1 t) (iblk m c 5 t) (iblk m c 10 t) (iblk m c 11 t) (iblk m c 12 t) p k = (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k) := by
  refine (dz_eq m c t p k).trans ?_
  have hb : (⟨(512 * (15 - t.val) + p.val) / 2048, by omega⟩ : Fin 4) = b := Fin.ext (by show (512 * (15 - t.val) + p.val) / 2048 = b.val; omega)
  have hs : (⟨(512 * (15 - t.val) + p.val) % 2048, by omega⟩ : Fin 2048) = s := Fin.ext (by show (512 * (15 - t.val) + p.val) % 2048 = s.val; omega)
  rw [hb, hs]

/-- The rows carried to a point are the next tokens', nothing past the sequence's end. -/
theorem car_eq (r : Fin 8) : car m c t r k = if h : (512 * (15 - t.val) + 511) % 2048 + 1 + r.val < 2048 then
    (V102 (m ((c : Thread nD τ).loc main_arg0)) (m ((c : Thread nD τ).loc main_arg1)) (m ((c : Thread nD τ).loc main_arg4)) (m ((c : Thread nD τ).loc main_arg5)) (m ((c : Thread nD τ).loc main_arg6))) (ix3 ⟨(512 * (15 - t.val) + 511) / 2048, by omega⟩ ⟨(512 * (15 - t.val) + 511) % 2048 + 1 + r.val, h⟩ k) else 0 := by
  have ht := point_lt t
  have hr := r.isLt
  unfold car
  by_cases h4 : t.val % 4 = 0
  · rw [if_pos h4, dif_neg (by omega)]
  rw [if_neg h4, dif_pos (show (512 * (15 - t.val) + 511) % 2048 + 1 + r.val < 2048 by omega)]
  refine dz_tok m c ⟨t.val - 1, _⟩ ⟨r.val, _⟩ k _ _ ?_
  show 2048 * ((512 * (15 - t.val) + 511) / 2048) + ((512 * (15 - t.val) + 511) % 2048 + 1 + r.val) = 512 * (15 - (t.val - 1)) + r.val
  omega

theorem up1_eq : up1 (dz (iblk m c 0 t) (iblk m c 1 t) (iblk m c 5 t) (iblk m c 10 t) (iblk m c 11 t) (iblk m c 12 t)) (car m c t 0) p k = U1 (m ((c : Thread nD τ).loc main_arg0)) (m ((c : Thread nD τ).loc main_arg1)) (m ((c : Thread nD τ).loc main_arg4)) (m ((c : Thread nD τ).loc main_arg5)) (m ((c : Thread nD τ).loc main_arg6)) ⟨(512 * (15 - t.val) + p.val) / 2048, by omega⟩ ⟨(512 * (15 - t.val) + p.val) % 2048, by omega⟩ k := by
  have ht := point_lt t
  have hp := p.isLt
  unfold up1 U1
  by_cases h1 : p.val + 1 < 512
  · rw [dif_pos h1]
    refine .trans ?_ (dif_pos (show (512 * (15 - t.val) + p.val) % 2048 + 1 < 2048 by omega)).symm
    refine dz_tok m c t ⟨p.val + 1, h1⟩ k _ _ ?_
    show 2048 * ((512 * (15 - t.val) + p.val) / 2048) + ((512 * (15 - t.val) + p.val) % 2048 + 1) = 512 * (15 - t.val) + (p.val + 1)
    omega
  · rw [dif_neg h1]
    obtain rfl : p = ⟨511, by decide⟩ := Fin.ext (by show p.val = 511; omega)
    exact car_eq m c t k 0

theorem up2_eq : up2 (dz (iblk m c 0 t) (iblk m c 1 t) (iblk m c 5 t) (iblk m c 10 t) (iblk m c 11 t) (iblk m c 12 t)) (car m c t 0) (car m c t 1) p k = U2 (m ((c : Thread nD τ).loc main_arg0)) (m ((c : Thread nD τ).loc main_arg1)) (m ((c : Thread nD τ).loc main_arg4)) (m ((c : Thread nD τ).loc main_arg5)) (m ((c : Thread nD τ).loc main_arg6)) ⟨(512 * (15 - t.val) + p.val) / 2048, by omega⟩ ⟨(512 * (15 - t.val) + p.val) % 2048, by omega⟩ k := by
  have ht := point_lt t
  have hp := p.isLt
  unfold up2 U2
  by_cases h1 : p.val + 2 < 512
  · rw [dif_pos h1]
    refine .trans ?_ (dif_pos (show (512 * (15 - t.val) + p.val) % 2048 + 2 < 2048 by omega)).symm
    refine dz_tok m c t ⟨p.val + 2, h1⟩ k _ _ ?_
    show 2048 * ((512 * (15 - t.val) + p.val) / 2048) + ((512 * (15 - t.val) + p.val) % 2048 + 2) = 512 * (15 - t.val) + (p.val + 2)
    omega
  rw [dif_neg h1]
  by_cases h2 : p.val = 510
  · rw [if_pos h2]
    obtain rfl : p = ⟨510, by decide⟩ := Fin.ext h2
    refine (car_eq m c t k 0).trans ?_
    by_cases h3 : (512 * (15 - t.val) + 511) % 2048 + 1 < 2048
    · refine (dif_pos h3).trans (.trans ?_ (dif_pos (show (512 * (15 - t.val) + 510) % 2048 + 2 < 2048 by omega)).symm)
      refine congrArg₂ (fun b s => (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k)) (Fin.ext ?_) (Fin.ext ?_)
      · show (512 * (15 - t.val) + 511) / 2048 = (512 * (15 - t.val) + 510) / 2048
        omega
      · show (512 * (15 - t.val) + 511) % 2048 + 1 = (512 * (15 - t.val) + 510) % 2048 + 2
        omega
    · refine (dif_neg h3).trans (.trans ?_ (dif_neg (show ¬(512 * (15 - t.val) + 510) % 2048 + 2 < 2048 by omega)).symm)
      rfl
  · rw [if_neg h2]
    obtain rfl : p = ⟨511, by decide⟩ := Fin.ext (by show p.val = 511; omega)
    exact car_eq m c t k 1

end

theorem v139_at (a0 : FVec Ideal Cert.ReferenceIdeal.S4x2048x1024 .f32) (a1 : FVec Ideal Cert.ReferenceIdeal.S4x2048x5120 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (b : Fin 4) (s : Fin 2048) (k : Fin 1024) : (V139 a0 a1 a4 a5 a6 a7) (ix3 b s k)
    = (V30 a7) (ix3 0 0 k) * (V102 a0 a1 a4 a5 a6) (ix3 b s k) + (V23 a7) (ix3 0 0 k) * U1 a0 a1 a4 a5 a6 b s k + (V17 a7) (ix3 0 0 k) * U2 a0 a1 a4 a5 a6 b s k := by
  pointwise [V139, V134]
  unfold U1 U2
  refine congrArg₂ (· + ·) (congrArg₂ (· + ·) rfl ?_) ?_
  · by_cases h : s.val + 1 < 2048
    · refine (dif_pos (by omega)).trans (congrArg₂ (· * ·) rfl (.trans ?_ (dif_pos h).symm))
      exact congrArg (fun w => (V102 a0 a1 a4 a5 a6) (ix3 b w k)) (Fin.ext (show 2 + s.val - 1 = s.val + 1 by omega))
    · refine (dif_neg (by omega)).trans (.trans (mul_zero _).symm (congrArg₂ (· * ·) rfl (.trans ?_ (dif_neg h).symm)))
      rfl
  · by_cases h : s.val + 2 < 2048
    · refine (dif_pos (by omega)).trans (congrArg₂ (· * ·) rfl (.trans ?_ (dif_pos h).symm))
      exact congrArg (fun w => (V102 a0 a1 a4 a5 a6) (ix3 b w k)) (Fin.ext (show 2 + s.val = s.val + 2 by omega))
    · refine (dif_neg (by omega)).trans (.trans (mul_zero _).symm (congrArg₂ (· * ·) rfl (.trans ?_ (dif_neg h).symm)))
      rfl

theorem dy_eq (c : Dev nD) (t : Fin cfg0.N) (p : Fin 512) (k : Fin 1024) : dy (iblk m c 0 t) (iblk m c 1 t) (iblk m c 5 t) (iblk m c 10 t) (iblk m c 11 t) (iblk m c 12 t) (iblk m c 13 t) (car m c t 0) (car m c t 1) p k = (V139 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (ix3 ⟨(512 * (15 - t.val) + p.val) / 2048, by omega⟩ ⟨(512 * (15 - t.val) + p.val) % 2048, by omega⟩ k) := by
  unfold dy
  rw [v139_at]
  exact congrArg₂ (· + ·) (congrArg₂ (· + ·) (congrArg₂ (· * ·) (blk13_2 m c t k) (dz_eq m c t p k)) (congrArg₂ (· * ·) (blk13_1 m c t k) (up1_eq m c t p k)))
    (congrArg₂ (· * ·) (blk13_0 m c t k) (up2_eq m c t p k))

end Cert.KernelIdeal.Mixer

end
-- ==== Proof.Mixer.lean ====
/-
  The value of the gradient of the last layer's mixer (program `Kernel`): the results are the reference's.
-/
module

public import proofs.«01_k».proof.Proof.MixerTok
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mixer

open Cert.KernelIdeal Cert.KernelIdeal.Gen

variable (m : (ℓ : Loc nD τ sig) → Buf (Elt Ideal) ℓ)

theorem sum_at (x : FVec Ideal Cert.ReferenceIdeal.S4x2048x1024 .f32) (k : Fin 1024) : SUM x (ix1 k) = ∑ b : Fin 4, ∑ s : Fin 2048, x (ix3 b s k) := by
  unfold SUM
  pointwise []
  rw [Norm.sum_01, zero_add, Fin.sum_univ_one, Fin.sum_univ_one]
  pointwise []
  rw [Norm.sum_01, zero_add]

theorem dg_eq0 (c : Dev nD) (t : Fin cfg0.N) (p : Fin 512) (k : Fin 1024) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p ⟨0 + k.val, by omega⟩
    = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ ⟨0 + k.val, by omega⟩) := by
  refine (dg_col0 _ _ _ _ _ _ _ _ _ _ _ _ _ _ _ p k).trans ?_
  pointwise [REF14]
  exact congrArg₂ (· * ·) (dco_eq m c t p k) (blk8 m c t p k)

theorem dg_eq1 (c : Dev nD) (t : Fin cfg0.N) (p : Fin 512) (k : Fin 1024) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p ⟨1024 + k.val, by omega⟩
    = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ ⟨1024 + k.val, by omega⟩) := by
  refine (dg_col1 _ _ _ _ _ _ _ _ _ _ _ _ _ _ _ p k).trans ?_
  pointwise [REF14]
  exact congrArg₂ (· * ·) (dy_eq m c t p k) (blk3 m c t p k)

theorem dg_eq2 (c : Dev nD) (t : Fin cfg0.N) (p : Fin 512) (k : Fin 1024) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p ⟨2048 + k.val, by omega⟩
    = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ ⟨2048 + k.val, by omega⟩) := by
  refine (dg_col2 _ _ _ _ _ _ _ _ _ _ _ _ _ _ _ p k).trans ?_
  pointwise [REF14]
  have h0 : ¬2048 + k.val < 1024 := by omega
  have h1 : ¬2048 + k.val - 1024 < 1024 := by omega
  have h2 : 2048 + k.val - 1024 - 1024 < 1024 := by omega
  have h3 : 2048 + k.val - 1024 - 1024 - 1024 < 1024 := by omega
  have h4 : 2048 + k.val - 1024 - 1024 = k.val := by omega
  simp only [h0, h1, h2, h3, ↓reduceDIte, zero_add, add_zero]
  simp only [h4, Fin.eta]
  exact (congrArg₂ (· * ·) (dy_eq m c t p k) (blk2 m c t p k)).trans (mul_comm _ _)

theorem dg_eq3 (c : Dev nD) (t : Fin cfg0.N) (p : Fin 512) (k : Fin 1024) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p ⟨3072 + k.val, by omega⟩
    = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ ⟨3072 + k.val, by omega⟩) := by
  refine (dg_col3 _ _ _ _ _ _ _ _ _ _ _ _ _ _ _ p k).trans ?_
  pointwise [REF14]
  have h0 : ¬3072 + k.val < 1024 := by omega
  have h1 : ¬3072 + k.val - 1024 < 1024 := by omega
  have h2 : ¬3072 + k.val - 1024 - 1024 < 1024 := by omega
  have h3 : 3072 + k.val - 1024 - 1024 - 1024 < 1024 := by omega
  have h4 : 3072 + k.val - 1024 - 1024 - 1024 = k.val := by omega
  simp only [h0, h1, h2, h3, ↓reduceDIte, zero_add, add_zero]
  simp only [h4, Fin.eta]
  exact dga_eq m c t p k

theorem dg_eq4 (c : Dev nD) (t : Fin cfg0.N) (p : Fin 512) (k : Fin 1024) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p ⟨4096 + k.val, by omega⟩
    = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ ⟨4096 + k.val, by omega⟩) := by
  refine (dg_col4 _ _ _ _ _ _ _ _ _ _ _ _ _ _ _ p k).trans ?_
  pointwise [REF14]
  have h0 : ¬4096 + k.val < 1024 := by omega
  have h1 : ¬4096 + k.val - 1024 < 1024 := by omega
  have h2 : ¬4096 + k.val - 1024 - 1024 < 1024 := by omega
  have h3 : ¬4096 + k.val - 1024 - 1024 - 1024 < 1024 := by omega
  have h4 : 4096 + k.val - 1024 - 1024 - 1024 - 1024 = k.val := by omega
  simp only [h0, h1, h2, h3, ↓reduceDIte, zero_add, add_zero]
  simp only [h4, Fin.eta]
  exact dgc_eq m c t p k

theorem dg_eq (c : Dev nD) (t : Fin cfg0.N) (p : Fin 512) (f : Fin 5120) : dg (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (car m c t 0) (car m c t 1) p f = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨512 * (15 - t.val) + p.val, by omega⟩ f) := by
  have hf := f.isLt
  by_cases h0 : f.val / 1024 = 0
  · have e : f = ⟨0 + (⟨f.val % 1024, by omega⟩ : Fin 1024).val, by show 0 + f.val % 1024 < 5120; omega⟩ := Fin.ext (by show f.val = 0 + f.val % 1024; omega)
    rw [e]
    exact dg_eq0 m c t p ⟨f.val % 1024, by omega⟩
  by_cases h1 : f.val / 1024 = 1
  · have e : f = ⟨1024 + (⟨f.val % 1024, by omega⟩ : Fin 1024).val, by show 1024 + f.val % 1024 < 5120; omega⟩ := Fin.ext (by show f.val = 1024 + f.val % 1024; omega)
    rw [e]
    exact dg_eq1 m c t p ⟨f.val % 1024, by omega⟩
  by_cases h2 : f.val / 1024 = 2
  · have e : f = ⟨2048 + (⟨f.val % 1024, by omega⟩ : Fin 1024).val, by show 2048 + f.val % 1024 < 5120; omega⟩ := Fin.ext (by show f.val = 2048 + f.val % 1024; omega)
    rw [e]
    exact dg_eq2 m c t p ⟨f.val % 1024, by omega⟩
  by_cases h3 : f.val / 1024 = 3
  · have e : f = ⟨3072 + (⟨f.val % 1024, by omega⟩ : Fin 1024).val, by show 3072 + f.val % 1024 < 5120; omega⟩ := Fin.ext (by show f.val = 3072 + f.val % 1024; omega)
    rw [e]
    exact dg_eq3 m c t p ⟨f.val % 1024, by omega⟩
  have e : f = ⟨4096 + (⟨f.val % 1024, by omega⟩ : Fin 1024).val, by show 4096 + f.val % 1024 < 5120; omega⟩ := Fin.ext (by show f.val = 4096 + f.val % 1024; omega)
  rw [e]
  exact dg_eq4 m c t p ⟨f.val % 1024, by omega⟩

theorem da_eq (c : Dev nD) (t : Fin cfg0.N) (i : Fin 1024) (p : Fin 512) : da (iblk m c 0 t) (iblk m c 4 t) (iblk m c 9 t) (iblk m c 11 t) (iblk m c 12 t) i p = (REF15 (m ((c : Thread nD τ).loc main_arg0)) (m ((c : Thread nD τ).loc main_arg1)) (m ((c : Thread nD τ).loc main_arg3)) (m ((c : Thread nD τ).loc main_arg5)) (m ((c : Thread nD τ).loc main_arg6))) (ix2 i ⟨512 * (15 - t.val) + p.val, by omega⟩) := by
  unfold da
  pointwise [REF15]
  exact Finset.sum_congr rfl fun f _ => (congrArg₂ (· * ·) (blk9 m c t i f) (dya_eq m c t p f)).trans (mul_comm _ _)

/-! ## The rows of sums -/

/-- The gated inputs one and two tokens earlier, nothing before the sequence's start. -/
theorem v22_at (a1 : FVec Ideal Cert.ReferenceIdeal.S4x2048x5120 .f32) (b : Fin 4) (s : Fin 2048) (k : Fin 1024) : V22 a1 (ix3 b s k)
    = if h : 1 ≤ s.val then (fun s => V1 a1 (ix3 b s k) * V2 a1 (ix3 b s k)) ⟨s.val - 1, by omega⟩ else 0 := by
  pointwise [V22, V12]
  by_cases h : 1 ≤ s.val
  · refine (dif_neg (by omega)).trans (.trans ?_ (dif_pos h).symm)
    exact congrArg (fun s => V1 a1 (ix3 b s k) * V2 a1 (ix3 b s k)) (Fin.ext (show 1 + s.val - 2 = s.val - 1 by omega))
  · refine (dif_pos (by omega)).trans (.trans ?_ (dif_neg h).symm)
    rfl

theorem v16_at (a1 : FVec Ideal Cert.ReferenceIdeal.S4x2048x5120 .f32) (b : Fin 4) (s : Fin 2048) (k : Fin 1024) : V16 a1 (ix3 b s k)
    = if h : 2 ≤ s.val then (fun s => V1 a1 (ix3 b s k) * V2 a1 (ix3 b s k)) ⟨s.val - 2, by omega⟩ else 0 := by
  pointwise [V16, V12]
  by_cases h : 2 ≤ s.val
  · refine (dif_neg (by omega)).trans (.trans ?_ (dif_pos h).symm)
    rfl
  · refine (dif_pos (by omega)).trans (.trans ?_ (dif_neg h).symm)
    rfl

theorem v29_at (a1 : FVec Ideal Cert.ReferenceIdeal.S4x2048x5120 .f32) (b : Fin 4) (s : Fin 2048) (k : Fin 1024) : V29 a1 (ix3 b s k)
    = V1 a1 (ix3 b s k) * V2 a1 (ix3 b s k) := by
  pointwise [V29, V12]

theorem ref19_0 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 0) (k : Fin 1024) : (REF19 a0 a1 a2 a3 a4 a5 a6 a7 a8) (ix2 i k) = ∑ b : Fin 4, ∑ s : Fin 2048, (V90 a0 a1 a2 a3 a5 a6) (ix3 b s k) := by
  obtain rfl : i = 0 := Fin.ext hi
  pointwise [REF19, DBG, DB, DCW]
  refine (congrArg₂ (· + ·) (dif_neg (fun h => h.1)) (sum_at _ _)).trans (zero_add _)

theorem ref19_1 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 1) (k : Fin 1024) : (REF19 a0 a1 a2 a3 a4 a5 a6 a7 a8) (ix2 i k) = ∑ b : Fin 4, ∑ s : Fin 2048, (V84 a0 a1 a4 a5 a6 a7 a8) (ix3 b s k) := by
  obtain rfl : i = 1 := Fin.ext hi
  pointwise [REF19, DBG, DB, DCW]
  exact sum_at _ _

theorem ref19_2 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 2) (k : Fin 1024) : (REF19 a0 a1 a2 a3 a4 a5 a6 a7 a8) (ix2 i k) = ∑ b : Fin 4, ∑ s : Fin 2048, (V102 a0 a1 a4 a5 a6) (ix3 b s k) := by
  obtain rfl : i = 2 := Fin.ext hi
  pointwise [REF19, DBG, DB, DCW]
  exact sum_at _ _

theorem ref19_3 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 3) (k : Fin 1024) : (REF19 a0 a1 a2 a3 a4 a5 a6 a7 a8) (ix2 i k) = ∑ b : Fin 4, ∑ s : Fin 2048, U2 a0 a1 a4 a5 a6 b s k * (V1 a1 (ix3 b s k) * V2 a1 (ix3 b s k)) := by
  obtain rfl : i = 3 := Fin.ext hi
  pointwise [REF19, DBG, DB, DCW]
  refine (sum_at _ _).trans (Finset.sum_congr rfl fun b _ => ?_)
  refine (Finset.sum_congr rfl fun s _ => congrArg₂ (· * ·) rfl (v16_at a1 b s k)).trans ?_
  exact shift2 (fun s => (V102 a0 a1 a4 a5 a6) (ix3 b s k)) (fun s => V1 a1 (ix3 b s k) * V2 a1 (ix3 b s k))

theorem ref19_4 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 4) (k : Fin 1024) : (REF19 a0 a1 a2 a3 a4 a5 a6 a7 a8) (ix2 i k) = ∑ b : Fin 4, ∑ s : Fin 2048, U1 a0 a1 a4 a5 a6 b s k * (V1 a1 (ix3 b s k) * V2 a1 (ix3 b s k)) := by
  obtain rfl : i = 4 := Fin.ext hi
  pointwise [REF19, DBG, DB, DCW]
  refine (sum_at _ _).trans (Finset.sum_congr rfl fun b _ => ?_)
  refine (Finset.sum_congr rfl fun s _ => congrArg₂ (· * ·) rfl (v22_at a1 b s k)).trans ?_
  exact shift1 (fun s => (V102 a0 a1 a4 a5 a6) (ix3 b s k)) (fun s => V1 a1 (ix3 b s k) * V2 a1 (ix3 b s k))

theorem ref19_5 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : i.val = 5) (k : Fin 1024) : (REF19 a0 a1 a2 a3 a4 a5 a6 a7 a8) (ix2 i k) = ∑ b : Fin 4, ∑ s : Fin 2048, (V102 a0 a1 a4 a5 a6) (ix3 b s k) * (V1 a1 (ix3 b s k) * V2 a1 (ix3 b s k)) := by
  obtain rfl : i = 5 := Fin.ext hi
  pointwise [REF19, DBG, DB, DCW]
  refine (sum_at _ _).trans (Finset.sum_congr rfl fun b _ => Finset.sum_congr rfl fun s _ => ?_)
  exact congrArg₂ (· * ·) rfl (v29_at a1 b s k)

theorem ref19_6 (a0 : FVec Ideal Cert.ReferenceIdeal.S4x2048x1024 .f32) (a1 : FVec Ideal Cert.ReferenceIdeal.S4x2048x5120 .f32) (a2 : FVec Ideal Cert.ReferenceIdeal.S4x2048x1024 .f32) (a3 : FVec Ideal Cert.ReferenceIdeal.S1024x1024 .f32) (a4 : FVec Ideal Cert.ReferenceIdeal.S1024x1024 .f32) (a5 : FVec Ideal Cert.ReferenceIdeal.S1024x1024 .f32) (a6 : FVec Ideal Cert.ReferenceIdeal.S2x2048 .f32) (a7 : FVec Ideal Cert.ReferenceIdeal.S2x3x1024 .f32) (a8 : FVec Ideal Cert.ReferenceIdeal.S2x1024 .f32) (i : Fin 8) (hi : 6 ≤ i.val) (k : Fin 1024) : (REF19 a0 a1 a2 a3 a4 a5 a6 a7 a8) (ix2 i k) = 0 := by
  pointwise [REF19, DBG, DB, DCW]
  exact (dif_neg (by omega)).trans ((dif_neg (by omega)).trans (dif_neg (by omega)))

theorem part_0 (c : Dev nD) (k : Fin 1024) : ∑ t : Fin cfg0.N, part m c t 0 k = ∑ b : Fin 4, ∑ s : Fin 2048, (V90 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (ix3 b s k) := by
  refine (Finset.sum_congr rfl fun t _ => Finset.sum_congr rfl fun p _ => ?_).trans (regroup_rev fun b s => (V90 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (ix3 b s k))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 0 k = _ from (if_neg (by decide)).trans ((if_neg (by decide)).trans ((if_neg (by decide)).trans ((if_neg (by decide)).trans ((if_neg (by decide)).trans (if_pos rfl)))))).trans ?_
  exact dga_eq m c t p k

theorem part_1 (c : Dev nD) (k : Fin 1024) : ∑ t : Fin cfg0.N, part m c t 1 k = ∑ b : Fin 4, ∑ s : Fin 2048, (V84 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  refine (Finset.sum_congr rfl fun t _ => Finset.sum_congr rfl fun p _ => ?_).trans (regroup_rev fun b s => (V84 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 1 k = _ from (if_neg (by decide)).trans ((if_neg (by decide)).trans ((if_neg (by decide)).trans ((if_neg (by decide)).trans (if_pos rfl))))).trans ?_
  exact dgc_eq m c t p k

theorem part_2 (c : Dev nD) (k : Fin 1024) : ∑ t : Fin cfg0.N, part m c t 2 k = ∑ b : Fin 4, ∑ s : Fin 2048, (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k) := by
  refine (Finset.sum_congr rfl fun t _ => Finset.sum_congr rfl fun p _ => ?_).trans (regroup_rev fun b s => (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 2 k = _ from (if_neg (by decide)).trans ((if_neg (by decide)).trans ((if_neg (by decide)).trans (if_pos rfl)))).trans ?_
  exact dz_eq m c t p k

theorem part_3 (c : Dev nD) (k : Fin 1024) : ∑ t : Fin cfg0.N, part m c t 3 k = ∑ b : Fin 4, ∑ s : Fin 2048, U2 (m ((c : Thread nD τ).loc main_arg0)) (m ((c : Thread nD τ).loc main_arg1)) (m ((c : Thread nD τ).loc main_arg4)) (m ((c : Thread nD τ).loc main_arg5)) (m ((c : Thread nD τ).loc main_arg6)) b s k * (V1 (m ((c : Thread nD τ).loc main_arg1)) (ix3 b s k) * V2 (m ((c : Thread nD τ).loc main_arg1)) (ix3 b s k)) := by
  refine (Finset.sum_congr rfl fun t _ => Finset.sum_congr rfl fun p _ => ?_).trans (regroup_rev fun b s => U2 (m ((c : Thread nD τ).loc main_arg0)) (m ((c : Thread nD τ).loc main_arg1)) (m ((c : Thread nD τ).loc main_arg4)) (m ((c : Thread nD τ).loc main_arg5)) (m ((c : Thread nD τ).loc main_arg6)) b s k * (V1 (m ((c : Thread nD τ).loc main_arg1)) (ix3 b s k) * V2 (m ((c : Thread nD τ).loc main_arg1)) (ix3 b s k)))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 3 k = _ from (if_neg (by decide)).trans ((if_neg (by decide)).trans (if_pos rfl))).trans ?_
  exact congrArg₂ (· * ·) (up2_eq m c t p k) (congrArg₂ (· * ·) (blk2 m c t p k) (blk3 m c t p k))

theorem part_4 (c : Dev nD) (k : Fin 1024) : ∑ t : Fin cfg0.N, part m c t 4 k = ∑ b : Fin 4, ∑ s : Fin 2048, U1 (m ((c : Thread nD τ).loc main_arg0)) (m ((c : Thread nD τ).loc main_arg1)) (m ((c : Thread nD τ).loc main_arg4)) (m ((c : Thread nD τ).loc main_arg5)) (m ((c : Thread nD τ).loc main_arg6)) b s k * (V1 (m ((c : Thread nD τ).loc main_arg1)) (ix3 b s k) * V2 (m ((c : Thread nD τ).loc main_arg1)) (ix3 b s k)) := by
  refine (Finset.sum_congr rfl fun t _ => Finset.sum_congr rfl fun p _ => ?_).trans (regroup_rev fun b s => U1 (m ((c : Thread nD τ).loc main_arg0)) (m ((c : Thread nD τ).loc main_arg1)) (m ((c : Thread nD τ).loc main_arg4)) (m ((c : Thread nD τ).loc main_arg5)) (m ((c : Thread nD τ).loc main_arg6)) b s k * (V1 (m ((c : Thread nD τ).loc main_arg1)) (ix3 b s k) * V2 (m ((c : Thread nD τ).loc main_arg1)) (ix3 b s k)))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 4 k = _ from (if_neg (by decide)).trans (if_pos rfl)).trans ?_
  exact congrArg₂ (· * ·) (up1_eq m c t p k) (congrArg₂ (· * ·) (blk2 m c t p k) (blk3 m c t p k))

theorem part_5 (c : Dev nD) (k : Fin 1024) : ∑ t : Fin cfg0.N, part m c t 5 k = ∑ b : Fin 4, ∑ s : Fin 2048, (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k) * (V1 (m ((c : Thread nD τ).loc main_arg1)) (ix3 b s k) * V2 (m ((c : Thread nD τ).loc main_arg1)) (ix3 b s k)) := by
  refine (Finset.sum_congr rfl fun t _ => Finset.sum_congr rfl fun p _ => ?_).trans (regroup_rev fun b s => (V102 (m ((c : Thread nD τ).loc main_arg0)) (m ((c : Thread nD τ).loc main_arg1)) (m ((c : Thread nD τ).loc main_arg4)) (m ((c : Thread nD τ).loc main_arg5)) (m ((c : Thread nD τ).loc main_arg6))) (ix3 b s k) * (V1 (m ((c : Thread nD τ).loc main_arg1)) (ix3 b s k) * V2 (m ((c : Thread nD τ).loc main_arg1)) (ix3 b s k)))
  refine (show rows (iblk m c 0 t) (iblk m c 1 t) (iblk m c 2 t) (iblk m c 3 t) (iblk m c 4 t) (iblk m c 5 t) (iblk m c 6 t) (iblk m c 7 t) (iblk m c 10 t) (iblk m c 11 t) (iblk m c 12 t) (car m c t 0) (car m c t 1) p 5 k = _ from if_pos rfl).trans ?_
  exact congrArg₂ (· * ·) (dz_eq m c t p k) (congrArg₂ (· * ·) (blk2 m c t p k) (blk3 m c t p k))

theorem part_6 (c : Dev nD) (r : ℕ) (h : 6 ≤ r) (k : Fin 1024) : ∑ t : Fin cfg0.N, part m c t r k = 0 := by
  refine Finset.sum_eq_zero fun t _ => Finset.sum_eq_zero fun p _ => ?_
  unfold rows
  rw [if_neg (by omega), if_neg (by omega), if_neg (by omega), if_neg (by omega), if_neg (by omega), if_neg (by omega)]

theorem acc_sum (c : Dev nD) (t : Fin cfg0.N) (h1 : t.val % 16 = 15) (y : S8x1024.Idx) :
    (outsAt0 m c t.val t.isLt).2.2.2.2.2.1 y = ∑ u : Fin cfg0.N, part m c u (y 0).val (y 1) := by
  refine (Pipeline.eq_sum_fin_of_reset_step_apply_last (fun n h y => (outsAt0 m c n h).2.2.2.2.2.1 y) 16 (fun _ => 0)
    (fun t y => part m c t (y 0).val (y 1)) (fun t h y => ?_) (fun t h y => ?_) (le_of_eq N_0) t (by have h16 : cfg0.N = 16 := N_0; omega) y).trans (zero_add _)
  · exact acc_A m c t h y
  · by_cases h4 : t.val % 4 = 0
    · exact acc_C m c t h h4 y
    · exact acc_B m c t h h4 y

theorem acc_total (c : Dev nD) (t : Fin cfg0.N) (h1 : t.val % 16 = 15) (i : Fin 8) (j : Fin 1024) :
    (outsAt0 m c t.val t.isLt).2.2.2.2.2.1 (ix2 i j) = (REF19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 i j) := by
  refine (acc_sum m c t h1 _).trans ?_
  show ∑ u : Fin cfg0.N, part m c u i.val j = _
  have hi := i.isLt
  by_cases h0 : i.val = 0
  · rw [h0]
    exact (part_0 m c j).trans (ref19_0 _ _ _ _ _ _ _ _ _ i h0 j).symm
  by_cases h1 : i.val = 1
  · rw [h1]
    exact (part_1 m c j).trans (ref19_1 _ _ _ _ _ _ _ _ _ i h1 j).symm
  by_cases h2 : i.val = 2
  · rw [h2]
    exact (part_2 m c j).trans (ref19_2 _ _ _ _ _ _ _ _ _ i h2 j).symm
  by_cases h3 : i.val = 3
  · rw [h3]
    exact (part_3 m c j).trans (ref19_3 _ _ _ _ _ _ _ _ _ i h3 j).symm
  by_cases h4 : i.val = 4
  · rw [h4]
    exact (part_4 m c j).trans (ref19_4 _ _ _ _ _ _ _ _ _ i h4 j).symm
  by_cases h5 : i.val = 5
  · rw [h5]
    exact (part_5 m c j).trans (ref19_5 _ _ _ _ _ _ _ _ _ i h5 j).symm
  exact (part_6 m c i.val (by omega) j).trans (ref19_6 _ _ _ _ _ _ _ _ _ i (by omega) j).symm

theorem final_14 (c : Dev nD) : (dats m 0 c).arrAt 14 (cfgs 0).N = (REF14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 14 _ (by decide +kernel) fun t hf y => ?_
  have ht := point_lt t
  blk_simp
  rw [after0_14, out14]
  idx_vars y
  have e : ((View.whole main_v57_0).slice (win0_14.rect t)).emb (ix2 y0 y1) = (ix2 ⟨512 * (15 - t.val) + y0.val, by omega⟩ y1 : S8192x5120.Idx) := by
    blk_ext [idx t]
  rw [e]
  exact dg_eq m c t y0 y1

theorem final_15 (c : Dev nD) : (dats m 0 c).arrAt 15 (cfgs 0).N = (REF15 (m ((c : Thread nD τ).loc main_arg0)) (m ((c : Thread nD τ).loc main_arg1)) (m ((c : Thread nD τ).loc main_arg3)) (m ((c : Thread nD τ).loc main_arg5)) (m ((c : Thread nD τ).loc main_arg6))) := by
  refine (dats m 0 c).arrAt_eq_of_covers 15 _ (by decide +kernel) fun t hf y => ?_
  have ht := point_lt t
  blk_simp
  rw [after0_15, out15]
  idx_vars y
  have e : ((View.whole main_v57_1).slice (win0_15.rect t)).emb (ix2 y0 y1) = (ix2 y0 ⟨512 * (15 - t.val) + y1.val, by omega⟩ : S1024x8192.Idx) := by
    blk_ext [idx t]
  rw [e]
  exact da_eq m c t y0 y1

theorem final_16 (c : Dev nD) : (dats m 0 c).arrAt 16 (cfgs 0).N = (REF16 (m ((c : Thread nD τ).loc main_arg0)) (m ((c : Thread nD τ).loc main_arg1)) (m ((c : Thread nD τ).loc main_arg5)) (m ((c : Thread nD τ).loc main_arg6))) := by
  refine (dats m 0 c).arrAt_eq_of_covers 16 _ (by decide +kernel) fun t hf y => ?_
  have ht := point_lt t
  blk_simp
  rw [after0_16, out16]
  idx_vars y
  have e : ((View.whole main_v57_2).slice (win0_16.rect t)).emb (ix2 y0 y1) = (ix2 ⟨512 * (15 - t.val) + y0.val, by omega⟩ y1 : S8192x1024.Idx) := by
    blk_ext [idx t]
  rw [e]
  pointwise [REF16]
  exact dya_eq m c t y0 y1

theorem final_17 (c : Dev nD) : (dats m 0 c).arrAt 17 (cfgs 0).N = (REF17 (m ((c : Thread nD τ).loc main_arg0)) (m ((c : Thread nD τ).loc main_arg1)) (m ((c : Thread nD τ).loc main_arg5)) (m ((c : Thread nD τ).loc main_arg6))) := by
  refine (dats m 0 c).arrAt_eq_of_covers 17 _ (by decide +kernel) fun t hf y => ?_
  have ht := point_lt t
  blk_simp
  rw [after0_17, out17]
  idx_vars y
  have e : ((View.whole main_v57_3).slice (win0_17.rect t)).emb (ix2 y0 y1) = (ix2 ⟨512 * (15 - t.val) + y0.val, by omega⟩ y1 : S8192x1024.Idx) := by
    blk_ext [idx t]
  rw [e]
  pointwise [REF17]
  exact dyc_eq m c t y0 y1

theorem final_18 (c : Dev nD) : (dats m 0 c).arrAt 18 (cfgs 0).N = (REF18 (m ((c : Thread nD τ).loc main_arg0))) := by
  refine (dats m 0 c).arrAt_eq_of_covers 18 _ (by decide +kernel) fun t hf y => ?_
  have ht := point_lt t
  blk_simp
  rw [after0_18, out18]
  idx_vars y
  have e : ((View.whole main_v57_4).slice (win0_18.rect t)).emb (ix2 y0 y1) = (ix2 ⟨512 * (15 - t.val) + y0.val, by omega⟩ y1 : S8192x1024.Idx) := by
    blk_ext [idx t]
  rw [e]
  pointwise [REF18]
  exact blk0 m c t y0 y1

theorem final_19 (c : Dev nD) : (dats m 0 c).arrAt 19 (cfgs 0).N = (REF19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 19 _ (by decide +kernel) fun t hf y => ?_
  have h15 : t.val % 16 = 15 := (flush0_19 t).mp hf
  have ht := point_lt t
  blk_simp
  rw [after0_19]
  idx_vars y
  have e : ((View.whole main_v57_5).slice (win0_19.rect t)).emb (ix2 y0 y1) = (ix2 y0 y1 : S8x1024.Idx) := by
    blk_ext [idx t]
  rw [e]
  exact acc_total m c t h15 y0 y1

end Cert.KernelIdeal.Mixer

end
-- ==== Proof.MlpBlock.lean ====
/-
  The value of the backward call of the last layer's multilayer perceptron (program `Kernel2`): the gradients of the
  squared-ReLU activations, of the block's input and of the normalisation's gains, and the copy of the cotangent.
-/
module

public import proofs.«01_k».proof.Proof.Gen.Kernel2Ideal.Value
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![1, 0, 0] ∧ win0_4.index t = ![0, 0, 0] ∧ win0_5.index t = ![1, 0, 0] ∧ win0_6.index t = ![t.val, 0]
    ∧ win0_7.index t = ![t.val, 0] ∧ win0_8.index t = ![t.val, 0] ∧ win0_9.index t = ![0, 0] :=
  (by decide +kernel : ∀ t : Fin grid0.N, _)

section
variable (x0 x1 : Vec Ideal S512x1024 .f32) (x2 : Vec Ideal S512x4096 .bf16) (x3 : Vec Ideal S1x1x1024 .f32)
  (x4 x5 : Vec Ideal S1x4096x1024 .bf16)

/-- The activations' gradient at a token and a feature. -/
def da (p : Fin 512) (f : Fin 4096) : EReal :=
  (∑ k : Fin 1024, x0 (ix2 p k) * x5 (ix3 0 f k)) * (Ideal.ofBits .f32 0x40000000#32 * max (x2 (ix2 p f)) 0)

/-- The normalised input's gradient. -/
def dh (p : Fin 512) (j : Fin 1024) : EReal := ∑ f : Fin 4096, da x0 x2 x5 p f * x4 (ix3 0 f j)

/-- The input's gradient. -/
def dx (p : Fin 512) (j : Fin 1024) : EReal :=
  x0 (ix2 p j) + Norm.grad (fun k => dh x0 x2 x4 x5 p k * x3 (ix3 0 0 k)) (fun k => x1 (ix2 p k)) j

/-- What one token adds to the gains' gradient. -/
def gp (p : Fin 512) (j : Fin 1024) : EReal :=
  dh x0 x2 x4 x5 p j * (x1 (ix2 p j) * Norm.rinv (fun k => x1 (ix2 p k)))

theorem da_lo0  (i) (y : (⟨2, ![256, 1024]⟩ : Shape).Idx) : (k0_pay7 (View.ld x0 (Rect.unit (s := S512x1024) ![0, 0] ![256, 1024] inb_S512x1024_S256x1024_0_0)) (View.ld x5 (Rect.unit (s := S1x4096x1024) ![0, 0, 0] ![1, 1024, 1024] inb_S1x4096x1024_S1x1024x1024_0_0_0)) (View.ld x2 (Rect.unit (s := S512x4096) ![0, 0] ![256, 1024] inb_S512x4096_S256x1024_0_0)) : FVec Ideal S256x1024 .bf16) y
    = (fun j : S512x4096.Idx => da x0 x2 x5 (j 0) (j 1)) ((Rect.unit (s := S512x4096) ![0, 0] ![256, 1024] i).emb y) := by
  obtain ⟨z0, z1, rfl⟩ : ∃ z0 z1, y = ix2 z0 z1 := ⟨y 0, y 1, eq_ix2 y⟩
  have e : (Rect.unit (s := S512x4096) ![0, 0] ![256, 1024] i).emb (ix2 z0 z1) = (ix2 ⟨z0.val, by omega⟩ ⟨0 + z1.val, by omega⟩ : S512x4096.Idx) := by
    blk_ext
  rw [e]
  pointwise [k0_pay7, k0_pay10, k0_pay9, k0_pay11, k0_pay14, k0_pay13, k0_pay6, k0_pay5]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_lo1  (i) (y : (⟨2, ![256, 1024]⟩ : Shape).Idx) : (k0_pay10 (k0_pay9 (View.ld x0 (Rect.unit (s := S512x1024) ![0, 0] ![256, 1024] inb_S512x1024_S256x1024_0_0)) (View.ld x5 (Rect.unit (s := S1x4096x1024) ![0, 1024, 0] ![1, 1024, 1024] inb_S1x4096x1024_S1x1024x1024_0_1024_0))) (View.ld x2 (Rect.unit (s := S512x4096) ![0, 1024] ![256, 1024] inb_S512x4096_S256x1024_0_1024)) : FVec Ideal S256x1024 .bf16) y
    = (fun j : S512x4096.Idx => da x0 x2 x5 (j 0) (j 1)) ((Rect.unit (s := S512x4096) ![0, 1024] ![256, 1024] i).emb y) := by
  obtain ⟨z0, z1, rfl⟩ : ∃ z0 z1, y = ix2 z0 z1 := ⟨y 0, y 1, eq_ix2 y⟩
  have e : (Rect.unit (s := S512x4096) ![0, 1024] ![256, 1024] i).emb (ix2 z0 z1) = (ix2 ⟨z0.val, by omega⟩ ⟨1024 + z1.val, by omega⟩ : S512x4096.Idx) := by
    blk_ext
  rw [e]
  pointwise [k0_pay7, k0_pay10, k0_pay9, k0_pay11, k0_pay14, k0_pay13, k0_pay6, k0_pay5]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_lo2  (i) (y : (⟨2, ![256, 1024]⟩ : Shape).Idx) : (k0_pay11 (k0_pay6 (View.ld x0 (Rect.unit (s := S512x1024) ![0, 0] ![256, 1024] inb_S512x1024_S256x1024_0_0))) (View.ld x5 (Rect.unit (s := S1x4096x1024) ![0, 2048, 0] ![1, 1024, 1024] inb_S1x4096x1024_S1x1024x1024_0_2048_0)) (View.ld x2 (Rect.unit (s := S512x4096) ![0, 2048] ![256, 1024] inb_S512x4096_S256x1024_0_2048)) : FVec Ideal S256x1024 .bf16) y
    = (fun j : S512x4096.Idx => da x0 x2 x5 (j 0) (j 1)) ((Rect.unit (s := S512x4096) ![0, 2048] ![256, 1024] i).emb y) := by
  obtain ⟨z0, z1, rfl⟩ : ∃ z0 z1, y = ix2 z0 z1 := ⟨y 0, y 1, eq_ix2 y⟩
  have e : (Rect.unit (s := S512x4096) ![0, 2048] ![256, 1024] i).emb (ix2 z0 z1) = (ix2 ⟨z0.val, by omega⟩ ⟨2048 + z1.val, by omega⟩ : S512x4096.Idx) := by
    blk_ext
  rw [e]
  pointwise [k0_pay7, k0_pay10, k0_pay9, k0_pay11, k0_pay14, k0_pay13, k0_pay6, k0_pay5]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_lo3  (i) (y : (⟨2, ![256, 1024]⟩ : Shape).Idx) : (k0_pay14 (k0_pay6 (View.ld x0 (Rect.unit (s := S512x1024) ![0, 0] ![256, 1024] inb_S512x1024_S256x1024_0_0))) (k0_pay13 (View.ld x5 (Rect.unit (s := S1x4096x1024) ![0, 3072, 0] ![1, 1024, 1024] inb_S1x4096x1024_S1x1024x1024_0_3072_0))) (constant S256x1024 .f32 0x00000000#32) (View.ld x2 (Rect.unit (s := S512x4096) ![0, 3072] ![256, 1024] inb_S512x4096_S256x1024_0_3072)) : FVec Ideal S256x1024 .bf16) y
    = (fun j : S512x4096.Idx => da x0 x2 x5 (j 0) (j 1)) ((Rect.unit (s := S512x4096) ![0, 3072] ![256, 1024] i).emb y) := by
  obtain ⟨z0, z1, rfl⟩ : ∃ z0 z1, y = ix2 z0 z1 := ⟨y 0, y 1, eq_ix2 y⟩
  have e : (Rect.unit (s := S512x4096) ![0, 3072] ![256, 1024] i).emb (ix2 z0 z1) = (ix2 ⟨z0.val, by omega⟩ ⟨3072 + z1.val, by omega⟩ : S512x4096.Idx) := by
    blk_ext
  rw [e]
  pointwise [k0_pay7, k0_pay10, k0_pay9, k0_pay11, k0_pay14, k0_pay13, k0_pay6, k0_pay5]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem dh_lo  (z0 : Fin 256) (j : Fin 1024) : (k0_pay15 (k0_pay6 (View.ld x0 (Rect.unit (s := S512x1024) ![0, 0] ![256, 1024] inb_S512x1024_S256x1024_0_0))) (k0_pay12 (k0_pay6 (View.ld x0 (Rect.unit (s := S512x1024) ![0, 0] ![256, 1024] inb_S512x1024_S256x1024_0_0))) (k0_pay8 (View.ld x0 (Rect.unit (s := S512x1024) ![0, 0] ![256, 1024] inb_S512x1024_S256x1024_0_0)) (View.ld x5 (Rect.unit (s := S1x4096x1024) ![0, 0, 0] ![1, 1024, 1024] inb_S1x4096x1024_S1x1024x1024_0_0_0)) (View.ld x2 (Rect.unit (s := S512x4096) ![0, 0] ![256, 1024] inb_S512x4096_S256x1024_0_0)) (View.ld x4 (Rect.unit (s := S1x4096x1024) ![0, 0, 0] ![1, 1024, 1024] inb_S1x4096x1024_S1x1024x1024_0_0_0))) (k0_pay9 (View.ld x0 (Rect.unit (s := S512x1024) ![0, 0] ![256, 1024] inb_S512x1024_S256x1024_0_0)) (View.ld x5 (Rect.unit (s := S1x4096x1024) ![0, 1024, 0] ![1, 1024, 1024] inb_S1x4096x1024_S1x1024x1024_0_1024_0))) (View.ld x2 (Rect.unit (s := S512x4096) ![0, 1024] ![256, 1024] inb_S512x4096_S256x1024_0_1024)) (View.ld x4 (Rect.unit (s := S1x4096x1024) ![0, 1024, 0] ![1, 1024, 1024] inb_S1x4096x1024_S1x1024x1024_0_1024_0)) (View.ld x5 (Rect.unit (s := S1x4096x1024) ![0, 2048, 0] ![1, 1024, 1024] inb_S1x4096x1024_S1x1024x1024_0_2048_0)) (View.ld x2 (Rect.unit (s := S512x4096) ![0, 2048] ![256, 1024] inb_S512x4096_S256x1024_0_2048)) (View.ld x4 (Rect.unit (s := S1x4096x1024) ![0, 2048, 0] ![1, 1024, 1024] inb_S1x4096x1024_S1x1024x1024_0_2048_0))) (k0_pay13 (View.ld x5 (Rect.unit (s := S1x4096x1024) ![0, 3072, 0] ![1, 1024, 1024] inb_S1x4096x1024_S1x1024x1024_0_3072_0))) (constant S256x1024 .f32 0x00000000#32) (View.ld x2 (Rect.unit (s := S512x4096) ![0, 3072] ![256, 1024] inb_S512x4096_S256x1024_0_3072)) (View.ld x4 (Rect.unit (s := S1x4096x1024) ![0, 3072, 0] ![1, 1024, 1024] inb_S1x4096x1024_S1x1024x1024_0_3072_0)) : FVec Ideal S256x1024 .f32) (ix2 z0 j)
    = dh x0 x2 x4 x5 ⟨z0.val, by omega⟩ j := by
  unfold dh
  rw [Fin.sum_univ_tiles 4 1024 rfl]
  pointwise [k0_pay15, k0_pay12, k0_pay8, k0_pay7, k0_pay10, k0_pay9, k0_pay11, k0_pay14, k0_pay13, k0_pay6, k0_pay5]
  rw [Fin.sum_univ_four]
  unfold da
  refine congrArg₂ (· + ·) (congrArg₂ (· + ·) (congrArg₂ (· + ·) ?_ ?_) ?_) ?_ <;>
    exact Finset.sum_congr rfl fun f _ => congrArg₂ (· * ·) (congrArg₂ (· * ·)
      (Finset.sum_congr rfl fun k _ => congrArg₂ (· * ·) (congrArg x0 (by blk_ext)) (congrArg x5 (by blk_ext)))
      (congrArg (fun z => _ * max z 0) (congrArg x2 (by blk_ext)))) (congrArg x4 (by blk_ext))

theorem dx_lo (i) (y : (⟨2, ![256, 1024]⟩ : Shape).Idx) : (k0_pay20 (k0_pay5 (View.ld x0 (Rect.unit (s := S512x1024) ![0, 0] ![256, 1024] inb_S512x1024_S256x1024_0_0))) (k0_pay17 (View.ld x1 (Rect.unit (s := S512x1024) ![0, 0] ![256, 1024] inb_S512x1024_S256x1024_0_0))) (k0_pay19 (k0_pay6 (View.ld x0 (Rect.unit (s := S512x1024) ![0, 0] ![256, 1024] inb_S512x1024_S256x1024_0_0))) (k0_pay12 (k0_pay6 (View.ld x0 (Rect.unit (s := S512x1024) ![0, 0] ![256, 1024] inb_S512x1024_S256x1024_0_0))) (k0_pay8 (View.ld x0 (Rect.unit (s := S512x1024) ![0, 0] ![256, 1024] inb_S512x1024_S256x1024_0_0)) (View.ld x5 (Rect.unit (s := S1x4096x1024) ![0, 0, 0] ![1, 1024, 1024] inb_S1x4096x1024_S1x1024x1024_0_0_0)) (View.ld x2 (Rect.unit (s := S512x4096) ![0, 0] ![256, 1024] inb_S512x4096_S256x1024_0_0)) (View.ld x4 (Rect.unit (s := S1x4096x1024) ![0, 0, 0] ![1, 1024, 1024] inb_S1x4096x1024_S1x1024x1024_0_0_0))) (k0_pay9 (View.ld x0 (Rect.unit (s := S512x1024) ![0, 0] ![256, 1024] inb_S512x1024_S256x1024_0_0)) (View.ld x5 (Rect.unit (s := S1x4096x1024) ![0, 1024, 0] ![1, 1024, 1024] inb_S1x4096x1024_S1x1024x1024_0_1024_0))) (View.ld x2 (Rect.unit (s := S512x4096) ![0, 1024] ![256, 1024] inb_S512x4096_S256x1024_0_1024)) (View.ld x4 (Rect.unit (s := S1x4096x1024) ![0, 1024, 0] ![1, 1024, 1024] inb_S1x4096x1024_S1x1024x1024_0_1024_0)) (View.ld x5 (Rect.unit (s := S1x4096x1024) ![0, 2048, 0] ![1, 1024, 1024] inb_S1x4096x1024_S1x1024x1024_0_2048_0)) (View.ld x2 (Rect.unit (s := S512x4096) ![0, 2048] ![256, 1024] inb_S512x4096_S256x1024_0_2048)) (View.ld x4 (Rect.unit (s := S1x4096x1024) ![0, 2048, 0] ![1, 1024, 1024] inb_S1x4096x1024_S1x1024x1024_0_2048_0))) (k0_pay13 (View.ld x5 (Rect.unit (s := S1x4096x1024) ![0, 3072, 0] ![1, 1024, 1024] inb_S1x4096x1024_S1x1024x1024_0_3072_0))) (constant S256x1024 .f32 0x00000000#32) (View.ld x2 (Rect.unit (s := S512x4096) ![0, 3072] ![256, 1024] inb_S512x4096_S256x1024_0_3072)) (View.ld x4 (Rect.unit (s := S1x4096x1024) ![0, 3072, 0] ![1, 1024, 1024] inb_S1x4096x1024_S1x1024x1024_0_3072_0)) (View.ld x1 (Rect.unit (s := S512x1024) ![0, 0] ![256, 1024] inb_S512x1024_S256x1024_0_0)) x3) : FVec Ideal S256x1024 .f32) y
    = (fun j : S512x1024.Idx => dx x0 x1 x2 x3 x4 x5 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  have hd := dh_lo x0 x2 x4 x5 z0
  pointwise [k0_pay20, k0_pay19, k0_pay18, k0_pay17, k0_pay16, k0_pay5]
  simp only [hd]
  rfl

theorem gp_lo (acc : Vec Ideal S1x1024 .f32) (j : Fin 1024) : (k0_pay21 (k0_pay15 (k0_pay6 (View.ld x0 (Rect.unit (s := S512x1024) ![0, 0] ![256, 1024] inb_S512x1024_S256x1024_0_0))) (k0_pay12 (k0_pay6 (View.ld x0 (Rect.unit (s := S512x1024) ![0, 0] ![256, 1024] inb_S512x1024_S256x1024_0_0))) (k0_pay8 (View.ld x0 (Rect.unit (s := S512x1024) ![0, 0] ![256, 1024] inb_S512x1024_S256x1024_0_0)) (View.ld x5 (Rect.unit (s := S1x4096x1024) ![0, 0, 0] ![1, 1024, 1024] inb_S1x4096x1024_S1x1024x1024_0_0_0)) (View.ld x2 (Rect.unit (s := S512x4096) ![0, 0] ![256, 1024] inb_S512x4096_S256x1024_0_0)) (View.ld x4 (Rect.unit (s := S1x4096x1024) ![0, 0, 0] ![1, 1024, 1024] inb_S1x4096x1024_S1x1024x1024_0_0_0))) (k0_pay9 (View.ld x0 (Rect.unit (s := S512x1024) ![0, 0] ![256, 1024] inb_S512x1024_S256x1024_0_0)) (View.ld x5 (Rect.unit (s := S1x4096x1024) ![0, 1024, 0] ![1, 1024, 1024] inb_S1x4096x1024_S1x1024x1024_0_1024_0))) (View.ld x2 (Rect.unit (s := S512x4096) ![0, 1024] ![256, 1024] inb_S512x4096_S256x1024_0_1024)) (View.ld x4 (Rect.unit (s := S1x4096x1024) ![0, 1024, 0] ![1, 1024, 1024] inb_S1x4096x1024_S1x1024x1024_0_1024_0)) (View.ld x5 (Rect.unit (s := S1x4096x1024) ![0, 2048, 0] ![1, 1024, 1024] inb_S1x4096x1024_S1x1024x1024_0_2048_0)) (View.ld x2 (Rect.unit (s := S512x4096) ![0, 2048] ![256, 1024] inb_S512x4096_S256x1024_0_2048)) (View.ld x4 (Rect.unit (s := S1x4096x1024) ![0, 2048, 0] ![1, 1024, 1024] inb_S1x4096x1024_S1x1024x1024_0_2048_0))) (k0_pay13 (View.ld x5 (Rect.unit (s := S1x4096x1024) ![0, 3072, 0] ![1, 1024, 1024] inb_S1x4096x1024_S1x1024x1024_0_3072_0))) (constant S256x1024 .f32 0x00000000#32) (View.ld x2 (Rect.unit (s := S512x4096) ![0, 3072] ![256, 1024] inb_S512x4096_S256x1024_0_3072)) (View.ld x4 (Rect.unit (s := S1x4096x1024) ![0, 3072, 0] ![1, 1024, 1024] inb_S1x4096x1024_S1x1024x1024_0_3072_0))) (k0_pay18 (View.ld x1 (Rect.unit (s := S512x1024) ![0, 0] ![256, 1024] inb_S512x1024_S256x1024_0_0))) acc : FVec Ideal S1x1024 .f32) (ix2 0 j)
    = acc (ix2 0 j) + ∑ z : Fin 256, gp x0 x1 x2 x4 x5 ⟨z.val, by omega⟩ j := by
  have hd := fun z0 => dh_lo x0 x2 x4 x5 z0 j
  pointwise [k0_pay21, k0_pay18, k0_pay17, k0_pay16]
  simp only [hd]
  rfl

theorem db_lo (i) (y : (⟨2, ![256, 1024]⟩ : Shape).Idx) : (k0_pay6 (View.ld x0 (Rect.unit (s := S512x1024) ![0, 0] ![256, 1024] inb_S512x1024_S256x1024_0_0)) : FVec Ideal S256x1024 .bf16) y
    = x0 ((Rect.unit (s := S512x1024) ![0, 0] ![256, 1024] i).emb y) := by
  obtain ⟨z0, z1, rfl⟩ : ∃ z0 z1, y = ix2 z0 z1 := ⟨y 0, y 1, eq_ix2 y⟩
  pointwise [k0_pay6, k0_pay5]
  exact congrArg x0 (by blk_ext)

theorem da_hi0  (i) (y : (⟨2, ![256, 1024]⟩ : Shape).Idx) : (k0_pay25 (View.ld x0 (Rect.unit (s := S512x1024) ![256, 0] ![256, 1024] inb_S512x1024_S256x1024_256_0)) (View.ld x5 (Rect.unit (s := S1x4096x1024) ![0, 0, 0] ![1, 1024, 1024] inb_S1x4096x1024_S1x1024x1024_0_0_0)) (View.ld x2 (Rect.unit (s := S512x4096) ![256, 0] ![256, 1024] inb_S512x4096_S256x1024_256_0)) : FVec Ideal S256x1024 .bf16) y
    = (fun j : S512x4096.Idx => da x0 x2 x5 (j 0) (j 1)) ((Rect.unit (s := S512x4096) ![256, 0] ![256, 1024] i).emb y) := by
  obtain ⟨z0, z1, rfl⟩ : ∃ z0 z1, y = ix2 z0 z1 := ⟨y 0, y 1, eq_ix2 y⟩
  have e : (Rect.unit (s := S512x4096) ![256, 0] ![256, 1024] i).emb (ix2 z0 z1) = (ix2 ⟨256 + z0.val, by omega⟩ ⟨0 + z1.val, by omega⟩ : S512x4096.Idx) := by
    blk_ext
  rw [e]
  pointwise [k0_pay25, k0_pay27, k0_pay29, k0_pay30, k0_pay23, k0_pay22]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_hi1  (i) (y : (⟨2, ![256, 1024]⟩ : Shape).Idx) : (k0_pay27 (k0_pay23 (View.ld x0 (Rect.unit (s := S512x1024) ![256, 0] ![256, 1024] inb_S512x1024_S256x1024_256_0))) (View.ld x5 (Rect.unit (s := S1x4096x1024) ![0, 1024, 0] ![1, 1024, 1024] inb_S1x4096x1024_S1x1024x1024_0_1024_0)) (View.ld x2 (Rect.unit (s := S512x4096) ![256, 1024] ![256, 1024] inb_S512x4096_S256x1024_256_1024)) : FVec Ideal S256x1024 .bf16) y
    = (fun j : S512x4096.Idx => da x0 x2 x5 (j 0) (j 1)) ((Rect.unit (s := S512x4096) ![256, 1024] ![256, 1024] i).emb y) := by
  obtain ⟨z0, z1, rfl⟩ : ∃ z0 z1, y = ix2 z0 z1 := ⟨y 0, y 1, eq_ix2 y⟩
  have e : (Rect.unit (s := S512x4096) ![256, 1024] ![256, 1024] i).emb (ix2 z0 z1) = (ix2 ⟨256 + z0.val, by omega⟩ ⟨1024 + z1.val, by omega⟩ : S512x4096.Idx) := by
    blk_ext
  rw [e]
  pointwise [k0_pay25, k0_pay27, k0_pay29, k0_pay30, k0_pay23, k0_pay22]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_hi2  (i) (y : (⟨2, ![256, 1024]⟩ : Shape).Idx) : (k0_pay29 (k0_pay23 (View.ld x0 (Rect.unit (s := S512x1024) ![256, 0] ![256, 1024] inb_S512x1024_S256x1024_256_0))) (View.ld x5 (Rect.unit (s := S1x4096x1024) ![0, 2048, 0] ![1, 1024, 1024] inb_S1x4096x1024_S1x1024x1024_0_2048_0)) (View.ld x2 (Rect.unit (s := S512x4096) ![256, 2048] ![256, 1024] inb_S512x4096_S256x1024_256_2048)) : FVec Ideal S256x1024 .bf16) y
    = (fun j : S512x4096.Idx => da x0 x2 x5 (j 0) (j 1)) ((Rect.unit (s := S512x4096) ![256, 2048] ![256, 1024] i).emb y) := by
  obtain ⟨z0, z1, rfl⟩ : ∃ z0 z1, y = ix2 z0 z1 := ⟨y 0, y 1, eq_ix2 y⟩
  have e : (Rect.unit (s := S512x4096) ![256, 2048] ![256, 1024] i).emb (ix2 z0 z1) = (ix2 ⟨256 + z0.val, by omega⟩ ⟨2048 + z1.val, by omega⟩ : S512x4096.Idx) := by
    blk_ext
  rw [e]
  pointwise [k0_pay25, k0_pay27, k0_pay29, k0_pay30, k0_pay23, k0_pay22]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem da_hi3  (i) (y : (⟨2, ![256, 1024]⟩ : Shape).Idx) : (k0_pay30 (k0_pay23 (View.ld x0 (Rect.unit (s := S512x1024) ![256, 0] ![256, 1024] inb_S512x1024_S256x1024_256_0))) (View.ld x5 (Rect.unit (s := S1x4096x1024) ![0, 3072, 0] ![1, 1024, 1024] inb_S1x4096x1024_S1x1024x1024_0_3072_0)) (View.ld x2 (Rect.unit (s := S512x4096) ![256, 3072] ![256, 1024] inb_S512x4096_S256x1024_256_3072)) : FVec Ideal S256x1024 .bf16) y
    = (fun j : S512x4096.Idx => da x0 x2 x5 (j 0) (j 1)) ((Rect.unit (s := S512x4096) ![256, 3072] ![256, 1024] i).emb y) := by
  obtain ⟨z0, z1, rfl⟩ : ∃ z0 z1, y = ix2 z0 z1 := ⟨y 0, y 1, eq_ix2 y⟩
  have e : (Rect.unit (s := S512x4096) ![256, 3072] ![256, 1024] i).emb (ix2 z0 z1) = (ix2 ⟨256 + z0.val, by omega⟩ ⟨3072 + z1.val, by omega⟩ : S512x4096.Idx) := by
    blk_ext
  rw [e]
  pointwise [k0_pay25, k0_pay27, k0_pay29, k0_pay30, k0_pay23, k0_pay22]
  unfold da
  refine congrArg₂ (· * ·) (Finset.sum_congr rfl fun k _ => congrArg₂ (· * ·) (congrArg x0 (by blk_ext)) (congrArg x5 (by blk_ext))) ?_
  exact congrArg (fun z => _ * max z 0) (congrArg x2 (by blk_ext))

theorem dh_hi  (z0 : Fin 256) (j : Fin 1024) : (k0_pay31 (k0_pay23 (View.ld x0 (Rect.unit (s := S512x1024) ![256, 0] ![256, 1024] inb_S512x1024_S256x1024_256_0))) (k0_pay28 (k0_pay23 (View.ld x0 (Rect.unit (s := S512x1024) ![256, 0] ![256, 1024] inb_S512x1024_S256x1024_256_0))) k0_pay24 (k0_pay25 (View.ld x0 (Rect.unit (s := S512x1024) ![256, 0] ![256, 1024] inb_S512x1024_S256x1024_256_0)) (View.ld x5 (Rect.unit (s := S1x4096x1024) ![0, 0, 0] ![1, 1024, 1024] inb_S1x4096x1024_S1x1024x1024_0_0_0)) (View.ld x2 (Rect.unit (s := S512x4096) ![256, 0] ![256, 1024] inb_S512x4096_S256x1024_256_0))) (k0_pay26 (View.ld x4 (Rect.unit (s := S1x4096x1024) ![0, 0, 0] ![1, 1024, 1024] inb_S1x4096x1024_S1x1024x1024_0_0_0))) (View.ld x5 (Rect.unit (s := S1x4096x1024) ![0, 1024, 0] ![1, 1024, 1024] inb_S1x4096x1024_S1x1024x1024_0_1024_0)) (View.ld x2 (Rect.unit (s := S512x4096) ![256, 1024] ![256, 1024] inb_S512x4096_S256x1024_256_1024)) (View.ld x4 (Rect.unit (s := S1x4096x1024) ![0, 1024, 0] ![1, 1024, 1024] inb_S1x4096x1024_S1x1024x1024_0_1024_0))) (k0_pay29 (k0_pay23 (View.ld x0 (Rect.unit (s := S512x1024) ![256, 0] ![256, 1024] inb_S512x1024_S256x1024_256_0))) (View.ld x5 (Rect.unit (s := S1x4096x1024) ![0, 2048, 0] ![1, 1024, 1024] inb_S1x4096x1024_S1x1024x1024_0_2048_0)) (View.ld x2 (Rect.unit (s := S512x4096) ![256, 2048] ![256, 1024] inb_S512x4096_S256x1024_256_2048))) (View.ld x4 (Rect.unit (s := S1x4096x1024) ![0, 2048, 0] ![1, 1024, 1024] inb_S1x4096x1024_S1x1024x1024_0_2048_0)) (View.ld x5 (Rect.unit (s := S1x4096x1024) ![0, 3072, 0] ![1, 1024, 1024] inb_S1x4096x1024_S1x1024x1024_0_3072_0)) (View.ld x2 (Rect.unit (s := S512x4096) ![256, 3072] ![256, 1024] inb_S512x4096_S256x1024_256_3072)) (View.ld x4 (Rect.unit (s := S1x4096x1024) ![0, 3072, 0] ![1, 1024, 1024] inb_S1x4096x1024_S1x1024x1024_0_3072_0)) : FVec Ideal S256x1024 .f32) (ix2 z0 j)
    = dh x0 x2 x4 x5 ⟨256 + z0.val, by omega⟩ j := by
  unfold dh
  rw [Fin.sum_univ_tiles 4 1024 rfl]
  pointwise [k0_pay31, k0_pay28, k0_pay24, k0_pay26, k0_pay25, k0_pay27, k0_pay29, k0_pay30, k0_pay23, k0_pay22]
  rw [Fin.sum_univ_four]
  unfold da
  refine congrArg₂ (· + ·) (congrArg₂ (· + ·) (congrArg₂ (· + ·) ?_ ?_) ?_) ?_ <;>
    exact Finset.sum_congr rfl fun f _ => congrArg₂ (· * ·) (congrArg₂ (· * ·)
      (Finset.sum_congr rfl fun k _ => congrArg₂ (· * ·) (congrArg x0 (by blk_ext)) (congrArg x5 (by blk_ext)))
      (congrArg (fun z => _ * max z 0) (congrArg x2 (by blk_ext)))) (congrArg x4 (by blk_ext))

theorem dx_hi (i) (y : (⟨2, ![256, 1024]⟩ : Shape).Idx) : (k0_pay2 (k0_pay22 (View.ld x0 (Rect.unit (s := S512x1024) ![256, 0] ![256, 1024] inb_S512x1024_S256x1024_256_0))) (k0_pay31 (k0_pay23 (View.ld x0 (Rect.unit (s := S512x1024) ![256, 0] ![256, 1024] inb_S512x1024_S256x1024_256_0))) (k0_pay28 (k0_pay23 (View.ld x0 (Rect.unit (s := S512x1024) ![256, 0] ![256, 1024] inb_S512x1024_S256x1024_256_0))) k0_pay24 (k0_pay25 (View.ld x0 (Rect.unit (s := S512x1024) ![256, 0] ![256, 1024] inb_S512x1024_S256x1024_256_0)) (View.ld x5 (Rect.unit (s := S1x4096x1024) ![0, 0, 0] ![1, 1024, 1024] inb_S1x4096x1024_S1x1024x1024_0_0_0)) (View.ld x2 (Rect.unit (s := S512x4096) ![256, 0] ![256, 1024] inb_S512x4096_S256x1024_256_0))) (k0_pay26 (View.ld x4 (Rect.unit (s := S1x4096x1024) ![0, 0, 0] ![1, 1024, 1024] inb_S1x4096x1024_S1x1024x1024_0_0_0))) (View.ld x5 (Rect.unit (s := S1x4096x1024) ![0, 1024, 0] ![1, 1024, 1024] inb_S1x4096x1024_S1x1024x1024_0_1024_0)) (View.ld x2 (Rect.unit (s := S512x4096) ![256, 1024] ![256, 1024] inb_S512x4096_S256x1024_256_1024)) (View.ld x4 (Rect.unit (s := S1x4096x1024) ![0, 1024, 0] ![1, 1024, 1024] inb_S1x4096x1024_S1x1024x1024_0_1024_0))) (k0_pay29 (k0_pay23 (View.ld x0 (Rect.unit (s := S512x1024) ![256, 0] ![256, 1024] inb_S512x1024_S256x1024_256_0))) (View.ld x5 (Rect.unit (s := S1x4096x1024) ![0, 2048, 0] ![1, 1024, 1024] inb_S1x4096x1024_S1x1024x1024_0_2048_0)) (View.ld x2 (Rect.unit (s := S512x4096) ![256, 2048] ![256, 1024] inb_S512x4096_S256x1024_256_2048))) (View.ld x4 (Rect.unit (s := S1x4096x1024) ![0, 2048, 0] ![1, 1024, 1024] inb_S1x4096x1024_S1x1024x1024_0_2048_0)) (View.ld x5 (Rect.unit (s := S1x4096x1024) ![0, 3072, 0] ![1, 1024, 1024] inb_S1x4096x1024_S1x1024x1024_0_3072_0)) (View.ld x2 (Rect.unit (s := S512x4096) ![256, 3072] ![256, 1024] inb_S512x4096_S256x1024_256_3072)) (View.ld x4 (Rect.unit (s := S1x4096x1024) ![0, 3072, 0] ![1, 1024, 1024] inb_S1x4096x1024_S1x1024x1024_0_3072_0))) (k0_pay32 (View.ld x1 (Rect.unit (s := S512x1024) ![256, 0] ![256, 1024] inb_S512x1024_S256x1024_256_0))) (k0_pay33 x3) (k0_pay34 (View.ld x1 (Rect.unit (s := S512x1024) ![256, 0] ![256, 1024] inb_S512x1024_S256x1024_256_0))) (k0_pay35 (View.ld x1 (Rect.unit (s := S512x1024) ![256, 0] ![256, 1024] inb_S512x1024_S256x1024_256_0))) : FVec Ideal S256x1024 .f32) y
    = (fun j : S512x1024.Idx => dx x0 x1 x2 x3 x4 x5 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  have hd := dh_hi x0 x2 x4 x5 z0
  pointwise [k0_pay2, k0_pay1, k0_pay32, k0_pay33, k0_pay34, k0_pay35, k0_pay22]
  simp only [hd]
  rfl

theorem gp_hi (acc : Vec Ideal S1x1024 .f32) (j : Fin 1024) : (k0_pay3 (k0_pay31 (k0_pay23 (View.ld x0 (Rect.unit (s := S512x1024) ![256, 0] ![256, 1024] inb_S512x1024_S256x1024_256_0))) (k0_pay28 (k0_pay23 (View.ld x0 (Rect.unit (s := S512x1024) ![256, 0] ![256, 1024] inb_S512x1024_S256x1024_256_0))) k0_pay24 (k0_pay25 (View.ld x0 (Rect.unit (s := S512x1024) ![256, 0] ![256, 1024] inb_S512x1024_S256x1024_256_0)) (View.ld x5 (Rect.unit (s := S1x4096x1024) ![0, 0, 0] ![1, 1024, 1024] inb_S1x4096x1024_S1x1024x1024_0_0_0)) (View.ld x2 (Rect.unit (s := S512x4096) ![256, 0] ![256, 1024] inb_S512x4096_S256x1024_256_0))) (k0_pay26 (View.ld x4 (Rect.unit (s := S1x4096x1024) ![0, 0, 0] ![1, 1024, 1024] inb_S1x4096x1024_S1x1024x1024_0_0_0))) (View.ld x5 (Rect.unit (s := S1x4096x1024) ![0, 1024, 0] ![1, 1024, 1024] inb_S1x4096x1024_S1x1024x1024_0_1024_0)) (View.ld x2 (Rect.unit (s := S512x4096) ![256, 1024] ![256, 1024] inb_S512x4096_S256x1024_256_1024)) (View.ld x4 (Rect.unit (s := S1x4096x1024) ![0, 1024, 0] ![1, 1024, 1024] inb_S1x4096x1024_S1x1024x1024_0_1024_0))) (k0_pay29 (k0_pay23 (View.ld x0 (Rect.unit (s := S512x1024) ![256, 0] ![256, 1024] inb_S512x1024_S256x1024_256_0))) (View.ld x5 (Rect.unit (s := S1x4096x1024) ![0, 2048, 0] ![1, 1024, 1024] inb_S1x4096x1024_S1x1024x1024_0_2048_0)) (View.ld x2 (Rect.unit (s := S512x4096) ![256, 2048] ![256, 1024] inb_S512x4096_S256x1024_256_2048))) (View.ld x4 (Rect.unit (s := S1x4096x1024) ![0, 2048, 0] ![1, 1024, 1024] inb_S1x4096x1024_S1x1024x1024_0_2048_0)) (View.ld x5 (Rect.unit (s := S1x4096x1024) ![0, 3072, 0] ![1, 1024, 1024] inb_S1x4096x1024_S1x1024x1024_0_3072_0)) (View.ld x2 (Rect.unit (s := S512x4096) ![256, 3072] ![256, 1024] inb_S512x4096_S256x1024_256_3072)) (View.ld x4 (Rect.unit (s := S1x4096x1024) ![0, 3072, 0] ![1, 1024, 1024] inb_S1x4096x1024_S1x1024x1024_0_3072_0))) (k0_pay32 (View.ld x1 (Rect.unit (s := S512x1024) ![256, 0] ![256, 1024] inb_S512x1024_S256x1024_256_0))) (k0_pay35 (View.ld x1 (Rect.unit (s := S512x1024) ![256, 0] ![256, 1024] inb_S512x1024_S256x1024_256_0))) acc : FVec Ideal S1x1024 .f32) (ix2 0 j)
    = acc (ix2 0 j) + ∑ z : Fin 256, gp x0 x1 x2 x4 x5 ⟨256 + z.val, by omega⟩ j := by
  have hd := fun z0 => dh_hi x0 x2 x4 x5 z0 j
  pointwise [k0_pay3, k0_pay1, k0_pay32, k0_pay34, k0_pay35]
  simp only [hd]
  rfl

theorem db_hi (i) (y : (⟨2, ![256, 1024]⟩ : Shape).Idx) : (k0_pay23 (View.ld x0 (Rect.unit (s := S512x1024) ![256, 0] ![256, 1024] inb_S512x1024_S256x1024_256_0)) : FVec Ideal S256x1024 .bf16) y
    = x0 ((Rect.unit (s := S512x1024) ![256, 0] ![256, 1024] i).emb y) := by
  obtain ⟨z0, z1, rfl⟩ : ∃ z0 z1, y = ix2 z0 z1 := ⟨y 0, y 1, eq_ix2 y⟩
  pointwise [k0_pay23, k0_pay22]
  exact congrArg x0 (by blk_ext)

end

/-! ## What a grid point leaves in its windows -/
theorem out6 (c : Dev nD) (t : Fin cfg0.N) (y) : (outsAt0 m c t.val t.isLt).1 y
    = da (iblk m c 0 t) (iblk m c 2 t) (iblk m c 5 t) (y 0) (y 1) := by
  by_cases h0 : t.val % 16 = 0
  · rw [outsAt0_A m c t h0]
    frame_out
    exact View.canon_append_of_piecesOf (Val := Elt Ideal) (s := S512x4096) (e := .bf16) (fun j => da (iblk m c 0 t) (iblk m c 2 t) (iblk m c 5 t) (j 0) (j 1)) [] [_, _, _, _, _, _, _, _]
      ⟨da_hi3 _ _ _ inb_S512x4096_S256x1024_256_3072, da_hi2 _ _ _ inb_S512x4096_S256x1024_256_2048, da_hi1 _ _ _ inb_S512x4096_S256x1024_256_1024, da_hi0 _ _ _ inb_S512x4096_S256x1024_256_0, da_lo3 _ _ _ inb_S512x4096_S256x1024_0_3072, da_lo2 _ _ _ inb_S512x4096_S256x1024_0_2048, da_lo1 _ _ _ inb_S512x4096_S256x1024_0_1024, da_lo0 _ _ _ inb_S512x4096_S256x1024_0_0, trivial⟩ y
      (View.cover_of_tiledBy (s := S512x4096) _ (![256, 1024] : Fin 2 → ℕ) (by sl_kernel_rfl) _)
  · rw [outsAt0_B m c t h0]
    frame_out
    exact View.canon_append_of_piecesOf (Val := Elt Ideal) (s := S512x4096) (e := .bf16) (fun j => da (iblk m c 0 t) (iblk m c 2 t) (iblk m c 5 t) (j 0) (j 1)) [] [_, _, _, _, _, _, _, _]
      ⟨da_hi3 _ _ _ inb_S512x4096_S256x1024_256_3072, da_hi2 _ _ _ inb_S512x4096_S256x1024_256_2048, da_hi1 _ _ _ inb_S512x4096_S256x1024_256_1024, da_hi0 _ _ _ inb_S512x4096_S256x1024_256_0, da_lo3 _ _ _ inb_S512x4096_S256x1024_0_3072, da_lo2 _ _ _ inb_S512x4096_S256x1024_0_2048, da_lo1 _ _ _ inb_S512x4096_S256x1024_0_1024, da_lo0 _ _ _ inb_S512x4096_S256x1024_0_0, trivial⟩ y
      (View.cover_of_tiledBy (s := S512x4096) _ (![256, 1024] : Fin 2 → ℕ) (by sl_kernel_rfl) _)

theorem out7 (c : Dev nD) (t : Fin cfg0.N) (y) : (outsAt0 m c t.val t.isLt).2.1 y
    = dx (iblk m c 0 t) (iblk m c 1 t) (iblk m c 2 t) (iblk m c 3 t) (iblk m c 4 t) (iblk m c 5 t) (y 0) (y 1) := by
  by_cases h0 : t.val % 16 = 0
  · rw [outsAt0_A m c t h0]
    frame_out
    exact View.canon_append_of_piecesOf (Val := Elt Ideal) (s := S512x1024) (e := .f32) (fun j => dx (iblk m c 0 t) (iblk m c 1 t) (iblk m c 2 t) (iblk m c 3 t) (iblk m c 4 t) (iblk m c 5 t) (j 0) (j 1)) [] [_, _]
      ⟨dx_hi _ _ _ _ _ _ inb_S512x1024_S256x1024_256_0, dx_lo _ _ _ _ _ _ inb_S512x1024_S256x1024_0_0, trivial⟩ y
      (View.cover_of_tiledBy (s := S512x1024) _ (![256, 1024] : Fin 2 → ℕ) (by sl_kernel_rfl) _)
  · rw [outsAt0_B m c t h0]
    frame_out
    exact View.canon_append_of_piecesOf (Val := Elt Ideal) (s := S512x1024) (e := .f32) (fun j => dx (iblk m c 0 t) (iblk m c 1 t) (iblk m c 2 t) (iblk m c 3 t) (iblk m c 4 t) (iblk m c 5 t) (j 0) (j 1)) [] [_, _]
      ⟨dx_hi _ _ _ _ _ _ inb_S512x1024_S256x1024_256_0, dx_lo _ _ _ _ _ _ inb_S512x1024_S256x1024_0_0, trivial⟩ y
      (View.cover_of_tiledBy (s := S512x1024) _ (![256, 1024] : Fin 2 → ℕ) (by sl_kernel_rfl) _)

theorem out8 (c : Dev nD) (t : Fin cfg0.N) (y) : (outsAt0 m c t.val t.isLt).2.2.1 y = (show Vec Ideal S512x1024 .f32 from iblk m c 0 t) y := by
  by_cases h0 : t.val % 16 = 0
  · rw [outsAt0_A m c t h0]
    frame_out
    exact View.canon_append_of_piecesOf (Val := Elt Ideal) (s := S512x1024) (e := .bf16) (show Vec Ideal S512x1024 .f32 from iblk m c 0 t) [] [_, _]
      ⟨db_hi _ inb_S512x1024_S256x1024_256_0, db_lo _ inb_S512x1024_S256x1024_0_0, trivial⟩ y
      (View.cover_of_tiledBy (s := S512x1024) _ (![256, 1024] : Fin 2 → ℕ) (by sl_kernel_rfl) _)
  · rw [outsAt0_B m c t h0]
    frame_out
    exact View.canon_append_of_piecesOf (Val := Elt Ideal) (s := S512x1024) (e := .bf16) (show Vec Ideal S512x1024 .f32 from iblk m c 0 t) [] [_, _]
      ⟨db_hi _ inb_S512x1024_S256x1024_256_0, db_lo _ inb_S512x1024_S256x1024_0_0, trivial⟩ y
      (View.cover_of_tiledBy (s := S512x1024) _ (![256, 1024] : Fin 2 → ℕ) (by sl_kernel_rfl) _)

/-- What a point adds to the accumulator. -/
def part (c : Dev nD) (t : Fin cfg0.N) (j : S8x1024.Idx) : EReal :=
  if (j 0).val = 0 then ∑ p : Fin 512, gp (iblk m c 0 t) (iblk m c 1 t) (iblk m c 2 t) (iblk m c 4 t) (iblk m c 5 t) p (j 1) else 0

theorem acc_A (c : Dev nD) (t : Fin cfg0.N) (h0 : t.val % 16 = 0) (y : S8x1024.Idx) :
    (outsAt0 m c t.val t.isLt).2.2.2 y = 0 + part m c t y := by
  rw [outsAt0_A m c t h0]
  frame_out
  simp only [View.readCov_cons_toLoadRect]
  simp (disch := decide) only [View.readCov_fill]
  refine (Norm.row_canon _ _ _ _).trans ?_
  unfold part
  by_cases h : (y 0).val = 0
  · rw [if_pos h, if_pos h]
    refine (gp_hi _ _ _ _ _ _ _).trans ?_
    refine (congrArg (· + _) ((gp_lo _ _ _ _ _ _ _).trans (congrArg (· + _) ((Norm.row_ld _ _ _).trans (show _ = (0 : EReal) by pointwise [k0_pay4]))))).trans ?_
    exact Norm.two_halves 0 fun p => gp (iblk m c 0 t) (iblk m c 1 t) (iblk m c 2 t) (iblk m c 4 t) (iblk m c 5 t) p (y 1)
  · rw [if_neg h, if_neg h]
    refine (Norm.row_canon _ _ _ _).trans ?_
    rw [if_neg h, add_zero]
    refine (congrFun (View.canon_unit_zero (Val := Elt Ideal) (S := S8x1024) (e := .f32) (by decide) _ _) y).trans ?_
    pointwise [k0_pay4]

theorem acc_B (c : Dev nD) (t : Fin cfg0.N) (h0 : ¬t.val % 16 = 0) (y : S8x1024.Idx) :
    (outsAt0 m c t.val t.isLt).2.2.2 y
      = (outsAt0 m c (t.val - 1) (Nat.lt_of_le_of_lt (Nat.sub_le _ _) t.isLt)).2.2.2 y + part m c t y := by
  rw [outsAt0_B m c t h0]
  frame_out
  simp only [View.readCov_cons_toLoadRect]
  refine (Norm.row_read _ _ _ _ _ _).trans ?_
  unfold part
  by_cases h : (y 0).val = 0
  · rw [if_pos h, if_pos h]
    refine (gp_hi _ _ _ _ _ _ _).trans ?_
    refine (congrArg (· + _) ((gp_lo _ _ _ _ _ _ _).trans (congrArg (· + _) (Norm.row_ld _ _ _)))).trans ?_
    refine (Norm.two_halves _ fun p => gp (iblk m c 0 t) (iblk m c 1 t) (iblk m c 2 t) (iblk m c 4 t) (iblk m c 5 t) p (y 1)).trans ?_
    refine congrArg (· + _) (congrArg (outsAt0 m c (t.val - 1) _).2.2.2 ?_)
    blk_ext
  · rw [if_neg h, if_neg h]
    refine (Norm.row_read _ _ _ _ _ _).trans ?_
    rw [if_neg h, add_zero]
    exact congrFun (Memref.IsWhole.read_unread _ _) y

end Cert.Kernel2Ideal.Mlp

end
-- ==== Proof.MlpGrad.lean ====
/-
  The value of the backward call of the last layer's multilayer perceptron (program `Kernel2`), against the reference:
  what the points compute are the reference's gradients at their tokens.
-/
module

public import proofs.«01_k».proof.Proof.MlpBlock
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

variable (m : (ℓ : Loc nD τ sig) → Buf (Elt Ideal) ℓ)

/-- The mean squares of the rows, plus the small constant. -/
def MSQ (a1 : FVec Ideal Cert.Reference2Ideal.S4x2048x1024 .f32) : FVec Ideal Cert.Reference2Ideal.S4x2048x1 .f32 :=
  (addf (Host.divf (broadcastInDim Cert.Reference2Ideal.S4x2048x1 ![0, 1] Cert.Reference2Ideal.Gen.bcast_S4x2048_S4x2048x1_0_1 (Host.reduceAdd (mulf a1 a1) (constant Cert.Reference2Ideal.S_ .f32 0x00000000#32) Cert.Reference2Ideal.Gen.reducesTo_S4x2048x1024_S4x2048_d2 Cert.Reference2Ideal.Gen.h_S_)) (broadcastInDim Cert.Reference2Ideal.S4x2048x1 ![] Cert.Reference2Ideal.Gen.bcast_S_S4x2048x1 (constant Cert.Reference2Ideal.S_ .f32 0x44800000#32))) (broadcastInDim Cert.Reference2Ideal.S4x2048x1 ![] Cert.Reference2Ideal.Gen.bcast_S_S4x2048x1 (constant Cert.Reference2Ideal.S_ .f32 0x358637BD#32)))

/-- Their reciprocal roots. -/
def RINV (a1 : FVec Ideal Cert.Reference2Ideal.S4x2048x1024 .f32) : FVec Ideal Cert.Reference2Ideal.S4x2048x1 .f32 :=
  Host.rsqrt (MSQ a1)

/-- The activations before the rectifier. -/
def ACT (a1 : FVec Ideal Cert.Reference2Ideal.S4x2048x1024 .f32) (a2 : FVec Ideal Cert.Reference2Ideal.S2x1024 .f32) (a3 : FVec Ideal Cert.Reference2Ideal.S1024x4096 .f32) : FVec Ideal Cert.Reference2Ideal.S4x2048x4096 .f32 :=
  Host.dotGeneral Cert.Reference2Ideal.dot_S4x2048x1024_S1024x4096_S4x2048x4096_2_0_01_1_n_n none (mulf (mulf a1 (broadcastInDim Cert.Reference2Ideal.S4x2048x1024 ![0, 1, 2] Cert.Reference2Ideal.Gen.bcast_S4x2048x1_S4x2048x1024_0_1_2 (RINV a1))) (broadcastInDim Cert.Reference2Ideal.S4x2048x1024 ![0, 1, 2] Cert.Reference2Ideal.Gen.bcast_S1x1x1024_S4x2048x1024_0_1_2 (broadcastInDim Cert.Reference2Ideal.S1x1x1024 ![2] Cert.Reference2Ideal.Gen.bcast_S1024_S1x1x1024_2 (shapeCast Cert.Reference2Ideal.S1024 (extractStridedSlice Cert.Reference2Ideal.S1x1024 ![1, 0] a2 Cert.Reference2Ideal.Gen.slices_S2x1024_S1x1024_1_0) Cert.Reference2Ideal.Gen.shapeCasts_S1x1024_S1024)))) a3

/-- Their gradient. -/
def DA (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S4x2048x4096 .f32 :=
  select (cmpf .ogt (ACT a1 a2 a3) (broadcastInDim Cert.Reference2Ideal.S4x2048x4096 ![] Cert.Reference2Ideal.Gen.bcast_S_S4x2048x4096 (constant Cert.Reference2Ideal.S_ .f32 0x00000000#32))) (mulf (Host.dotGeneral Cert.Reference2Ideal.dot_S4x2048x1024_S4096x1024_S4x2048x4096_2_1_01_0_n_n none (shapeCast Cert.Reference2Ideal.S4x2048x1024 a0 Cert.Reference2Ideal.Gen.shapeCasts_S4x2048x1024_S4x2048x1024) a4) (mulf (broadcastInDim Cert.Reference2Ideal.S4x2048x4096 ![] Cert.Reference2Ideal.Gen.bcast_S_S4x2048x4096 (constant Cert.Reference2Ideal.S_ .f32 0x40000000#32)) (maximumf (ACT a1 a2 a3) (broadcastInDim Cert.Reference2Ideal.S4x2048x4096 ![] Cert.Reference2Ideal.Gen.bcast_S_S4x2048x4096 (constant Cert.Reference2Ideal.S_ .f32 0x00000000#32))))) (broadcastInDim Cert.Reference2Ideal.S4x2048x4096 ![] Cert.Reference2Ideal.Gen.bcast_S_S4x2048x4096 (constant Cert.Reference2Ideal.S_ .f32 0x00000000#32))

/-- The gradient of the normalised and scaled input. -/
def DH (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S4x2048x1024 .f32 :=
  Host.dotGeneral Cert.Reference2Ideal.dot_S4x2048x4096_S1024x4096_S4x2048x1024_2_1_01_0_n_n none (DA a0 a1 a2 a3 a4) a3

/-- The gradient of the normalised input. -/
def DN (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S4x2048x1024 .f32 :=
  mulf (DH a0 a1 a2 a3 a4) (broadcastInDim Cert.Reference2Ideal.S4x2048x1024 ![0, 1, 2] Cert.Reference2Ideal.Gen.bcast_S1x1x1024_S4x2048x1024_0_1_2 (broadcastInDim Cert.Reference2Ideal.S1x1x1024 ![2] Cert.Reference2Ideal.Gen.bcast_S1024_S1x1x1024_2 (shapeCast Cert.Reference2Ideal.S1024 (extractStridedSlice Cert.Reference2Ideal.S1x1024 ![1, 0] a2 Cert.Reference2Ideal.Gen.slices_S2x1024_S1x1024_1_0) Cert.Reference2Ideal.Gen.shapeCasts_S1x1024_S1024)))

/-- The common factor of the two equal parts of the input's gradient. -/
def HALF (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S4x2048x1024 .f32 :=
  broadcastInDim Cert.Reference2Ideal.S4x2048x1024 ![0, 1] Cert.Reference2Ideal.Gen.bcast_S4x2048_S4x2048x1024_0_1 (Host.reduceAdd (Host.divf (mulf (shapeCast Cert.Reference2Ideal.S4x2048x1 (Host.reduceAdd (mulf a1 (DN a0 a1 a2 a3 a4)) (constant Cert.Reference2Ideal.S_ .f32 0x00000000#32) Cert.Reference2Ideal.Gen.reducesTo_S4x2048x1024_S4x2048_d2 Cert.Reference2Ideal.Gen.h_S_) Cert.Reference2Ideal.Gen.shapeCasts_S4x2048_S4x2048x1) (mulf (broadcastInDim Cert.Reference2Ideal.S4x2048x1 ![] Cert.Reference2Ideal.Gen.bcast_S_S4x2048x1 (constant Cert.Reference2Ideal.S_ .f32 0xBF000000#32)) (Host.divf (RINV a1) (MSQ a1)))) (broadcastInDim Cert.Reference2Ideal.S4x2048x1 ![] Cert.Reference2Ideal.Gen.bcast_S_S4x2048x1 (constant Cert.Reference2Ideal.S_ .f32 0x44800000#32))) (constant Cert.Reference2Ideal.S_ .f32 0x00000000#32) Cert.Reference2Ideal.Gen.reducesTo_S4x2048x1_S4x2048_d2 Cert.Reference2Ideal.Gen.h_S_)

/-- The reference's results. -/
def REF6 (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S8192x4096 .bf16 :=
  truncf .bf16 (shapeCast Cert.Reference2Ideal.S8192x4096 (DA a0 a1 a2 a3 a4) Cert.Reference2Ideal.Gen.shapeCasts_S4x2048x4096_S8192x4096) Cert.Reference2Ideal.Gen.bitsLt_bf16_f32

def REF7 (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S8192x1024 .f32 :=
  shapeCast Cert.Reference2Ideal.S8192x1024 (addf a0 (addf (addf (mulf (DN a0 a1 a2 a3 a4) (broadcastInDim Cert.Reference2Ideal.S4x2048x1024 ![0, 1, 2] Cert.Reference2Ideal.Gen.bcast_S4x2048x1_S4x2048x1024_0_1_2 (RINV a1))) (mulf a1 (HALF a0 a1 a2 a3 a4))) (mulf (HALF a0 a1 a2 a3 a4) a1))) Cert.Reference2Ideal.Gen.shapeCasts_S4x2048x1024_S8192x1024

def REF8 (a0 : FVec Ideal Cert.Reference2Ideal.S4x2048x1024 .f32) : FVec Ideal Cert.Reference2Ideal.S8192x1024 .bf16 :=
  truncf .bf16 (shapeCast Cert.Reference2Ideal.S8192x1024 a0 Cert.Reference2Ideal.Gen.shapeCasts_S4x2048x1024_S8192x1024) Cert.Reference2Ideal.Gen.bitsLt_bf16_f32

def REF9 (a0 a1 : FVec Ideal Cert.Reference2Ideal.S4x2048x1024 .f32) (a2 : FVec Ideal Cert.Reference2Ideal.S2x1024 .f32) (a3 : FVec Ideal Cert.Reference2Ideal.S1024x4096 .f32) (a4 : FVec Ideal Cert.Reference2Ideal.S4096x1024 .f32) : FVec Ideal Cert.Reference2Ideal.S8x1024 .f32 :=
  concatenate Cert.Reference2Ideal.S8x1024 0 [⟨Cert.Reference2Ideal.S1x1024, (shapeCast Cert.Reference2Ideal.S1x1024 (shapeCast Cert.Reference2Ideal.S1024 (extractStridedSlice Cert.Reference2Ideal.S1x1024 ![1, 0] (pad Cert.Reference2Ideal.S2x1024 ![1, 0] ![0, 0] ![0, 0] (broadcastInDim Cert.Reference2Ideal.S1x1024 ![1] Cert.Reference2Ideal.Gen.bcast_S1024_S1x1024_1 (Host.reduceAdd (shapeCast Cert.Reference2Ideal.S1x1x1024 (Host.reduceAdd (mulf (mulf a1 (broadcastInDim Cert.Reference2Ideal.S4x2048x1024 ![0, 1, 2] Cert.Reference2Ideal.Gen.bcast_S4x2048x1_S4x2048x1024_0_1_2 (RINV a1))) (DH a0 a1 a2 a3 a4)) (constant Cert.Reference2Ideal.S_ .f32 0x00000000#32) Cert.Reference2Ideal.Gen.reducesTo_S4x2048x1024_S1024_d0_1 Cert.Reference2Ideal.Gen.h_S_) Cert.Reference2Ideal.Gen.shapeCasts_S1024_S1x1x1024) (constant Cert.Reference2Ideal.S_ .f32 0x00000000#32) Cert.Reference2Ideal.Gen.reducesTo_S1x1x1024_S1024_d0_1 Cert.Reference2Ideal.Gen.h_S_)) (constant Cert.Reference2Ideal.S_ .f32 0x00000000#32) Cert.Reference2Ideal.Gen.pads_S1x1024_S2x1024_100_000 Cert.Reference2Ideal.Gen.h_S_) Cert.Reference2Ideal.Gen.slices_S2x1024_S1x1024_1_0) Cert.Reference2Ideal.Gen.shapeCasts_S1x1024_S1024) Cert.Reference2Ideal.Gen.shapeCasts_S1024_S1x1024)⟩, ⟨Cert.Reference2Ideal.S7x1024, (broadcastInDim Cert.Reference2Ideal.S7x1024 ![] Cert.Reference2Ideal.Gen.bcast_S_S7x1024 (constant Cert.Reference2Ideal.S_ .f32 0x00000000#32))⟩] Cert.Reference2Ideal.Gen.concatenates_S1x1024_S7x1024_S8x1024_d0

/-! ## The blocks read as the arguments' entries -/

theorem blk0 (c : Dev nD) (t : Fin cfg0.N) (p : Fin 512) (k : Fin 1024) : (show Vec Ideal S512x1024 .f32 from iblk m c 0 t) (ix2 p k)
    = (m ((c : Thread nD τ).loc main_arg0)) (ix3 ⟨(512 * t.val + p.val) / 2048, by have := lt_of_lt_of_eq t.isLt N_0; omega⟩ ⟨(512 * t.val + p.val) % 2048, by omega⟩ k) := by
  have hi := idx t
  blk_point [iblk, V, hi]

theorem blk1 (c : Dev nD) (t : Fin cfg0.N) (p : Fin 512) (k : Fin 1024) : (show Vec Ideal S512x1024 .f32 from iblk m c 1 t) (ix2 p k)
    = (m ((c : Thread nD τ).loc main_arg1)) (ix3 ⟨(512 * t.val + p.val) / 2048, by have := lt_of_lt_of_eq t.isLt N_0; omega⟩ ⟨(512 * t.val + p.val) % 2048, by omega⟩ k) := by
  have hi := idx t
  blk_point [iblk, V, hi]

/-- The saved activations the call is handed. -/
theorem entry24 (c : Dev nD) : V m c main_v24 = truncf .bf16 (shapeCast S8192x4096 (ACT (m ((c : Thread nD τ).loc main_arg1)) (m ((c : Thread nD τ).loc main_arg2)) (m ((c : Thread nD τ).loc main_arg3))) shapeCasts_S4x2048x4096_S8192x4096) bitsLt_bf16_f32 := by
  entry_read
  rfl

/-- The two weights the call is handed, one after the other. -/
theorem entry20 (c : Dev nD) : V m c main_v20 = (truncf .bf16 (concatenate S2x4096x1024 0
    [⟨S1x4096x1024, broadcastInDim S1x4096x1024 ![1, 2] bcast_S4096x1024_S1x4096x1024_1_2 (transpose S4096x1024 [1, 0] (m ((c : Thread nD τ).loc main_arg3)) transposes_S1024x4096_S4096x1024_1_0)⟩,
      ⟨S1x4096x1024, broadcastInDim S1x4096x1024 ![1, 2] bcast_S4096x1024_S1x4096x1024_1_2 (m ((c : Thread nD τ).loc main_arg4))⟩]
    concatenates_S1x4096x1024_S1x4096x1024_S2x4096x1024_d0) bitsLt_bf16_f32 : FVec Ideal S2x4096x1024 .bf16) := by
  entry_read
  rfl

theorem blk2 (c : Dev nD) (t : Fin cfg0.N) (p : Fin 512) (k : Fin 4096) : (show Vec Ideal S512x4096 .bf16 from iblk m c 2 t) (ix2 p k)
    = ACT (m ((c : Thread nD τ).loc main_arg1)) (m ((c : Thread nD τ).loc main_arg2)) (m ((c : Thread nD τ).loc main_arg3)) (ix3 ⟨(512 * t.val + p.val) / 2048, by have := lt_of_lt_of_eq t.isLt N_0; omega⟩ ⟨(512 * t.val + p.val) % 2048, by omega⟩ k) := by
  have hi := idx t
  have e : (win0_2.blk t).view.emb (ix2 p k) = (ix2 ⟨512 * t.val + p.val, by have := lt_of_lt_of_eq t.isLt N_0; omega⟩ k : S8192x4096.Idx) := by
    blk_ext [hi]
  refine (congrArg (V m c main_v24) e).trans ?_
  rw [entry24]
  pointwise []

theorem blk3 (c : Dev nD) (t : Fin cfg0.N) (k : Fin 1024) : (show Vec Ideal S1x1x1024 .f32 from iblk m c 3 t) (ix3 0 0 k)
    = (m ((c : Thread nD τ).loc main_arg2)) (ix2 1 k) := by
  have hi := idx t
  blk_point [iblk, V, hi]

theorem blk4 (c : Dev nD) (t : Fin cfg0.N) (f : Fin 4096) (k : Fin 1024) : (show Vec Ideal S1x4096x1024 .bf16 from iblk m c 4 t) (ix3 0 f k)
    = (m ((c : Thread nD τ).loc main_arg3)) (ix2 k f) := by
  have hi := idx t
  have e : (win0_4.blk t).view.emb (ix3 0 f k) = (ix3 0 f k : S2x4096x1024.Idx) := by
    blk_ext [hi]
  refine (congrArg (V m c main_v20) e).trans ?_
  rw [entry20]
  pointwise []

theorem blk5 (c : Dev nD) (t : Fin cfg0.N) (f : Fin 4096) (k : Fin 1024) : (show Vec Ideal S1x4096x1024 .bf16 from iblk m c 5 t) (ix3 0 f k)
    = (m ((c : Thread nD τ).loc main_arg4)) (ix2 f k) := by
  have hi := idx t
  have e : (win0_5.blk t).view.emb (ix3 0 f k) = (ix3 1 f k : S2x4096x1024.Idx) := by
    blk_ext [hi]
  refine (congrArg (V m c main_v20) e).trans ?_
  rw [entry20]
  pointwise []

/-! ## What a point computes is the reference's gradient at its tokens -/

/-- The rectifier's gradient vanishes with the rectified value. -/
theorem relu_grad (u a : EReal) : (if 0 < a then u * (Ideal.ofBits .f32 0x40000000#32 * max a 0) else 0)
    = u * (Ideal.ofBits .f32 0x40000000#32 * max a 0) := by
  split_ifs with h
  · rfl
  · rw [max_eq_right (not_lt.mp h), mul_zero, mul_zero]

theorem da_eq (c : Dev nD) (t : Fin cfg0.N) (p : Fin 512) (f : Fin 4096) :
    da (iblk m c 0 t) (iblk m c 2 t) (iblk m c 5 t) p f = DA (m ((c : Thread nD τ).loc main_arg0)) (m ((c : Thread nD τ).loc main_arg1)) (m ((c : Thread nD τ).loc main_arg2)) (m ((c : Thread nD τ).loc main_arg3)) (m ((c : Thread nD τ).loc main_arg4)) (ix3 ⟨(512 * t.val + p.val) / 2048, by have := lt_of_lt_of_eq t.isLt N_0; omega⟩ ⟨(512 * t.val + p.val) % 2048, by omega⟩ f) := by
  unfold da
  have h2 := blk2 m c t p f
  dsimp only at h2
  pointwise [DA]
  refine Eq.trans ?_ (relu_grad _ _).symm
  exact congrArg₂ (· * ·) (Finset.sum_congr rfl fun k _ => congrArg₂ (· * ·) (blk0 m c t p k) (blk5 m c t f k))
    (congrArg (fun z => _ * max z 0) h2)

theorem dh_eq (c : Dev nD) (t : Fin cfg0.N) (p : Fin 512) (j : Fin 1024) :
    dh (iblk m c 0 t) (iblk m c 2 t) (iblk m c 4 t) (iblk m c 5 t) p j = DH (m ((c : Thread nD τ).loc main_arg0)) (m ((c : Thread nD τ).loc main_arg1)) (m ((c : Thread nD τ).loc main_arg2)) (m ((c : Thread nD τ).loc main_arg3)) (m ((c : Thread nD τ).loc main_arg4)) (ix3 ⟨(512 * t.val + p.val) / 2048, by have := lt_of_lt_of_eq t.isLt N_0; omega⟩ ⟨(512 * t.val + p.val) % 2048, by omega⟩ j) := by
  unfold dh
  pointwise [DH]
  exact Finset.sum_congr rfl fun f _ => congrArg₂ (· * ·) (da_eq m c t p f) (blk4 m c t f j)

theorem rinv_eq (c : Dev nD) (t : Fin cfg0.N) (p : Fin 512) :
    Norm.rinv (fun k => (show Vec Ideal S512x1024 .f32 from iblk m c 1 t) (ix2 p k)) = RINV (m ((c : Thread nD τ).loc main_arg1)) (ix3 ⟨(512 * t.val + p.val) / 2048, by have := lt_of_lt_of_eq t.isLt N_0; omega⟩ ⟨(512 * t.val + p.val) % 2048, by omega⟩ 0) := by
  rw [show (fun k => (show Vec Ideal S512x1024 .f32 from iblk m c 1 t) (ix2 p k)) = fun k => (m ((c : Thread nD τ).loc main_arg1)) (ix3 ⟨(512 * t.val + p.val) / 2048, by have := lt_of_lt_of_eq t.isLt N_0; omega⟩ ⟨(512 * t.val + p.val) % 2048, by omega⟩ k) from funext fun k => blk1 m c t p k]
  pointwise [RINV, MSQ]
  rfl

theorem half_eq (a0 a1 a2 a3 a4) (b : Fin 4) (s : Fin 2048) (j : Fin 1024) :
    Norm.half (fun k => DH a0 a1 a2 a3 a4 (ix3 b s k) * a2 (ix2 1 k)) (fun k => a1 (ix3 b s k)) = HALF a0 a1 a2 a3 a4 (ix3 b s j) := by
  pointwise [HALF, RINV, MSQ, DN]
  rw [Fin.sum_univ_one]
  rfl

theorem dx_eq (c : Dev nD) (t : Fin cfg0.N) (p : Fin 512) (j : Fin 1024) :
    dx (iblk m c 0 t) (iblk m c 1 t) (iblk m c 2 t) (iblk m c 3 t) (iblk m c 4 t) (iblk m c 5 t) p j
      = REF7 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + p.val, by have := lt_of_lt_of_eq t.isLt N_0; omega⟩ j) := by
  unfold dx
  rw [Norm.grad_eq]
  rw [show (fun k => dh (iblk m c 0 t) (iblk m c 2 t) (iblk m c 4 t) (iblk m c 5 t) p k * (show Vec Ideal S1x1x1024 .f32 from iblk m c 3 t) (ix3 0 0 k))
      = fun k => DH (m ((c : Thread nD τ).loc main_arg0)) (m ((c : Thread nD τ).loc main_arg1)) (m ((c : Thread nD τ).loc main_arg2)) (m ((c : Thread nD τ).loc main_arg3)) (m ((c : Thread nD τ).loc main_arg4)) (ix3 ⟨(512 * t.val + p.val) / 2048, by have := lt_of_lt_of_eq t.isLt N_0; omega⟩ ⟨(512 * t.val + p.val) % 2048, by omega⟩ k) * (m ((c : Thread nD τ).loc main_arg2)) (ix2 1 k) from
      funext fun k => congrArg₂ (· * ·) (dh_eq m c t p k) (blk3 m c t k)]
  have h := rinv_eq m c t p
  rw [show (fun k => (show Vec Ideal S512x1024 .f32 from iblk m c 1 t) (ix2 p k)) = fun k => (m ((c : Thread nD τ).loc main_arg1)) (ix3 ⟨(512 * t.val + p.val) / 2048, by have := lt_of_lt_of_eq t.isLt N_0; omega⟩ ⟨(512 * t.val + p.val) % 2048, by omega⟩ k) from funext fun k => blk1 m c t p k] at h ⊢
  rw [h, half_eq _ _ _ _ _ _ _ j]
  pointwise [REF7, DN]
  refine congrArg₂ (· + ·) ?_ ?_
  · exact blk0 m c t p j
  · have hx := blk1 m c t p j
    exact congrArg₂ (· + ·) (congrArg₂ (· + ·)
      (congrArg (· * _) (congrArg₂ (· * ·) (dh_eq m c t p j) (blk3 m c t j))) (congrArg (· * _) hx)) (congrArg (_ * ·) hx)

theorem ref9_0 (a0 a1 a2 a3 a4) (i : Fin 8) (hi : i.val = 0) (j : Fin 1024) : REF9 a0 a1 a2 a3 a4 (ix2 i j)
    = ∑ b : Fin 4, ∑ s : Fin 2048, DH a0 a1 a2 a3 a4 (ix3 b s j) * (a1 (ix3 b s j) * RINV a1 (ix3 b s 0)) := by
  pointwise [REF9]
  refine (dif_pos (by omega)).trans ((dif_pos (by omega)).trans ?_)
  rw [Norm.sum_01, zero_add, Fin.sum_univ_one, Fin.sum_univ_one]
  pointwise []
  rw [Norm.sum_01, zero_add]
  refine Finset.sum_congr rfl fun b _ => Finset.sum_congr rfl fun s _ => ?_
  pointwise []
  exact mul_comm _ _

theorem ref9_1 (a0 a1 a2 a3 a4) (i : Fin 8) (hi : ¬i.val = 0) (j : Fin 1024) : REF9 a0 a1 a2 a3 a4 (ix2 i j) = 0 := by
  pointwise [REF9]
  exact dif_neg (by omega)

theorem acc_total (c : Dev nD) (i : Fin 8) (j : Fin 1024) : ∑ t : Fin cfg0.N, part m c t (ix2 i j) = REF9 (m ((c : Thread nD τ).loc main_arg0)) (m ((c : Thread nD τ).loc main_arg1)) (m ((c : Thread nD τ).loc main_arg2)) (m ((c : Thread nD τ).loc main_arg3)) (m ((c : Thread nD τ).loc main_arg4)) (ix2 i j) := by
  unfold part
  by_cases h : i.val = 0
  · rw [ref9_0 _ _ _ _ _ i h j, ← Norm.regroup N_0]
    refine Finset.sum_congr rfl fun t _ => (if_pos h).trans (Finset.sum_congr rfl fun p _ => ?_)
    exact congrArg₂ (· * ·) (dh_eq m c t p j) (congrArg₂ (· * ·) (blk1 m c t p j) (rinv_eq m c t p))
  · rw [ref9_1 _ _ _ _ _ i h j]
    exact Finset.sum_eq_zero fun t _ => if_neg h

theorem final_6 (c : Dev nD) : (dats m 0 c).arrAt 6 (cfgs 0).N = REF6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out6]
  idx_vars y
  have e : ((View.whole main_v26_0).slice (win0_6.rect t)).emb (ix2 y0 y1)
      = (ix2 ⟨512 * t.val + y0.val, by have := lt_of_lt_of_eq t.isLt N_0; omega⟩ y1 : S8192x4096.Idx) := by
    blk_ext [idx t]
  rw [e]
  pointwise [REF6]
  exact da_eq m c t y0 y1

theorem final_7 (c : Dev nD) : (dats m 0 c).arrAt 7 (cfgs 0).N = REF7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out7]
  idx_vars y
  have e : ((View.whole main_v26_1).slice (win0_7.rect t)).emb (ix2 y0 y1)
      = (ix2 ⟨512 * t.val + y0.val, by have := lt_of_lt_of_eq t.isLt N_0; omega⟩ y1 : S8192x1024.Idx) := by
    blk_ext [idx t]
  rw [e]
  exact dx_eq m c t y0 y1

theorem final_8 (c : Dev nD) : (dats m 0 c).arrAt 8 (cfgs 0).N = REF8 (m ((c : Thread nD τ).loc main_arg0)) := by
  refine (dats m 0 c).arrAt_eq_of_covers 8 _ (by decide +kernel) fun t hf y => ?_
  blk_simp
  rw [after0_8, out8]
  idx_vars y
  have e : ((View.whole main_v26_2).slice (win0_8.rect t)).emb (ix2 y0 y1)
      = (ix2 ⟨512 * t.val + y0.val, by have := lt_of_lt_of_eq t.isLt N_0; omega⟩ y1 : S8192x1024.Idx) := by
    blk_ext [idx t]
  rw [e]
  pointwise [REF8]
  exact blk0 m c t y0 y1

theorem final_9 (c : Dev nD) : (dats m 0 c).arrAt 9 (cfgs 0).N = REF9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have h15 : t.val % 16 = 15 := (flush0_9 t).mp hf
  have hN := lt_of_lt_of_eq t.isLt N_0
  blk_simp
  rw [after0_9]
  rw [Pipeline.eq_sum_fin_of_reset_step_apply_last (fun n h => (outsAt0 m c n h).2.2.2) 16 (fun _ => 0) (part m c)
    (fun t h j => acc_A m c t h j) (fun t h j => acc_B m c t h j) (le_of_eq N_0) t (by have h16 : cfg0.N = 16 := N_0; omega), zero_add]
  idx_vars y
  have e : ((View.whole main_v26_3).slice (win0_9.rect t)).emb (ix2 y0 y1) = (ix2 y0 y1 : S8x1024.Idx) := by
    blk_ext [idx t]
  rw [e]
  exact acc_total m c y0 y1

end Cert.Kernel2Ideal.Mlp

end
-- ==== Proof.InprojBlock.lean ====
/-
  The backward call of the last layer's input projection (program `Kernel3`): what a grid point computes of its blocks,
  the input's gradient and its part of the gradient of the normalisation's gains.
-/
module

public import proofs.«01_k».proof.Proof.Gen.Kernel3Ideal.Value
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Inproj

open Cert.Kernel3Ideal Cert.Kernel3Ideal.Gen

variable (m : (ℓ : Loc nD τ sig) → Buf (Elt Ideal) ℓ)

/-- The windows' block indices at every grid point. -/
theorem idx : ∀ t : Fin cfg0.N, win0_0.index t = ![t.val, 0] ∧ win0_1.index t = ![0, t.val] ∧ win0_2.index t = ![0, t.val]
    ∧ win0_3.index t = ![0, t.val] ∧ win0_4.index t = ![t.val, 0] ∧ win0_5.index t = ![t.val, 0] ∧ win0_6.index t = ![1, 0, 0]
    ∧ win0_7.index t = ![0, 0] ∧ win0_8.index t = ![t.val, 0] ∧ win0_9.index t = ![0, 0] :=
  (by decide +kernel : ∀ t : Fin grid0.N, _)

section
variable (x0 : Vec Ideal S512x5120 .bf16) (x1 : Vec Ideal S1024x512 .bf16) (x2 x3 : Vec Ideal S256x512 .bf16)
  (x4 x5 : Vec Ideal S512x1024 .f32) (x6 : Vec Ideal S1x1x1024 .f32) (x7 : Vec Ideal S6656x1024 .bf16)

/-- The gradient of the normalised and scaled input at a token and a column. -/
def dh (p : Fin 512) (j : Fin 1024) : EReal :=
  (∑ f : Fin 1024, x1 (ix2 f p) * x7 (ix2 ⟨f.val, by omega⟩ j)) + (∑ f : Fin 256, x2 (ix2 f p) * x7 (ix2 ⟨1024 + f.val, by omega⟩ j))
    + (∑ f : Fin 256, x3 (ix2 f p) * x7 (ix2 ⟨1280 + f.val, by omega⟩ j)) + ∑ f : Fin 5120, x0 (ix2 p f) * x7 (ix2 ⟨1536 + f.val, by omega⟩ j)

/-- The input's gradient. -/
def dx (p : Fin 512) (j : Fin 1024) : EReal :=
  x5 (ix2 p j) + Norm.grad (fun k => dh x0 x1 x2 x3 x7 p k * x6 (ix3 0 0 k)) (fun k => x4 (ix2 p k)) j

/-- What one token adds to the gains' gradient. -/
def gp (p : Fin 512) (j : Fin 1024) : EReal :=
  dh x0 x1 x2 x3 x7 p j * (x4 (ix2 p j) * Norm.rinv (fun k => x4 (ix2 p k)))

theorem dh_lo (i0 i1 i2 w0 w1 w2 w3) (z0 : Fin 256) (j : Fin 1024) : (k0_pay4 (View.ld x1 (Rect.unit (s := S1024x512) ![0, 0] ![1024, 256] i1)) (View.ld x7 (Rect.unit (s := S6656x1024) ![0, 0] ![1024, 1024] w0)) (View.ld x2 (Rect.unit (s := S256x512) ![0, 0] ![256, 256] i2)) (View.ld x7 (Rect.unit (s := S6656x1024) ![1024, 0] ![256, 1024] w1)) (View.ld x3 (Rect.unit (s := S256x512) ![0, 0] ![256, 256] i2)) (View.ld x7 (Rect.unit (s := S6656x1024) ![1280, 0] ![256, 1024] w2)) (View.ld x0 (Rect.unit (s := S512x5120) ![0, 0] ![256, 5120] i0)) (View.ld x7 (Rect.unit (s := S6656x1024) ![1536, 0] ![5120, 1024] w3)) : FVec Ideal S256x1024 .f32) (ix2 z0 j)
    = dh x0 x1 x2 x3 x7 ⟨z0.val, by omega⟩ j := by
  unfold dh
  pointwise [k0_pay4]

theorem dx_lo (i0 i1 i2 w0 w1 w2 w3 i4) (i) (y : (⟨2, ![256, 1024]⟩ : Shape).Idx) : (k0_pay10 (k0_pay4 (View.ld x1 (Rect.unit (s := S1024x512) ![0, 0] ![1024, 256] i1)) (View.ld x7 (Rect.unit (s := S6656x1024) ![0, 0] ![1024, 1024] w0)) (View.ld x2 (Rect.unit (s := S256x512) ![0, 0] ![256, 256] i2)) (View.ld x7 (Rect.unit (s := S6656x1024) ![1024, 0] ![256, 1024] w1)) (View.ld x3 (Rect.unit (s := S256x512) ![0, 0] ![256, 256] i2)) (View.ld x7 (Rect.unit (s := S6656x1024) ![1280, 0] ![256, 1024] w2)) (View.ld x0 (Rect.unit (s := S512x5120) ![0, 0] ![256, 5120] i0)) (View.ld x7 (Rect.unit (s := S6656x1024) ![1536, 0] ![5120, 1024] w3))) (k0_pay5 (View.ld x4 (Rect.unit (s := S512x1024) ![0, 0] ![256, 1024] i4))) (k0_pay6 x6) (k0_pay7 (View.ld x4 (Rect.unit (s := S512x1024) ![0, 0] ![256, 1024] i4))) (View.ld x5 (Rect.unit (s := S512x1024) ![0, 0] ![256, 1024] i4)) : FVec Ideal S256x1024 .f32) y
    = (fun j : S512x1024.Idx => dx x0 x1 x2 x3 x4 x5 x6 x7 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  have hd := dh_lo x0 x1 x2 x3 x7 i0 i1 i2 w0 w1 w2 w3 z0
  pointwise [k0_pay10, k0_pay9, k0_pay8, k0_pay7, k0_pay6, k0_pay5]
  simp only [hd]
  rfl

theorem gp_lo (i0 i1 i2 w0 w1 w2 w3 i4) (acc : Vec Ideal S1x1024 .f32) (j : Fin 1024) : (k0_pay11 (k0_pay4 (View.ld x1 (Rect.unit (s := S1024x512) ![0, 0] ![1024, 256] i1)) (View.ld x7 (Rect.unit (s := S6656x1024) ![0, 0] ![1024, 1024] w0)) (View.ld x2 (Rect.unit (s := S256x512) ![0, 0] ![256, 256] i2)) (View.ld x7 (Rect.unit (s := S6656x1024) ![1024, 0] ![256, 1024] w1)) (View.ld x3 (Rect.unit (s := S256x512) ![0, 0] ![256, 256] i2)) (View.ld x7 (Rect.unit (s := S6656x1024) ![1280, 0] ![256, 1024] w2)) (View.ld x0 (Rect.unit (s := S512x5120) ![0, 0] ![256, 5120] i0)) (View.ld x7 (Rect.unit (s := S6656x1024) ![1536, 0] ![5120, 1024] w3))) (k0_pay5 (View.ld x4 (Rect.unit (s := S512x1024) ![0, 0] ![256, 1024] i4))) (k0_pay7 (View.ld x4 (Rect.unit (s := S512x1024) ![0, 0] ![256, 1024] i4))) acc : FVec Ideal S1x1024 .f32) (ix2 0 j)
    = acc (ix2 0 j) + ∑ z : Fin 256, gp x0 x1 x2 x3 x4 x7 ⟨z.val, by omega⟩ j := by
  have hd := fun z0 => dh_lo x0 x1 x2 x3 x7 i0 i1 i2 w0 w1 w2 w3 z0 j
  pointwise [k0_pay11, k0_pay9, k0_pay8, k0_pay7, k0_pay5]
  simp only [hd]
  rfl

theorem dh_hi (i0 i1 i2 w0 w1 w2 w3) (z0 : Fin 256) (j : Fin 1024) : (k0_pay13 (k0_pay12 (View.ld x1 (Rect.unit (s := S1024x512) ![0, 256] ![1024, 256] i1)) (View.ld x7 (Rect.unit (s := S6656x1024) ![0, 0] ![1024, 1024] w0))) (View.ld x2 (Rect.unit (s := S256x512) ![0, 256] ![256, 256] i2)) (View.ld x7 (Rect.unit (s := S6656x1024) ![1024, 0] ![256, 1024] w1)) (View.ld x3 (Rect.unit (s := S256x512) ![0, 256] ![256, 256] i2)) (View.ld x7 (Rect.unit (s := S6656x1024) ![1280, 0] ![256, 1024] w2)) (View.ld x0 (Rect.unit (s := S512x5120) ![256, 0] ![256, 5120] i0)) (View.ld x7 (Rect.unit (s := S6656x1024) ![1536, 0] ![5120, 1024] w3)) : FVec Ideal S256x1024 .f32) (ix2 z0 j)
    = dh x0 x1 x2 x3 x7 ⟨256 + z0.val, by omega⟩ j := by
  unfold dh
  pointwise [k0_pay13, k0_pay12]

theorem dx_hi (i0 i1 i2 w0 w1 w2 w3 i4) (i) (y : (⟨2, ![256, 1024]⟩ : Shape).Idx) : (k0_pay1 (k0_pay15 (View.ld x4 (Rect.unit (s := S512x1024) ![256, 0] ![256, 1024] i4))) (k0_pay16 (View.ld x4 (Rect.unit (s := S512x1024) ![256, 0] ![256, 1024] i4))) (k0_pay17 (k0_pay12 (View.ld x1 (Rect.unit (s := S1024x512) ![0, 256] ![1024, 256] i1)) (View.ld x7 (Rect.unit (s := S6656x1024) ![0, 0] ![1024, 1024] w0))) (View.ld x2 (Rect.unit (s := S256x512) ![0, 256] ![256, 256] i2)) (View.ld x7 (Rect.unit (s := S6656x1024) ![1024, 0] ![256, 1024] w1)) (View.ld x3 (Rect.unit (s := S256x512) ![0, 256] ![256, 256] i2)) (View.ld x7 (Rect.unit (s := S6656x1024) ![1280, 0] ![256, 1024] w2)) (View.ld x0 (Rect.unit (s := S512x5120) ![256, 0] ![256, 5120] i0)) (View.ld x7 (Rect.unit (s := S6656x1024) ![1536, 0] ![5120, 1024] w3)) x6) (k0_pay18 (k0_pay12 (View.ld x1 (Rect.unit (s := S1024x512) ![0, 256] ![1024, 256] i1)) (View.ld x7 (Rect.unit (s := S6656x1024) ![0, 0] ![1024, 1024] w0))) (View.ld x2 (Rect.unit (s := S256x512) ![0, 256] ![256, 256] i2)) (View.ld x7 (Rect.unit (s := S6656x1024) ![1024, 0] ![256, 1024] w1)) (View.ld x3 (Rect.unit (s := S256x512) ![0, 256] ![256, 256] i2)) (View.ld x7 (Rect.unit (s := S6656x1024) ![1280, 0] ![256, 1024] w2)) (View.ld x0 (Rect.unit (s := S512x5120) ![256, 0] ![256, 5120] i0)) (View.ld x7 (Rect.unit (s := S6656x1024) ![1536, 0] ![5120, 1024] w3)) (View.ld x4 (Rect.unit (s := S512x1024) ![256, 0] ![256, 1024] i4)) x6) (FloatOps.ofBits FTy.f32 1149239296#32) (View.ld x5 (Rect.unit (s := S512x1024) ![256, 0] ![256, 1024] i4)) : FVec Ideal S256x1024 .f32) y
    = (fun j : S512x1024.Idx => dx x0 x1 x2 x3 x4 x5 x6 x7 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  have hd := dh_hi x0 x1 x2 x3 x7 i0 i1 i2 w0 w1 w2 w3 z0
  pointwise [k0_pay1, k0_pay18, k0_pay17, k0_pay16, k0_pay15, k0_pay14]
  simp only [hd]
  rfl

theorem gp_hi (i0 i1 i2 w0 w1 w2 w3 i4) (acc : Vec Ideal S1x1024 .f32) (j : Fin 1024) : (k0_pay2 (k0_pay13 (k0_pay12 (View.ld x1 (Rect.unit (s := S1024x512) ![0, 256] ![1024, 256] i1)) (View.ld x7 (Rect.unit (s := S6656x1024) ![0, 0] ![1024, 1024] w0))) (View.ld x2 (Rect.unit (s := S256x512) ![0, 256] ![256, 256] i2)) (View.ld x7 (Rect.unit (s := S6656x1024) ![1024, 0] ![256, 1024] w1)) (View.ld x3 (Rect.unit (s := S256x512) ![0, 256] ![256, 256] i2)) (View.ld x7 (Rect.unit (s := S6656x1024) ![1280, 0] ![256, 1024] w2)) (View.ld x0 (Rect.unit (s := S512x5120) ![256, 0] ![256, 5120] i0)) (View.ld x7 (Rect.unit (s := S6656x1024) ![1536, 0] ![5120, 1024] w3))) (k0_pay16 (View.ld x4 (Rect.unit (s := S512x1024) ![256, 0] ![256, 1024] i4))) acc : FVec Ideal S1x1024 .f32) (ix2 0 j)
    = acc (ix2 0 j) + ∑ z : Fin 256, gp x0 x1 x2 x3 x4 x7 ⟨256 + z.val, by omega⟩ j := by
  have hd := fun z0 => dh_hi x0 x1 x2 x3 x7 i0 i1 i2 w0 w1 w2 w3 z0 j
  pointwise [k0_pay2, k0_pay16, k0_pay15, k0_pay14]
  simp only [hd]
  rfl

end

/-! ## What a grid point leaves in its windows -/

theorem out8 (c : Dev nD) (t : Fin cfg0.N) (y) : (outsAt0 m c t.val t.isLt).1 y
    = dx (iblk m c 0 t) (iblk m c 1 t) (iblk m c 2 t) (iblk m c 3 t) (iblk m c 4 t) (iblk m c 5 t) (iblk m c 6 t) (iblk m c 7 t) (y 0) (y 1) := by
  by_cases h0 : t.val % 16 = 0
  · rw [outsAt0_A m c t h0]
    frame_out
    exact View.canon_append_of_piecesOf (Val := Elt Ideal) (s := S512x1024) (e := .f32) (fun j => dx (iblk m c 0 t) (iblk m c 1 t) (iblk m c 2 t) (iblk m c 3 t) (iblk m c 4 t) (iblk m c 5 t) (iblk m c 6 t) (iblk m c 7 t) (j 0) (j 1)) [] [_, _]
      ⟨dx_hi _ _ _ _ _ _ _ _ _ _ _ _ _ _ _ _ inb_S512x1024_S256x1024_256_0, dx_lo _ _ _ _ _ _ _ _ _ _ _ _ _ _ _ _ inb_S512x1024_S256x1024_0_0, trivial⟩ y
      (View.cover_of_tiledBy (s := S512x1024) _ (![256, 1024] : Fin 2 → ℕ) (by sl_kernel_rfl) _)
  · rw [outsAt0_B m c t h0]
    frame_out
    exact View.canon_append_of_piecesOf (Val := Elt Ideal) (s := S512x1024) (e := .f32) (fun j => dx (iblk m c 0 t) (iblk m c 1 t) (iblk m c 2 t) (iblk m c 3 t) (iblk m c 4 t) (iblk m c 5 t) (iblk m c 6 t) (iblk m c 7 t) (j 0) (j 1)) [] [_, _]
      ⟨dx_hi _ _ _ _ _ _ _ _ _ _ _ _ _ _ _ _ inb_S512x1024_S256x1024_256_0, dx_lo _ _ _ _ _ _ _ _ _ _ _ _ _ _ _ _ inb_S512x1024_S256x1024_0_0, trivial⟩ y
      (View.cover_of_tiledBy (s := S512x1024) _ (![256, 1024] : Fin 2 → ℕ) (by sl_kernel_rfl) _)

/-- What a point adds to the accumulator. -/
def part (c : Dev nD) (t : Fin cfg0.N) (j : S8x1024.Idx) : EReal :=
  if (j 0).val = 0 then ∑ p : Fin 512, gp (iblk m c 0 t) (iblk m c 1 t) (iblk m c 2 t) (iblk m c 3 t) (iblk m c 4 t) (iblk m c 7 t) p (j 1) else 0

theorem acc_A (c : Dev nD) (t : Fin cfg0.N) (h0 : t.val % 16 = 0) (y : S8x1024.Idx) :
    (outsAt0 m c t.val t.isLt).2 y = 0 + part m c t y := by
  rw [outsAt0_A m c t h0]
  frame_out
  simp only [View.readCov_cons_toLoadRect]
  simp (disch := decide) only [View.readCov_fill]
  refine (Norm.row_canon _ _ _ _).trans ?_
  unfold part
  by_cases h : (y 0).val = 0
  · rw [if_pos h, if_pos h]
    refine (gp_hi _ _ _ _ _ _ _ _ _ _ _ _ _ _ _ _).trans ?_
    refine (congrArg (· + _) ((gp_lo _ _ _ _ _ _ _ _ _ _ _ _ _ _ _ _).trans (congrArg (· + _) ((Norm.row_ld _ _ _).trans (show _ = (0 : EReal) by pointwise [k0_pay3]))))).trans ?_
    exact Norm.two_halves 0 fun p => gp (iblk m c 0 t) (iblk m c 1 t) (iblk m c 2 t) (iblk m c 3 t) (iblk m c 4 t) (iblk m c 7 t) p (y 1)
  · rw [if_neg h, if_neg h]
    refine (Norm.row_canon _ _ _ _).trans ?_
    rw [if_neg h, add_zero]
    refine (congrFun (View.canon_unit_zero (Val := Elt Ideal) (S := S8x1024) (e := .f32) (by decide) _ _) y).trans ?_
    pointwise [k0_pay3]

theorem acc_B (c : Dev nD) (t : Fin cfg0.N) (h0 : ¬t.val % 16 = 0) (y : S8x1024.Idx) :
    (outsAt0 m c t.val t.isLt).2 y
      = (outsAt0 m c (t.val - 1) (Nat.lt_of_le_of_lt (Nat.sub_le _ _) t.isLt)).2 y + part m c t y := by
  rw [outsAt0_B m c t h0]
  frame_out
  simp only [View.readCov_cons_toLoadRect]
  refine (Norm.row_read _ _ _ _ _ _).trans ?_
  unfold part
  by_cases h : (y 0).val = 0
  · rw [if_pos h, if_pos h]
    refine (gp_hi _ _ _ _ _ _ _ _ _ _ _ _ _ _ _ _).trans ?_
    refine (congrArg (· + _) ((gp_lo _ _ _ _ _ _ _ _ _ _ _ _ _ _ _ _).trans (congrArg (· + _) (Norm.row_ld _ _ _)))).trans ?_
    refine (Norm.two_halves _ fun p => gp (iblk m c 0 t) (iblk m c 1 t) (iblk m c 2 t) (iblk m c 3 t) (iblk m c 4 t) (iblk m c 7 t) p (y 1)).trans ?_
    refine congrArg (· + _) (congrArg (outsAt0 m c (t.val - 1) _).2 ?_)
    blk_ext
  · rw [if_neg h, if_neg h]
    refine (Norm.row_read _ _ _ _ _ _).trans ?_
    rw [if_neg h, add_zero]
    exact congrFun (Memref.IsWhole.read_unread _ _) y

end Cert.Kernel3Ideal.Inproj

end
-- ==== Proof.InprojGrad.lean ====
/-
  The value of the backward call of the last layer's input projection (program `Kernel3`), against the reference: what the
  points compute are the reference's gradients at their tokens.
-/
module

public import proofs.«01_k».proof.Proof.InprojBlock
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Inproj

open Cert.Kernel3Ideal Cert.Kernel3Ideal.Gen

variable (m : (ℓ : Loc nD τ sig) → Buf (Elt Ideal) ℓ)

/-- The mean squares of the rows, plus the small constant. -/
def MSQ (a4 : FVec Ideal Cert.Reference3Ideal.S4x2048x1024 .f32) : FVec Ideal Cert.Reference3Ideal.S4x2048x1 .f32 :=
  (addf (Host.divf (broadcastInDim Cert.Reference3Ideal.S4x2048x1 ![0, 1] Cert.Reference3Ideal.Gen.bcast_S4x2048_S4x2048x1_0_1 (Host.reduceAdd (mulf a4 a4) (constant Cert.Reference3Ideal.S_ .f32 0x00000000#32) Cert.Reference3Ideal.Gen.reducesTo_S4x2048x1024_S4x2048_d2 Cert.Reference3Ideal.Gen.h_S_)) (broadcastInDim Cert.Reference3Ideal.S4x2048x1 ![] Cert.Reference3Ideal.Gen.bcast_S_S4x2048x1 (constant Cert.Reference3Ideal.S_ .f32 0x44800000#32))) (broadcastInDim Cert.Reference3Ideal.S4x2048x1 ![] Cert.Reference3Ideal.Gen.bcast_S_S4x2048x1 (constant Cert.Reference3Ideal.S_ .f32 0x358637BD#32)))

/-- Their reciprocal roots. -/
def RINV (a4 : FVec Ideal Cert.Reference3Ideal.S4x2048x1024 .f32) : FVec Ideal Cert.Reference3Ideal.S4x2048x1 .f32 :=
  Host.rsqrt (MSQ a4)

/-- The four cotangents side by side. -/
def CAT (a0 : FVec Ideal Cert.Reference3Ideal.S4x2048x1024 .f32) (a1 a2 : FVec Ideal Cert.Reference3Ideal.S4x2048x256 .f32) (a3 : FVec Ideal Cert.Reference3Ideal.S4x2048x5120 .f32) : FVec Ideal Cert.Reference3Ideal.S4x2048x6656 .f32 :=
  concatenate Cert.Reference3Ideal.S4x2048x6656 2 [⟨Cert.Reference3Ideal.S4x2048x1024, a0⟩, ⟨Cert.Reference3Ideal.S4x2048x256, a1⟩, ⟨Cert.Reference3Ideal.S4x2048x256, a2⟩, ⟨Cert.Reference3Ideal.S4x2048x5120, a3⟩] Cert.Reference3Ideal.Gen.concatenates_S4x2048x1024_S4x2048x256_S4x2048x256_S4x2048x5120_S4x2048x6656_d2

/-- The gradient of the normalised and scaled input. -/
def DH (a0 : FVec Ideal Cert.Reference3Ideal.S4x2048x1024 .f32) (a1 a2 : FVec Ideal Cert.Reference3Ideal.S4x2048x256 .f32) (a3 : FVec Ideal Cert.Reference3Ideal.S4x2048x5120 .f32) (a7 : FVec Ideal Cert.Reference3Ideal.S1024x6656 .f32) : FVec Ideal Cert.Reference3Ideal.S4x2048x1024 .f32 :=
  Host.dotGeneral Cert.Reference3Ideal.dot_S4x2048x6656_S1024x6656_S4x2048x1024_2_1_01_0_n_n none (CAT a0 a1 a2 a3) a7

/-- The gradient of the normalised input. -/
def DN (a0 : FVec Ideal Cert.Reference3Ideal.S4x2048x1024 .f32) (a1 a2 : FVec Ideal Cert.Reference3Ideal.S4x2048x256 .f32) (a3 : FVec Ideal Cert.Reference3Ideal.S4x2048x5120 .f32) (a6 : FVec Ideal Cert.Reference3Ideal.S2x1024 .f32) (a7 : FVec Ideal Cert.Reference3Ideal.S1024x6656 .f32) : FVec Ideal Cert.Reference3Ideal.S4x2048x1024 .f32 :=
  mulf (DH a0 a1 a2 a3 a7) (broadcastInDim Cert.Reference3Ideal.S4x2048x1024 ![0, 1, 2] Cert.Reference3Ideal.Gen.bcast_S1x1x1024_S4x2048x1024_0_1_2 (broadcastInDim Cert.Reference3Ideal.S1x1x1024 ![2] Cert.Reference3Ideal.Gen.bcast_S1024_S1x1x1024_2 (shapeCast Cert.Reference3Ideal.S1024 (extractStridedSlice Cert.Reference3Ideal.S1x1024 ![1, 0] a6 Cert.Reference3Ideal.Gen.slices_S2x1024_S1x1024_1_0) Cert.Reference3Ideal.Gen.shapeCasts_S1x1024_S1024)))

/-- The common factor of the two equal parts of the input's gradient. -/
def HALF (a0 : FVec Ideal Cert.Reference3Ideal.S4x2048x1024 .f32) (a1 a2 : FVec Ideal Cert.Reference3Ideal.S4x2048x256 .f32) (a3 : FVec Ideal Cert.Reference3Ideal.S4x2048x5120 .f32) (a4 : FVec Ideal Cert.Reference3Ideal.S4x2048x1024 .f32) (a6 : FVec Ideal Cert.Reference3Ideal.S2x1024 .f32) (a7 : FVec Ideal Cert.Reference3Ideal.S1024x6656 .f32) : FVec Ideal Cert.Reference3Ideal.S4x2048x1024 .f32 :=
  broadcastInDim Cert.Reference3Ideal.S4x2048x1024 ![0, 1] Cert.Reference3Ideal.Gen.bcast_S4x2048_S4x2048x1024_0_1 (Host.reduceAdd (Host.divf (mulf (shapeCast Cert.Reference3Ideal.S4x2048x1 (Host.reduceAdd (mulf a4 (DN a0 a1 a2 a3 a6 a7)) (constant Cert.Reference3Ideal.S_ .f32 0x00000000#32) Cert.Reference3Ideal.Gen.reducesTo_S4x2048x1024_S4x2048_d2 Cert.Reference3Ideal.Gen.h_S_) Cert.Reference3Ideal.Gen.shapeCasts_S4x2048_S4x2048x1) (mulf (broadcastInDim Cert.Reference3Ideal.S4x2048x1 ![] Cert.Reference3Ideal.Gen.bcast_S_S4x2048x1 (constant Cert.Reference3Ideal.S_ .f32 0xBF000000#32)) (Host.divf (RINV a4) (MSQ a4)))) (broadcastInDim Cert.Reference3Ideal.S4x2048x1 ![] Cert.Reference3Ideal.Gen.bcast_S_S4x2048x1 (constant Cert.Reference3Ideal.S_ .f32 0x44800000#32))) (constant Cert.Reference3Ideal.S_ .f32 0x00000000#32) Cert.Reference3Ideal.Gen.reducesTo_S4x2048x1_S4x2048_d2 Cert.Reference3Ideal.Gen.h_S_)

/-- The reference's results. -/
def REF8 (a0 : FVec Ideal Cert.Reference3Ideal.S4x2048x1024 .f32) (a1 a2 : FVec Ideal Cert.Reference3Ideal.S4x2048x256 .f32) (a3 : FVec Ideal Cert.Reference3Ideal.S4x2048x5120 .f32) (a4 a5 : FVec Ideal Cert.Reference3Ideal.S4x2048x1024 .f32) (a6 : FVec Ideal Cert.Reference3Ideal.S2x1024 .f32) (a7 : FVec Ideal Cert.Reference3Ideal.S1024x6656 .f32) : FVec Ideal Cert.Reference3Ideal.S8192x1024 .f32 :=
  shapeCast Cert.Reference3Ideal.S8192x1024 (addf a5 (addf (addf (mulf (DN a0 a1 a2 a3 a6 a7) (broadcastInDim Cert.Reference3Ideal.S4x2048x1024 ![0, 1, 2] Cert.Reference3Ideal.Gen.bcast_S4x2048x1_S4x2048x1024_0_1_2 (RINV a4))) (mulf a4 (HALF a0 a1 a2 a3 a4 a6 a7))) (mulf (HALF a0 a1 a2 a3 a4 a6 a7) a4))) Cert.Reference3Ideal.Gen.shapeCasts_S4x2048x1024_S8192x1024

def REF9 (a0 : FVec Ideal Cert.Reference3Ideal.S4x2048x1024 .f32) (a1 a2 : FVec Ideal Cert.Reference3Ideal.S4x2048x256 .f32) (a3 : FVec Ideal Cert.Reference3Ideal.S4x2048x5120 .f32) (a4 : FVec Ideal Cert.Reference3Ideal.S4x2048x1024 .f32) (a7 : FVec Ideal Cert.Reference3Ideal.S1024x6656 .f32) : FVec Ideal Cert.Reference3Ideal.S8x1024 .f32 :=
  concatenate Cert.Reference3Ideal.S8x1024 0 [⟨Cert.Reference3Ideal.S1x1024, (shapeCast Cert.Reference3Ideal.S1x1024 (shapeCast Cert.Reference3Ideal.S1024 (extractStridedSlice Cert.Reference3Ideal.S1x1024 ![1, 0] (pad Cert.Reference3Ideal.S2x1024 ![1, 0] ![0, 0] ![0, 0] (broadcastInDim Cert.Reference3Ideal.S1x1024 ![1] Cert.Reference3Ideal.Gen.bcast_S1024_S1x1024_1 (Host.reduceAdd (shapeCast Cert.Reference3Ideal.S1x1x1024 (Host.reduceAdd (mulf (mulf a4 (broadcastInDim Cert.Reference3Ideal.S4x2048x1024 ![0, 1, 2] Cert.Reference3Ideal.Gen.bcast_S4x2048x1_S4x2048x1024_0_1_2 (RINV a4))) (DH a0 a1 a2 a3 a7)) (constant Cert.Reference3Ideal.S_ .f32 0x00000000#32) Cert.Reference3Ideal.Gen.reducesTo_S4x2048x1024_S1024_d0_1 Cert.Reference3Ideal.Gen.h_S_) Cert.Reference3Ideal.Gen.shapeCasts_S1024_S1x1x1024) (constant Cert.Reference3Ideal.S_ .f32 0x00000000#32) Cert.Reference3Ideal.Gen.reducesTo_S1x1x1024_S1024_d0_1 Cert.Reference3Ideal.Gen.h_S_)) (constant Cert.Reference3Ideal.S_ .f32 0x00000000#32) Cert.Reference3Ideal.Gen.pads_S1x1024_S2x1024_100_000 Cert.Reference3Ideal.Gen.h_S_) Cert.Reference3Ideal.Gen.slices_S2x1024_S1x1024_1_0) Cert.Reference3Ideal.Gen.shapeCasts_S1x1024_S1024) Cert.Reference3Ideal.Gen.shapeCasts_S1024_S1x1024)⟩, ⟨Cert.Reference3Ideal.S7x1024, (broadcastInDim Cert.Reference3Ideal.S7x1024 ![] Cert.Reference3Ideal.Gen.bcast_S_S7x1024 (constant Cert.Reference3Ideal.S_ .f32 0x00000000#32))⟩] Cert.Reference3Ideal.Gen.concatenates_S1x1024_S7x1024_S8x1024_d0

/-- The weight the call is handed. -/
theorem entry15 (c : Dev nD) : V m c main_v15 = (truncf .bf16 (transpose S6656x1024 [1, 0] (m ((c : Thread nD τ).loc main_arg7)) transposes_S1024x6656_S6656x1024_1_0) bitsLt_bf16_f32 : FVec Ideal S6656x1024 .bf16) := by
  entry_read
  rfl

/-! ## The blocks read as the arguments' entries -/

theorem blk0 (c : Dev nD) (t : Fin cfg0.N) (p : Fin 512) (k : Fin 5120) : (show Vec Ideal S512x5120 .bf16 from iblk m c 0 t) (ix2 p k)
    = (m ((c : Thread nD τ).loc main_arg3)) (ix3 ⟨(512 * t.val + p.val) / 2048, by have := lt_of_lt_of_eq t.isLt N_0; omega⟩ ⟨(512 * t.val + p.val) % 2048, by omega⟩ k) := by
  have hi := idx t
  blk_point [iblk, V, hi]

theorem blk1 (c : Dev nD) (t : Fin cfg0.N) (p : Fin 512) (k : Fin 1024) : (show Vec Ideal S1024x512 .bf16 from iblk m c 1 t) (ix2 k p)
    = (m ((c : Thread nD τ).loc main_arg0)) (ix3 ⟨(512 * t.val + p.val) / 2048, by have := lt_of_lt_of_eq t.isLt N_0; omega⟩ ⟨(512 * t.val + p.val) % 2048, by omega⟩ k) := by
  have hi := idx t
  blk_point [iblk, V, hi]

theorem blk2 (c : Dev nD) (t : Fin cfg0.N) (p : Fin 512) (k : Fin 256) : (show Vec Ideal S256x512 .bf16 from iblk m c 2 t) (ix2 k p)
    = (m ((c : Thread nD τ).loc main_arg1)) (ix3 ⟨(512 * t.val + p.val) / 2048, by have := lt_of_lt_of_eq t.isLt N_0; omega⟩ ⟨(512 * t.val + p.val) % 2048, by omega⟩ k) := by
  have hi := idx t
  blk_point [iblk, V, hi]

theorem blk3 (c : Dev nD) (t : Fin cfg0.N) (p : Fin 512) (k : Fin 256) : (show Vec Ideal S256x512 .bf16 from iblk m c 3 t) (ix2 k p)
    = (m ((c : Thread nD τ).loc main_arg2)) (ix3 ⟨(512 * t.val + p.val) / 2048, by have := lt_of_lt_of_eq t.isLt N_0; omega⟩ ⟨(512 * t.val + p.val) % 2048, by omega⟩ k) := by
  have hi := idx t
  blk_point [iblk, V, hi]

theorem blk4 (c : Dev nD) (t : Fin cfg0.N) (p : Fin 512) (k : Fin 1024) : (show Vec Ideal S512x1024 .f32 from iblk m c 4 t) (ix2 p k)
    = (m ((c : Thread nD τ).loc main_arg4)) (ix3 ⟨(512 * t.val + p.val) / 2048, by have := lt_of_lt_of_eq t.isLt N_0; omega⟩ ⟨(512 * t.val + p.val) % 2048, by omega⟩ k) := by
  have hi := idx t
  blk_point [iblk, V, hi]

theorem blk5 (c : Dev nD) (t : Fin cfg0.N) (p : Fin 512) (k : Fin 1024) : (show Vec Ideal S512x1024 .f32 from iblk m c 5 t) (ix2 p k)
    = (m ((c : Thread nD τ).loc main_arg5)) (ix3 ⟨(512 * t.val + p.val) / 2048, by have := lt_of_lt_of_eq t.isLt N_0; omega⟩ ⟨(512 * t.val + p.val) % 2048, by omega⟩ k) := by
  have hi := idx t
  blk_point [iblk, V, hi]

theorem blk6 (c : Dev nD) (t : Fin cfg0.N) (k : Fin 1024) : (show Vec Ideal S1x1x1024 .f32 from iblk m c 6 t) (ix3 0 0 k)
    = (m ((c : Thread nD τ).loc main_arg6)) (ix2 1 k) := by
  have hi := idx t
  blk_point [iblk, V, hi]

theorem blk7 (c : Dev nD) (t : Fin cfg0.N) (f : Fin 6656) (k : Fin 1024) : (show Vec Ideal S6656x1024 .bf16 from iblk m c 7 t) (ix2 f k)
    = (m ((c : Thread nD τ).loc main_arg7)) (ix2 k f) := by
  have hi := idx t
  have e : (win0_7.blk t).view.emb (ix2 f k) = (ix2 f k : S6656x1024.Idx) := by
    blk_ext [hi]
  refine (congrArg (V m c main_v15) e).trans ?_
  rw [entry15]
  pointwise []

/-! ## What a point computes is the reference's gradient at its tokens -/

/-- A sum over the joined columns is the sum over the four parts. -/
theorem sum_cat (F : Fin 6656 → EReal) : ∑ f, F f
    = (∑ f : Fin 1024, F ⟨f.val, by omega⟩) + (∑ f : Fin 256, F ⟨1024 + f.val, by omega⟩) + (∑ f : Fin 256, F ⟨1280 + f.val, by omega⟩)
      + ∑ f : Fin 5120, F ⟨1536 + f.val, by omega⟩ :=
  (Fin.sum_univ_add (a := 1536) (b := 5120) F).trans (congrArg (· + _)
    ((Fin.sum_univ_add (a := 1280) (b := 256) _).trans (congrArg (· + _) (Fin.sum_univ_add (a := 1024) (b := 256) _))))

section
variable (a0 : FVec Ideal Cert.Reference3Ideal.S4x2048x1024 .f32) (a1 a2 : FVec Ideal Cert.Reference3Ideal.S4x2048x256 .f32)
  (a3 : FVec Ideal Cert.Reference3Ideal.S4x2048x5120 .f32) (b : Fin 4) (s : Fin 2048)

theorem cat0 (f : Fin 1024) : CAT a0 a1 a2 a3 (ix3 b s ⟨f.val, by omega⟩) = a0 (ix3 b s f) := by
  pointwise [CAT]

theorem cat1 (f : Fin 256) : CAT a0 a1 a2 a3 (ix3 b s ⟨1024 + f.val, by omega⟩) = a1 (ix3 b s f) := by
  pointwise [CAT]

theorem cat2 (f : Fin 256) : CAT a0 a1 a2 a3 (ix3 b s ⟨1280 + f.val, by omega⟩) = a2 (ix3 b s f) := by
  pointwise [CAT]
  refine (dif_neg (by omega)).trans ((dif_neg (by omega)).trans ((dif_pos (by omega)).trans (congrArg a2 ?_)))
  blk_ext

theorem cat3 (f : Fin 5120) : CAT a0 a1 a2 a3 (ix3 b s ⟨1536 + f.val, by omega⟩) = a3 (ix3 b s f) := by
  pointwise [CAT]
  refine (dif_neg (by omega)).trans ((dif_neg (by omega)).trans ((dif_neg (by omega)).trans ?_))
  first | exact congrArg a3 (by blk_ext) | exact (dif_pos (by omega)).trans (congrArg a3 (by blk_ext))

end

theorem dh_eq (c : Dev nD) (t : Fin cfg0.N) (p : Fin 512) (j : Fin 1024) :
    dh (iblk m c 0 t) (iblk m c 1 t) (iblk m c 2 t) (iblk m c 3 t) (iblk m c 7 t) p j = DH (m ((c : Thread nD τ).loc main_arg0)) (m ((c : Thread nD τ).loc main_arg1)) (m ((c : Thread nD τ).loc main_arg2)) (m ((c : Thread nD τ).loc main_arg3)) (m ((c : Thread nD τ).loc main_arg7)) (ix3 ⟨(512 * t.val + p.val) / 2048, by have := lt_of_lt_of_eq t.isLt N_0; omega⟩ ⟨(512 * t.val + p.val) % 2048, by omega⟩ j) := by
  unfold dh
  pointwise [DH]
  rw [sum_cat]
  simp only [cat0, cat1, cat2, cat3]
  exact congrArg₂ (· + ·) (congrArg₂ (· + ·) (congrArg₂ (· + ·)
    (Finset.sum_congr rfl fun f _ => congrArg₂ (· * ·) (blk1 m c t p f) (blk7 m c t _ j))
    (Finset.sum_congr rfl fun f _ => congrArg₂ (· * ·) (blk2 m c t p f) (blk7 m c t _ j)))
    (Finset.sum_congr rfl fun f _ => congrArg₂ (· * ·) (blk3 m c t p f) (blk7 m c t _ j)))
    (Finset.sum_congr rfl fun f _ => congrArg₂ (· * ·) (blk0 m c t p f) (blk7 m c t _ j))

theorem rinv_eq (c : Dev nD) (t : Fin cfg0.N) (p : Fin 512) :
    Norm.rinv (fun k => (show Vec Ideal S512x1024 .f32 from iblk m c 4 t) (ix2 p k)) = RINV (m ((c : Thread nD τ).loc main_arg4)) (ix3 ⟨(512 * t.val + p.val) / 2048, by have := lt_of_lt_of_eq t.isLt N_0; omega⟩ ⟨(512 * t.val + p.val) % 2048, by omega⟩ 0) := by
  rw [show (fun k => (show Vec Ideal S512x1024 .f32 from iblk m c 4 t) (ix2 p k)) = fun k => (m ((c : Thread nD τ).loc main_arg4)) (ix3 ⟨(512 * t.val + p.val) / 2048, by have := lt_of_lt_of_eq t.isLt N_0; omega⟩ ⟨(512 * t.val + p.val) % 2048, by omega⟩ k) from funext fun k => blk4 m c t p k]
  pointwise [RINV, MSQ]
  rfl

theorem half_eq (a0 a1 a2 a3 a4 a6 a7) (b : Fin 4) (s : Fin 2048) (j : Fin 1024) :
    Norm.half (fun k => DH a0 a1 a2 a3 a7 (ix3 b s k) * a6 (ix2 1 k)) (fun k => a4 (ix3 b s k)) = HALF a0 a1 a2 a3 a4 a6 a7 (ix3 b s j) := by
  pointwise [HALF, RINV, MSQ, DN]
  rw [Fin.sum_univ_one]
  rfl

theorem dx_eq (c : Dev nD) (t : Fin cfg0.N) (p : Fin 512) (j : Fin 1024) :
    dx (iblk m c 0 t) (iblk m c 1 t) (iblk m c 2 t) (iblk m c 3 t) (iblk m c 4 t) (iblk m c 5 t) (iblk m c 6 t) (iblk m c 7 t) p j
      = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * t.val + p.val, by have := lt_of_lt_of_eq t.isLt N_0; omega⟩ j) := by
  unfold dx
  rw [Norm.grad_eq]
  rw [show (fun k => dh (iblk m c 0 t) (iblk m c 1 t) (iblk m c 2 t) (iblk m c 3 t) (iblk m c 7 t) p k * (show Vec Ideal S1x1x1024 .f32 from iblk m c 6 t) (ix3 0 0 k))
      = fun k => DH (m ((c : Thread nD τ).loc main_arg0)) (m ((c : Thread nD τ).loc main_arg1)) (m ((c : Thread nD τ).loc main_arg2)) (m ((c : Thread nD τ).loc main_arg3)) (m ((c : Thread nD τ).loc main_arg7)) (ix3 ⟨(512 * t.val + p.val) / 2048, by have := lt_of_lt_of_eq t.isLt N_0; omega⟩ ⟨(512 * t.val + p.val) % 2048, by omega⟩ k) * (m ((c : Thread nD τ).loc main_arg6)) (ix2 1 k) from
      funext fun k => congrArg₂ (· * ·) (dh_eq m c t p k) (blk6 m c t k)]
  have h := rinv_eq m c t p
  rw [show (fun k => (show Vec Ideal S512x1024 .f32 from iblk m c 4 t) (ix2 p k)) = fun k => (m ((c : Thread nD τ).loc main_arg4)) (ix3 ⟨(512 * t.val + p.val) / 2048, by have := lt_of_lt_of_eq t.isLt N_0; omega⟩ ⟨(512 * t.val + p.val) % 2048, by omega⟩ k) from funext fun k => blk4 m c t p k] at h ⊢
  rw [h, half_eq _ _ _ _ _ _ _ _ _ j]
  pointwise [REF8, DN]
  refine congrArg₂ (· + ·) ?_ ?_
  · exact blk5 m c t p j
  · have hx := blk4 m c t p j
    exact congrArg₂ (· + ·) (congrArg₂ (· + ·)
      (congrArg (· * _) (congrArg₂ (· * ·) (dh_eq m c t p j) (blk6 m c t j))) (congrArg (· * _) hx)) (congrArg (_ * ·) hx)

theorem ref9_0 (a0 a1 a2 a3 a4 a7) (i : Fin 8) (hi : i.val = 0) (j : Fin 1024) : REF9 a0 a1 a2 a3 a4 a7 (ix2 i j)
    = ∑ b : Fin 4, ∑ s : Fin 2048, DH a0 a1 a2 a3 a7 (ix3 b s j) * (a4 (ix3 b s j) * RINV a4 (ix3 b s 0)) := by
  pointwise [REF9]
  refine (dif_pos (by omega)).trans ((dif_pos (by omega)).trans ?_)
  rw [Norm.sum_01, zero_add, Fin.sum_univ_one, Fin.sum_univ_one]
  pointwise []
  rw [Norm.sum_01, zero_add]
  refine Finset.sum_congr rfl fun b _ => Finset.sum_congr rfl fun s _ => ?_
  pointwise []
  exact mul_comm _ _

theorem ref9_1 (a0 a1 a2 a3 a4 a7) (i : Fin 8) (hi : ¬i.val = 0) (j : Fin 1024) : REF9 a0 a1 a2 a3 a4 a7 (ix2 i j) = 0 := by
  pointwise [REF9]
  exact dif_neg (by omega)

theorem acc_total (c : Dev nD) (i : Fin 8) (j : Fin 1024) : ∑ t : Fin cfg0.N, part m c t (ix2 i j) = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix2 i j) := by
  unfold part
  by_cases h : i.val = 0
  · rw [ref9_0 _ _ _ _ _ _ i h j, ← Norm.regroup N_0]
    refine Finset.sum_congr rfl fun t _ => (if_pos h).trans (Finset.sum_congr rfl fun p _ => ?_)
    exact congrArg₂ (· * ·) (dh_eq m c t p j) (congrArg₂ (· * ·) (blk4 m c t p j) (rinv_eq m c t p))
  · rw [ref9_1 _ _ _ _ _ _ i h j]
    exact Finset.sum_eq_zero fun t _ => if_neg h

theorem final_8 (c : Dev nD) : (dats m 0 c).arrAt 8 (cfgs 0).N = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8, out8]
  idx_vars y
  have e : ((View.whole main_v16_0).slice (win0_8.rect t)).emb (ix2 y0 y1)
      = (ix2 ⟨512 * t.val + y0.val, by have := lt_of_lt_of_eq t.isLt N_0; omega⟩ y1 : S8192x1024.Idx) := by
    blk_ext [idx t]
  rw [e]
  exact dx_eq m c t y0 y1

theorem final_9 (c : Dev nD) : (dats m 0 c).arrAt 9 (cfgs 0).N = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 9 _ (by decide +kernel) fun t hf y => ?_
  have h15 : t.val % 16 = 15 := (flush0_9 t).mp hf
  have hN := lt_of_lt_of_eq t.isLt N_0
  blk_simp
  rw [after0_9]
  rw [Pipeline.eq_sum_fin_of_reset_step_apply_last (fun n h => (outsAt0 m c n h).2) 16 (fun _ => 0) (part m c)
    (fun t h j => acc_A m c t h j) (fun t h j => acc_B m c t h j) (le_of_eq N_0) t (by have h16 : cfg0.N = 16 := N_0; omega), zero_add]
  idx_vars y
  have e : ((View.whole main_v16_1).slice (win0_9.rect t)).emb (ix2 y0 y1) = (ix2 y0 y1 : S8x1024.Idx) := by
    blk_ext [idx t]
  rw [e]
  exact acc_total m c y0 y1

end Cert.Kernel3Ideal.Inproj

end
-- ==== Proof.DownGrad.lean ====
/-
  The value of the weight gradient of `w_down` (program `Kernel4`): the squared rectifier of the saved activations
  contracted with the incoming gradient. Each block of 1024 rows is accumulated over four grid points in a scratch and
  written back at the fourth; the scratch is then the contraction over the four sequences, the reference's double sum.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Down

open Cert.Kernel4Ideal Cert.Kernel4Ideal.Gen

variable (m : (ℓ : Loc nD τ sig) → Buf (Elt Ideal) ℓ)

/-- The reference's result as a term of its two arguments. -/
def REF (a0 : FVec Ideal Cert.Reference4Ideal.S4x2048x4096 .f32) (a1 : FVec Ideal Cert.Reference4Ideal.S4x2048x1024 .f32) :
    FVec Ideal Cert.Reference4Ideal.S4096x1024 .bf16 :=
  truncf .bf16 (transpose Cert.Reference4Ideal.S4096x1024 [1, 0]
    (Host.dotGeneral Cert.Reference4Ideal.dot_S4x2048x1024_S4x2048x4096_S1024x4096_01_01_2_2_n_n none a1
      (mulf (maximumf a0 (broadcastInDim Cert.Reference4Ideal.S4x2048x4096 ![] Cert.Reference4Ideal.Gen.bcast_S_S4x2048x4096 (constant Cert.Reference4Ideal.S_ .f32 0x00000000#32)))
        (maximumf a0 (broadcastInDim Cert.Reference4Ideal.S4x2048x4096 ![] Cert.Reference4Ideal.Gen.bcast_S_S4x2048x4096 (constant Cert.Reference4Ideal.S_ .f32 0x00000000#32)))))
    Cert.Reference4Ideal.Gen.transposes_S1024x4096_S4096x1024_1_0)
    Cert.Reference4Ideal.Gen.bitsLt_bf16_f32

/-- The windows' block indices at every grid point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem reset_zero (j) : k0_pay1 (F := Ideal) j = 0 := by pointwise [k0_pay1]

theorem step_apply (x acc y) (a b : Fin 1024) : k0_pay2 (F := Ideal) x acc y (ix2 a b)
    = acc (ix2 a b) + ∑ k : Fin 2048, max (x (ix2 k a)) 0 * max (x (ix2 k a)) 0 * y (ix2 k b) := by pointwise [k0_pay2]

theorem ref_apply (X0 X1) (a : Fin 4096) (b : Fin 1024) : REF X0 X1 (ix2 a b)
    = ∑ s : Fin 4, ∑ k : Fin 2048, X1 (ix3 s k b) * (max (X0 (ix3 s k a)) 0 * max (X0 (ix3 s k a)) 0) := by
  pointwise [REF]

/-- At a point that writes a block back, the block is the scratch it leaves, cast. -/
theorem out_eq (c : Dev nD) (t : Fin cfg0.N) (h1 : t.val % 4 = 3) (y) :
    (outsAt0 m c t.val t.isLt).1 y = (outsAt0 m c t.val t.isLt).2 y := by
  rw [outsAt0_C m c t (by omega) h1]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq m c t h3]
  idx_vars y
  rw [Pipeline.eq_sum_fin_of_reset_step_apply_of_flush (fun n h => (outsAt0 m c n h).2) 4 (fun _ => 0)
    (fun p j => ∑ k : Fin 2048, (max ((show FVec Ideal S2048x1024 .bf16 from iblk m c 0 p) (ix2 k (j 0))) 0 * max ((show FVec Ideal S2048x1024 .bf16 from iblk m c 0 p) (ix2 k (j 0))) 0) * (show FVec Ideal S2048x1024 .bf16 from iblk m c 1 p) (ix2 k (j 1)))
    (fun t h j => by
      idx_vars j
      rw [outsAt0_A m c t h (by omega)]; frame_out; rw [step_apply, reset_zero])
    (fun t h j => by
      idx_vars j
      by_cases h1 : t.val % 4 = 3
      · rw [outsAt0_C m c t h h1]; frame_out; simp only [read_unread_whole]; rw [step_apply]
      · rw [outsAt0_B m c t h h1]; frame_out; simp only [read_unread_whole]; rw [step_apply])
    t h3, zero_add]
  have e : ((View.whole main_v4).slice (win0_2.rect t)).emb (ix2 y0 y1)
      = (ix2 ⟨t.val / 4 * 1024 + y0.val, by have h16 : t.val < 16 := lt_of_lt_of_eq t.isLt N_0; omega⟩ y1 : S4096x1024.Idx) := by
    blk_ext [idx t]
  rw [e, ref_apply]
  refine Fin.sum_fin_congr fun s => Fin.sum_fin_congr fun k => ?_
  have hi := idx ⟨_, Pipeline.run_point_lt_of_flush t h3 s⟩
  dsimp only [ix2_0, ix2_1]
  rw [mul_comm]
  blk_point [iblk, V, hi]

end Cert.Kernel4Ideal.Down

end
-- ==== Proof.UpGrad.lean ====
/-
  The value of the weight gradient `hᵀ`-contraction of `w_up` (program `Kernel5`): each block of 1024 rows of the
  result is accumulated over four grid points in a scratch and written back at the fourth; the scratch is then the
  contraction over the four sequences, which is the reference's double sum.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Up

open Cert.Kernel5Ideal Cert.Kernel5Ideal.Gen

variable (m : (ℓ : Loc nD τ sig) → Buf (Elt Ideal) ℓ)

/-- The reference's result as a term of its two arguments. -/
def REF (a0 : FVec Ideal Cert.Reference5Ideal.S4x2048x1024 .f32) (a1 : FVec Ideal Cert.Reference5Ideal.S4x2048x4096 .f32) :
    FVec Ideal Cert.Reference5Ideal.S4096x1024 .bf16 :=
  truncf .bf16 (transpose Cert.Reference5Ideal.S4096x1024 [1, 0] (transpose Cert.Reference5Ideal.S1024x4096 [1, 0]
    (Host.dotGeneral Cert.Reference5Ideal.dot_S4x2048x4096_S4x2048x1024_S4096x1024_01_01_2_2_n_n none a1 a0)
    Cert.Reference5Ideal.Gen.transposes_S4096x1024_S1024x4096_1_0) Cert.Reference5Ideal.Gen.transposes_S1024x4096_S4096x1024_1_0)
    Cert.Reference5Ideal.Gen.bitsLt_bf16_f32

/-- The windows' block indices at every grid point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem reset_zero (j) : k0_pay1 (F := Ideal) j = 0 := by pointwise [k0_pay1]

theorem step_apply (x acc y) (a b : Fin 1024) : k0_pay2 (F := Ideal) x acc y (ix2 a b)
    = acc (ix2 a b) + ∑ k : Fin 2048, x (ix2 k a) * y (ix2 k b) := by pointwise [k0_pay2]

theorem ref_apply (X0 X1) (a : Fin 4096) (b : Fin 1024) : REF X0 X1 (ix2 a b)
    = ∑ s : Fin 4, ∑ k : Fin 2048, X1 (ix3 s k a) * X0 (ix3 s k b) := by
  pointwise [REF]

/-- At a point that writes a block back, the block is the scratch it leaves, cast. -/
theorem out_eq (c : Dev nD) (t : Fin cfg0.N) (h1 : t.val % 4 = 3) (y) :
    (outsAt0 m c t.val t.isLt).1 y = (outsAt0 m c t.val t.isLt).2 y := by
  rw [outsAt0_C m c t (by omega) h1]
  frame_out
  pointwise [k0_pay3]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq m c t h3]
  idx_vars y
  rw [Pipeline.eq_sum_fin_of_reset_step_apply_of_flush (fun n h => (outsAt0 m c n h).2) 4 (fun _ => 0)
    (fun p j => ∑ k : Fin 2048, (show FVec Ideal S2048x1024 .bf16 from iblk m c 0 p) (ix2 k (j 0)) * (show FVec Ideal S2048x1024 .bf16 from iblk m c 1 p) (ix2 k (j 1)))
    (fun t h j => by
      idx_vars j
      rw [outsAt0_A m c t h (by omega)]; frame_out; rw [step_apply, reset_zero])
    (fun t h j => by
      idx_vars j
      by_cases h1 : t.val % 4 = 3
      · rw [outsAt0_C m c t h h1]; frame_out; simp only [read_unread_whole]; rw [step_apply]
      · rw [outsAt0_B m c t h h1]; frame_out; simp only [read_unread_whole]; rw [step_apply])
    t h3, zero_add]
  have e : ((View.whole main_v4).slice (win0_2.rect t)).emb (ix2 y0 y1)
      = (ix2 ⟨t.val / 4 * 1024 + y0.val, by have h16 : t.val < 16 := lt_of_lt_of_eq t.isLt N_0; omega⟩ y1 : S4096x1024.Idx) := by
    blk_ext [idx t]
  rw [e, ref_apply]
  refine Fin.sum_fin_congr fun s => Fin.sum_fin_congr fun k => ?_
  have hi := idx ⟨_, Pipeline.run_point_lt_of_flush t h3 s⟩
  dsimp only [ix2_0, ix2_1]
  blk_point [iblk, V, hi]

end Cert.Kernel5Ideal.Up

end
-- ==== Proof.GateGrad.lean ====
/-
  The value of the weight gradient of the two gates' columns of `w_in` (program `Kernel6`): each block of 512 rows is
  accumulated over two grid points of 4096 tokens and written below the first 1536 rows of the fresh result, which
  this call leaves as they are.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Gate

open Cert.Kernel6Ideal Cert.Kernel6Ideal.Gen

variable (m : (ℓ : Loc nD τ sig) → Buf (Elt Ideal) ℓ)

/-- The reference's result as a term of its two arguments. -/
def REF (a0 : FVec Ideal Cert.Reference6Ideal.S4x2048x1024 .f32) (a1 : FVec Ideal Cert.Reference6Ideal.S4x2048x5120 .f32) :
    FVec Ideal Cert.Reference6Ideal.S6656x1024 .bf16 :=
  truncf .bf16 (transpose Cert.Reference6Ideal.S6656x1024 [1, 0] (transpose Cert.Reference6Ideal.S1024x6656 [1, 0]
    (Host.dotGeneral Cert.Reference6Ideal.dot_S4x2048x6656_S4x2048x1024_S6656x1024_01_01_2_2_n_n none
      (pad Cert.Reference6Ideal.S4x2048x6656 ![0, 0, 1536] ![0, 0, 0] ![0, 0, 0] a1
        (constant Cert.Reference6Ideal.S_ .f32 0x00000000#32)
        Cert.Reference6Ideal.Gen.pads_S4x2048x5120_S4x2048x6656_000_000_153600 Cert.Reference6Ideal.Gen.h_S_) a0)
    Cert.Reference6Ideal.Gen.transposes_S6656x1024_S1024x6656_1_0) Cert.Reference6Ideal.Gen.transposes_S1024x6656_S6656x1024_1_0)
    Cert.Reference6Ideal.Gen.bitsLt_bf16_f32

/-- The windows' block indices at every grid point. -/
theorem idx : ∀ t : Fin cfg0.N, win0_0.index t = ![t.val % 2, t.val / 2] ∧ win0_1.index t = ![t.val % 2, 0]
    ∧ win0_2.index t = ![3 + t.val / 2, 0] :=
  (by decide +kernel : ∀ t : Fin grid0.N, _)

theorem reset_zero (j) : k0_pay1 (F := Ideal) j = 0 := by pointwise [k0_pay1]

theorem step_apply (x acc y) (a : Fin 512) (b : Fin 1024) : k0_pay2 (F := Ideal) x acc y (ix2 a b)
    = acc (ix2 a b) + ∑ k : Fin 4096, x (ix2 k a) * y (ix2 k b) := by pointwise [k0_pay2]

/-- Below the first 1536 rows the reference contracts the gate columns with the layer's input. -/
theorem ref_apply (X0 X1) (a : Fin 5120) (b : Fin 1024) (h : 1536 + a.val < 6656) : REF X0 X1 (ix2 ⟨1536 + a.val, h⟩ b)
    = ∑ s : Fin 4, ∑ k : Fin 2048, X1 (ix3 s k a) * X0 (ix3 s k b) := by
  pointwise [REF]

/-- A token's product of a gate cotangent and an input, the token counted through the four sequences. -/
def term (X0 : FVec Ideal S4x2048x1024 .f32) (X1 : FVec Ideal S4x2048x5120 .f32) (a : Fin 5120) (b : Fin 1024) (n : ℕ) : EReal :=
  if h : n < 8192 then X1 (ix3 ⟨n / 2048, by omega⟩ ⟨n % 2048, by omega⟩ a) * X0 (ix3 ⟨n / 2048, by omega⟩ ⟨n % 2048, by omega⟩ b)
  else 0

/-- Two runs of 4096 rows and four of 2048 are the same 8192 rows. -/
theorem rows_sum (f : ℕ → EReal) : ∑ p : Fin 2, ∑ k : Fin 4096, f (p.val * 4096 + k.val)
    = ∑ s : Fin 4, ∑ k : Fin 2048, f (s.val * 2048 + k.val) :=
  (Fin.sum_univ_tiles 2 4096 rfl (fun n : Fin 8192 => f n.val)).symm.trans
    (Fin.sum_univ_tiles 4 2048 rfl (fun n : Fin 8192 => f n.val))

/-- At the last point of a run the result's block is what the scratch holds. -/
theorem out_eq (c : Dev nD) (t : Fin cfg0.N) (h1 : t.val % 2 = 1) (y) :
    (outsAt0 m c t.val t.isLt).1 y = (outsAt0 m c t.val t.isLt).2 y := by
  rw [outsAt0_B m c t (by omega) h1]
  frame_out
  pointwise [k0_pay3]

theorem final (c : Dev nD) : (dats m 0 c).arrAt 2 (cfgs 0).N
    = fun i => if 1536 ≤ (i 0).val then REF (m ((c : Thread nD τ).loc main_arg0)) (m ((c : Thread nD τ).loc main_arg1)) i
        else V m c main_v4 i := by
  refine (dats m 0 c).arrAt_eq_of_coversWhere 2 _ (fun β => 3 ≤ β (0 : Fin 2)) (by decide +kernel) (fun t hf y => ?_)
    (fun j => by blk_simp [Pipeline.Window.cell_apply]; omega)
  have h3 : t.val % 2 = 1 := (flush0_2 t).mp hf
  blk_simp
  rw [after0_2, out_eq m c t h3]
  idx_vars y
  rw [Pipeline.eq_sum_fin_of_reset_step_apply_of_flush (fun n h => (outsAt0 m c n h).2) 2 (fun _ => 0)
    (fun p j => ∑ k : Fin 4096, (show FVec Ideal S4096x512 .bf16 from iblk m c 0 p) (ix2 k (j 0))
      * (show FVec Ideal S4096x1024 .bf16 from iblk m c 1 p) (ix2 k (j 1)))
    (fun t h j => by idx_vars j; rw [outsAt0_A m c t h (by omega)]; frame_out; rw [step_apply, reset_zero])
    (fun t h j => by
      idx_vars j
      rw [outsAt0_B m c t h (by omega)]; frame_out; simp only [read_unread_whole]; rw [step_apply])
    t h3, zero_add]
  have h20 : t.val < 20 := lt_of_lt_of_eq t.isLt N_0
  have e : ((View.whole main_v4).slice (win0_2.rect t)).emb (ix2 y0 y1)
      = (ix2 ⟨1536 + (t.val / 2 * 512 + y0.val), by omega⟩ y1 : S6656x1024.Idx) := by
    blk_ext [idx t]
    all_goals omega
  rw [e, ref_apply _ _ ⟨t.val / 2 * 512 + y0.val, by omega⟩]
  refine Eq.trans (Fin.sum_fin_congr fun p => Fin.sum_fin_congr fun k => ?_) (rows_sum fun n =>
    term (m ((c : Thread nD τ).loc main_arg0)) (m ((c : Thread nD τ).loc main_arg1)) ⟨t.val / 2 * 512 + y0.val, by omega⟩ y1 n) |>.trans
    (Fin.sum_fin_congr fun s => Fin.sum_fin_congr fun k => ?_)
  · have hi := idx ⟨_, Pipeline.run_point_lt_of_flush t h3 p⟩
    rw [term, dif_pos (by omega)]
    dsimp only [ix2_0, ix2_1]
    blk_point [iblk, V, hi]
  · rw [term, dif_pos (by omega)]
    have e1 : (s.val * 2048 + k.val) / 2048 = s.val := by omega
    have e2 : (s.val * 2048 + k.val) % 2048 = k.val := by omega
    simp only [e1, e2]

end Cert.Kernel6Ideal.Gate

end
-- ==== Proof.QkvGrad.lean ====
/-
  The value of the weight gradient of the query, key and value columns of `w_in` (program `Kernel7`): one scratch of
  1536 rows in three row ranges is accumulated over the four sequences and written over the first 1536 rows of the
  array the call was handed, whose other rows it keeps.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Qkv

open Cert.Kernel7Ideal Cert.Kernel7Ideal.Gen

variable (m : (ℓ : Loc nD τ sig) → Buf (Elt Ideal) ℓ)

/-- The reference's result as a term of its five arguments. -/
def REF (a0 a1 : FVec Ideal Cert.Reference7Ideal.S4x2048x1024 .f32) (a2 a3 : FVec Ideal Cert.Reference7Ideal.S4x2048x256 .f32)
    (a4 : FVec Ideal Cert.Reference7Ideal.S6656x1024 .f32) : FVec Ideal Cert.Reference7Ideal.S6656x1024 .bf16 :=
  truncf .bf16 (concatenate Cert.Reference7Ideal.S6656x1024 0
    [⟨Cert.Reference7Ideal.S1536x1024, transpose Cert.Reference7Ideal.S1536x1024 [1, 0]
        (transpose Cert.Reference7Ideal.S1024x1536 [1, 0]
          (Host.dotGeneral Cert.Reference7Ideal.dot_S4x2048x1536_S4x2048x1024_S1536x1024_01_01_2_2_n_n none
            (concatenate Cert.Reference7Ideal.S4x2048x1536 2
              [⟨Cert.Reference7Ideal.S4x2048x1024, a1⟩, ⟨Cert.Reference7Ideal.S4x2048x256, a2⟩,
                ⟨Cert.Reference7Ideal.S4x2048x256, a3⟩]
              Cert.Reference7Ideal.Gen.concatenates_S4x2048x1024_S4x2048x256_S4x2048x256_S4x2048x1536_d2) a0)
          Cert.Reference7Ideal.Gen.transposes_S1536x1024_S1024x1536_1_0)
        Cert.Reference7Ideal.Gen.transposes_S1024x1536_S1536x1024_1_0⟩,
      ⟨Cert.Reference7Ideal.S5120x1024, extractStridedSlice Cert.Reference7Ideal.S5120x1024 ![1536, 0] a4
        Cert.Reference7Ideal.Gen.slices_S6656x1024_S5120x1024_1536_0⟩]
    Cert.Reference7Ideal.Gen.concatenates_S1536x1024_S5120x1024_S6656x1024_d0) Cert.Reference7Ideal.Gen.bitsLt_bf16_f32

/-- The windows' block indices at every grid point. -/
theorem idx : ∀ t : Fin cfg0.N, win0_0.index t = ![0, t.val] ∧ win0_1.index t = ![0, t.val]
    ∧ win0_2.index t = ![0, t.val] ∧ win0_3.index t = ![t.val, 0] ∧ win0_4.index t = ![0, 0] :=
  (by decide +kernel : ∀ t : Fin grid0.N, _)

/-- What one point adds at row `a`, column `b`: the row's feature of the point's 2048 tokens against their inputs. -/
def part (x0 : Vec Ideal S1024x2048 .bf16) (x1 x2 : Vec Ideal S256x2048 .bf16) (x3 : Vec Ideal S2048x1024 .bf16)
    (a : Fin 1536) (b : Fin 1024) : EReal :=
  ∑ k : Fin 2048, (if h : a.val < 1024 then x0 (ix2 ⟨a.val, h⟩ k) else if h : a.val - 1024 < 256 then x1 (ix2 ⟨a.val - 1024, by omega⟩ k)
    else x2 (ix2 ⟨a.val - 1024 - 256, by omega⟩ k)) * x3 (ix2 k b)

theorem pay4_apply (y acc x j) : k0_pay4 (F := Ideal) y acc x j = acc j + ∑ k : Fin 2048, x (ix2 (j 0) k) * y (ix2 k (j 1)) := by
  pointwise [k0_pay4, k0_pay3]

theorem pay5_apply (y acc x j) : k0_pay5 (F := Ideal) y acc x j = acc j + ∑ k : Fin 2048, x (ix2 (j 0) k) * y (ix2 k (j 1)) := by
  pointwise [k0_pay5, k0_pay3]

theorem pay6_apply (y acc x j) : k0_pay6 (F := Ideal) y acc x j = acc j + ∑ k : Fin 2048, x (ix2 (j 0) k) * y (ix2 k (j 1)) := by
  pointwise [k0_pay6, k0_pay3]

/-- A scratch's contents after one more point. -/
def next (acc : FVec Ideal S1536x1024 .f32) (x0 : Vec Ideal S1024x2048 .bf16) (x1 x2 : Vec Ideal S256x2048 .bf16)
    (x3 : Vec Ideal S2048x1024 .bf16) : FVec Ideal S1536x1024 .f32 := fun j => acc j + part x0 x1 x2 x3 (j 0) (j 1)

theorem rows_0 (x0 x1 x2 x3) (acc : FVec Ideal S1536x1024 .f32) (inb) (x : (⟨2, ![1024, 1024]⟩ : Shape).Idx) :
    k0_pay4 (F := Ideal) x3 (View.ld acc (Rect.unit (s := S1536x1024) ![0, 0] ![1024, 1024] inb)) x0 x
      = next acc x0 x1 x2 x3 ((Rect.unit (s := S1536x1024) ![0, 0] ![1024, 1024] inb).emb x) := by
  obtain ⟨z0, z1, rfl⟩ : ∃ z0 z1, x = ix2 z0 z1 := ⟨x 0, x 1, eq_ix2 x⟩
  have e : (Rect.unit (s := S1536x1024) ![0, 0] ![1024, 1024] inb).emb (ix2 z0 z1) = (ix2 ⟨0 + z0.val, by omega⟩ z1 : S1536x1024.Idx) := by
    blk_ext
  refine (pay4_apply _ _ _ _).trans ?_
  rw [e]
  refine congrArg₂ (· + ·) (congrArg acc e) (Finset.sum_congr rfl fun k _ => congrArg (· * _) ?_)
  dsimp only [ix2_0, ix2_1]
  refine Eq.trans ?_ (dif_pos (show 0 + z0.val < 1024 by omega)).symm
  exact congrArg x0 (by blk_ext)

theorem rows_1 (x0 x1 x2 x3) (acc : FVec Ideal S1536x1024 .f32) (inb) (x : (⟨2, ![256, 1024]⟩ : Shape).Idx) :
    k0_pay5 (F := Ideal) x3 (View.ld acc (Rect.unit (s := S1536x1024) ![1024, 0] ![256, 1024] inb)) x1 x
      = next acc x0 x1 x2 x3 ((Rect.unit (s := S1536x1024) ![1024, 0] ![256, 1024] inb).emb x) := by
  obtain ⟨z0, z1, rfl⟩ : ∃ z0 z1, x = ix2 z0 z1 := ⟨x 0, x 1, eq_ix2 x⟩
  have e : (Rect.unit (s := S1536x1024) ![1024, 0] ![256, 1024] inb).emb (ix2 z0 z1) = (ix2 ⟨1024 + z0.val, by omega⟩ z1 : S1536x1024.Idx) := by
    blk_ext
  refine (pay5_apply _ _ _ _).trans ?_
  rw [e]
  refine congrArg₂ (· + ·) (congrArg acc e) (Finset.sum_congr rfl fun k _ => congrArg (· * _) ?_)
  dsimp only [ix2_0, ix2_1]
  refine Eq.trans ?_ (dif_neg (show ¬ 1024 + z0.val < 1024 by omega)).symm
  refine Eq.trans ?_ (dif_pos (show 1024 + z0.val - 1024 < 256 by omega)).symm
  exact congrArg x1 (by blk_ext)

theorem rows_2 (x0 x1 x2 x3) (acc : FVec Ideal S1536x1024 .f32) (inb) (x : (⟨2, ![256, 1024]⟩ : Shape).Idx) :
    k0_pay6 (F := Ideal) x3 (View.ld acc (Rect.unit (s := S1536x1024) ![1280, 0] ![256, 1024] inb)) x2 x
      = next acc x0 x1 x2 x3 ((Rect.unit (s := S1536x1024) ![1280, 0] ![256, 1024] inb).emb x) := by
  obtain ⟨z0, z1, rfl⟩ : ∃ z0 z1, x = ix2 z0 z1 := ⟨x 0, x 1, eq_ix2 x⟩
  have e : (Rect.unit (s := S1536x1024) ![1280, 0] ![256, 1024] inb).emb (ix2 z0 z1) = (ix2 ⟨1280 + z0.val, by omega⟩ z1 : S1536x1024.Idx) := by
    blk_ext
  refine (pay6_apply _ _ _ _).trans ?_
  rw [e]
  refine congrArg₂ (· + ·) (congrArg acc e) (Finset.sum_congr rfl fun k _ => congrArg (· * _) ?_)
  dsimp only [ix2_0, ix2_1]
  refine Eq.trans ?_ (dif_neg (show ¬ 1280 + z0.val < 1024 by omega)).symm
  refine Eq.trans ?_ (dif_neg (show ¬ 1280 + z0.val - 1024 < 256 by omega)).symm
  exact congrArg x2 (by blk_ext)

/-- Stores into the three row ranges, over anything stored before, leave the next contents. -/
theorem canon_rows (x0 x1 x2 x3) (acc : FVec Ideal S1536x1024 .f32) (L : List (View.Piece (Elt Ideal) S1536x1024 .f32)) (i0 i1 i2)
    (j : S1536x1024.Idx) :
    View.canon (⟨Rect.unit (s := S1536x1024) ![1280, 0] ![256, 1024] i2, k0_pay6 (F := Ideal) x3 (View.ld acc (Rect.unit (s := S1536x1024) ![1280, 0] ![256, 1024] i2)) x2⟩
      :: ⟨Rect.unit (s := S1536x1024) ![1024, 0] ![256, 1024] i1, k0_pay5 (F := Ideal) x3 (View.ld acc (Rect.unit (s := S1536x1024) ![1024, 0] ![256, 1024] i1)) x1⟩
      :: ⟨Rect.unit (s := S1536x1024) ![0, 0] ![1024, 1024] i0, k0_pay4 (F := Ideal) x3 (View.ld acc (Rect.unit (s := S1536x1024) ![0, 0] ![1024, 1024] i0)) x0⟩ :: L) j
      = next acc x0 x1 x2 x3 j :=
  View.canon_append_of_piecesOf (Val := Elt Ideal) (s := S1536x1024) (e := .f32) (next acc x0 x1 x2 x3) L [_, _, _]
    ⟨rows_2 x0 x1 x2 x3 acc i2, rows_1 x0 x1 x2 x3 acc i1, rows_0 x0 x1 x2 x3 acc i0, trivial⟩ j
    (View.cover_of_tiledBy (s := S1536x1024) _ (![256, 1024] : Fin 2 → ℕ) (by sl_kernel_rfl) _)

theorem step_A (c : Dev nD) (t : Fin cfg0.N) (h0 : t.val % 4 = 0) (j : S1536x1024.Idx) :
    (outsAt0 m c t.val t.isLt).2 j = next (fun _ => 0) (iblk m c 0 t) (iblk m c 1 t) (iblk m c 2 t) (iblk m c 3 t) j := by
  rw [outsAt0_A m c t h0 (by omega), show (fun _ => 0 : FVec Ideal S1536x1024 .f32) = k0_pay2 (F := Ideal) from
    funext fun j => by pointwise [k0_pay2]]
  frame_out
  simp (disch := decide) only [↓ View.readCov_skip, View.readCov_fill]
  exact canon_rows _ _ _ _ _ _ _ _ _ _

theorem step_B (c : Dev nD) (t : Fin cfg0.N) (h0 : ¬t.val % 4 = 0) (h1 : ¬t.val % 4 = 3) (j : S1536x1024.Idx) :
    (outsAt0 m c t.val t.isLt).2 j = next (outsAt0 m c (t.val - 1) (Nat.lt_of_le_of_lt (Nat.sub_le _ _) t.isLt)).2
      (iblk m c 0 t) (iblk m c 1 t) (iblk m c 2 t) (iblk m c 3 t) j := by
  rw [outsAt0_B m c t h0 h1]
  frame_out
  simp only [read_unread_whole]
  exact canon_rows _ _ _ _ _ _ _ _ _ _

theorem step_C (c : Dev nD) (t : Fin cfg0.N) (h1 : t.val % 4 = 3) (j : S1536x1024.Idx) :
    (outsAt0 m c t.val t.isLt).2 j = next (outsAt0 m c (t.val - 1) (Nat.lt_of_le_of_lt (Nat.sub_le _ _) t.isLt)).2
      (iblk m c 0 t) (iblk m c 1 t) (iblk m c 2 t) (iblk m c 3 t) j := by
  rw [outsAt0_C m c t (by omega) h1]
  frame_out
  simp only [read_unread_whole]
  exact canon_rows _ _ _ _ _ _ _ _ _ _

theorem copy_apply (x y) : k0_pay1 (F := Ideal) x y = x y := by pointwise [k0_pay1]

/-- A load of the whole scratch reads what its stores left, entry by entry. -/
theorem whole_read (L : List (View.Piece (Elt Ideal) S1536x1024 .f32)) (inb) (y : S1536x1024.Idx) :
    (View.whole cc0_scratch0).readCov L (Rect.unit (s := S1536x1024) ![0, 0] ![1536, 1024] inb).toLoadRect y = View.canon L y := by
  rw [View.readCov_eq_canon']
  refine congrArg (View.canon L) (funext fun a => Fin.ext ?_)
  refine (ValueKit.rect_emb_unit_val ![0, 0] ![1536, 1024] inb y a).trans ?_
  fin_cases a <;> exact Nat.zero_add _

theorem out_eq (c : Dev nD) (t : Fin cfg0.N) (h1 : t.val % 4 = 3) (y) :
    (outsAt0 m c t.val t.isLt).1 y = (outsAt0 m c t.val t.isLt).2 y := by
  rw [outsAt0_C m c t (by omega) h1]
  frame_out
  refine (copy_apply _ _).trans ?_
  exact whole_read _ _ _

/-- The first 1536 rows of the reference are the three contractions, the others the array handed in. -/
theorem ref_top (X0 X1 X2 X3 X4) (a : Fin 1536) (b : Fin 1024) (h : a.val < 6656) : REF X0 X1 X2 X3 X4 (ix2 ⟨a.val, h⟩ b)
    = ∑ s : Fin 4, ∑ k : Fin 2048, (if h : a.val < 1024 then X1 (ix3 s k ⟨a.val, h⟩)
        else if h : a.val - 1024 < 256 then X2 (ix3 s k ⟨a.val - 1024, by omega⟩) else X3 (ix3 s k ⟨a.val - 1024 - 256, by omega⟩))
      * X0 (ix3 s k b) := by
  pointwise [REF]

theorem ref_rest (X0 X1 X2 X3 X4) (a : Fin 6656) (b : Fin 1024) (h : ¬ a.val < 1536) : REF X0 X1 X2 X3 X4 (ix2 a b) = X4 (ix2 a b) := by
  pointwise [REF]
  rw [dif_neg h]
  exact congrArg X4 (by blk_ext)

theorem final (c : Dev nD) : (dats m 0 c).arrAt 4 (cfgs 0).N = REF (m ((c : Thread nD τ).loc main_arg0))
    (m ((c : Thread nD τ).loc main_arg1)) (m ((c : Thread nD τ).loc main_arg2)) (m ((c : Thread nD τ).loc main_arg3))
    (m ((c : Thread nD τ).loc main_arg4)) := by
  have hw : (dats m 0 c).arrAt 4 (cfgs 0).N = fun i => if (i 0).val < 1536 then REF (m ((c : Thread nD τ).loc main_arg0))
      (m ((c : Thread nD τ).loc main_arg1)) (m ((c : Thread nD τ).loc main_arg2)) (m ((c : Thread nD τ).loc main_arg3))
      (m ((c : Thread nD τ).loc main_arg4)) i else V m c main_v12 i := by
    refine (dats m 0 c).arrAt_eq_of_coversWhere 4 _ (fun β => β (0 : Fin 2) < 1) (by decide +kernel) (fun t hf y => ?_)
      (fun j => by blk_simp [Pipeline.Window.cell_apply]; omega)
    have h3 : t.val % 4 = 3 := (flush0_4 t).mp hf
    blk_simp
    rw [after0_4, out_eq m c t h3]
    have h4 : t.val < 4 := lt_of_lt_of_eq t.isLt N_0
    have hz : ∃ (z0 : Fin 1536) (z1 : Fin 1024), ((cfg0.win 4).xinj (cfg0.grid.coords t) y : S1536x1024.Idx) = ix2 z0 z1
        ∧ (win0_4.blk t).view.emb y = (ix2 ⟨z0.val, by omega⟩ z1 : S6656x1024.Idx) := by
      refine ⟨(show S1536x1024.Idx from (cfg0.win 4).xinj (cfg0.grid.coords t) y) 0,
        (show S1536x1024.Idx from (cfg0.win 4).xinj (cfg0.grid.coords t) y) 1, eq_ix2 _, ?_⟩
      blk_ext [idx t]
    obtain ⟨y0, y1, hz, e⟩ := hz
    rw [hz, e]
    rw [Pipeline.eq_sum_fin_of_reset_step_apply_of_flush (fun n h => (outsAt0 m c n h).2) 4 (fun _ => 0)
      (fun p j => part (iblk m c 0 p) (iblk m c 1 p) (iblk m c 2 p) (iblk m c 3 p) (j 0) (j 1))
      (fun t h j => step_A m c t h j)
      (fun t h j => by
        by_cases h1 : t.val % 4 = 3
        · exact step_C m c t h1 j
        · exact step_B m c t h h1 j)
      t h3, zero_add]
    rw [ref_top]
    refine Fin.sum_fin_congr fun s => ?_
    dsimp only [ix2_0, ix2_1]
    unfold part
    refine Fin.sum_fin_congr fun k => ?_
    have hi := idx ⟨_, Pipeline.run_point_lt_of_flush t h3 s⟩
    blk_point [iblk, V, hi]
  rw [hw]
  funext i
  idx_vars i
  by_cases h : i0.val < 1536
  · exact if_pos h
  · refine (if_neg h).trans ?_
    rw [ref_rest _ _ _ _ _ _ _ h]
    blk_point [V]

end Cert.Kernel7Ideal.Qkv

end
-- ==== Proof.MlpFwdBlock.lean ====
/-
  The forward call of the last layer's multilayer perceptron with the loss head (program `Kernel8`): what a grid point
  computes of its blocks, the loss's gradient, the saved activations and its part of the two sums over the tokens.
-/
module

public import proofs.«01_k».proof.Proof.Gen.Kernel8Ideal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Fwd

open Cert.Kernel8Ideal Cert.Kernel8Ideal.Gen

variable (m : (ℓ : Loc nD τ sig) → Buf (Elt Ideal) ℓ)

/-- The windows' block indices at every grid point. -/
theorem idx : ∀ t : Fin cfg0.N, win0_0.index t = ![t.val, 0] ∧ win0_1.index t = ![1, 0, 0] ∧ win0_2.index t = ![0, 0, 0]
    ∧ win0_3.index t = ![1, 0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

section
variable (x0 : Vec Ideal S512x1024 .f32) (x1 : Vec Ideal S1x1x1024 .f32) (x2 x3 : Vec Ideal S1x4096x1024 .bf16)
  (x4 : Vec Ideal S512x1024 .f32) (x5 : Vec Ideal S1x1024 .f32)

/-- The normalised and scaled input at a token and a column. -/
def hn (p : Fin 512) (j : Fin 1024) : EReal := x0 (ix2 p j) * Norm.rinv (fun k => x0 (ix2 p k)) * x1 (ix3 0 0 j)

/-- The activations before the rectifier. -/
def ac (p : Fin 512) (f : Fin 4096) : EReal := ∑ k : Fin 1024, hn x0 x1 p k * x2 (ix3 0 f k)

/-- The block's output. -/
def yo (p : Fin 512) (j : Fin 1024) : EReal :=
  x0 (ix2 p j) + ∑ f : Fin 4096, max (ac x0 x1 x2 p f) 0 * max (ac x0 x1 x2 p f) 0 * x3 (ix3 0 f j)

/-- The error of the normalised output. -/
def er (p : Fin 512) (j : Fin 1024) : EReal :=
  yo x0 x1 x2 x3 p j * Norm.rinv (fun k => yo x0 x1 x2 x3 p k) * x5 (ix2 0 j) - x4 (ix2 p j)

/-- The loss's gradient at the normalised output. -/
def ec (p : Fin 512) (j : Fin 1024) : EReal := er x0 x1 x2 x3 x4 x5 p j * Ideal.ofBits .f32 0x3A800000#32

/-- The loss's gradient at the block's output. -/
def dx (p : Fin 512) (j : Fin 1024) : EReal :=
  Norm.grad (fun k => ec x0 x1 x2 x3 x4 x5 p k * x5 (ix2 0 k)) (fun k => yo x0 x1 x2 x3 p k) j

/-- What one token adds to the final gains' gradient, and to the sum of squared errors. -/
def gp (p : Fin 512) (j : Fin 1024) : EReal :=
  ec x0 x1 x2 x3 x4 x5 p j * (yo x0 x1 x2 x3 p j * Norm.rinv (fun k => yo x0 x1 x2 x3 p k))

def lp (p : Fin 512) (j : Fin 1024) : EReal := er x0 x1 x2 x3 x4 x5 p j * er x0 x1 x2 x3 x4 x5 p j

theorem hn_lo (i0) (z : Fin 256) (k : Fin 1024) : (k0_pay5 (View.ld x0 (Rect.unit (s := S512x1024) ![0, 0] ![256, 1024] i0)) x1 : FVec Ideal S256x1024 .bf16) (ix2 z k) = hn x0 x1 ⟨z.val, by omega⟩ k := by
  unfold hn
  pointwise [k0_pay5, k0_pay4]
  rfl

theorem hw_lo (i0) (i) (y : (⟨2, ![256, 1024]⟩ : Shape).Idx) : (k0_pay5 (View.ld x0 (Rect.unit (s := S512x1024) ![0, 0] ![256, 1024] i0)) x1 : FVec Ideal S256x1024 .bf16) y
    = (fun j : S512x1024.Idx => hn x0 x1 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  exact hn_lo x0 x1 i0 z0 z1

theorem ac_lo0 (i0 u0) (z0 : Fin 256) (z1 : Fin 1024) : (k0_pay7 (View.ld x0 (Rect.unit (s := S512x1024) ![0, 0] ![256, 1024] i0)) x1 (View.ld x2 (Rect.unit (s := S1x4096x1024) ![0, 0, 0] ![1, 1024, 1024] u0)) : FVec Ideal S256x1024 .bf16) (ix2 z0 z1)
    = ac x0 x1 x2 ⟨z0.val, by omega⟩ ⟨0 + z1.val, by omega⟩ := by
  have hh := hn_lo x0 x1 i0 z0
  unfold ac
  pointwise [k0_pay7, k0_pay6, k0_pay10, k0_pay9, k0_pay12, k0_pay11, k0_pay15, k0_pay14]
  simp only [hh]

theorem aw_lo0 (i0 u0) (i) (y : (⟨2, ![256, 1024]⟩ : Shape).Idx) : (k0_pay7 (View.ld x0 (Rect.unit (s := S512x1024) ![0, 0] ![256, 1024] i0)) x1 (View.ld x2 (Rect.unit (s := S1x4096x1024) ![0, 0, 0] ![1, 1024, 1024] u0)) : FVec Ideal S256x1024 .bf16) y
    = (fun j : S512x4096.Idx => ac x0 x1 x2 (j 0) (j 1)) ((Rect.unit (s := S512x4096) ![0, 0] ![256, 1024] i).emb y) := by
  obtain ⟨z0, z1, rfl⟩ : ∃ z0 z1, y = ix2 z0 z1 := ⟨y 0, y 1, eq_ix2 y⟩
  have e : (Rect.unit (s := S512x4096) ![0, 0] ![256, 1024] i).emb (ix2 z0 z1) = (ix2 ⟨z0.val, by omega⟩ ⟨0 + z1.val, by omega⟩ : S512x4096.Idx) := by
    blk_ext
  rw [e]
  exact ac_lo0 x0 x1 x2 i0 u0 z0 z1

theorem ac_lo1 (i0 u1) (z0 : Fin 256) (z1 : Fin 1024) : (k0_pay10 (k0_pay5 (View.ld x0 (Rect.unit (s := S512x1024) ![0, 0] ![256, 1024] i0)) x1) (View.ld x2 (Rect.unit (s := S1x4096x1024) ![0, 1024, 0] ![1, 1024, 1024] u1)) : FVec Ideal S256x1024 .bf16) (ix2 z0 z1)
    = ac x0 x1 x2 ⟨z0.val, by omega⟩ ⟨1024 + z1.val, by omega⟩ := by
  have hh := hn_lo x0 x1 i0 z0
  unfold ac
  pointwise [k0_pay7, k0_pay6, k0_pay10, k0_pay9, k0_pay12, k0_pay11, k0_pay15, k0_pay14]
  simp only [hh]

theorem aw_lo1 (i0 u1) (i) (y : (⟨2, ![256, 1024]⟩ : Shape).Idx) : (k0_pay10 (k0_pay5 (View.ld x0 (Rect.unit (s := S512x1024) ![0, 0] ![256, 1024] i0)) x1) (View.ld x2 (Rect.unit (s := S1x4096x1024) ![0, 1024, 0] ![1, 1024, 1024] u1)) : FVec Ideal S256x1024 .bf16) y
    = (fun j : S512x4096.Idx => ac x0 x1 x2 (j 0) (j 1)) ((Rect.unit (s := S512x4096) ![0, 1024] ![256, 1024] i).emb y) := by
  obtain ⟨z0, z1, rfl⟩ : ∃ z0 z1, y = ix2 z0 z1 := ⟨y 0, y 1, eq_ix2 y⟩
  have e : (Rect.unit (s := S512x4096) ![0, 1024] ![256, 1024] i).emb (ix2 z0 z1) = (ix2 ⟨z0.val, by omega⟩ ⟨1024 + z1.val, by omega⟩ : S512x4096.Idx) := by
    blk_ext
  rw [e]
  exact ac_lo1 x0 x1 x2 i0 u1 z0 z1

theorem ac_lo2 (i0 u2) (z0 : Fin 256) (z1 : Fin 1024) : (k0_pay12 (k0_pay5 (View.ld x0 (Rect.unit (s := S512x1024) ![0, 0] ![256, 1024] i0)) x1) (View.ld x2 (Rect.unit (s := S1x4096x1024) ![0, 2048, 0] ![1, 1024, 1024] u2)) : FVec Ideal S256x1024 .bf16) (ix2 z0 z1)
    = ac x0 x1 x2 ⟨z0.val, by omega⟩ ⟨2048 + z1.val, by omega⟩ := by
  have hh := hn_lo x0 x1 i0 z0
  unfold ac
  pointwise [k0_pay7, k0_pay6, k0_pay10, k0_pay9, k0_pay12, k0_pay11, k0_pay15, k0_pay14]
  simp only [hh]

theorem aw_lo2 (i0 u2) (i) (y : (⟨2, ![256, 1024]⟩ : Shape).Idx) : (k0_pay12 (k0_pay5 (View.ld x0 (Rect.unit (s := S512x1024) ![0, 0] ![256, 1024] i0)) x1) (View.ld x2 (Rect.unit (s := S1x4096x1024) ![0, 2048, 0] ![1, 1024, 1024] u2)) : FVec Ideal S256x1024 .bf16) y
    = (fun j : S512x4096.Idx => ac x0 x1 x2 (j 0) (j 1)) ((Rect.unit (s := S512x4096) ![0, 2048] ![256, 1024] i).emb y) := by
  obtain ⟨z0, z1, rfl⟩ : ∃ z0 z1, y = ix2 z0 z1 := ⟨y 0, y 1, eq_ix2 y⟩
  have e : (Rect.unit (s := S512x4096) ![0, 2048] ![256, 1024] i).emb (ix2 z0 z1) = (ix2 ⟨z0.val, by omega⟩ ⟨2048 + z1.val, by omega⟩ : S512x4096.Idx) := by
    blk_ext
  rw [e]
  exact ac_lo2 x0 x1 x2 i0 u2 z0 z1

theorem ac_lo3 (i0 u3) (z0 : Fin 256) (z1 : Fin 1024) : (k0_pay15 (k0_pay5 (View.ld x0 (Rect.unit (s := S512x1024) ![0, 0] ![256, 1024] i0)) x1) (View.ld x2 (Rect.unit (s := S1x4096x1024) ![0, 3072, 0] ![1, 1024, 1024] u3)) : FVec Ideal S256x1024 .bf16) (ix2 z0 z1)
    = ac x0 x1 x2 ⟨z0.val, by omega⟩ ⟨3072 + z1.val, by omega⟩ := by
  have hh := hn_lo x0 x1 i0 z0
  unfold ac
  pointwise [k0_pay7, k0_pay6, k0_pay10, k0_pay9, k0_pay12, k0_pay11, k0_pay15, k0_pay14]
  simp only [hh]

theorem aw_lo3 (i0 u3) (i) (y : (⟨2, ![256, 1024]⟩ : Shape).Idx) : (k0_pay15 (k0_pay5 (View.ld x0 (Rect.unit (s := S512x1024) ![0, 0] ![256, 1024] i0)) x1) (View.ld x2 (Rect.unit (s := S1x4096x1024) ![0, 3072, 0] ![1, 1024, 1024] u3)) : FVec Ideal S256x1024 .bf16) y
    = (fun j : S512x4096.Idx => ac x0 x1 x2 (j 0) (j 1)) ((Rect.unit (s := S512x4096) ![0, 3072] ![256, 1024] i).emb y) := by
  obtain ⟨z0, z1, rfl⟩ : ∃ z0 z1, y = ix2 z0 z1 := ⟨y 0, y 1, eq_ix2 y⟩
  have e : (Rect.unit (s := S512x4096) ![0, 3072] ![256, 1024] i).emb (ix2 z0 z1) = (ix2 ⟨z0.val, by omega⟩ ⟨3072 + z1.val, by omega⟩ : S512x4096.Idx) := by
    blk_ext
  rw [e]
  exact ac_lo3 x0 x1 x2 i0 u3 z0 z1

theorem yo_lo (i0 u0 u1 u2 u3 v0 v1 v2 v3) (z0 : Fin 256) (j : Fin 1024) : (k0_pay16 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) : FVec Ideal S256x1024 .f32) (ix2 z0 j) = yo x0 x1 x2 x3 ⟨z0.val, by omega⟩ j := by
  have hh := hn_lo x0 x1 i0 z0
  unfold yo
  rw [Fin.sum_univ_tiles 4 1024 rfl, Fin.sum_univ_four, ← add_assoc, ← add_assoc, ← add_assoc]
  pointwise [k0_pay16, k0_pay13, k0_pay8, k0_pay14, k0_pay6, k0_pay9, k0_pay11, k0_pay4]
  simp only [hh]
  unfold ac
  refine congrArg₂ (· + ·) (congrArg₂ (· + ·) (congrArg₂ (· + ·) (congrArg₂ (· + ·) ?_ ?_) ?_) ?_) ?_
  · first | rfl | pointwise [k0_pay5, k0_pay4]
  all_goals
    exact Finset.sum_congr rfl fun f _ => congrArg₂ (· * ·) (congrArg (fun w => max w 0 * max w 0)
      (Finset.sum_congr rfl fun k _ => congrArg (_ * ·) (congrArg x2 (by blk_ext)))) (congrArg x3 (by blk_ext))

theorem er_lo (i0 u0 u1 u2 u3 v0 v1 v2 v3) (z0 : Fin 256) (j : Fin 1024) : (k0_pay18 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) x5 (View.ld x4 (Rect.unit (s := S512x1024) ![0, 0] ![256, 1024] i0)) : FVec Ideal S256x1024 .f32) (ix2 z0 j) = er x0 x1 x2 x3 x4 x5 ⟨z0.val, by omega⟩ j := by
  have hy := yo_lo x0 x1 x2 x3 i0 u0 u1 u2 u3 v0 v1 v2 v3 z0
  unfold er
  pointwise [k0_pay18, k0_pay17]
  simp only [hy]
  rfl

theorem dx_lo (i0 u0 u1 u2 u3 v0 v1 v2 v3) (i) (y : (⟨2, ![256, 1024]⟩ : Shape).Idx) : (k0_pay24 (k0_pay20 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3))) (k0_pay21 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3))) (k0_pay22 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) x5 (View.ld x4 (Rect.unit (s := S512x1024) ![0, 0] ![256, 1024] i0))) (k0_pay23 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) x5 (View.ld x4 (Rect.unit (s := S512x1024) ![0, 0] ![256, 1024] i0))) : FVec Ideal S256x1024 .f32) y
    = (fun j : S512x1024.Idx => dx x0 x1 x2 x3 x4 x5 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  have hy := yo_lo x0 x1 x2 x3 i0 u0 u1 u2 u3 v0 v1 v2 v3 z0
  have he := er_lo x0 x1 x2 x3 x4 x5 i0 u0 u1 u2 u3 v0 v1 v2 v3 z0
  have hg : ∀ j, (k0_pay41 x5 : FVec Ideal S1x1024 .f32) (ix2 0 j) = x5 (ix2 0 j) := fun j => by pointwise [k0_pay41]
  pointwise [k0_pay24, k0_pay23, k0_pay22, k0_pay21, k0_pay20, k0_pay19, k0_pay17]
  simp only [hy, he, hg]
  rfl

theorem gp_lo (i0 u0 u1 u2 u3 v0 v1 v2 v3) (acc : Vec Ideal S1x1024 .f32) (j : Fin 1024) : (k0_pay25 (k0_pay19 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) x5 (View.ld x4 (Rect.unit (s := S512x1024) ![0, 0] ![256, 1024] i0))) (k0_pay21 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3))) acc : FVec Ideal S1x1024 .f32) (ix2 0 j)
    = acc (ix2 0 j) + ∑ z : Fin 256, gp x0 x1 x2 x3 x4 x5 ⟨z.val, by omega⟩ j := by
  have hy := fun z0 => yo_lo x0 x1 x2 x3 i0 u0 u1 u2 u3 v0 v1 v2 v3 z0
  have he := fun z0 => er_lo x0 x1 x2 x3 x4 x5 i0 u0 u1 u2 u3 v0 v1 v2 v3 z0
  pointwise [k0_pay25, k0_pay19, k0_pay21, k0_pay20]
  simp only [hy, he]
  rfl

theorem lp_lo (i0 u0 u1 u2 u3 v0 v1 v2 v3) (acc : Vec Ideal S1x1024 .f32) (j : Fin 1024) : (k0_pay26 (k0_pay18 (k0_pay13 (k0_pay4 (View.ld x0 (Rect.unit (s := S512x1024) ![0, 0] ![256, 1024] i0))) (k0_pay5 (View.ld x0 (Rect.unit (s := S512x1024) ![0, 0] ![256, 1024] i0)) x1) (k0_pay8 (View.ld x0 (Rect.unit (s := S512x1024) ![0, 0] ![256, 1024] i0)) x1 (View.ld x2 (Rect.unit (s := S1x4096x1024) ![0, 0, 0] ![1, 1024, 1024] u0)) (View.ld x3 (Rect.unit (s := S1x4096x1024) ![0, 0, 0] ![1, 1024, 1024] v0))) (View.ld x2 (Rect.unit (s := S1x4096x1024) ![0, 1024, 0] ![1, 1024, 1024] u1)) (View.ld x3 (Rect.unit (s := S1x4096x1024) ![0, 1024, 0] ![1, 1024, 1024] v1)) (View.ld x2 (Rect.unit (s := S1x4096x1024) ![0, 2048, 0] ![1, 1024, 1024] u2)) (View.ld x3 (Rect.unit (s := S1x4096x1024) ![0, 2048, 0] ![1, 1024, 1024] v2))) (k0_pay14 (k0_pay5 (View.ld x0 (Rect.unit (s := S512x1024) ![0, 0] ![256, 1024] i0)) x1) (View.ld x2 (Rect.unit (s := S1x4096x1024) ![0, 3072, 0] ![1, 1024, 1024] u3))) (View.ld x3 (Rect.unit (s := S1x4096x1024) ![0, 3072, 0] ![1, 1024, 1024] v3)) x5 (View.ld x4 (Rect.unit (s := S512x1024) ![0, 0] ![256, 1024] i0))) acc : FVec Ideal S1x1024 .f32) (ix2 0 j)
    = acc (ix2 0 j) + ∑ z : Fin 256, lp x0 x1 x2 x3 x4 x5 ⟨z.val, by omega⟩ j := by
  have he := fun z0 => er_lo x0 x1 x2 x3 x4 x5 i0 u0 u1 u2 u3 v0 v1 v2 v3 z0
  pointwise [k0_pay26]
  simp only [he]
  rfl

theorem hn_hi (i0) (z : Fin 256) (k : Fin 1024) : (k0_pay30 (k0_pay27 (View.ld x0 (Rect.unit (s := S512x1024) ![256, 0] ![256, 1024] i0))) (k0_pay28 x1) (k0_pay29 (View.ld x0 (Rect.unit (s := S512x1024) ![256, 0] ![256, 1024] i0))) : FVec Ideal S256x1024 .bf16) (ix2 z k) = hn x0 x1 ⟨256 + z.val, by omega⟩ k := by
  unfold hn
  pointwise [k0_pay30, k0_pay29, k0_pay28, k0_pay27]
  rfl

theorem hw_hi (i0) (i) (y : (⟨2, ![256, 1024]⟩ : Shape).Idx) : (k0_pay30 (k0_pay27 (View.ld x0 (Rect.unit (s := S512x1024) ![256, 0] ![256, 1024] i0))) (k0_pay28 x1) (k0_pay29 (View.ld x0 (Rect.unit (s := S512x1024) ![256, 0] ![256, 1024] i0))) : FVec Ideal S256x1024 .bf16) y
    = (fun j : S512x1024.Idx => hn x0 x1 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  exact hn_hi x0 x1 i0 z0 z1

theorem ac_hi0 (i0 u0) (z0 : Fin 256) (z1 : Fin 1024) : (k0_pay32 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) : FVec Ideal S256x1024 .bf16) (ix2 z0 z1)
    = ac x0 x1 x2 ⟨256 + z0.val, by omega⟩ ⟨0 + z1.val, by omega⟩ := by
  have hh := hn_hi x0 x1 i0 z0
  unfold ac
  pointwise [k0_pay32, k0_pay31, k0_pay34, k0_pay33, k0_pay37, k0_pay36, k0_pay39, k0_pay38]
  simp only [hh]

theorem aw_hi0 (i0 u0) (i) (y : (⟨2, ![256, 1024]⟩ : Shape).Idx) : (k0_pay32 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) : FVec Ideal S256x1024 .bf16) y
    = (fun j : S512x4096.Idx => ac x0 x1 x2 (j 0) (j 1)) ((Rect.unit (s := S512x4096) ![256, 0] ![256, 1024] i).emb y) := by
  obtain ⟨z0, z1, rfl⟩ : ∃ z0 z1, y = ix2 z0 z1 := ⟨y 0, y 1, eq_ix2 y⟩
  have e : (Rect.unit (s := S512x4096) ![256, 0] ![256, 1024] i).emb (ix2 z0 z1) = (ix2 ⟨256 + z0.val, by omega⟩ ⟨0 + z1.val, by omega⟩ : S512x4096.Idx) := by
    blk_ext
  rw [e]
  exact ac_hi0 x0 x1 x2 i0 u0 z0 z1

theorem ac_hi1 (i0 u1) (z0 : Fin 256) (z1 : Fin 1024) : (k0_pay34 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 1024, 0] ![1, 1024, 1024] u1)) : FVec Ideal S256x1024 .bf16) (ix2 z0 z1)
    = ac x0 x1 x2 ⟨256 + z0.val, by omega⟩ ⟨1024 + z1.val, by omega⟩ := by
  have hh := hn_hi x0 x1 i0 z0
  unfold ac
  pointwise [k0_pay32, k0_pay31, k0_pay34, k0_pay33, k0_pay37, k0_pay36, k0_pay39, k0_pay38]
  simp only [hh]

theorem aw_hi1 (i0 u1) (i) (y : (⟨2, ![256, 1024]⟩ : Shape).Idx) : (k0_pay34 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 1024, 0] ![1, 1024, 1024] u1)) : FVec Ideal S256x1024 .bf16) y
    = (fun j : S512x4096.Idx => ac x0 x1 x2 (j 0) (j 1)) ((Rect.unit (s := S512x4096) ![256, 1024] ![256, 1024] i).emb y) := by
  obtain ⟨z0, z1, rfl⟩ : ∃ z0 z1, y = ix2 z0 z1 := ⟨y 0, y 1, eq_ix2 y⟩
  have e : (Rect.unit (s := S512x4096) ![256, 1024] ![256, 1024] i).emb (ix2 z0 z1) = (ix2 ⟨256 + z0.val, by omega⟩ ⟨1024 + z1.val, by omega⟩ : S512x4096.Idx) := by
    blk_ext
  rw [e]
  exact ac_hi1 x0 x1 x2 i0 u1 z0 z1

theorem ac_hi2 (i0 u2) (z0 : Fin 256) (z1 : Fin 1024) : (k0_pay37 (k0_pay30 (k0_pay27 (View.ld x0 (Rect.unit (s := S512x1024) ![256, 0] ![256, 1024] i0))) (k0_pay28 x1) (k0_pay29 (View.ld x0 (Rect.unit (s := S512x1024) ![256, 0] ![256, 1024] i0)))) (View.ld x2 (Rect.unit (s := S1x4096x1024) ![0, 2048, 0] ![1, 1024, 1024] u2)) : FVec Ideal S256x1024 .bf16) (ix2 z0 z1)
    = ac x0 x1 x2 ⟨256 + z0.val, by omega⟩ ⟨2048 + z1.val, by omega⟩ := by
  have hh := hn_hi x0 x1 i0 z0
  unfold ac
  pointwise [k0_pay32, k0_pay31, k0_pay34, k0_pay33, k0_pay37, k0_pay36, k0_pay39, k0_pay38]
  simp only [hh]

theorem aw_hi2 (i0 u2) (i) (y : (⟨2, ![256, 1024]⟩ : Shape).Idx) : (k0_pay37 (k0_pay30 (k0_pay27 (View.ld x0 (Rect.unit (s := S512x1024) ![256, 0] ![256, 1024] i0))) (k0_pay28 x1) (k0_pay29 (View.ld x0 (Rect.unit (s := S512x1024) ![256, 0] ![256, 1024] i0)))) (View.ld x2 (Rect.unit (s := S1x4096x1024) ![0, 2048, 0] ![1, 1024, 1024] u2)) : FVec Ideal S256x1024 .bf16) y
    = (fun j : S512x4096.Idx => ac x0 x1 x2 (j 0) (j 1)) ((Rect.unit (s := S512x4096) ![256, 2048] ![256, 1024] i).emb y) := by
  obtain ⟨z0, z1, rfl⟩ : ∃ z0 z1, y = ix2 z0 z1 := ⟨y 0, y 1, eq_ix2 y⟩
  have e : (Rect.unit (s := S512x4096) ![256, 2048] ![256, 1024] i).emb (ix2 z0 z1) = (ix2 ⟨256 + z0.val, by omega⟩ ⟨2048 + z1.val, by omega⟩ : S512x4096.Idx) := by
    blk_ext
  rw [e]
  exact ac_hi2 x0 x1 x2 i0 u2 z0 z1

theorem ac_hi3 (i0 u3) (z0 : Fin 256) (z1 : Fin 1024) : (k0_pay39 (k0_pay30 (k0_pay27 (View.ld x0 (Rect.unit (s := S512x1024) ![256, 0] ![256, 1024] i0))) (k0_pay28 x1) (k0_pay29 (View.ld x0 (Rect.unit (s := S512x1024) ![256, 0] ![256, 1024] i0)))) (View.ld x2 (Rect.unit (s := S1x4096x1024) ![0, 3072, 0] ![1, 1024, 1024] u3)) : FVec Ideal S256x1024 .bf16) (ix2 z0 z1)
    = ac x0 x1 x2 ⟨256 + z0.val, by omega⟩ ⟨3072 + z1.val, by omega⟩ := by
  have hh := hn_hi x0 x1 i0 z0
  unfold ac
  pointwise [k0_pay32, k0_pay31, k0_pay34, k0_pay33, k0_pay37, k0_pay36, k0_pay39, k0_pay38]
  simp only [hh]

theorem aw_hi3 (i0 u3) (i) (y : (⟨2, ![256, 1024]⟩ : Shape).Idx) : (k0_pay39 (k0_pay30 (k0_pay27 (View.ld x0 (Rect.unit (s := S512x1024) ![256, 0] ![256, 1024] i0))) (k0_pay28 x1) (k0_pay29 (View.ld x0 (Rect.unit (s := S512x1024) ![256, 0] ![256, 1024] i0)))) (View.ld x2 (Rect.unit (s := S1x4096x1024) ![0, 3072, 0] ![1, 1024, 1024] u3)) : FVec Ideal S256x1024 .bf16) y
    = (fun j : S512x4096.Idx => ac x0 x1 x2 (j 0) (j 1)) ((Rect.unit (s := S512x4096) ![256, 3072] ![256, 1024] i).emb y) := by
  obtain ⟨z0, z1, rfl⟩ : ∃ z0 z1, y = ix2 z0 z1 := ⟨y 0, y 1, eq_ix2 y⟩
  have e : (Rect.unit (s := S512x4096) ![256, 3072] ![256, 1024] i).emb (ix2 z0 z1) = (ix2 ⟨256 + z0.val, by omega⟩ ⟨3072 + z1.val, by omega⟩ : S512x4096.Idx) := by
    blk_ext
  rw [e]
  exact ac_hi3 x0 x1 x2 i0 u3 z0 z1

theorem yo_hi (i0 u0 u1 u2 u3 v0 v1 v2 v3) (z0 : Fin 256) (j : Fin 1024) : (k0_pay40 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3)) : FVec Ideal S256x1024 .f32) (ix2 z0 j) = yo x0 x1 x2 x3 ⟨256 + z0.val, by omega⟩ j := by
  have hh := hn_hi x0 x1 i0 z0
  unfold yo
  rw [Fin.sum_univ_tiles 4 1024 rfl, Fin.sum_univ_four, ← add_assoc, ← add_assoc, ← add_assoc]
  pointwise [k0_pay40, k0_pay35, k0_pay31, k0_pay33, k0_pay36, k0_pay38]
  simp only [hh]
  unfold ac
  refine congrArg₂ (· + ·) (congrArg₂ (· + ·) (congrArg₂ (· + ·) (congrArg₂ (· + ·) ?_ ?_) ?_) ?_) ?_
  · first | rfl | pointwise [k0_pay30, k0_pay29, k0_pay28, k0_pay27]
  all_goals
    exact Finset.sum_congr rfl fun f _ => congrArg₂ (· * ·) (congrArg (fun w => max w 0 * max w 0)
      (Finset.sum_congr rfl fun k _ => congrArg (_ * ·) (congrArg x2 (by blk_ext)))) (congrArg x3 (by blk_ext))

theorem er_hi (i0 u0 u1 u2 u3 v0 v1 v2 v3) (z0 : Fin 256) (j : Fin 1024) : (k0_pay43 (k0_pay40 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (k0_pay41 x5) (k0_pay42 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (View.ld x4 (Rect.unit (s := S512x1024) ![256, 0] ![256, 1024] i0)) : FVec Ideal S256x1024 .f32) (ix2 z0 j) = er x0 x1 x2 x3 x4 x5 ⟨256 + z0.val, by omega⟩ j := by
  have hy := yo_hi x0 x1 x2 x3 i0 u0 u1 u2 u3 v0 v1 v2 v3 z0
  unfold er
  pointwise [k0_pay43, k0_pay42, k0_pay41]
  simp only [hy]
  rfl

theorem dx_hi (i0 u0 u1 u2 u3 v0 v1 v2 v3) (i) (y : (⟨2, ![256, 1024]⟩ : Shape).Idx) : (k0_pay47 (k0_pay40 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (k0_pay41 x5) (k0_pay42 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (View.ld x4 (Rect.unit (s := S512x1024) ![256, 0] ![256, 1024] i0)) : FVec Ideal S256x1024 .f32) y
    = (fun j : S512x1024.Idx => dx x0 x1 x2 x3 x4 x5 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  have hy := yo_hi x0 x1 x2 x3 i0 u0 u1 u2 u3 v0 v1 v2 v3 z0
  have he := er_hi x0 x1 x2 x3 x4 x5 i0 u0 u1 u2 u3 v0 v1 v2 v3 z0
  have hg : ∀ j, (k0_pay41 x5 : FVec Ideal S1x1024 .f32) (ix2 0 j) = x5 (ix2 0 j) := fun j => by pointwise [k0_pay41]
  pointwise [k0_pay47, k0_pay44, k0_pay46, k0_pay45]
  simp only [hy, he, hg]
  rfl

theorem gp_hi (i0 u0 u1 u2 u3 v0 v1 v2 v3) (acc : Vec Ideal S1x1024 .f32) (j : Fin 1024) : (k0_pay48 (k0_pay40 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (k0_pay41 x5) (k0_pay42 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (View.ld x4 (Rect.unit (s := S512x1024) ![256, 0] ![256, 1024] i0)) acc : FVec Ideal S1x1024 .f32) (ix2 0 j)
    = acc (ix2 0 j) + ∑ z : Fin 256, gp x0 x1 x2 x3 x4 x5 ⟨256 + z.val, by omega⟩ j := by
  have hy := fun z0 => yo_hi x0 x1 x2 x3 i0 u0 u1 u2 u3 v0 v1 v2 v3 z0
  have he := fun z0 => er_hi x0 x1 x2 x3 x4 x5 i0 u0 u1 u2 u3 v0 v1 v2 v3 z0
  pointwise [k0_pay48, k0_pay44, k0_pay46, k0_pay45]
  simp only [hy, he]
  rfl

theorem lp_hi (i0 u0 u1 u2 u3 v0 v1 v2 v3) (acc : Vec Ideal S1x1024 .f32) (j : Fin 1024) : (k0_pay1 (k0_pay43 (k0_pay40 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (k0_pay41 x5) (k0_pay42 (k0_pay30 (k0_pay27 (View.ld x0 (Rect.unit (s := S512x1024) ![256, 0] ![256, 1024] i0))) (k0_pay28 x1) (k0_pay29 (View.ld x0 (Rect.unit (s := S512x1024) ![256, 0] ![256, 1024] i0)))) (k0_pay35 (k0_pay27 (View.ld x0 (Rect.unit (s := S512x1024) ![256, 0] ![256, 1024] i0))) (k0_pay28 x1) (k0_pay29 (View.ld x0 (Rect.unit (s := S512x1024) ![256, 0] ![256, 1024] i0))) (View.ld x2 (Rect.unit (s := S1x4096x1024) ![0, 0, 0] ![1, 1024, 1024] u0)) (View.ld x3 (Rect.unit (s := S1x4096x1024) ![0, 0, 0] ![1, 1024, 1024] v0)) (View.ld x2 (Rect.unit (s := S1x4096x1024) ![0, 1024, 0] ![1, 1024, 1024] u1)) (View.ld x3 (Rect.unit (s := S1x4096x1024) ![0, 1024, 0] ![1, 1024, 1024] v1))) (View.ld x2 (Rect.unit (s := S1x4096x1024) ![0, 2048, 0] ![1, 1024, 1024] u2)) (View.ld x3 (Rect.unit (s := S1x4096x1024) ![0, 2048, 0] ![1, 1024, 1024] v2)) (View.ld x2 (Rect.unit (s := S1x4096x1024) ![0, 3072, 0] ![1, 1024, 1024] u3)) (View.ld x3 (Rect.unit (s := S1x4096x1024) ![0, 3072, 0] ![1, 1024, 1024] v3))) (View.ld x4 (Rect.unit (s := S512x1024) ![256, 0] ![256, 1024] i0))) acc : FVec Ideal S1x1024 .f32) (ix2 0 j)
    = acc (ix2 0 j) + ∑ z : Fin 256, lp x0 x1 x2 x3 x4 x5 ⟨256 + z.val, by omega⟩ j := by
  have he := fun z0 => er_hi x0 x1 x2 x3 x4 x5 i0 u0 u1 u2 u3 v0 v1 v2 v3 z0
  pointwise [k0_pay1]
  simp only [he]
  rfl

theorem pay2_at (w : Vec Ideal S1x1024 .f32) (j : Fin 1024) : (k0_pay2 w : FVec Ideal S1x1024 .f32) (ix2 0 j)
    = 0 + Ideal.ofBits .f32 0x3A000000#32 * ∑ k : Fin 1024, w (ix2 0 k) := by
  pointwise [k0_pay2]
  rw [Fin.sum_univ_one]

end

/-! ## What a grid point leaves in its windows -/

theorem out6 (c : Dev nD) (t : Fin cfg0.N) (y) : (outsAt0 m c t.val t.isLt).1 y = dx (iblk m c 0 t) (iblk m c 1 t) (iblk m c 2 t) (iblk m c 3 t) (iblk m c 4 t) (iblk m c 5 t) (y 0) (y 1) := by
  by_cases h0 : t.val % 16 = 0
  · have h1 : ¬t.val % 16 = 15 := by omega
    rw [outsAt0_A m c t h0 h1]
    frame_out
    exact View.canon_append_of_piecesOf (Val := Elt Ideal) (s := S512x1024) (e := .f32) (fun j => dx (iblk m c 0 t) (iblk m c 1 t) (iblk m c 2 t) (iblk m c 3 t) (iblk m c 4 t) (iblk m c 5 t) (j 0) (j 1)) [] [_, _]
      ⟨dx_hi _ _ _ _ _ _ _ _ _ _ _ _ _ _ _ inb_S512x1024_S256x1024_256_0, dx_lo _ _ _ _ _ _ _ _ _ _ _ _ _ _ _ inb_S512x1024_S256x1024_0_0, trivial⟩ y
      (View.cover_of_tiledBy (s := S512x1024) _ (![256, 1024] : Fin 2 → ℕ) (by sl_kernel_rfl) _)
  · by_cases h1 : t.val % 16 = 15
    · rw [outsAt0_C m c t h0 h1]
      frame_out
      exact View.canon_append_of_piecesOf (Val := Elt Ideal) (s := S512x1024) (e := .f32) (fun j => dx (iblk m c 0 t) (iblk m c 1 t) (iblk m c 2 t) (iblk m c 3 t) (iblk m c 4 t) (iblk m c 5 t) (j 0) (j 1)) [] [_, _]
        ⟨dx_hi _ _ _ _ _ _ _ _ _ _ _ _ _ _ _ inb_S512x1024_S256x1024_256_0, dx_lo _ _ _ _ _ _ _ _ _ _ _ _ _ _ _ inb_S512x1024_S256x1024_0_0, trivial⟩ y
        (View.cover_of_tiledBy (s := S512x1024) _ (![256, 1024] : Fin 2 → ℕ) (by sl_kernel_rfl) _)
    · rw [outsAt0_B m c t h0 h1]
      frame_out
      exact View.canon_append_of_piecesOf (Val := Elt Ideal) (s := S512x1024) (e := .f32) (fun j => dx (iblk m c 0 t) (iblk m c 1 t) (iblk m c 2 t) (iblk m c 3 t) (iblk m c 4 t) (iblk m c 5 t) (j 0) (j 1)) [] [_, _]
        ⟨dx_hi _ _ _ _ _ _ _ _ _ _ _ _ _ _ _ inb_S512x1024_S256x1024_256_0, dx_lo _ _ _ _ _ _ _ _ _ _ _ _ _ _ _ inb_S512x1024_S256x1024_0_0, trivial⟩ y
        (View.cover_of_tiledBy (s := S512x1024) _ (![256, 1024] : Fin 2 → ℕ) (by sl_kernel_rfl) _)

theorem out7 (c : Dev nD) (t : Fin cfg0.N) (y) : (outsAt0 m c t.val t.isLt).2.1 y = hn (iblk m c 0 t) (iblk m c 1 t) (y 0) (y 1) := by
  by_cases h0 : t.val % 16 = 0
  · have h1 : ¬t.val % 16 = 15 := by omega
    rw [outsAt0_A m c t h0 h1]
    frame_out
    exact View.canon_append_of_piecesOf (Val := Elt Ideal) (s := S512x1024) (e := .bf16) (fun j => hn (iblk m c 0 t) (iblk m c 1 t) (j 0) (j 1)) [] [_, _]
      ⟨hw_hi _ _ _ inb_S512x1024_S256x1024_256_0, hw_lo _ _ _ inb_S512x1024_S256x1024_0_0, trivial⟩ y
      (View.cover_of_tiledBy (s := S512x1024) _ (![256, 1024] : Fin 2 → ℕ) (by sl_kernel_rfl) _)
  · by_cases h1 : t.val % 16 = 15
    · rw [outsAt0_C m c t h0 h1]
      frame_out
      exact View.canon_append_of_piecesOf (Val := Elt Ideal) (s := S512x1024) (e := .bf16) (fun j => hn (iblk m c 0 t) (iblk m c 1 t) (j 0) (j 1)) [] [_, _]
        ⟨hw_hi _ _ _ inb_S512x1024_S256x1024_256_0, hw_lo _ _ _ inb_S512x1024_S256x1024_0_0, trivial⟩ y
        (View.cover_of_tiledBy (s := S512x1024) _ (![256, 1024] : Fin 2 → ℕ) (by sl_kernel_rfl) _)
    · rw [outsAt0_B m c t h0 h1]
      frame_out
      exact View.canon_append_of_piecesOf (Val := Elt Ideal) (s := S512x1024) (e := .bf16) (fun j => hn (iblk m c 0 t) (iblk m c 1 t) (j 0) (j 1)) [] [_, _]
        ⟨hw_hi _ _ _ inb_S512x1024_S256x1024_256_0, hw_lo _ _ _ inb_S512x1024_S256x1024_0_0, trivial⟩ y
        (View.cover_of_tiledBy (s := S512x1024) _ (![256, 1024] : Fin 2 → ℕ) (by sl_kernel_rfl) _)

theorem out8 (c : Dev nD) (t : Fin cfg0.N) (y) : (outsAt0 m c t.val t.isLt).2.2.1 y = ac (iblk m c 0 t) (iblk m c 1 t) (iblk m c 2 t) (y 0) (y 1) := by
  by_cases h0 : t.val % 16 = 0
  · have h1 : ¬t.val % 16 = 15 := by omega
    rw [outsAt0_A m c t h0 h1]
    frame_out
    exact View.canon_append_of_piecesOf (Val := Elt Ideal) (s := S512x4096) (e := .bf16) (fun j => ac (iblk m c 0 t) (iblk m c 1 t) (iblk m c 2 t) (j 0) (j 1)) [] [_, _, _, _, _, _, _, _]
      ⟨aw_hi3 _ _ _ _ _ inb_S512x4096_S256x1024_256_3072, aw_hi2 _ _ _ _ _ inb_S512x4096_S256x1024_256_2048, aw_hi1 _ _ _ _ _ inb_S512x4096_S256x1024_256_1024, aw_hi0 _ _ _ _ _ inb_S512x4096_S256x1024_256_0, aw_lo3 _ _ _ _ _ inb_S512x4096_S256x1024_0_3072, aw_lo2 _ _ _ _ _ inb_S512x4096_S256x1024_0_2048, aw_lo1 _ _ _ _ _ inb_S512x4096_S256x1024_0_1024, aw_lo0 _ _ _ _ _ inb_S512x4096_S256x1024_0_0, trivial⟩ y
      (View.cover_of_tiledBy (s := S512x4096) _ (![256, 1024] : Fin 2 → ℕ) (by sl_kernel_rfl) _)
  · by_cases h1 : t.val % 16 = 15
    · rw [outsAt0_C m c t h0 h1]
      frame_out
      exact View.canon_append_of_piecesOf (Val := Elt Ideal) (s := S512x4096) (e := .bf16) (fun j => ac (iblk m c 0 t) (iblk m c 1 t) (iblk m c 2 t) (j 0) (j 1)) [] [_, _, _, _, _, _, _, _]
        ⟨aw_hi3 _ _ _ _ _ inb_S512x4096_S256x1024_256_3072, aw_hi2 _ _ _ _ _ inb_S512x4096_S256x1024_256_2048, aw_hi1 _ _ _ _ _ inb_S512x4096_S256x1024_256_1024, aw_hi0 _ _ _ _ _ inb_S512x4096_S256x1024_256_0, aw_lo3 _ _ _ _ _ inb_S512x4096_S256x1024_0_3072, aw_lo2 _ _ _ _ _ inb_S512x4096_S256x1024_0_2048, aw_lo1 _ _ _ _ _ inb_S512x4096_S256x1024_0_1024, aw_lo0 _ _ _ _ _ inb_S512x4096_S256x1024_0_0, trivial⟩ y
        (View.cover_of_tiledBy (s := S512x4096) _ (![256, 1024] : Fin 2 → ℕ) (by sl_kernel_rfl) _)
    · rw [outsAt0_B m c t h0 h1]
      frame_out
      exact View.canon_append_of_piecesOf (Val := Elt Ideal) (s := S512x4096) (e := .bf16) (fun j => ac (iblk m c 0 t) (iblk m c 1 t) (iblk m c 2 t) (j 0) (j 1)) [] [_, _, _, _, _, _, _, _]
        ⟨aw_hi3 _ _ _ _ _ inb_S512x4096_S256x1024_256_3072, aw_hi2 _ _ _ _ _ inb_S512x4096_S256x1024_256_2048, aw_hi1 _ _ _ _ _ inb_S512x4096_S256x1024_256_1024, aw_hi0 _ _ _ _ _ inb_S512x4096_S256x1024_256_0, aw_lo3 _ _ _ _ _ inb_S512x4096_S256x1024_0_3072, aw_lo2 _ _ _ _ _ inb_S512x4096_S256x1024_0_2048, aw_lo1 _ _ _ _ _ inb_S512x4096_S256x1024_0_1024, aw_lo0 _ _ _ _ _ inb_S512x4096_S256x1024_0_0, trivial⟩ y
        (View.cover_of_tiledBy (s := S512x4096) _ (![256, 1024] : Fin 2 → ℕ) (by sl_kernel_rfl) _)

/-- What a point adds to the accumulator: its tokens' parts of the gains' gradient in the first row, of the sum of squared
    errors in the second. -/
def part (c : Dev nD) (t : Fin cfg0.N) (j : S8x1024.Idx) : EReal :=
  if (j 0).val = 1 then ∑ p : Fin 512, lp (iblk m c 0 t) (iblk m c 1 t) (iblk m c 2 t) (iblk m c 3 t) (iblk m c 4 t) (iblk m c 5 t) p (j 1) else if (j 0).val = 0 then ∑ p : Fin 512, gp (iblk m c 0 t) (iblk m c 1 t) (iblk m c 2 t) (iblk m c 3 t) (iblk m c 4 t) (iblk m c 5 t) p (j 1) else 0

theorem acc_A (c : Dev nD) (t : Fin cfg0.N) (h0 : t.val % 16 = 0) (y : S8x1024.Idx) :
    (outsAt0 m c t.val t.isLt).2.2.2 y = 0 + part m c t y := by
  have h1 : ¬t.val % 16 = 15 := by omega
  rw [outsAt0_A m c t h0 h1]
  frame_out
  simp (disch := decide) only [↓ View.readCov_skip, ↓ View.readCov_cons_toLoadRect, ↓ View.readCov_fill]
  refine (Norm.rowr_canon 1 (by decide) _ _ _ _).trans ?_
  unfold part
  by_cases h : (y 0).val = 1
  · rw [if_pos h, if_pos h]
    refine (lp_hi _ _ _ _ _ _ _ _ _ _ _ _ _ _ _ _ _).trans ?_
    refine (congrArg (· + _) ((lp_lo _ _ _ _ _ _ _ _ _ _ _ _ _ _ _ _ _).trans (congrArg (· + _) ((Norm.rowr_ld 1 (by decide) _ _ _).trans (show _ = (0 : EReal) by pointwise [k0_pay3]))))).trans ?_
    exact Norm.two_halves 0 fun p => lp (iblk m c 0 t) (iblk m c 1 t) (iblk m c 2 t) (iblk m c 3 t) (iblk m c 4 t) (iblk m c 5 t) p (y 1)
  rw [if_neg h, if_neg h]
  refine (Norm.rowr_canon 0 (by decide) _ _ _ _).trans ?_
  by_cases h' : (y 0).val = 0
  · rw [if_pos h', if_pos h']
    refine (gp_hi _ _ _ _ _ _ _ _ _ _ _ _ _ _ _ _ _).trans ?_
    refine (congrArg (· + _) ((gp_lo _ _ _ _ _ _ _ _ _ _ _ _ _ _ _ _ _).trans (congrArg (· + _) ((Norm.rowr_ld 0 (by decide) _ _ _).trans (show _ = (0 : EReal) by pointwise [k0_pay3]))))).trans ?_
    exact Norm.two_halves 0 fun p => gp (iblk m c 0 t) (iblk m c 1 t) (iblk m c 2 t) (iblk m c 3 t) (iblk m c 4 t) (iblk m c 5 t) p (y 1)
  rw [if_neg h', if_neg h']
  refine (Norm.rowr_canon 1 (by decide) _ _ _ _).trans ?_
  rw [if_neg h]
  refine (Norm.rowr_canon 0 (by decide) _ _ _ _).trans ?_
  rw [if_neg h', add_zero]
  refine (congrFun (View.canon_unit_zero (Val := Elt Ideal) (S := S8x1024) (e := .f32) (by decide) _ _) y).trans ?_
  pointwise [k0_pay3]

theorem acc_B (c : Dev nD) (t : Fin cfg0.N) (h0 : ¬t.val % 16 = 0) (h1 : ¬t.val % 16 = 15) (y : S8x1024.Idx) :
    (outsAt0 m c t.val t.isLt).2.2.2 y = (outsAt0 m c (t.val - 1) (Nat.lt_of_le_of_lt (Nat.sub_le _ _) t.isLt)).2.2.2 y + part m c t y := by
  rw [outsAt0_B m c t h0 h1]
  frame_out
  simp (disch := decide) only [↓ View.readCov_skip, ↓ View.readCov_cons_toLoadRect, ↓ View.readCov_fill]
  refine (Norm.rowr_read 1 _ _ _ _ _ _).trans ?_
  unfold part
  by_cases h : (y 0).val = 1
  · rw [if_pos h, if_pos h]
    refine (lp_hi _ _ _ _ _ _ _ _ _ _ _ _ _ _ _ _ _).trans ?_
    refine (congrArg (· + _) ((lp_lo _ _ _ _ _ _ _ _ _ _ _ _ _ _ _ _ _).trans (congrArg (· + _) (Norm.rowr_ld 1 (by decide) _ _ _)))).trans ?_
    refine (Norm.two_halves _ fun p => lp (iblk m c 0 t) (iblk m c 1 t) (iblk m c 2 t) (iblk m c 3 t) (iblk m c 4 t) (iblk m c 5 t) p (y 1)).trans ?_
    refine congrArg (· + _) (congrArg (outsAt0 m c (t.val - 1) _).2.2.2 ?_)
    blk_ext
  rw [if_neg h, if_neg h]
  refine (Norm.rowr_read 0 _ _ _ _ _ _).trans ?_
  by_cases h' : (y 0).val = 0
  · rw [if_pos h', if_pos h']
    refine (gp_hi _ _ _ _ _ _ _ _ _ _ _ _ _ _ _ _ _).trans ?_
    refine (congrArg (· + _) ((gp_lo _ _ _ _ _ _ _ _ _ _ _ _ _ _ _ _ _).trans (congrArg (· + _) (Norm.rowr_ld 0 (by decide) _ _ _)))).trans ?_
    refine (Norm.two_halves _ fun p => gp (iblk m c 0 t) (iblk m c 1 t) (iblk m c 2 t) (iblk m c 3 t) (iblk m c 4 t) (iblk m c 5 t) p (y 1)).trans ?_
    refine congrArg (· + _) (congrArg (outsAt0 m c (t.val - 1) _).2.2.2 ?_)
    blk_ext
  rw [if_neg h', if_neg h']
  refine (Norm.rowr_read 1 _ _ _ _ _ _).trans ?_
  rw [if_neg h]
  refine (Norm.rowr_read 0 _ _ _ _ _ _).trans ?_
  rw [if_neg h', add_zero]
  exact congrFun (Memref.IsWhole.read_unread _ _) y

theorem acc_C (c : Dev nD) (t : Fin cfg0.N) (h0 : ¬t.val % 16 = 0) (h1 : t.val % 16 = 15) (y : S8x1024.Idx) :
    (outsAt0 m c t.val t.isLt).2.2.2 y = if (y 0).val = 1 then
        0 + Ideal.ofBits .f32 0x3A000000#32 * ∑ k : Fin 1024, ((outsAt0 m c (t.val - 1) (Nat.lt_of_le_of_lt (Nat.sub_le _ _) t.isLt)).2.2.2 (ix2 1 k) + part m c t (ix2 1 k))
      else (outsAt0 m c (t.val - 1) (Nat.lt_of_le_of_lt (Nat.sub_le _ _) t.isLt)).2.2.2 y + part m c t y := by
  rw [outsAt0_C m c t h0 h1]
  frame_out
  simp (disch := decide) only [↓ View.readCov_skip, ↓ View.readCov_cons_toLoadRect, ↓ View.readCov_fill]
  refine (Norm.rowr_read 1 _ _ _ _ _ _).trans ?_
  by_cases h : (y 0).val = 1
  · rw [if_pos h, if_pos h]
    refine (pay2_at _ _).trans (congrArg (fun w => 0 + _ * w) (Finset.sum_congr rfl fun k _ => ?_))
    refine (lp_hi _ _ _ _ _ _ _ _ _ _ _ _ _ _ _ _ _).trans ?_
    refine (congrArg (· + _) ((lp_lo _ _ _ _ _ _ _ _ _ _ _ _ _ _ _ _ _).trans (congrArg (· + _) (Norm.rowr_ld 1 (by decide) _ _ _)))).trans ?_
    refine (Norm.two_halves _ fun p => lp (iblk m c 0 t) (iblk m c 1 t) (iblk m c 2 t) (iblk m c 3 t) (iblk m c 4 t) (iblk m c 5 t) p k).trans ?_
    rfl
  rw [if_neg h, if_neg h]
  refine (Norm.rowr_read 1 _ _ _ _ _ _).trans ?_
  rw [if_neg h]
  unfold part
  rw [if_neg h]
  refine (Norm.rowr_read 0 _ _ _ _ _ _).trans ?_
  by_cases h' : (y 0).val = 0
  · rw [if_pos h', if_pos h']
    refine (gp_hi _ _ _ _ _ _ _ _ _ _ _ _ _ _ _ _ _).trans ?_
    refine (congrArg (· + _) ((gp_lo _ _ _ _ _ _ _ _ _ _ _ _ _ _ _ _ _).trans (congrArg (· + _) (Norm.rowr_ld 0 (by decide) _ _ _)))).trans ?_
    refine (Norm.two_halves _ fun p => gp (iblk m c 0 t) (iblk m c 1 t) (iblk m c 2 t) (iblk m c 3 t) (iblk m c 4 t) (iblk m c 5 t) p (y 1)).trans ?_
    refine congrArg (· + _) (congrArg (outsAt0 m c (t.val - 1) _).2.2.2 ?_)
    blk_ext
  rw [if_neg h', if_neg h']
  refine (Norm.rowr_read 1 _ _ _ _ _ _).trans ?_
  rw [if_neg h]
  refine (Norm.rowr_read 0 _ _ _ _ _ _).trans ?_
  rw [if_neg h', add_zero]
  exact congrFun (Memref.IsWhole.read_unread _ _) y

end Cert.Kernel8Ideal.Fwd

end
-- ==== Proof.MlpFwd.lean ====
/-
  The value of the forward call of the last layer's multilayer perceptron with the loss head (program `Kernel8`), against
  the reference: what the points compute are the reference's values at their tokens.
-/
module

public import proofs.«01_k».proof.Proof.MlpFwdBlock
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Fwd

open Cert.Kernel8Ideal Cert.Kernel8Ideal.Gen

variable (m : (ℓ : Loc nD τ sig) → Buf (Elt Ideal) ℓ)

/-- The mean squares of the rows, plus the small constant. -/
def MSQ (x : FVec Ideal Cert.Reference8Ideal.S4x2048x1024 .f32) : FVec Ideal Cert.Reference8Ideal.S4x2048x1 .f32 :=
  (addf (Host.divf (broadcastInDim Cert.Reference8Ideal.S4x2048x1 ![0, 1] Cert.Reference8Ideal.Gen.bcast_S4x2048_S4x2048x1_0_1 (Host.reduceAdd (mulf x x) (constant Cert.Reference8Ideal.S_ .f32 0x00000000#32) Cert.Reference8Ideal.Gen.reducesTo_S4x2048x1024_S4x2048_d2 Cert.Reference8Ideal.Gen.h_S_)) (broadcastInDim Cert.Reference8Ideal.S4x2048x1 ![] Cert.Reference8Ideal.Gen.bcast_S_S4x2048x1 (constant Cert.Reference8Ideal.S_ .f32 0x44800000#32))) (broadcastInDim Cert.Reference8Ideal.S4x2048x1 ![] Cert.Reference8Ideal.Gen.bcast_S_S4x2048x1 (constant Cert.Reference8Ideal.S_ .f32 0x358637BD#32)))

/-- Their reciprocal roots. -/
def RINV (x : FVec Ideal Cert.Reference8Ideal.S4x2048x1024 .f32) : FVec Ideal Cert.Reference8Ideal.S4x2048x1 .f32 :=
  Host.rsqrt (MSQ x)

/-- The normalised and scaled input. -/
def HN (a0 : FVec Ideal Cert.Reference8Ideal.S4x2048x1024 .f32) (a1 : FVec Ideal Cert.Reference8Ideal.S2x1024 .f32) : FVec Ideal Cert.Reference8Ideal.S4x2048x1024 .f32 :=
  mulf (mulf a0 (broadcastInDim Cert.Reference8Ideal.S4x2048x1024 ![0, 1, 2] Cert.Reference8Ideal.Gen.bcast_S4x2048x1_S4x2048x1024_0_1_2 (RINV a0))) (broadcastInDim Cert.Reference8Ideal.S4x2048x1024 ![0, 1, 2] Cert.Reference8Ideal.Gen.bcast_S1x1x1024_S4x2048x1024_0_1_2 (broadcastInDim Cert.Reference8Ideal.S1x1x1024 ![2] Cert.Reference8Ideal.Gen.bcast_S1024_S1x1x1024_2 (shapeCast Cert.Reference8Ideal.S1024 (extractStridedSlice Cert.Reference8Ideal.S1x1024 ![1, 0] a1 Cert.Reference8Ideal.Gen.slices_S2x1024_S1x1024_1_0) Cert.Reference8Ideal.Gen.shapeCasts_S1x1024_S1024)))

/-- The activations before the rectifier. -/
def ACT (a0 : FVec Ideal Cert.Reference8Ideal.S4x2048x1024 .f32) (a1 : FVec Ideal Cert.Reference8Ideal.S2x1024 .f32) (a2 : FVec Ideal Cert.Reference8Ideal.S1024x4096 .f32) : FVec Ideal Cert.Reference8Ideal.S4x2048x4096 .f32 :=
  Host.dotGeneral Cert.Reference8Ideal.dot_S4x2048x1024_S1024x4096_S4x2048x4096_2_0_01_1_n_n none (HN a0 a1) a2

/-- The block's output. -/
def YO (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) : FVec Ideal Cert.Reference8Ideal.S4x2048x1024 .f32 :=
  addf a0 (Host.dotGeneral Cert.Reference8Ideal.dot_S4x2048x4096_S4096x1024_S4x2048x1024_2_0_01_1_n_n none (mulf (maximumf (ACT a0 a1 a2) (broadcastInDim Cert.Reference8Ideal.S4x2048x4096 ![] Cert.Reference8Ideal.Gen.bcast_S_S4x2048x4096 (constant Cert.Reference8Ideal.S_ .f32 0x00000000#32))) (maximumf (ACT a0 a1 a2) (broadcastInDim Cert.Reference8Ideal.S4x2048x4096 ![] Cert.Reference8Ideal.Gen.bcast_S_S4x2048x4096 (constant Cert.Reference8Ideal.S_ .f32 0x00000000#32)))) a3)

/-- The error of the normalised output. -/
def ER (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S4x2048x1024 .f32 :=
  subf (mulf (mulf (YO a0 a1 a2 a3) (broadcastInDim Cert.Reference8Ideal.S4x2048x1024 ![0, 1, 2] Cert.Reference8Ideal.Gen.bcast_S4x2048x1_S4x2048x1024_0_1_2 (RINV (YO a0 a1 a2 a3)))) (broadcastInDim Cert.Reference8Ideal.S4x2048x1024 ![0, 1, 2] Cert.Reference8Ideal.Gen.bcast_S1x1x1024_S4x2048x1024_0_1_2 (broadcastInDim Cert.Reference8Ideal.S1x1x1024 ![2] Cert.Reference8Ideal.Gen.bcast_S1024_S1x1x1024_2 a5))) a4

/-- The loss's gradient at the normalised output. -/
def EC (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S4x2048x1024 .f32 :=
  mulf (broadcastInDim Cert.Reference8Ideal.S4x2048x1024 ![0, 1] Cert.Reference8Ideal.Gen.bcast_S4x2048_S4x2048x1024_0_1 (Host.divf (broadcastInDim Cert.Reference8Ideal.S4x2048 ![] Cert.Reference8Ideal.Gen.bcast_S_S4x2048 (mulf (constant Cert.Reference8Ideal.S_ .f32 0x3F000000#32) (constant Cert.Reference8Ideal.S_ .f32 0x3F800000#32))) (broadcastInDim Cert.Reference8Ideal.S4x2048 ![] Cert.Reference8Ideal.Gen.bcast_S_S4x2048 (constant Cert.Reference8Ideal.S_ .f32 0x44800000#32)))) (mulf (broadcastInDim Cert.Reference8Ideal.S4x2048x1024 ![] Cert.Reference8Ideal.Gen.bcast_S_S4x2048x1024 (constant Cert.Reference8Ideal.S_ .f32 0x40000000#32)) (ER a0 a1 a2 a3 a4 a5))

/-- The same before the gains. -/
def DN (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S4x2048x1024 .f32 :=
  mulf (EC a0 a1 a2 a3 a4 a5) (broadcastInDim Cert.Reference8Ideal.S4x2048x1024 ![0, 1, 2] Cert.Reference8Ideal.Gen.bcast_S1x1x1024_S4x2048x1024_0_1_2 (broadcastInDim Cert.Reference8Ideal.S1x1x1024 ![2] Cert.Reference8Ideal.Gen.bcast_S1024_S1x1x1024_2 a5))

/-- The common factor of the two equal parts of the output's gradient. -/
def HALF (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S4x2048x1024 .f32 :=
  broadcastInDim Cert.Reference8Ideal.S4x2048x1024 ![0, 1] Cert.Reference8Ideal.Gen.bcast_S4x2048_S4x2048x1024_0_1 (Host.reduceAdd (Host.divf (mulf (shapeCast Cert.Reference8Ideal.S4x2048x1 (Host.reduceAdd (mulf (YO a0 a1 a2 a3) (DN a0 a1 a2 a3 a4 a5)) (constant Cert.Reference8Ideal.S_ .f32 0x00000000#32) Cert.Reference8Ideal.Gen.reducesTo_S4x2048x1024_S4x2048_d2 Cert.Reference8Ideal.Gen.h_S_) Cert.Reference8Ideal.Gen.shapeCasts_S4x2048_S4x2048x1) (mulf (broadcastInDim Cert.Reference8Ideal.S4x2048x1 ![] Cert.Reference8Ideal.Gen.bcast_S_S4x2048x1 (constant Cert.Reference8Ideal.S_ .f32 0xBF000000#32)) (Host.divf (RINV (YO a0 a1 a2 a3)) (MSQ (YO a0 a1 a2 a3))))) (broadcastInDim Cert.Reference8Ideal.S4x2048x1 ![] Cert.Reference8Ideal.Gen.bcast_S_S4x2048x1 (constant Cert.Reference8Ideal.S_ .f32 0x44800000#32))) (constant Cert.Reference8Ideal.S_ .f32 0x00000000#32) Cert.Reference8Ideal.Gen.reducesTo_S4x2048x1_S4x2048_d2 Cert.Reference8Ideal.Gen.h_S_)

/-- The reference's results. -/
def REF6 (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S8192x1024 .f32 :=
  shapeCast Cert.Reference8Ideal.S8192x1024 (addf (addf (mulf (DN a0 a1 a2 a3 a4 a5) (broadcastInDim Cert.Reference8Ideal.S4x2048x1024 ![0, 1, 2] Cert.Reference8Ideal.Gen.bcast_S4x2048x1_S4x2048x1024_0_1_2 (RINV (YO a0 a1 a2 a3)))) (mulf (YO a0 a1 a2 a3) (HALF a0 a1 a2 a3 a4 a5))) (mulf (HALF a0 a1 a2 a3 a4 a5) (YO a0 a1 a2 a3))) Cert.Reference8Ideal.Gen.shapeCasts_S4x2048x1024_S8192x1024

def REF7 (a0 : FVec Ideal Cert.Reference8Ideal.S4x2048x1024 .f32) (a1 : FVec Ideal Cert.Reference8Ideal.S2x1024 .f32) : FVec Ideal Cert.Reference8Ideal.S8192x1024 .bf16 :=
  truncf .bf16 (shapeCast Cert.Reference8Ideal.S8192x1024 (HN a0 a1) Cert.Reference8Ideal.Gen.shapeCasts_S4x2048x1024_S8192x1024) Cert.Reference8Ideal.Gen.bitsLt_bf16_f32

def REF8 (a0 : FVec Ideal Cert.Reference8Ideal.S4x2048x1024 .f32) (a1 : FVec Ideal Cert.Reference8Ideal.S2x1024 .f32) (a2 : FVec Ideal Cert.Reference8Ideal.S1024x4096 .f32) : FVec Ideal Cert.Reference8Ideal.S8192x4096 .bf16 :=
  truncf .bf16 (shapeCast Cert.Reference8Ideal.S8192x4096 (ACT a0 a1 a2) Cert.Reference8Ideal.Gen.shapeCasts_S4x2048x4096_S8192x4096) Cert.Reference8Ideal.Gen.bitsLt_bf16_f32

def REF9 (a0 : FVec Ideal Cert.Reference8Ideal.S4x2048x1024 .f32) (a1 : FVec Ideal Cert.Reference8Ideal.S2x1024 .f32) (a2 : FVec Ideal Cert.Reference8Ideal.S1024x4096 .f32) (a3 : FVec Ideal Cert.Reference8Ideal.S4096x1024 .f32) (a4 : FVec Ideal Cert.Reference8Ideal.S4x2048x1024 .f32) (a5 : FVec Ideal Cert.Reference8Ideal.S1024 .f32) : FVec Ideal Cert.Reference8Ideal.S8x1024 .f32 :=
  concatenate Cert.Reference8Ideal.S8x1024 0 [⟨Cert.Reference8Ideal.S1x1024, (shapeCast Cert.Reference8Ideal.S1x1024 (Host.reduceAdd (shapeCast Cert.Reference8Ideal.S1x1x1024 (Host.reduceAdd (mulf (mulf (YO a0 a1 a2 a3) (broadcastInDim Cert.Reference8Ideal.S4x2048x1024 ![0, 1, 2] Cert.Reference8Ideal.Gen.bcast_S4x2048x1_S4x2048x1024_0_1_2 (RINV (YO a0 a1 a2 a3)))) (EC a0 a1 a2 a3 a4 a5)) (constant Cert.Reference8Ideal.S_ .f32 0x00000000#32) Cert.Reference8Ideal.Gen.reducesTo_S4x2048x1024_S1024_d0_1 Cert.Reference8Ideal.Gen.h_S_) Cert.Reference8Ideal.Gen.shapeCasts_S1024_S1x1x1024) (constant Cert.Reference8Ideal.S_ .f32 0x00000000#32) Cert.Reference8Ideal.Gen.reducesTo_S1x1x1024_S1024_d0_1 Cert.Reference8Ideal.Gen.h_S_) Cert.Reference8Ideal.Gen.shapeCasts_S1024_S1x1024)⟩, ⟨Cert.Reference8Ideal.S1x1024, (broadcastInDim Cert.Reference8Ideal.S1x1024 ![] Cert.Reference8Ideal.Gen.bcast_S_S1x1024 (mulf (constant Cert.Reference8Ideal.S_ .f32 0x3F000000#32) (Host.reduceAdd (Host.divf (Host.reduceAdd (mulf (ER a0 a1 a2 a3 a4 a5) (ER a0 a1 a2 a3 a4 a5)) (constant Cert.Reference8Ideal.S_ .f32 0x00000000#32) Cert.Reference8Ideal.Gen.reducesTo_S4x2048x1024_S4x2048_d2 Cert.Reference8Ideal.Gen.h_S_) (broadcastInDim Cert.Reference8Ideal.S4x2048 ![] Cert.Reference8Ideal.Gen.bcast_S_S4x2048 (constant Cert.Reference8Ideal.S_ .f32 0x44800000#32))) (constant Cert.Reference8Ideal.S_ .f32 0x00000000#32) Cert.Reference8Ideal.Gen.reducesTo_S4x2048_S_d0_1 Cert.Reference8Ideal.Gen.h_S_)))⟩, ⟨Cert.Reference8Ideal.S6x1024, (broadcastInDim Cert.Reference8Ideal.S6x1024 ![] Cert.Reference8Ideal.Gen.bcast_S_S6x1024 (constant Cert.Reference8Ideal.S_ .f32 0x00000000#32))⟩] Cert.Reference8Ideal.Gen.concatenates_S1x1024_S1x1024_S6x1024_S8x1024_d0

/-- The two weights the call is handed, one after the other. -/
theorem entry4 (c : Dev nD) : V m c main_v4 = (truncf .bf16 (concatenate S2x4096x1024 0
    [⟨S1x4096x1024, broadcastInDim S1x4096x1024 ![1, 2] bcast_S4096x1024_S1x4096x1024_1_2 (transpose S4096x1024 [1, 0] (m ((c : Thread nD τ).loc main_arg2)) transposes_S1024x4096_S4096x1024_1_0)⟩,
      ⟨S1x4096x1024, broadcastInDim S1x4096x1024 ![1, 2] bcast_S4096x1024_S1x4096x1024_1_2 (m ((c : Thread nD τ).loc main_arg3))⟩]
    concatenates_S1x4096x1024_S1x4096x1024_S2x4096x1024_d0) bitsLt_bf16_f32 : FVec Ideal S2x4096x1024 .bf16) := by
  entry_read
  rfl

/-! ## The blocks read as the arguments' entries -/

theorem blk0 (c : Dev nD) (t : Fin cfg0.N) (p : Fin 512) (k : Fin 1024) : (show Vec Ideal S512x1024 .f32 from iblk m c 0 t) (ix2 p k)
    = (m ((c : Thread nD τ).loc main_arg0)) (ix3 ⟨(512 * t.val + p.val) / 2048, by have := lt_of_lt_of_eq t.isLt N_0; omega⟩ ⟨(512 * t.val + p.val) % 2048, by omega⟩ k) := by
  have hi := idx t
  blk_point [iblk, V, hi]

theorem blk1 (c : Dev nD) (t : Fin cfg0.N) (k : Fin 1024) : (show Vec Ideal S1x1x1024 .f32 from iblk m c 1 t) (ix3 0 0 k)
    = (m ((c : Thread nD τ).loc main_arg1)) (ix2 1 k) := by
  have hi := idx t
  blk_point [iblk, V, hi]

theorem blk2 (c : Dev nD) (t : Fin cfg0.N) (f : Fin 4096) (k : Fin 1024) : (show Vec Ideal S1x4096x1024 .bf16 from iblk m c 2 t) (ix3 0 f k)
    = (m ((c : Thread nD τ).loc main_arg2)) (ix2 k f) := by
  have hi := idx t
  have e : (win0_2.blk t).view.emb (ix3 0 f k) = (ix3 0 f k : S2x4096x1024.Idx) := by
    blk_ext [hi]
  refine (congrArg (V m c main_v4) e).trans ?_
  rw [entry4]
  pointwise []

theorem blk3 (c : Dev nD) (t : Fin cfg0.N) (f : Fin 4096) (k : Fin 1024) : (show Vec Ideal S1x4096x1024 .bf16 from iblk m c 3 t) (ix3 0 f k)
    = (m ((c : Thread nD τ).loc main_arg3)) (ix2 f k) := by
  have hi := idx t
  have e : (win0_3.blk t).view.emb (ix3 0 f k) = (ix3 1 f k : S2x4096x1024.Idx) := by
    blk_ext [hi]
  refine (congrArg (V m c main_v4) e).trans ?_
  rw [entry4]
  pointwise []

theorem blk4 (c : Dev nD) (t : Fin cfg0.N) (p : Fin 512) (k : Fin 1024) : (show Vec Ideal S512x1024 .f32 from iblk m c 4 t) (ix2 p k)
    = (m ((c : Thread nD τ).loc main_arg4)) (ix3 ⟨(512 * t.val + p.val) / 2048, by have := lt_of_lt_of_eq t.isLt N_0; omega⟩ ⟨(512 * t.val + p.val) % 2048, by omega⟩ k) := by
  have hi := idx t
  blk_point [iblk, V, hi]

theorem blk5 (c : Dev nD) (t : Fin cfg0.N) (k : Fin 1024) : (show Vec Ideal S1x1024 .f32 from iblk m c 5 t) (ix2 0 k)
    = (m ((c : Thread nD τ).loc main_arg5)) (ix1 k) := by
  have hi := idx t
  blk_point [iblk, V, hi]

/-! ## What a point computes is the reference's value at its tokens -/

section
variable (c : Dev nD) (t : Fin cfg0.N) (p : Fin 512)

theorem row0_eq : (fun k => (show Vec Ideal S512x1024 .f32 from iblk m c 0 t) (ix2 p k)) = fun k => (m ((c : Thread nD τ).loc main_arg0)) (ix3 ⟨(512 * t.val + p.val) / 2048, by have := lt_of_lt_of_eq t.isLt N_0; omega⟩ ⟨(512 * t.val + p.val) % 2048, by omega⟩ k) :=
  funext fun k => blk0 m c t p k

theorem rinv_eq (x : FVec Ideal Cert.Reference8Ideal.S4x2048x1024 .f32) (b : Fin 4) (s : Fin 2048) : Norm.rinv (fun k => x (ix3 b s k)) = RINV x (ix3 b s 0) := by
  pointwise [RINV, MSQ]
  rfl

theorem hn_eq (j : Fin 1024) : hn (iblk m c 0 t) (iblk m c 1 t) p j = HN (m ((c : Thread nD τ).loc main_arg0)) (m ((c : Thread nD τ).loc main_arg1)) (ix3 ⟨(512 * t.val + p.val) / 2048, by have := lt_of_lt_of_eq t.isLt N_0; omega⟩ ⟨(512 * t.val + p.val) % 2048, by omega⟩ j) := by
  have h : Norm.rinv (fun k => (show Vec Ideal S512x1024 .f32 from iblk m c 0 t) (ix2 p k)) = RINV (m ((c : Thread nD τ).loc main_arg0)) (ix3 ⟨(512 * t.val + p.val) / 2048, by have := lt_of_lt_of_eq t.isLt N_0; omega⟩ ⟨(512 * t.val + p.val) % 2048, by omega⟩ 0) := by
    rw [row0_eq m c t p]
    exact rinv_eq _ _ _
  unfold hn
  pointwise [HN]
  exact congrArg₂ (· * ·) (congrArg₂ (· * ·) (blk0 m c t p j) h) (blk1 m c t j)

theorem ac_eq (f : Fin 4096) : ac (iblk m c 0 t) (iblk m c 1 t) (iblk m c 2 t) p f = ACT (m ((c : Thread nD τ).loc main_arg0)) (m ((c : Thread nD τ).loc main_arg1)) (m ((c : Thread nD τ).loc main_arg2)) (ix3 ⟨(512 * t.val + p.val) / 2048, by have := lt_of_lt_of_eq t.isLt N_0; omega⟩ ⟨(512 * t.val + p.val) % 2048, by omega⟩ f) := by
  unfold ac
  pointwise [ACT]
  exact Finset.sum_congr rfl fun k _ => congrArg₂ (· * ·) (hn_eq m c t p k) (blk2 m c t f k)

theorem yo_eq (j : Fin 1024) : yo (iblk m c 0 t) (iblk m c 1 t) (iblk m c 2 t) (iblk m c 3 t) p j = YO (m ((c : Thread nD τ).loc main_arg0)) (m ((c : Thread nD τ).loc main_arg1)) (m ((c : Thread nD τ).loc main_arg2)) (m ((c : Thread nD τ).loc main_arg3)) (ix3 ⟨(512 * t.val + p.val) / 2048, by have := lt_of_lt_of_eq t.isLt N_0; omega⟩ ⟨(512 * t.val + p.val) % 2048, by omega⟩ j) := by
  unfold yo
  pointwise [YO]
  exact congrArg₂ (· + ·) (blk0 m c t p j) (Finset.sum_congr rfl fun f _ => congrArg₂ (· * ·)
    (congrArg (fun w => max w 0 * max w 0) (ac_eq m c t p f)) (blk3 m c t f j))

theorem yrinv_eq : Norm.rinv (fun k => yo (iblk m c 0 t) (iblk m c 1 t) (iblk m c 2 t) (iblk m c 3 t) p k) = RINV (YO (m ((c : Thread nD τ).loc main_arg0)) (m ((c : Thread nD τ).loc main_arg1)) (m ((c : Thread nD τ).loc main_arg2)) (m ((c : Thread nD τ).loc main_arg3))) (ix3 ⟨(512 * t.val + p.val) / 2048, by have := lt_of_lt_of_eq t.isLt N_0; omega⟩ ⟨(512 * t.val + p.val) % 2048, by omega⟩ 0) := by
  rw [show (fun k => yo (iblk m c 0 t) (iblk m c 1 t) (iblk m c 2 t) (iblk m c 3 t) p k) = fun k => YO (m ((c : Thread nD τ).loc main_arg0)) (m ((c : Thread nD τ).loc main_arg1)) (m ((c : Thread nD τ).loc main_arg2)) (m ((c : Thread nD τ).loc main_arg3)) (ix3 ⟨(512 * t.val + p.val) / 2048, by have := lt_of_lt_of_eq t.isLt N_0; omega⟩ ⟨(512 * t.val + p.val) % 2048, by omega⟩ k) from funext fun k => yo_eq m c t p k]
  exact rinv_eq _ _ _

theorem er_eq (j : Fin 1024) : er (iblk m c 0 t) (iblk m c 1 t) (iblk m c 2 t) (iblk m c 3 t) (iblk m c 4 t) (iblk m c 5 t) p j = ER (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨(512 * t.val + p.val) / 2048, by have := lt_of_lt_of_eq t.isLt N_0; omega⟩ ⟨(512 * t.val + p.val) % 2048, by omega⟩ j) := by
  unfold er
  pointwise [ER]
  exact congrArg₂ (· - ·) (congrArg₂ (· * ·) (congrArg₂ (· * ·) (yo_eq m c t p j) (yrinv_eq m c t p)) (blk5 m c t j)) (blk4 m c t p j)

theorem ec_eq (j : Fin 1024) : ec (iblk m c 0 t) (iblk m c 1 t) (iblk m c 2 t) (iblk m c 3 t) (iblk m c 4 t) (iblk m c 5 t) p j = EC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨(512 * t.val + p.val) / 2048, by have := lt_of_lt_of_eq t.isLt N_0; omega⟩ ⟨(512 * t.val + p.val) % 2048, by omega⟩ j) := by
  unfold ec
  rw [er_eq m c t p j, Norm.err_scale]
  pointwise [EC]

theorem half_eq (a0 a1 a2 a3 a4 a5) (b : Fin 4) (s : Fin 2048) (j : Fin 1024) :
    Norm.half (fun k => EC a0 a1 a2 a3 a4 a5 (ix3 b s k) * a5 (ix1 k)) (fun k => YO a0 a1 a2 a3 (ix3 b s k)) = HALF a0 a1 a2 a3 a4 a5 (ix3 b s j) := by
  pointwise [HALF, RINV, MSQ, DN]
  rw [Fin.sum_univ_one]
  rfl

theorem dx_eq (j : Fin 1024) : dx (iblk m c 0 t) (iblk m c 1 t) (iblk m c 2 t) (iblk m c 3 t) (iblk m c 4 t) (iblk m c 5 t) p j = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + p.val, by have := lt_of_lt_of_eq t.isLt N_0; omega⟩ j) := by
  unfold dx
  rw [Norm.grad_eq]
  rw [show (fun k => ec (iblk m c 0 t) (iblk m c 1 t) (iblk m c 2 t) (iblk m c 3 t) (iblk m c 4 t) (iblk m c 5 t) p k * (show Vec Ideal S1x1024 .f32 from iblk m c 5 t) (ix2 0 k))
      = fun k => EC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨(512 * t.val + p.val) / 2048, by have := lt_of_lt_of_eq t.isLt N_0; omega⟩ ⟨(512 * t.val + p.val) % 2048, by omega⟩ k) * (m ((c : Thread nD τ).loc main_arg5)) (ix1 k) from
      funext fun k => congrArg₂ (· * ·) (ec_eq m c t p k) (blk5 m c t k)]
  have h := yrinv_eq m c t p
  rw [show (fun k => yo (iblk m c 0 t) (iblk m c 1 t) (iblk m c 2 t) (iblk m c 3 t) p k) = fun k => YO (m ((c : Thread nD τ).loc main_arg0)) (m ((c : Thread nD τ).loc main_arg1)) (m ((c : Thread nD τ).loc main_arg2)) (m ((c : Thread nD τ).loc main_arg3)) (ix3 ⟨(512 * t.val + p.val) / 2048, by have := lt_of_lt_of_eq t.isLt N_0; omega⟩ ⟨(512 * t.val + p.val) % 2048, by omega⟩ k) from funext fun k => yo_eq m c t p k] at h ⊢
  rw [h, half_eq _ _ _ _ _ _ _ _ j]
  pointwise [REF6, DN]
  have hx := yo_eq m c t p j
  exact congrArg₂ (· + ·) (congrArg₂ (· + ·)
    (congrArg (· * _) (congrArg₂ (· * ·) (ec_eq m c t p j) (blk5 m c t j))) (congrArg (· * _) hx)) (congrArg (_ * ·) hx)

end

theorem ref9_0 (a0 a1 a2 a3 a4 a5) (i : Fin 8) (hi : i.val = 0) (j : Fin 1024) : REF9 a0 a1 a2 a3 a4 a5 (ix2 i j)
    = ∑ b : Fin 4, ∑ s : Fin 2048, EC a0 a1 a2 a3 a4 a5 (ix3 b s j) * (YO a0 a1 a2 a3 (ix3 b s j) * RINV (YO a0 a1 a2 a3) (ix3 b s 0)) := by
  pointwise [REF9]
  refine (dif_pos (by omega)).trans ?_
  first
    | rw [Norm.sum_01, zero_add, Fin.sum_univ_one, Fin.sum_univ_one]
    | (refine (dif_pos (by omega)).trans ?_
       rw [Norm.sum_01, zero_add, Fin.sum_univ_one, Fin.sum_univ_one])
  pointwise []
  rw [Norm.sum_01, zero_add]
  refine Finset.sum_congr rfl fun b _ => Finset.sum_congr rfl fun s _ => ?_
  pointwise []
  exact mul_comm _ _

theorem ref9_1 (a0 a1 a2 a3 a4 a5) (i : Fin 8) (hi : i.val = 1) (j : Fin 1024) : REF9 a0 a1 a2 a3 a4 a5 (ix2 i j)
    = Ideal.ofBits .f32 0x3F000000#32 * ∑ b : Fin 4, ∑ s : Fin 2048,
      Ideal.div (∑ k, ER a0 a1 a2 a3 a4 a5 (ix3 b s k) * ER a0 a1 a2 a3 a4 a5 (ix3 b s k)) (Ideal.ofBits .f32 0x44800000#32) := by
  pointwise [REF9]
  refine (dif_neg (by omega)).trans ((dif_pos (by omega)).trans ?_)
  pointwise []

theorem ref9_2 (a0 a1 a2 a3 a4 a5) (i : Fin 8) (hi : ¬i.val = 1) (hi' : ¬i.val = 0) (j : Fin 1024) : REF9 a0 a1 a2 a3 a4 a5 (ix2 i j) = 0 := by
  pointwise [REF9]
  exact (dif_neg (by omega)).trans (dif_neg (by omega))

/-- The accumulator with the last point's second row not yet scaled. -/
def accs (c : Dev nD) (n : ℕ) (h : n < cfg0.N) (y : S8x1024.Idx) : EReal :=
  if n % 16 = 15 then (outsAt0 m c (n - 1) (Nat.lt_of_le_of_lt (Nat.sub_le _ _) h)).2.2.2 y + part m c ⟨n, h⟩ y
  else (outsAt0 m c n h).2.2.2 y

theorem accs_A (c : Dev nD) (t : Fin cfg0.N) (h : t.val % 16 = 0) (y : S8x1024.Idx) : accs m c t.val t.isLt y = 0 + part m c t y := by
  unfold accs
  rw [if_neg (by omega)]
  exact acc_A m c t h y

theorem accs_B (c : Dev nD) (t : Fin cfg0.N) (h : ¬t.val % 16 = 0) (y : S8x1024.Idx) : accs m c t.val t.isLt y
    = accs m c (t.val - 1) (Nat.lt_of_le_of_lt (Nat.sub_le _ _) t.isLt) y + part m c t y := by
  unfold accs
  rw [if_neg (show ¬(t.val - 1) % 16 = 15 by omega)]
  by_cases h1 : t.val % 16 = 15
  · rw [if_pos h1]
  · rw [if_neg h1]
    exact acc_B m c t h h1 y

theorem accs_last (c : Dev nD) (t : Fin cfg0.N) (h1 : t.val % 16 = 15) (y : S8x1024.Idx) :
    (outsAt0 m c (t.val - 1) (Nat.lt_of_le_of_lt (Nat.sub_le _ _) t.isLt)).2.2.2 y + part m c t y = ∑ t : Fin cfg0.N, part m c t y := by
  have hN := lt_of_lt_of_eq t.isLt N_0
  have e := Pipeline.eq_sum_fin_of_reset_step_apply_last (accs m c) 16 (fun _ => 0) (part m c)
    (fun t h j => accs_A m c t h j) (fun t h j => accs_B m c t h j) (le_of_eq N_0) t (by have h16 : cfg0.N = 16 := N_0; omega) y
  rw [zero_add] at e
  rw [← e]
  unfold accs
  rw [if_pos h1]

theorem part_1 (c : Dev nD) (j : Fin 1024) : ∑ t : Fin cfg0.N, part m c t (ix2 1 j)
    = ∑ b : Fin 4, ∑ s : Fin 2048, ER (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j) * ER (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j) := by
  unfold part
  rw [← Norm.regroup N_0]
  refine Finset.sum_congr rfl fun t _ => (if_pos rfl).trans (Finset.sum_congr rfl fun p _ => ?_)
  exact congrArg₂ (· * ·) (er_eq m c t p j) (er_eq m c t p j)

theorem part_0 (c : Dev nD) (i : Fin 8) (h : ¬i.val = 1) (j : Fin 1024) : ∑ t : Fin cfg0.N, part m c t (ix2 i j) = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j) := by
  unfold part
  by_cases h' : i.val = 0
  · rw [ref9_0 _ _ _ _ _ _ i h' j, ← Norm.regroup N_0]
    refine Finset.sum_congr rfl fun t _ => (if_neg h).trans ((if_pos h').trans (Finset.sum_congr rfl fun p _ => ?_))
    exact congrArg₂ (· * ·) (ec_eq m c t p j) (congrArg₂ (· * ·) (yo_eq m c t p j) (yrinv_eq m c t p))
  · rw [ref9_2 _ _ _ _ _ _ i h h' j]
    exact Finset.sum_eq_zero fun t _ => (if_neg h).trans (if_neg h')

theorem acc_total (c : Dev nD) (t : Fin cfg0.N) (h1 : t.val % 16 = 15) (i : Fin 8) (j : Fin 1024) :
    (outsAt0 m c t.val t.isLt).2.2.2 (ix2 i j) = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j) := by
  rw [acc_C m c t (by omega) h1]
  by_cases h : i.val = 1
  · refine (if_pos h).trans ?_
    rw [ref9_1 _ _ _ _ _ _ i h j, zero_add, ← Norm.loss_scale]
    refine congrArg (_ * ·) (Finset.sum_congr rfl fun k _ => ?_)
    exact (accs_last m c t h1 _).trans (part_1 m c k)
  · refine (if_neg h).trans ?_
    exact (accs_last m c t h1 _).trans (part_0 m c i h j)

theorem final_6 (c : Dev nD) : (dats m 0 c).arrAt 6 (cfgs 0).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out6]
  idx_vars y
  have e : ((View.whole main_v9_0).slice (win0_6.rect t)).emb (ix2 y0 y1)
      = (ix2 ⟨512 * t.val + y0.val, by have := lt_of_lt_of_eq t.isLt N_0; omega⟩ y1 : S8192x1024.Idx) := by
    blk_ext [idx t]
  rw [e]
  exact dx_eq m c t y0 y1

theorem final_7 (c : Dev nD) : (dats m 0 c).arrAt 7 (cfgs 0).N = REF7 (m ((c : Thread nD τ).loc main_arg0)) (m ((c : Thread nD τ).loc main_arg1)) := by
  refine (dats m 0 c).arrAt_eq_of_covers 7 _ (by decide +kernel) fun t hf y => ?_
  blk_simp
  rw [after0_7, out7]
  idx_vars y
  have e : ((View.whole main_v9_1).slice (win0_7.rect t)).emb (ix2 y0 y1)
      = (ix2 ⟨512 * t.val + y0.val, by have := lt_of_lt_of_eq t.isLt N_0; omega⟩ y1 : S8192x1024.Idx) := by
    blk_ext [idx t]
  rw [e]
  pointwise [REF7]
  exact hn_eq m c t y0 y1

theorem final_8 (c : Dev nD) : (dats m 0 c).arrAt 8 (cfgs 0).N = REF8 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, out8]
  idx_vars y
  have e : ((View.whole main_v9_2).slice (win0_8.rect t)).emb (ix2 y0 y1)
      = (ix2 ⟨512 * t.val + y0.val, by have := lt_of_lt_of_eq t.isLt N_0; omega⟩ y1 : S8192x4096.Idx) := by
    blk_ext [idx t]
  rw [e]
  pointwise [REF8]
  exact ac_eq m c t y0 y1

theorem final_9 (c : Dev nD) : (dats m 0 c).arrAt 9 (cfgs 0).N = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have h15 : t.val % 16 = 15 := (flush0_9 t).mp hf
  blk_simp
  rw [after0_9]
  idx_vars y
  have e : ((View.whole main_v9_3).slice (win0_9.rect t)).emb (ix2 y0 y1) = (ix2 y0 y1 : S8x1024.Idx) := by
    blk_ext [idx t]
  rw [e]
  exact acc_total m c t h15 y0 y1

end Cert.Kernel8Ideal.Fwd

end
-- ==== Proof.InprojFwdBlock.lean ====
/-
  The forward input projection (program `Kernel9`): what a grid point computes of its blocks, the normalised tokens and
  their products with the weight, the first 1536 of them with the features as rows.
-/
module

public import proofs.«01_k».proof.Proof.Gen.Kernel9Ideal.Value
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Inf

open Cert.Kernel9Ideal Cert.Kernel9Ideal.Gen

variable (m : (ℓ : Loc nD τ sig) → Buf (Elt Ideal) ℓ)

/-- The windows' block indices at every grid point. -/
theorem idx : ∀ t : Fin cfg0.N, win0_0.index t = ![t.val, 0] ∧ win0_1.index t = ![1, 0, 0] ∧ win0_2.index t = ![0, 0]
    ∧ win0_3.index t = ![t.val, 0] ∧ win0_4.index t = ![0, t.val] ∧ win0_5.index t = ![0, t.val] ∧ win0_6.index t = ![0, t.val]
    ∧ win0_7.index t = ![t.val, 0] :=
  (by decide +kernel : ∀ t : Fin grid0.N, _)

section
variable (x0 : Vec Ideal S512x1024 .f32) (x1 : Vec Ideal S1x1x1024 .f32) (x2 : Vec Ideal S6656x1024 .bf16)

/-- The normalised and scaled input at a token and a column. -/
def hn (p : Fin 512) (j : Fin 1024) : EReal := x0 (ix2 p j) * Norm.rinv (fun k => x0 (ix2 p k)) * x1 (ix3 0 0 j)

/-- Its product with a row of the weight. -/
def pr (p : Fin 512) (f : Fin 6656) : EReal := ∑ k : Fin 1024, hn x0 x1 p k * x2 (ix2 f k)

theorem ld_g (j : Fin 1024) : View.ld x1 r0_1 (ix3 0 0 j) = x1 (ix3 0 0 j) := congrArg x1 (show r0_1.emb (ix3 0 0 j) = ix3 0 0 j by blk_ext)

theorem hn_lo (z : Fin 256) (k : Fin 1024) : (k0_pay6 (View.ld x0 r0_0) (View.ld x1 r0_1) : FVec Ideal S256x1024 .bf16) (ix2 z k) = hn x0 x1 ⟨z.val, by omega⟩ k := by
  have hg := ld_g x1 k
  unfold hn
  rw [← hg]
  pointwise [k0_pay6]
  rfl

theorem hw_lo (i) (y : (⟨2, ![256, 1024]⟩ : Shape).Idx) : (k0_pay6 (View.ld x0 r0_0) (View.ld x1 r0_1) : FVec Ideal S256x1024 .bf16) y
    = (fun j : S512x1024.Idx => hn x0 x1 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  exact hn_lo x0 x1 z0 z1

theorem gt_lo0 (i) (y : (⟨2, ![256, 1024]⟩ : Shape).Idx) : (k0_pay10 (k0_pay6 (View.ld x0 r0_0) (View.ld x1 r0_1)) (View.ld x2 r0_7) : FVec Ideal S256x1024 .bf16) y
    = (fun j : S512x5120.Idx => pr x0 x1 x2 (j 0) ⟨1536 + (j 1).val, by have h : (j 1).val < 5120 := (j 1).isLt; omega⟩) ((Rect.unit (s := S512x5120) ![0, 0] ![256, 1024] i).emb y) := by
  obtain ⟨z0, z1, rfl⟩ : ∃ z0 z1, y = ix2 z0 z1 := ⟨y 0, y 1, eq_ix2 y⟩
  have e : (Rect.unit (s := S512x5120) ![0, 0] ![256, 1024] i).emb (ix2 z0 z1) = (ix2 ⟨z0.val, by omega⟩ ⟨0 + z1.val, by omega⟩ : S512x5120.Idx) := by
    blk_ext
  rw [e]
  have hh := hn_lo x0 x1 z0
  unfold pr
  pointwise [k0_pay10]
  simp only [hh]

theorem gt_lo1 (i) (y : (⟨2, ![256, 1024]⟩ : Shape).Idx) : (k0_pay11 (k0_pay6 (View.ld x0 r0_0) (View.ld x1 r0_1)) (View.ld x2 r0_9) : FVec Ideal S256x1024 .bf16) y
    = (fun j : S512x5120.Idx => pr x0 x1 x2 (j 0) ⟨1536 + (j 1).val, by have h : (j 1).val < 5120 := (j 1).isLt; omega⟩) ((Rect.unit (s := S512x5120) ![0, 1024] ![256, 1024] i).emb y) := by
  obtain ⟨z0, z1, rfl⟩ : ∃ z0 z1, y = ix2 z0 z1 := ⟨y 0, y 1, eq_ix2 y⟩
  have e : (Rect.unit (s := S512x5120) ![0, 1024] ![256, 1024] i).emb (ix2 z0 z1) = (ix2 ⟨z0.val, by omega⟩ ⟨1024 + z1.val, by omega⟩ : S512x5120.Idx) := by
    blk_ext
  rw [e]
  have hh := hn_lo x0 x1 z0
  unfold pr
  pointwise [k0_pay11]
  simp only [hh]
  exact Finset.sum_congr rfl fun k _ => congrArg (_ * ·) (congrArg x2 (by blk_ext))

theorem gt_lo2 (i) (y : (⟨2, ![256, 1024]⟩ : Shape).Idx) : (k0_pay12 (k0_pay6 (View.ld x0 r0_0) (View.ld x1 r0_1)) (View.ld x2 r0_11) : FVec Ideal S256x1024 .bf16) y
    = (fun j : S512x5120.Idx => pr x0 x1 x2 (j 0) ⟨1536 + (j 1).val, by have h : (j 1).val < 5120 := (j 1).isLt; omega⟩) ((Rect.unit (s := S512x5120) ![0, 2048] ![256, 1024] i).emb y) := by
  obtain ⟨z0, z1, rfl⟩ : ∃ z0 z1, y = ix2 z0 z1 := ⟨y 0, y 1, eq_ix2 y⟩
  have e : (Rect.unit (s := S512x5120) ![0, 2048] ![256, 1024] i).emb (ix2 z0 z1) = (ix2 ⟨z0.val, by omega⟩ ⟨2048 + z1.val, by omega⟩ : S512x5120.Idx) := by
    blk_ext
  rw [e]
  have hh := hn_lo x0 x1 z0
  unfold pr
  pointwise [k0_pay12]
  simp only [hh]
  exact Finset.sum_congr rfl fun k _ => congrArg (_ * ·) (congrArg x2 (by blk_ext))

theorem gt_lo3 (i) (y : (⟨2, ![256, 1024]⟩ : Shape).Idx) : (k0_pay13 (k0_pay6 (View.ld x0 r0_0) (View.ld x1 r0_1)) (View.ld x2 r0_13) : FVec Ideal S256x1024 .bf16) y
    = (fun j : S512x5120.Idx => pr x0 x1 x2 (j 0) ⟨1536 + (j 1).val, by have h : (j 1).val < 5120 := (j 1).isLt; omega⟩) ((Rect.unit (s := S512x5120) ![0, 3072] ![256, 1024] i).emb y) := by
  obtain ⟨z0, z1, rfl⟩ : ∃ z0 z1, y = ix2 z0 z1 := ⟨y 0, y 1, eq_ix2 y⟩
  have e : (Rect.unit (s := S512x5120) ![0, 3072] ![256, 1024] i).emb (ix2 z0 z1) = (ix2 ⟨z0.val, by omega⟩ ⟨3072 + z1.val, by omega⟩ : S512x5120.Idx) := by
    blk_ext
  rw [e]
  have hh := hn_lo x0 x1 z0
  unfold pr
  pointwise [k0_pay13]
  simp only [hh]
  exact Finset.sum_congr rfl fun k _ => congrArg (_ * ·) (congrArg x2 (by blk_ext))

theorem gt_lo4 (i) (y : (⟨2, ![256, 1024]⟩ : Shape).Idx) : (k0_pay14 (k0_pay6 (View.ld x0 r0_0) (View.ld x1 r0_1)) (View.ld x2 r0_15) : FVec Ideal S256x1024 .bf16) y
    = (fun j : S512x5120.Idx => pr x0 x1 x2 (j 0) ⟨1536 + (j 1).val, by have h : (j 1).val < 5120 := (j 1).isLt; omega⟩) ((Rect.unit (s := S512x5120) ![0, 4096] ![256, 1024] i).emb y) := by
  obtain ⟨z0, z1, rfl⟩ : ∃ z0 z1, y = ix2 z0 z1 := ⟨y 0, y 1, eq_ix2 y⟩
  have e : (Rect.unit (s := S512x5120) ![0, 4096] ![256, 1024] i).emb (ix2 z0 z1) = (ix2 ⟨z0.val, by omega⟩ ⟨4096 + z1.val, by omega⟩ : S512x5120.Idx) := by
    blk_ext
  rw [e]
  have hh := hn_lo x0 x1 z0
  unfold pr
  pointwise [k0_pay14]
  simp only [hh]
  exact Finset.sum_congr rfl fun k _ => congrArg (_ * ·) (congrArg x2 (by blk_ext))

theorem q_lo (i) (y : (⟨2, ![1024, 256]⟩ : Shape).Idx) : (k0_pay7 (View.ld x0 r0_0) (View.ld x1 r0_1) (View.ld x2 r0_2) : FVec Ideal S1024x256 .bf16) y
    = (fun j : S1024x512.Idx => pr x0 x1 x2 (j 1) ⟨(j 0).val, by have h : (j 0).val < 1024 := (j 0).isLt; omega⟩) ((Rect.unit (s := S1024x512) ![0, 0] ![1024, 256] i).emb y) := by
  obtain ⟨z0, z1, rfl⟩ : ∃ z0 z1, y = ix2 z0 z1 := ⟨y 0, y 1, eq_ix2 y⟩
  have e : (Rect.unit (s := S1024x512) ![0, 0] ![1024, 256] i).emb (ix2 z0 z1) = (ix2 z0 ⟨z1.val, by omega⟩ : S1024x512.Idx) := by
    blk_ext
  rw [e]
  have hh := hn_lo x0 x1 z1
  unfold pr
  pointwise [k0_pay7]
  simp only [hh]
  exact Finset.sum_congr rfl fun k _ => (mul_comm _ _).trans (congrArg (_ * ·) (congrArg x2 (by blk_ext)))

theorem k_lo (i) (y : (⟨2, ![256, 256]⟩ : Shape).Idx) : (k0_pay8 (View.ld x0 r0_0) (View.ld x1 r0_1) (View.ld x2 r0_4) : FVec Ideal S256x256 .bf16) y
    = (fun j : S256x512.Idx => pr x0 x1 x2 (j 1) ⟨1024 + (j 0).val, by have h : (j 0).val < 256 := (j 0).isLt; omega⟩) ((Rect.unit (s := S256x512) ![0, 0] ![256, 256] i).emb y) := by
  obtain ⟨z0, z1, rfl⟩ : ∃ z0 z1, y = ix2 z0 z1 := ⟨y 0, y 1, eq_ix2 y⟩
  have e : (Rect.unit (s := S256x512) ![0, 0] ![256, 256] i).emb (ix2 z0 z1) = (ix2 z0 ⟨z1.val, by omega⟩ : S256x512.Idx) := by
    blk_ext
  rw [e]
  have hh := hn_lo x0 x1 z1
  unfold pr
  pointwise [k0_pay8]
  simp only [hh]
  exact Finset.sum_congr rfl fun k _ => (mul_comm _ _).trans (congrArg (_ * ·) (congrArg x2 (by blk_ext)))

theorem v_lo (i) (y : (⟨2, ![256, 256]⟩ : Shape).Idx) : (k0_pay9 (View.ld x0 r0_0) (View.ld x1 r0_1) (View.ld x2 r0_6) : FVec Ideal S256x256 .bf16) y
    = (fun j : S256x512.Idx => pr x0 x1 x2 (j 1) ⟨1280 + (j 0).val, by have h : (j 0).val < 256 := (j 0).isLt; omega⟩) ((Rect.unit (s := S256x512) ![0, 0] ![256, 256] i).emb y) := by
  obtain ⟨z0, z1, rfl⟩ : ∃ z0 z1, y = ix2 z0 z1 := ⟨y 0, y 1, eq_ix2 y⟩
  have e : (Rect.unit (s := S256x512) ![0, 0] ![256, 256] i).emb (ix2 z0 z1) = (ix2 z0 ⟨z1.val, by omega⟩ : S256x512.Idx) := by
    blk_ext
  rw [e]
  have hh := hn_lo x0 x1 z1
  unfold pr
  pointwise [k0_pay9]
  simp only [hh]
  exact Finset.sum_congr rfl fun k _ => (mul_comm _ _).trans (congrArg (_ * ·) (congrArg x2 (by blk_ext)))

theorem hn_hi (z : Fin 256) (k : Fin 1024) : (k0_pay15 (View.ld x0 r0_17) (View.ld x1 r0_1) : FVec Ideal S256x1024 .bf16) (ix2 z k) = hn x0 x1 ⟨256 + z.val, by omega⟩ k := by
  have hg := ld_g x1 k
  unfold hn
  rw [← hg]
  pointwise [k0_pay15]
  rfl

theorem hw_hi (i) (y : (⟨2, ![256, 1024]⟩ : Shape).Idx) : (k0_pay15 (View.ld x0 r0_17) (View.ld x1 r0_1) : FVec Ideal S256x1024 .bf16) y
    = (fun j : S512x1024.Idx => hn x0 x1 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  exact hn_hi x0 x1 z0 z1

theorem gt_hi0 (i) (y : (⟨2, ![256, 1024]⟩ : Shape).Idx) : (k0_pay1 (k0_pay15 (View.ld x0 r0_17) (View.ld x1 r0_1)) (View.ld x2 r0_7) : FVec Ideal S256x1024 .bf16) y
    = (fun j : S512x5120.Idx => pr x0 x1 x2 (j 0) ⟨1536 + (j 1).val, by have h : (j 1).val < 5120 := (j 1).isLt; omega⟩) ((Rect.unit (s := S512x5120) ![256, 0] ![256, 1024] i).emb y) := by
  obtain ⟨z0, z1, rfl⟩ : ∃ z0 z1, y = ix2 z0 z1 := ⟨y 0, y 1, eq_ix2 y⟩
  have e : (Rect.unit (s := S512x5120) ![256, 0] ![256, 1024] i).emb (ix2 z0 z1) = (ix2 ⟨256 + z0.val, by omega⟩ ⟨0 + z1.val, by omega⟩ : S512x5120.Idx) := by
    blk_ext
  rw [e]
  have hh := hn_hi x0 x1 z0
  unfold pr
  pointwise [k0_pay1]
  simp only [hh]

theorem gt_hi1 (i) (y : (⟨2, ![256, 1024]⟩ : Shape).Idx) : (k0_pay2 (k0_pay15 (View.ld x0 r0_17) (View.ld x1 r0_1)) (View.ld x2 r0_9) : FVec Ideal S256x1024 .bf16) y
    = (fun j : S512x5120.Idx => pr x0 x1 x2 (j 0) ⟨1536 + (j 1).val, by have h : (j 1).val < 5120 := (j 1).isLt; omega⟩) ((Rect.unit (s := S512x5120) ![256, 1024] ![256, 1024] i).emb y) := by
  obtain ⟨z0, z1, rfl⟩ : ∃ z0 z1, y = ix2 z0 z1 := ⟨y 0, y 1, eq_ix2 y⟩
  have e : (Rect.unit (s := S512x5120) ![256, 1024] ![256, 1024] i).emb (ix2 z0 z1) = (ix2 ⟨256 + z0.val, by omega⟩ ⟨1024 + z1.val, by omega⟩ : S512x5120.Idx) := by
    blk_ext
  rw [e]
  have hh := hn_hi x0 x1 z0
  unfold pr
  pointwise [k0_pay2]
  simp only [hh]
  exact Finset.sum_congr rfl fun k _ => congrArg (_ * ·) (congrArg x2 (by blk_ext))

theorem gt_hi2 (i) (y : (⟨2, ![256, 1024]⟩ : Shape).Idx) : (k0_pay3 (k0_pay15 (View.ld x0 r0_17) (View.ld x1 r0_1)) (View.ld x2 r0_11) : FVec Ideal S256x1024 .bf16) y
    = (fun j : S512x5120.Idx => pr x0 x1 x2 (j 0) ⟨1536 + (j 1).val, by have h : (j 1).val < 5120 := (j 1).isLt; omega⟩) ((Rect.unit (s := S512x5120) ![256, 2048] ![256, 1024] i).emb y) := by
  obtain ⟨z0, z1, rfl⟩ : ∃ z0 z1, y = ix2 z0 z1 := ⟨y 0, y 1, eq_ix2 y⟩
  have e : (Rect.unit (s := S512x5120) ![256, 2048] ![256, 1024] i).emb (ix2 z0 z1) = (ix2 ⟨256 + z0.val, by omega⟩ ⟨2048 + z1.val, by omega⟩ : S512x5120.Idx) := by
    blk_ext
  rw [e]
  have hh := hn_hi x0 x1 z0
  unfold pr
  pointwise [k0_pay3]
  simp only [hh]
  exact Finset.sum_congr rfl fun k _ => congrArg (_ * ·) (congrArg x2 (by blk_ext))

theorem gt_hi3 (i) (y : (⟨2, ![256, 1024]⟩ : Shape).Idx) : (k0_pay4 (k0_pay15 (View.ld x0 r0_17) (View.ld x1 r0_1)) (View.ld x2 r0_13) : FVec Ideal S256x1024 .bf16) y
    = (fun j : S512x5120.Idx => pr x0 x1 x2 (j 0) ⟨1536 + (j 1).val, by have h : (j 1).val < 5120 := (j 1).isLt; omega⟩) ((Rect.unit (s := S512x5120) ![256, 3072] ![256, 1024] i).emb y) := by
  obtain ⟨z0, z1, rfl⟩ : ∃ z0 z1, y = ix2 z0 z1 := ⟨y 0, y 1, eq_ix2 y⟩
  have e : (Rect.unit (s := S512x5120) ![256, 3072] ![256, 1024] i).emb (ix2 z0 z1) = (ix2 ⟨256 + z0.val, by omega⟩ ⟨3072 + z1.val, by omega⟩ : S512x5120.Idx) := by
    blk_ext
  rw [e]
  have hh := hn_hi x0 x1 z0
  unfold pr
  pointwise [k0_pay4]
  simp only [hh]
  exact Finset.sum_congr rfl fun k _ => congrArg (_ * ·) (congrArg x2 (by blk_ext))

theorem gt_hi4 (i) (y : (⟨2, ![256, 1024]⟩ : Shape).Idx) : (k0_pay5 (k0_pay15 (View.ld x0 r0_17) (View.ld x1 r0_1)) (View.ld x2 r0_15) : FVec Ideal S256x1024 .bf16) y
    = (fun j : S512x5120.Idx => pr x0 x1 x2 (j 0) ⟨1536 + (j 1).val, by have h : (j 1).val < 5120 := (j 1).isLt; omega⟩) ((Rect.unit (s := S512x5120) ![256, 4096] ![256, 1024] i).emb y) := by
  obtain ⟨z0, z1, rfl⟩ : ∃ z0 z1, y = ix2 z0 z1 := ⟨y 0, y 1, eq_ix2 y⟩
  have e : (Rect.unit (s := S512x5120) ![256, 4096] ![256, 1024] i).emb (ix2 z0 z1) = (ix2 ⟨256 + z0.val, by omega⟩ ⟨4096 + z1.val, by omega⟩ : S512x5120.Idx) := by
    blk_ext
  rw [e]
  have hh := hn_hi x0 x1 z0
  unfold pr
  pointwise [k0_pay5]
  simp only [hh]
  exact Finset.sum_congr rfl fun k _ => congrArg (_ * ·) (congrArg x2 (by blk_ext))

theorem q_hi (i) (y : (⟨2, ![1024, 256]⟩ : Shape).Idx) : (k0_pay16 (View.ld x0 r0_17) (View.ld x1 r0_1) (View.ld x2 r0_2) : FVec Ideal S1024x256 .bf16) y
    = (fun j : S1024x512.Idx => pr x0 x1 x2 (j 1) ⟨(j 0).val, by have h : (j 0).val < 1024 := (j 0).isLt; omega⟩) ((Rect.unit (s := S1024x512) ![0, 256] ![1024, 256] i).emb y) := by
  obtain ⟨z0, z1, rfl⟩ : ∃ z0 z1, y = ix2 z0 z1 := ⟨y 0, y 1, eq_ix2 y⟩
  have e : (Rect.unit (s := S1024x512) ![0, 256] ![1024, 256] i).emb (ix2 z0 z1) = (ix2 z0 ⟨256 + z1.val, by omega⟩ : S1024x512.Idx) := by
    blk_ext
  rw [e]
  have hh := hn_hi x0 x1 z1
  unfold pr
  pointwise [k0_pay16]
  simp only [hh]
  exact Finset.sum_congr rfl fun k _ => (mul_comm _ _).trans (congrArg (_ * ·) (congrArg x2 (by blk_ext)))

theorem k_hi (i) (y : (⟨2, ![256, 256]⟩ : Shape).Idx) : (k0_pay17 (View.ld x0 r0_17) (View.ld x1 r0_1) (View.ld x2 r0_4) : FVec Ideal S256x256 .bf16) y
    = (fun j : S256x512.Idx => pr x0 x1 x2 (j 1) ⟨1024 + (j 0).val, by have h : (j 0).val < 256 := (j 0).isLt; omega⟩) ((Rect.unit (s := S256x512) ![0, 256] ![256, 256] i).emb y) := by
  obtain ⟨z0, z1, rfl⟩ : ∃ z0 z1, y = ix2 z0 z1 := ⟨y 0, y 1, eq_ix2 y⟩
  have e : (Rect.unit (s := S256x512) ![0, 256] ![256, 256] i).emb (ix2 z0 z1) = (ix2 z0 ⟨256 + z1.val, by omega⟩ : S256x512.Idx) := by
    blk_ext
  rw [e]
  have hh := hn_hi x0 x1 z1
  unfold pr
  pointwise [k0_pay17]
  simp only [hh]
  exact Finset.sum_congr rfl fun k _ => (mul_comm _ _).trans (congrArg (_ * ·) (congrArg x2 (by blk_ext)))

theorem v_hi (i) (y : (⟨2, ![256, 256]⟩ : Shape).Idx) : (k0_pay18 (View.ld x0 r0_17) (View.ld x1 r0_1) (View.ld x2 r0_6) : FVec Ideal S256x256 .bf16) y
    = (fun j : S256x512.Idx => pr x0 x1 x2 (j 1) ⟨1280 + (j 0).val, by have h : (j 0).val < 256 := (j 0).isLt; omega⟩) ((Rect.unit (s := S256x512) ![0, 256] ![256, 256] i).emb y) := by
  obtain ⟨z0, z1, rfl⟩ : ∃ z0 z1, y = ix2 z0 z1 := ⟨y 0, y 1, eq_ix2 y⟩
  have e : (Rect.unit (s := S256x512) ![0, 256] ![256, 256] i).emb (ix2 z0 z1) = (ix2 z0 ⟨256 + z1.val, by omega⟩ : S256x512.Idx) := by
    blk_ext
  rw [e]
  have hh := hn_hi x0 x1 z1
  unfold pr
  pointwise [k0_pay18]
  simp only [hh]
  exact Finset.sum_congr rfl fun k _ => (mul_comm _ _).trans (congrArg (_ * ·) (congrArg x2 (by blk_ext)))

/-! ## What a grid point leaves in its windows -/

theorem out3 (y : S512x5120.Idx) : out0_3 x0 x1 x2 y = pr x0 x1 x2 (y 0) ⟨1536 + (y 1).val, by have h : (y 1).val < 5120 := (y 1).isLt; omega⟩ := by
  unfold_out out0_3
  exact View.canon_append_of_piecesOf (Val := Elt Ideal) (s := S512x5120) (e := .bf16) (fun j => pr x0 x1 x2 (j 0) ⟨1536 + (j 1).val, by have h : (j 1).val < 5120 := (j 1).isLt; omega⟩) [] [_, _, _, _, _, _, _, _, _, _]
    ⟨gt_hi4 x0 x1 x2 inb_S512x5120_S256x1024_256_4096, gt_hi3 x0 x1 x2 inb_S512x5120_S256x1024_256_3072, gt_hi2 x0 x1 x2 inb_S512x5120_S256x1024_256_2048, gt_hi1 x0 x1 x2 inb_S512x5120_S256x1024_256_1024, gt_hi0 x0 x1 x2 inb_S512x5120_S256x1024_256_0, gt_lo4 x0 x1 x2 inb_S512x5120_S256x1024_0_4096, gt_lo3 x0 x1 x2 inb_S512x5120_S256x1024_0_3072, gt_lo2 x0 x1 x2 inb_S512x5120_S256x1024_0_2048, gt_lo1 x0 x1 x2 inb_S512x5120_S256x1024_0_1024, gt_lo0 x0 x1 x2 inb_S512x5120_S256x1024_0_0, trivial⟩ y
    (View.cover_of_tiledBy (s := S512x5120) _ (![256, 1024] : Fin 2 → ℕ) (by sl_kernel_rfl) _)

theorem out4 (y : S1024x512.Idx) : out0_4 x0 x1 x2 y = pr x0 x1 x2 (y 1) ⟨(y 0).val, by have h : (y 0).val < 1024 := (y 0).isLt; omega⟩ := by
  unfold_out out0_4
  exact View.canon_append_of_piecesOf (Val := Elt Ideal) (s := S1024x512) (e := .bf16) (fun j => pr x0 x1 x2 (j 1) ⟨(j 0).val, by have h : (j 0).val < 1024 := (j 0).isLt; omega⟩) [] [_, _]
    ⟨q_hi x0 x1 x2 inb_S1024x512_S1024x256_0_256, q_lo x0 x1 x2 inb_S1024x512_S1024x256_0_0, trivial⟩ y
    (View.cover_of_tiledBy (s := S1024x512) _ (![1024, 256] : Fin 2 → ℕ) (by sl_kernel_rfl) _)

theorem out5 (y : S256x512.Idx) : out0_5 x0 x1 x2 y = pr x0 x1 x2 (y 1) ⟨1024 + (y 0).val, by have h : (y 0).val < 256 := (y 0).isLt; omega⟩ := by
  unfold_out out0_5
  exact View.canon_append_of_piecesOf (Val := Elt Ideal) (s := S256x512) (e := .bf16) (fun j => pr x0 x1 x2 (j 1) ⟨1024 + (j 0).val, by have h : (j 0).val < 256 := (j 0).isLt; omega⟩) [] [_, _]
    ⟨k_hi x0 x1 x2 inb_S256x512_S256x256_0_256, k_lo x0 x1 x2 inb_S256x512_S256x256_0_0, trivial⟩ y
    (View.cover_of_tiledBy (s := S256x512) _ (![256, 256] : Fin 2 → ℕ) (by sl_kernel_rfl) _)

theorem out6 (y : S256x512.Idx) : out0_6 x0 x1 x2 y = pr x0 x1 x2 (y 1) ⟨1280 + (y 0).val, by have h : (y 0).val < 256 := (y 0).isLt; omega⟩ := by
  unfold_out out0_6
  exact View.canon_append_of_piecesOf (Val := Elt Ideal) (s := S256x512) (e := .bf16) (fun j => pr x0 x1 x2 (j 1) ⟨1280 + (j 0).val, by have h : (j 0).val < 256 := (j 0).isLt; omega⟩) [] [_, _]
    ⟨v_hi x0 x1 x2 inb_S256x512_S256x256_0_256, v_lo x0 x1 x2 inb_S256x512_S256x256_0_0, trivial⟩ y
    (View.cover_of_tiledBy (s := S256x512) _ (![256, 256] : Fin 2 → ℕ) (by sl_kernel_rfl) _)

theorem out7 (y : S512x1024.Idx) : out0_7 x0 x1 x2 y = hn x0 x1 (y 0) (y 1) := by
  unfold_out out0_7
  exact View.canon_append_of_piecesOf (Val := Elt Ideal) (s := S512x1024) (e := .bf16) (fun j => hn x0 x1 (j 0) (j 1)) [] [_, _]
    ⟨hw_hi x0 x1 inb_S512x1024_S256x1024_256_0, hw_lo x0 x1 inb_S512x1024_S256x1024_0_0, trivial⟩ y
    (View.cover_of_tiledBy (s := S512x1024) _ (![256, 1024] : Fin 2 → ℕ) (by sl_kernel_rfl) _)

end

end Cert.Kernel9Ideal.Inf

end
-- ==== Proof.InprojFwd.lean ====
/-
  The value of the forward input projection (program `Kernel9`), against the reference: what the points compute are the
  reference's values at their tokens.
-/
module

public import proofs.«01_k».proof.Proof.InprojFwdBlock
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Inf

open Cert.Kernel9Ideal Cert.Kernel9Ideal.Gen

variable (m : (ℓ : Loc nD τ sig) → Buf (Elt Ideal) ℓ)

/-- The mean squares of the rows, plus the small constant. -/
def MSQ (x : FVec Ideal Cert.Reference9Ideal.S4x2048x1024 .f32) : FVec Ideal Cert.Reference9Ideal.S4x2048x1 .f32 :=
  (addf (Host.divf (broadcastInDim Cert.Reference9Ideal.S4x2048x1 ![0, 1] Cert.Reference9Ideal.Gen.bcast_S4x2048_S4x2048x1_0_1 (Host.reduceAdd (mulf x x) (constant Cert.Reference9Ideal.S_ .f32 0x00000000#32) Cert.Reference9Ideal.Gen.reducesTo_S4x2048x1024_S4x2048_d2 Cert.Reference9Ideal.Gen.h_S_)) (broadcastInDim Cert.Reference9Ideal.S4x2048x1 ![] Cert.Reference9Ideal.Gen.bcast_S_S4x2048x1 (constant Cert.Reference9Ideal.S_ .f32 0x44800000#32))) (broadcastInDim Cert.Reference9Ideal.S4x2048x1 ![] Cert.Reference9Ideal.Gen.bcast_S_S4x2048x1 (constant Cert.Reference9Ideal.S_ .f32 0x358637BD#32)))

/-- Their reciprocal roots. -/
def RINV (x : FVec Ideal Cert.Reference9Ideal.S4x2048x1024 .f32) : FVec Ideal Cert.Reference9Ideal.S4x2048x1 .f32 :=
  Host.rsqrt (MSQ x)

/-- The normalised and scaled input. -/
def HN (a0 : FVec Ideal Cert.Reference9Ideal.S4x2048x1024 .f32) (a1 : FVec Ideal Cert.Reference9Ideal.S2x1024 .f32) : FVec Ideal Cert.Reference9Ideal.S4x2048x1024 .f32 :=
  mulf (mulf a0 (broadcastInDim Cert.Reference9Ideal.S4x2048x1024 ![0, 1, 2] Cert.Reference9Ideal.Gen.bcast_S4x2048x1_S4x2048x1024_0_1_2 (RINV a0))) (broadcastInDim Cert.Reference9Ideal.S4x2048x1024 ![0, 1, 2] Cert.Reference9Ideal.Gen.bcast_S1x1x1024_S4x2048x1024_0_1_2 (broadcastInDim Cert.Reference9Ideal.S1x1x1024 ![2] Cert.Reference9Ideal.Gen.bcast_S1024_S1x1x1024_2 (shapeCast Cert.Reference9Ideal.S1024 (extractStridedSlice Cert.Reference9Ideal.S1x1024 ![1, 0] a1 Cert.Reference9Ideal.Gen.slices_S2x1024_S1x1024_1_0) Cert.Reference9Ideal.Gen.shapeCasts_S1x1024_S1024)))

/-- Its products with the weight. -/
def PR (a0 : FVec Ideal Cert.Reference9Ideal.S4x2048x1024 .f32) (a1 : FVec Ideal Cert.Reference9Ideal.S2x1024 .f32) (a2 : FVec Ideal Cert.Reference9Ideal.S1024x6656 .f32) : FVec Ideal Cert.Reference9Ideal.S4x2048x6656 .f32 :=
  Host.dotGeneral Cert.Reference9Ideal.dot_S4x2048x1024_S1024x6656_S4x2048x6656_2_0_01_1_n_n none (HN a0 a1) a2

/-- The reference's results. -/
def REF3 (a0 : FVec Ideal Cert.Reference9Ideal.S4x2048x1024 .f32) (a1 : FVec Ideal Cert.Reference9Ideal.S2x1024 .f32) (a2 : FVec Ideal Cert.Reference9Ideal.S1024x6656 .f32) : FVec Ideal Cert.Reference9Ideal.S8192x5120 .bf16 :=
  truncf .bf16 (shapeCast Cert.Reference9Ideal.S8192x5120 (extractStridedSlice Cert.Reference9Ideal.S4x2048x5120 ![0, 0, 1536] (PR a0 a1 a2) Cert.Reference9Ideal.Gen.slices_S4x2048x6656_S4x2048x5120_0_0_1536) Cert.Reference9Ideal.Gen.shapeCasts_S4x2048x5120_S8192x5120) Cert.Reference9Ideal.Gen.bitsLt_bf16_f32

def REF4 (a0 : FVec Ideal Cert.Reference9Ideal.S4x2048x1024 .f32) (a1 : FVec Ideal Cert.Reference9Ideal.S2x1024 .f32) (a2 : FVec Ideal Cert.Reference9Ideal.S1024x6656 .f32) : FVec Ideal Cert.Reference9Ideal.S1024x8192 .bf16 :=
  truncf .bf16 (transpose Cert.Reference9Ideal.S1024x8192 [1, 0] (shapeCast Cert.Reference9Ideal.S8192x1024 (extractStridedSlice Cert.Reference9Ideal.S4x2048x1024 ![0, 0, 0] (PR a0 a1 a2) Cert.Reference9Ideal.Gen.slices_S4x2048x6656_S4x2048x1024_0_0_0) Cert.Reference9Ideal.Gen.shapeCasts_S4x2048x1024_S8192x1024) Cert.Reference9Ideal.Gen.transposes_S8192x1024_S1024x8192_1_0) Cert.Reference9Ideal.Gen.bitsLt_bf16_f32

def REF5 (a0 : FVec Ideal Cert.Reference9Ideal.S4x2048x1024 .f32) (a1 : FVec Ideal Cert.Reference9Ideal.S2x1024 .f32) (a2 : FVec Ideal Cert.Reference9Ideal.S1024x6656 .f32) : FVec Ideal Cert.Reference9Ideal.S256x8192 .bf16 :=
  truncf .bf16 (transpose Cert.Reference9Ideal.S256x8192 [1, 0] (shapeCast Cert.Reference9Ideal.S8192x256 (extractStridedSlice Cert.Reference9Ideal.S4x2048x256 ![0, 0, 1024] (PR a0 a1 a2) Cert.Reference9Ideal.Gen.slices_S4x2048x6656_S4x2048x256_0_0_1024) Cert.Reference9Ideal.Gen.shapeCasts_S4x2048x256_S8192x256) Cert.Reference9Ideal.Gen.transposes_S8192x256_S256x8192_1_0) Cert.Reference9Ideal.Gen.bitsLt_bf16_f32

def REF6 (a0 : FVec Ideal Cert.Reference9Ideal.S4x2048x1024 .f32) (a1 : FVec Ideal Cert.Reference9Ideal.S2x1024 .f32) (a2 : FVec Ideal Cert.Reference9Ideal.S1024x6656 .f32) : FVec Ideal Cert.Reference9Ideal.S256x8192 .bf16 :=
  truncf .bf16 (transpose Cert.Reference9Ideal.S256x8192 [1, 0] (shapeCast Cert.Reference9Ideal.S8192x256 (extractStridedSlice Cert.Reference9Ideal.S4x2048x256 ![0, 0, 1280] (PR a0 a1 a2) Cert.Reference9Ideal.Gen.slices_S4x2048x6656_S4x2048x256_0_0_1280) Cert.Reference9Ideal.Gen.shapeCasts_S4x2048x256_S8192x256) Cert.Reference9Ideal.Gen.transposes_S8192x256_S256x8192_1_0) Cert.Reference9Ideal.Gen.bitsLt_bf16_f32

def REF7 (a0 : FVec Ideal Cert.Reference9Ideal.S4x2048x1024 .f32) (a1 : FVec Ideal Cert.Reference9Ideal.S2x1024 .f32) : FVec Ideal Cert.Reference9Ideal.S8192x1024 .bf16 :=
  truncf .bf16 (shapeCast Cert.Reference9Ideal.S8192x1024 (HN a0 a1) Cert.Reference9Ideal.Gen.shapeCasts_S4x2048x1024_S8192x1024) Cert.Reference9Ideal.Gen.bitsLt_bf16_f32

/-! ## The blocks read as the arguments' entries -/

theorem blk0 (c : Dev nD) (t : Fin cfg0.N) (p : Fin 512) (k : Fin 1024) : (show Vec Ideal S512x1024 .f32 from iblk m c 0 t) (ix2 p k)
    = (m ((c : Thread nD τ).loc main_arg0)) (ix3 ⟨(512 * t.val + p.val) / 2048, by have := lt_of_lt_of_eq t.isLt N_0; omega⟩ ⟨(512 * t.val + p.val) % 2048, by omega⟩ k) := by
  have hi := idx t
  blk_point [iblk, V, hi]

theorem blk1 (c : Dev nD) (t : Fin cfg0.N) (k : Fin 1024) : (show Vec Ideal S1x1x1024 .f32 from iblk m c 1 t) (ix3 0 0 k)
    = (m ((c : Thread nD τ).loc main_arg1)) (ix2 1 k) := by
  have hi := idx t
  blk_point [iblk, V, hi]

theorem blk2 (c : Dev nD) (t : Fin cfg0.N) (f : Fin 6656) (k : Fin 1024) : (show Vec Ideal S6656x1024 .bf16 from iblk m c 2 t) (ix2 f k)
    = (m ((c : Thread nD τ).loc main_arg2)) (ix2 k f) := by
  have hi := idx t
  blk_point [iblk, V, hi]

/-! ## What a point computes is the reference's value at its tokens -/

section
variable (c : Dev nD) (t : Fin cfg0.N) (p : Fin 512)

theorem row0_eq : (fun k => (show Vec Ideal S512x1024 .f32 from iblk m c 0 t) (ix2 p k)) = fun k => (m ((c : Thread nD τ).loc main_arg0)) (ix3 ⟨(512 * t.val + p.val) / 2048, by have := lt_of_lt_of_eq t.isLt N_0; omega⟩ ⟨(512 * t.val + p.val) % 2048, by omega⟩ k) :=
  funext fun k => blk0 m c t p k

theorem rinv_eq (x : FVec Ideal Cert.Reference9Ideal.S4x2048x1024 .f32) (b : Fin 4) (s : Fin 2048) : Norm.rinv (fun k => x (ix3 b s k)) = RINV x (ix3 b s 0) := by
  pointwise [RINV, MSQ]
  rfl

theorem hn_eq (j : Fin 1024) : hn (iblk m c 0 t) (iblk m c 1 t) p j = HN (m ((c : Thread nD τ).loc main_arg0)) (m ((c : Thread nD τ).loc main_arg1)) (ix3 ⟨(512 * t.val + p.val) / 2048, by have := lt_of_lt_of_eq t.isLt N_0; omega⟩ ⟨(512 * t.val + p.val) % 2048, by omega⟩ j) := by
  have h : Norm.rinv (fun k => (show Vec Ideal S512x1024 .f32 from iblk m c 0 t) (ix2 p k)) = RINV (m ((c : Thread nD τ).loc main_arg0)) (ix3 ⟨(512 * t.val + p.val) / 2048, by have := lt_of_lt_of_eq t.isLt N_0; omega⟩ ⟨(512 * t.val + p.val) % 2048, by omega⟩ 0) := by
    rw [row0_eq m c t p]
    exact rinv_eq _ _ _
  unfold hn
  pointwise [HN]
  exact congrArg₂ (· * ·) (congrArg₂ (· * ·) (blk0 m c t p j) h) (blk1 m c t j)

theorem pr_eq (f : Fin 6656) : pr (iblk m c 0 t) (iblk m c 1 t) (iblk m c 2 t) p f = PR (m ((c : Thread nD τ).loc main_arg0)) (m ((c : Thread nD τ).loc main_arg1)) (m ((c : Thread nD τ).loc main_arg2)) (ix3 ⟨(512 * t.val + p.val) / 2048, by have := lt_of_lt_of_eq t.isLt N_0; omega⟩ ⟨(512 * t.val + p.val) % 2048, by omega⟩ f) := by
  unfold pr
  pointwise [PR]
  exact Finset.sum_congr rfl fun k _ => congrArg₂ (· * ·) (hn_eq m c t p k) (blk2 m c t f k)

end

theorem final_3 (c : Dev nD) : (dats m 0 c).arrAt 3 (cfgs 0).N = REF3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  idx_vars y
  have e : ((View.whole main_v4_0).slice (win0_3.rect t)).emb (ix2 y0 y1)
      = (ix2 ⟨512 * t.val + y0.val, by have := lt_of_lt_of_eq t.isLt N_0; omega⟩ y1 : S8192x5120.Idx) := by
    blk_ext [idx t]
  rw [e]
  pointwise [REF3]
  exact pr_eq m c t y0 _

theorem final_4 (c : Dev nD) : (dats m 0 c).arrAt 4 (cfgs 0).N = REF4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, out4]
  idx_vars y
  have e : ((View.whole main_v4_1).slice (win0_4.rect t)).emb (ix2 y0 y1)
      = (ix2 y0 ⟨512 * t.val + y1.val, by have := lt_of_lt_of_eq t.isLt N_0; omega⟩ : S1024x8192.Idx) := by
    blk_ext [idx t]
  rw [e]
  pointwise [REF4]
  exact pr_eq m c t y1 _

theorem final_5 (c : Dev nD) : (dats m 0 c).arrAt 5 (cfgs 0).N = REF5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out5]
  idx_vars y
  have e : ((View.whole main_v4_2).slice (win0_5.rect t)).emb (ix2 y0 y1)
      = (ix2 y0 ⟨512 * t.val + y1.val, by have := lt_of_lt_of_eq t.isLt N_0; omega⟩ : S256x8192.Idx) := by
    blk_ext [idx t]
  rw [e]
  pointwise [REF5]
  exact pr_eq m c t y1 _

theorem final_6 (c : Dev nD) : (dats m 0 c).arrAt 6 (cfgs 0).N = REF6 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out6]
  idx_vars y
  have e : ((View.whole main_v4_3).slice (win0_6.rect t)).emb (ix2 y0 y1)
      = (ix2 y0 ⟨512 * t.val + y1.val, by have := lt_of_lt_of_eq t.isLt N_0; omega⟩ : S256x8192.Idx) := by
    blk_ext [idx t]
  rw [e]
  pointwise [REF6]
  exact pr_eq m c t y1 _

theorem final_7 (c : Dev nD) : (dats m 0 c).arrAt 7 (cfgs 0).N = REF7 (m ((c : Thread nD τ).loc main_arg0)) (m ((c : Thread nD τ).loc main_arg1)) := by
  refine (dats m 0 c).arrAt_eq_of_covers 7 _ (by decide +kernel) fun t hf y => ?_
  blk_simp
  rw [after0_7, out7]
  idx_vars y
  have e : ((View.whole main_v4_4).slice (win0_7.rect t)).emb (ix2 y0 y1)
      = (ix2 ⟨512 * t.val + y0.val, by have := lt_of_lt_of_eq t.isLt N_0; omega⟩ y1 : S8192x1024.Idx) := by
    blk_ext [idx t]
  rw [e]
  pointwise [REF7]
  exact hn_eq m c t y0 y1

end Cert.Kernel9Ideal.Inf

end
-- ==== Proof.MlpFwd0Block.lean ====
/-
  The forward call of the first layer's multilayer perceptron (program `Kernel10`): what a grid point computes of its
  blocks, the output and the saved activations.
-/
module

public import proofs.«01_k».proof.Proof.Gen.Kernel10Ideal.Value
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Fwd

open Cert.Kernel10Ideal Cert.Kernel10Ideal.Gen

variable (m : (ℓ : Loc nD τ sig) → Buf (Elt Ideal) ℓ)

/-- The windows' block indices at every grid point. -/
theorem idx : ∀ t : Fin cfg0.N, win0_0.index t = ![t.val, 0] ∧ win0_1.index t = ![0, 0, 0] ∧ win0_2.index t = ![0, 0, 0]
    ∧ win0_3.index t = ![1, 0, 0] ∧ win0_4.index t = ![t.val, 0] ∧ win0_5.index t = ![t.val, 0] ∧ win0_6.index t = ![t.val, 0] :=
  (by decide +kernel : ∀ t : Fin grid0.N, _)

section
variable (x0 : Vec Ideal S512x1024 .f32) (x1 : Vec Ideal S1x1x1024 .f32) (x2 x3 : Vec Ideal S1x4096x1024 .bf16)

/-- The normalised and scaled input at a token and a column. -/
def hn (p : Fin 512) (j : Fin 1024) : EReal := x0 (ix2 p j) * Norm.rinv (fun k => x0 (ix2 p k)) * x1 (ix3 0 0 j)

/-- The activations before the rectifier. -/
def ac (p : Fin 512) (f : Fin 4096) : EReal := ∑ k : Fin 1024, hn x0 x1 p k * x2 (ix3 0 f k)

/-- The block's output. -/
def yo (p : Fin 512) (j : Fin 1024) : EReal :=
  x0 (ix2 p j) + ∑ f : Fin 4096, max (ac x0 x1 x2 p f) 0 * max (ac x0 x1 x2 p f) 0 * x3 (ix3 0 f j)

theorem ld_g (j : Fin 1024) : View.ld x1 r0_1 (ix3 0 0 j) = x1 (ix3 0 0 j) := congrArg x1 (show r0_1.emb (ix3 0 0 j) = ix3 0 0 j by blk_ext)

theorem hn_lo (z : Fin 256) (k : Fin 1024) : (k0_pay5 (View.ld x0 r0_0) (View.ld x1 r0_1) : FVec Ideal S256x1024 .bf16) (ix2 z k) = hn x0 x1 ⟨z.val, by omega⟩ k := by
  have hg := ld_g x1 k
  unfold hn
  rw [← hg]
  pointwise [k0_pay5, k0_pay4]
  rfl

theorem hw_lo (i) (y : (⟨2, ![256, 1024]⟩ : Shape).Idx) : (k0_pay5 (View.ld x0 r0_0) (View.ld x1 r0_1) : FVec Ideal S256x1024 .bf16) y
    = (fun j : S512x1024.Idx => hn x0 x1 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  exact hn_lo x0 x1 z0 z1

theorem aw_lo0 (i) (y : (⟨2, ![256, 1024]⟩ : Shape).Idx) : (k0_pay7 (View.ld x0 r0_0) (View.ld x1 r0_1) (View.ld x2 r0_2) : FVec Ideal S256x1024 .bf16) y
    = (fun j : S512x4096.Idx => ac x0 x1 x2 (j 0) (j 1)) ((Rect.unit (s := S512x4096) ![0, 0] ![256, 1024] i).emb y) := by
  obtain ⟨z0, z1, rfl⟩ : ∃ z0 z1, y = ix2 z0 z1 := ⟨y 0, y 1, eq_ix2 y⟩
  have e : (Rect.unit (s := S512x4096) ![0, 0] ![256, 1024] i).emb (ix2 z0 z1) = (ix2 ⟨z0.val, by omega⟩ ⟨0 + z1.val, by omega⟩ : S512x4096.Idx) := by
    blk_ext
  rw [e]
  have hh := hn_lo x0 x1 z0
  unfold ac
  pointwise [k0_pay7, k0_pay6, k0_pay11, k0_pay10, k0_pay9, k0_pay13, k0_pay12, k0_pay16, k0_pay15]
  simp only [hh]

theorem aw_lo1 (i) (y : (⟨2, ![256, 1024]⟩ : Shape).Idx) : (k0_pay11 (k0_pay5 (View.ld x0 r0_0) (View.ld x1 r0_1)) (k0_pay9 (View.ld x2 r0_4)) : FVec Ideal S256x1024 .bf16) y
    = (fun j : S512x4096.Idx => ac x0 x1 x2 (j 0) (j 1)) ((Rect.unit (s := S512x4096) ![0, 1024] ![256, 1024] i).emb y) := by
  obtain ⟨z0, z1, rfl⟩ : ∃ z0 z1, y = ix2 z0 z1 := ⟨y 0, y 1, eq_ix2 y⟩
  have e : (Rect.unit (s := S512x4096) ![0, 1024] ![256, 1024] i).emb (ix2 z0 z1) = (ix2 ⟨z0.val, by omega⟩ ⟨1024 + z1.val, by omega⟩ : S512x4096.Idx) := by
    blk_ext
  rw [e]
  have hh := hn_lo x0 x1 z0
  unfold ac
  pointwise [k0_pay7, k0_pay6, k0_pay11, k0_pay10, k0_pay9, k0_pay13, k0_pay12, k0_pay16, k0_pay15]
  simp only [hh]

theorem aw_lo2 (i) (y : (⟨2, ![256, 1024]⟩ : Shape).Idx) : (k0_pay13 (k0_pay5 (View.ld x0 r0_0) (View.ld x1 r0_1)) (View.ld x2 r0_6) : FVec Ideal S256x1024 .bf16) y
    = (fun j : S512x4096.Idx => ac x0 x1 x2 (j 0) (j 1)) ((Rect.unit (s := S512x4096) ![0, 2048] ![256, 1024] i).emb y) := by
  obtain ⟨z0, z1, rfl⟩ : ∃ z0 z1, y = ix2 z0 z1 := ⟨y 0, y 1, eq_ix2 y⟩
  have e : (Rect.unit (s := S512x4096) ![0, 2048] ![256, 1024] i).emb (ix2 z0 z1) = (ix2 ⟨z0.val, by omega⟩ ⟨2048 + z1.val, by omega⟩ : S512x4096.Idx) := by
    blk_ext
  rw [e]
  have hh := hn_lo x0 x1 z0
  unfold ac
  pointwise [k0_pay7, k0_pay6, k0_pay11, k0_pay10, k0_pay9, k0_pay13, k0_pay12, k0_pay16, k0_pay15]
  simp only [hh]

theorem aw_lo3 (i) (y : (⟨2, ![256, 1024]⟩ : Shape).Idx) : (k0_pay16 (k0_pay5 (View.ld x0 r0_0) (View.ld x1 r0_1)) (View.ld x2 r0_8) : FVec Ideal S256x1024 .bf16) y
    = (fun j : S512x4096.Idx => ac x0 x1 x2 (j 0) (j 1)) ((Rect.unit (s := S512x4096) ![0, 3072] ![256, 1024] i).emb y) := by
  obtain ⟨z0, z1, rfl⟩ : ∃ z0 z1, y = ix2 z0 z1 := ⟨y 0, y 1, eq_ix2 y⟩
  have e : (Rect.unit (s := S512x4096) ![0, 3072] ![256, 1024] i).emb (ix2 z0 z1) = (ix2 ⟨z0.val, by omega⟩ ⟨3072 + z1.val, by omega⟩ : S512x4096.Idx) := by
    blk_ext
  rw [e]
  have hh := hn_lo x0 x1 z0
  unfold ac
  pointwise [k0_pay7, k0_pay6, k0_pay11, k0_pay10, k0_pay9, k0_pay13, k0_pay12, k0_pay16, k0_pay15]
  simp only [hh]

theorem yo_lo (z0 : Fin 256) (j : Fin 1024) : (k0_pay18 (k0_pay14 (k0_pay5 (View.ld x0 r0_0) (View.ld x1 r0_1)) (k0_pay8 (View.ld x0 r0_0) (View.ld x1 r0_1) (View.ld x2 r0_2) (View.ld x3 r0_2)) (k0_pay9 (View.ld x2 r0_4)) (View.ld x3 r0_4) (View.ld x2 r0_6) (View.ld x3 r0_6)) (k0_pay17 (k0_pay5 (View.ld x0 r0_0) (View.ld x1 r0_1)) (View.ld x2 r0_8)) (View.ld x3 r0_8) : FVec Ideal S256x1024 .f32) (ix2 z0 j) = yo x0 x1 x2 x3 ⟨z0.val, by omega⟩ j := by
  have hh := hn_lo x0 x1 z0
  unfold yo
  rw [Fin.sum_univ_tiles 4 1024 rfl, Fin.sum_univ_four, ← add_assoc, ← add_assoc, ← add_assoc]
  pointwise [k0_pay18, k0_pay14, k0_pay8, k0_pay9, k0_pay17, k0_pay15, k0_pay12, k0_pay10, k0_pay6, k0_pay4]
  simp only [hh]
  unfold ac
  refine congrArg₂ (· + ·) (congrArg₂ (· + ·) (congrArg₂ (· + ·) (congrArg₂ (· + ·) ?_ ?_) ?_) ?_) ?_
  · rfl
  all_goals
    exact Finset.sum_congr rfl fun f _ => congrArg₂ (· * ·) (congrArg (fun w => max w 0 * max w 0)
      (Finset.sum_congr rfl fun k _ => congrArg (_ * ·) (congrArg x2 (by blk_ext)))) (congrArg x3 (by blk_ext))

theorem yw_lo (i) (y : (⟨2, ![256, 1024]⟩ : Shape).Idx) : (k0_pay18 (k0_pay14 (k0_pay5 (View.ld x0 r0_0) (View.ld x1 r0_1)) (k0_pay8 (View.ld x0 r0_0) (View.ld x1 r0_1) (View.ld x2 r0_2) (View.ld x3 r0_2)) (k0_pay9 (View.ld x2 r0_4)) (View.ld x3 r0_4) (View.ld x2 r0_6) (View.ld x3 r0_6)) (k0_pay17 (k0_pay5 (View.ld x0 r0_0) (View.ld x1 r0_1)) (View.ld x2 r0_8)) (View.ld x3 r0_8) : FVec Ideal S256x1024 .f32) y
    = (fun j : S512x1024.Idx => yo x0 x1 x2 x3 (j 0) (j 1)) ((Rect.unit (s := S512x1024) ![0, 0] ![256, 1024] i).emb y) := by
  obtain ⟨z0, z1, rfl⟩ : ∃ z0 z1, y = ix2 z0 z1 := ⟨y 0, y 1, eq_ix2 y⟩
  have e : (Rect.unit (s := S512x1024) ![0, 0] ![256, 1024] i).emb (ix2 z0 z1) = (ix2 ⟨z0.val, by omega⟩ z1 : S512x1024.Idx) := by
    blk_ext
  rw [e]
  exact yo_lo x0 x1 x2 x3 z0 z1

theorem hn_hi (z : Fin 256) (k : Fin 1024) : (k0_pay20 (View.ld x0 r0_10) (View.ld x1 r0_1) : FVec Ideal S256x1024 .bf16) (ix2 z k) = hn x0 x1 ⟨256 + z.val, by omega⟩ k := by
  have hg := ld_g x1 k
  unfold hn
  rw [← hg]
  pointwise [k0_pay20, k0_pay19]
  rfl

theorem hw_hi (i) (y : (⟨2, ![256, 1024]⟩ : Shape).Idx) : (k0_pay20 (View.ld x0 r0_10) (View.ld x1 r0_1) : FVec Ideal S256x1024 .bf16) y
    = (fun j : S512x1024.Idx => hn x0 x1 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  exact hn_hi x0 x1 z0 z1

theorem aw_hi0 (i) (y : (⟨2, ![256, 1024]⟩ : Shape).Idx) : (k0_pay22 (View.ld x0 r0_10) (View.ld x1 r0_1) (View.ld x2 r0_2) : FVec Ideal S256x1024 .bf16) y
    = (fun j : S512x4096.Idx => ac x0 x1 x2 (j 0) (j 1)) ((Rect.unit (s := S512x4096) ![256, 0] ![256, 1024] i).emb y) := by
  obtain ⟨z0, z1, rfl⟩ : ∃ z0 z1, y = ix2 z0 z1 := ⟨y 0, y 1, eq_ix2 y⟩
  have e : (Rect.unit (s := S512x4096) ![256, 0] ![256, 1024] i).emb (ix2 z0 z1) = (ix2 ⟨256 + z0.val, by omega⟩ ⟨0 + z1.val, by omega⟩ : S512x4096.Idx) := by
    blk_ext
  rw [e]
  have hh := hn_hi x0 x1 z0
  unfold ac
  pointwise [k0_pay22, k0_pay21, k0_pay25, k0_pay24, k0_pay27, k0_pay26, k0_pay2, k0_pay1]
  simp only [hh]

theorem aw_hi1 (i) (y : (⟨2, ![256, 1024]⟩ : Shape).Idx) : (k0_pay25 (k0_pay20 (View.ld x0 r0_10) (View.ld x1 r0_1)) (View.ld x2 r0_4) : FVec Ideal S256x1024 .bf16) y
    = (fun j : S512x4096.Idx => ac x0 x1 x2 (j 0) (j 1)) ((Rect.unit (s := S512x4096) ![256, 1024] ![256, 1024] i).emb y) := by
  obtain ⟨z0, z1, rfl⟩ : ∃ z0 z1, y = ix2 z0 z1 := ⟨y 0, y 1, eq_ix2 y⟩
  have e : (Rect.unit (s := S512x4096) ![256, 1024] ![256, 1024] i).emb (ix2 z0 z1) = (ix2 ⟨256 + z0.val, by omega⟩ ⟨1024 + z1.val, by omega⟩ : S512x4096.Idx) := by
    blk_ext
  rw [e]
  have hh := hn_hi x0 x1 z0
  unfold ac
  pointwise [k0_pay22, k0_pay21, k0_pay25, k0_pay24, k0_pay27, k0_pay26, k0_pay2, k0_pay1]
  simp only [hh]

theorem aw_hi2 (i) (y : (⟨2, ![256, 1024]⟩ : Shape).Idx) : (k0_pay27 (k0_pay20 (View.ld x0 r0_10) (View.ld x1 r0_1)) (View.ld x2 r0_6) : FVec Ideal S256x1024 .bf16) y
    = (fun j : S512x4096.Idx => ac x0 x1 x2 (j 0) (j 1)) ((Rect.unit (s := S512x4096) ![256, 2048] ![256, 1024] i).emb y) := by
  obtain ⟨z0, z1, rfl⟩ : ∃ z0 z1, y = ix2 z0 z1 := ⟨y 0, y 1, eq_ix2 y⟩
  have e : (Rect.unit (s := S512x4096) ![256, 2048] ![256, 1024] i).emb (ix2 z0 z1) = (ix2 ⟨256 + z0.val, by omega⟩ ⟨2048 + z1.val, by omega⟩ : S512x4096.Idx) := by
    blk_ext
  rw [e]
  have hh := hn_hi x0 x1 z0
  unfold ac
  pointwise [k0_pay22, k0_pay21, k0_pay25, k0_pay24, k0_pay27, k0_pay26, k0_pay2, k0_pay1]
  simp only [hh]

theorem aw_hi3 (i) (y : (⟨2, ![256, 1024]⟩ : Shape).Idx) : (k0_pay2 (k0_pay20 (View.ld x0 r0_10) (View.ld x1 r0_1)) (View.ld x2 r0_8) : FVec Ideal S256x1024 .bf16) y
    = (fun j : S512x4096.Idx => ac x0 x1 x2 (j 0) (j 1)) ((Rect.unit (s := S512x4096) ![256, 3072] ![256, 1024] i).emb y) := by
  obtain ⟨z0, z1, rfl⟩ : ∃ z0 z1, y = ix2 z0 z1 := ⟨y 0, y 1, eq_ix2 y⟩
  have e : (Rect.unit (s := S512x4096) ![256, 3072] ![256, 1024] i).emb (ix2 z0 z1) = (ix2 ⟨256 + z0.val, by omega⟩ ⟨3072 + z1.val, by omega⟩ : S512x4096.Idx) := by
    blk_ext
  rw [e]
  have hh := hn_hi x0 x1 z0
  unfold ac
  pointwise [k0_pay22, k0_pay21, k0_pay25, k0_pay24, k0_pay27, k0_pay26, k0_pay2, k0_pay1]
  simp only [hh]

theorem yo_hi (z0 : Fin 256) (j : Fin 1024) : (k0_pay3 (k0_pay20 (View.ld x0 r0_10) (View.ld x1 r0_1)) (k0_pay28 (k0_pay19 (View.ld x0 r0_10)) (k0_pay20 (View.ld x0 r0_10) (View.ld x1 r0_1)) (k0_pay23 (View.ld x0 r0_10) (View.ld x1 r0_1) (View.ld x2 r0_2)) (View.ld x3 r0_2) (View.ld x2 r0_4) (View.ld x3 r0_4) (View.ld x2 r0_6) (View.ld x3 r0_6)) (View.ld x2 r0_8) (View.ld x3 r0_8) : FVec Ideal S256x1024 .f32) (ix2 z0 j) = yo x0 x1 x2 x3 ⟨256 + z0.val, by omega⟩ j := by
  have hh := hn_hi x0 x1 z0
  unfold yo
  rw [Fin.sum_univ_tiles 4 1024 rfl, Fin.sum_univ_four, ← add_assoc, ← add_assoc, ← add_assoc]
  pointwise [k0_pay3, k0_pay28, k0_pay23, k0_pay21, k0_pay24, k0_pay26, k0_pay1, k0_pay19]
  simp only [hh]
  unfold ac
  refine congrArg₂ (· + ·) (congrArg₂ (· + ·) (congrArg₂ (· + ·) (congrArg₂ (· + ·) ?_ ?_) ?_) ?_) ?_
  · rfl
  all_goals
    exact Finset.sum_congr rfl fun f _ => congrArg₂ (· * ·) (congrArg (fun w => max w 0 * max w 0)
      (Finset.sum_congr rfl fun k _ => congrArg (_ * ·) (congrArg x2 (by blk_ext)))) (congrArg x3 (by blk_ext))

theorem yw_hi (i) (y : (⟨2, ![256, 1024]⟩ : Shape).Idx) : (k0_pay3 (k0_pay20 (View.ld x0 r0_10) (View.ld x1 r0_1)) (k0_pay28 (k0_pay19 (View.ld x0 r0_10)) (k0_pay20 (View.ld x0 r0_10) (View.ld x1 r0_1)) (k0_pay23 (View.ld x0 r0_10) (View.ld x1 r0_1) (View.ld x2 r0_2)) (View.ld x3 r0_2) (View.ld x2 r0_4) (View.ld x3 r0_4) (View.ld x2 r0_6) (View.ld x3 r0_6)) (View.ld x2 r0_8) (View.ld x3 r0_8) : FVec Ideal S256x1024 .f32) y
    = (fun j : S512x1024.Idx => yo x0 x1 x2 x3 (j 0) (j 1)) ((Rect.unit (s := S512x1024) ![256, 0] ![256, 1024] i).emb y) := by
  obtain ⟨z0, z1, rfl⟩ : ∃ z0 z1, y = ix2 z0 z1 := ⟨y 0, y 1, eq_ix2 y⟩
  have e : (Rect.unit (s := S512x1024) ![256, 0] ![256, 1024] i).emb (ix2 z0 z1) = (ix2 ⟨256 + z0.val, by omega⟩ z1 : S512x1024.Idx) := by
    blk_ext
  rw [e]
  exact yo_hi x0 x1 x2 x3 z0 z1

/-! ## What a grid point leaves in its windows -/

theorem out4 (y : S512x1024.Idx) : out0_4 x0 x1 x2 x3 y = yo x0 x1 x2 x3 (y 0) (y 1) := by
  unfold_out out0_4
  exact View.canon_append_of_piecesOf (Val := Elt Ideal) (s := S512x1024) (e := .f32) (fun j => yo x0 x1 x2 x3 (j 0) (j 1)) [] [_, _]
    ⟨yw_hi x0 x1 x2 x3 inb_S512x1024_S256x1024_256_0, yw_lo x0 x1 x2 x3 inb_S512x1024_S256x1024_0_0, trivial⟩ y
    (View.cover_of_tiledBy (s := S512x1024) _ (![256, 1024] : Fin 2 → ℕ) (by sl_kernel_rfl) _)

theorem out5 (y : S512x1024.Idx) : out0_5 x0 x1 x2 x3 y = hn x0 x1 (y 0) (y 1) := by
  unfold_out out0_5
  exact View.canon_append_of_piecesOf (Val := Elt Ideal) (s := S512x1024) (e := .bf16) (fun j => hn x0 x1 (j 0) (j 1)) [] [_, _]
    ⟨hw_hi x0 x1 inb_S512x1024_S256x1024_256_0, hw_lo x0 x1 inb_S512x1024_S256x1024_0_0, trivial⟩ y
    (View.cover_of_tiledBy (s := S512x1024) _ (![256, 1024] : Fin 2 → ℕ) (by sl_kernel_rfl) _)

theorem out6 (y : S512x4096.Idx) : out0_6 x0 x1 x2 x3 y = ac x0 x1 x2 (y 0) (y 1) := by
  unfold_out out0_6
  exact View.canon_append_of_piecesOf (Val := Elt Ideal) (s := S512x4096) (e := .bf16) (fun j => ac x0 x1 x2 (j 0) (j 1)) [] [_, _, _, _, _, _, _, _]
    ⟨aw_hi3 x0 x1 x2 inb_S512x4096_S256x1024_256_3072, aw_hi2 x0 x1 x2 inb_S512x4096_S256x1024_256_2048, aw_hi1 x0 x1 x2 inb_S512x4096_S256x1024_256_1024, aw_hi0 x0 x1 x2 inb_S512x4096_S256x1024_256_0, aw_lo3 x0 x1 x2 inb_S512x4096_S256x1024_0_3072, aw_lo2 x0 x1 x2 inb_S512x4096_S256x1024_0_2048, aw_lo1 x0 x1 x2 inb_S512x4096_S256x1024_0_1024, aw_lo0 x0 x1 x2 inb_S512x4096_S256x1024_0_0, trivial⟩ y
    (View.cover_of_tiledBy (s := S512x4096) _ (![256, 1024] : Fin 2 → ℕ) (by sl_kernel_rfl) _)

end

end Cert.Kernel10Ideal.Fwd

end
-- ==== Proof.MlpFwd0.lean ====
/-
  The value of the forward call of the first layer's multilayer perceptron (program `Kernel10`), against
  the reference: what the points compute are the reference's values at their tokens.
-/
module

public import proofs.«01_k».proof.Proof.MlpFwd0Block
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Fwd

open Cert.Kernel10Ideal Cert.Kernel10Ideal.Gen

variable (m : (ℓ : Loc nD τ sig) → Buf (Elt Ideal) ℓ)

/-- The mean squares of the rows, plus the small constant. -/
def MSQ (x : FVec Ideal Cert.Reference10Ideal.S4x2048x1024 .f32) : FVec Ideal Cert.Reference10Ideal.S4x2048x1 .f32 :=
  (addf (Host.divf (broadcastInDim Cert.Reference10Ideal.S4x2048x1 ![0, 1] Cert.Reference10Ideal.Gen.bcast_S4x2048_S4x2048x1_0_1 (Host.reduceAdd (mulf x x) (constant Cert.Reference10Ideal.S_ .f32 0x00000000#32) Cert.Reference10Ideal.Gen.reducesTo_S4x2048x1024_S4x2048_d2 Cert.Reference10Ideal.Gen.h_S_)) (broadcastInDim Cert.Reference10Ideal.S4x2048x1 ![] Cert.Reference10Ideal.Gen.bcast_S_S4x2048x1 (constant Cert.Reference10Ideal.S_ .f32 0x44800000#32))) (broadcastInDim Cert.Reference10Ideal.S4x2048x1 ![] Cert.Reference10Ideal.Gen.bcast_S_S4x2048x1 (constant Cert.Reference10Ideal.S_ .f32 0x358637BD#32)))

/-- Their reciprocal roots. -/
def RINV (x : FVec Ideal Cert.Reference10Ideal.S4x2048x1024 .f32) : FVec Ideal Cert.Reference10Ideal.S4x2048x1 .f32 :=
  Host.rsqrt (MSQ x)

/-- The normalised and scaled input. -/
def HN (a0 : FVec Ideal Cert.Reference10Ideal.S4x2048x1024 .f32) (a1 : FVec Ideal Cert.Reference10Ideal.S2x1024 .f32) : FVec Ideal Cert.Reference10Ideal.S4x2048x1024 .f32 :=
  mulf (mulf a0 (broadcastInDim Cert.Reference10Ideal.S4x2048x1024 ![0, 1, 2] Cert.Reference10Ideal.Gen.bcast_S4x2048x1_S4x2048x1024_0_1_2 (RINV a0))) (broadcastInDim Cert.Reference10Ideal.S4x2048x1024 ![0, 1, 2] Cert.Reference10Ideal.Gen.bcast_S1x1x1024_S4x2048x1024_0_1_2 (broadcastInDim Cert.Reference10Ideal.S1x1x1024 ![2] Cert.Reference10Ideal.Gen.bcast_S1024_S1x1x1024_2 (shapeCast Cert.Reference10Ideal.S1024 (extractStridedSlice Cert.Reference10Ideal.S1x1024 ![0, 0] a1 Cert.Reference10Ideal.Gen.slices_S2x1024_S1x1024_0_0) Cert.Reference10Ideal.Gen.shapeCasts_S1x1024_S1024)))

/-- The activations before the rectifier. -/
def ACT (a0 : FVec Ideal Cert.Reference10Ideal.S4x2048x1024 .f32) (a1 : FVec Ideal Cert.Reference10Ideal.S2x1024 .f32) (a2 : FVec Ideal Cert.Reference10Ideal.S1024x4096 .f32) : FVec Ideal Cert.Reference10Ideal.S4x2048x4096 .f32 :=
  Host.dotGeneral Cert.Reference10Ideal.dot_S4x2048x1024_S1024x4096_S4x2048x4096_2_0_01_1_n_n none (HN a0 a1) a2

/-- The block's output. -/
def YO (a0 : FVec Ideal Cert.Reference10Ideal.S4x2048x1024 .f32) (a1 : FVec Ideal Cert.Reference10Ideal.S2x1024 .f32) (a2 : FVec Ideal Cert.Reference10Ideal.S1024x4096 .f32) (a3 : FVec Ideal Cert.Reference10Ideal.S4096x1024 .f32) : FVec Ideal Cert.Reference10Ideal.S4x2048x1024 .f32 :=
  addf a0 (Host.dotGeneral Cert.Reference10Ideal.dot_S4x2048x4096_S4096x1024_S4x2048x1024_2_0_01_1_n_n none (mulf (maximumf (ACT a0 a1 a2) (broadcastInDim Cert.Reference10Ideal.S4x2048x4096 ![] Cert.Reference10Ideal.Gen.bcast_S_S4x2048x4096 (constant Cert.Reference10Ideal.S_ .f32 0x00000000#32))) (maximumf (ACT a0 a1 a2) (broadcastInDim Cert.Reference10Ideal.S4x2048x4096 ![] Cert.Reference10Ideal.Gen.bcast_S_S4x2048x4096 (constant Cert.Reference10Ideal.S_ .f32 0x00000000#32)))) a3)

/-- The reference's results. -/
def REF4 (a0 : FVec Ideal Cert.Reference10Ideal.S4x2048x1024 .f32) (a1 : FVec Ideal Cert.Reference10Ideal.S2x1024 .f32) (a2 : FVec Ideal Cert.Reference10Ideal.S1024x4096 .f32) (a3 : FVec Ideal Cert.Reference10Ideal.S4096x1024 .f32) : FVec Ideal Cert.Reference10Ideal.S8192x1024 .f32 :=
  shapeCast Cert.Reference10Ideal.S8192x1024 (YO a0 a1 a2 a3) Cert.Reference10Ideal.Gen.shapeCasts_S4x2048x1024_S8192x1024

def REF5 (a0 : FVec Ideal Cert.Reference10Ideal.S4x2048x1024 .f32) (a1 : FVec Ideal Cert.Reference10Ideal.S2x1024 .f32) : FVec Ideal Cert.Reference10Ideal.S8192x1024 .bf16 :=
  truncf .bf16 (shapeCast Cert.Reference10Ideal.S8192x1024 (HN a0 a1) Cert.Reference10Ideal.Gen.shapeCasts_S4x2048x1024_S8192x1024) Cert.Reference10Ideal.Gen.bitsLt_bf16_f32

def REF6 (a0 : FVec Ideal Cert.Reference10Ideal.S4x2048x1024 .f32) (a1 : FVec Ideal Cert.Reference10Ideal.S2x1024 .f32) (a2 : FVec Ideal Cert.Reference10Ideal.S1024x4096 .f32) : FVec Ideal Cert.Reference10Ideal.S8192x4096 .bf16 :=
  truncf .bf16 (shapeCast Cert.Reference10Ideal.S8192x4096 (ACT a0 a1 a2) Cert.Reference10Ideal.Gen.shapeCasts_S4x2048x4096_S8192x4096) Cert.Reference10Ideal.Gen.bitsLt_bf16_f32

/-- The two weights the call is handed, one after the other. -/
theorem entry4 (c : Dev nD) : V m c main_v4 = (truncf .bf16 (concatenate S2x4096x1024 0
    [⟨S1x4096x1024, broadcastInDim S1x4096x1024 ![1, 2] bcast_S4096x1024_S1x4096x1024_1_2 (transpose S4096x1024 [1, 0] (m ((c : Thread nD τ).loc main_arg2)) transposes_S1024x4096_S4096x1024_1_0)⟩,
      ⟨S1x4096x1024, broadcastInDim S1x4096x1024 ![1, 2] bcast_S4096x1024_S1x4096x1024_1_2 (m ((c : Thread nD τ).loc main_arg3))⟩]
    concatenates_S1x4096x1024_S1x4096x1024_S2x4096x1024_d0) bitsLt_bf16_f32 : FVec Ideal S2x4096x1024 .bf16) := by
  entry_read
  rfl

/-! ## The blocks read as the arguments' entries -/

theorem blk0 (c : Dev nD) (t : Fin cfg0.N) (p : Fin 512) (k : Fin 1024) : (show Vec Ideal S512x1024 .f32 from iblk m c 0 t) (ix2 p k)
    = (m ((c : Thread nD τ).loc main_arg0)) (ix3 ⟨(512 * t.val + p.val) / 2048, by have := lt_of_lt_of_eq t.isLt N_0; omega⟩ ⟨(512 * t.val + p.val) % 2048, by omega⟩ k) := by
  have hi := idx t
  blk_point [iblk, V, hi]

theorem blk1 (c : Dev nD) (t : Fin cfg0.N) (k : Fin 1024) : (show Vec Ideal S1x1x1024 .f32 from iblk m c 1 t) (ix3 0 0 k)
    = (m ((c : Thread nD τ).loc main_arg1)) (ix2 0 k) := by
  have hi := idx t
  blk_point [iblk, V, hi]

theorem blk2 (c : Dev nD) (t : Fin cfg0.N) (f : Fin 4096) (k : Fin 1024) : (show Vec Ideal S1x4096x1024 .bf16 from iblk m c 2 t) (ix3 0 f k)
    = (m ((c : Thread nD τ).loc main_arg2)) (ix2 k f) := by
  have hi := idx t
  have e : (win0_2.blk t).view.emb (ix3 0 f k) = (ix3 0 f k : S2x4096x1024.Idx) := by
    blk_ext [hi]
  refine (congrArg (V m c main_v4) e).trans ?_
  rw [entry4]
  pointwise []

theorem blk3 (c : Dev nD) (t : Fin cfg0.N) (f : Fin 4096) (k : Fin 1024) : (show Vec Ideal S1x4096x1024 .bf16 from iblk m c 3 t) (ix3 0 f k)
    = (m ((c : Thread nD τ).loc main_arg3)) (ix2 f k) := by
  have hi := idx t
  have e : (win0_3.blk t).view.emb (ix3 0 f k) = (ix3 1 f k : S2x4096x1024.Idx) := by
    blk_ext [hi]
  refine (congrArg (V m c main_v4) e).trans ?_
  rw [entry4]
  pointwise []

/-! ## What a point computes is the reference's value at its tokens -/

section
variable (c : Dev nD) (t : Fin cfg0.N) (p : Fin 512)

theorem row0_eq : (fun k => (show Vec Ideal S512x1024 .f32 from iblk m c 0 t) (ix2 p k)) = fun k => (m ((c : Thread nD τ).loc main_arg0)) (ix3 ⟨(512 * t.val + p.val) / 2048, by have := lt_of_lt_of_eq t.isLt N_0; omega⟩ ⟨(512 * t.val + p.val) % 2048, by omega⟩ k) :=
  funext fun k => blk0 m c t p k

theorem rinv_eq (x : FVec Ideal Cert.Reference10Ideal.S4x2048x1024 .f32) (b : Fin 4) (s : Fin 2048) : Norm.rinv (fun k => x (ix3 b s k)) = RINV x (ix3 b s 0) := by
  pointwise [RINV, MSQ]
  rfl

theorem hn_eq (j : Fin 1024) : hn (iblk m c 0 t) (iblk m c 1 t) p j = HN (m ((c : Thread nD τ).loc main_arg0)) (m ((c : Thread nD τ).loc main_arg1)) (ix3 ⟨(512 * t.val + p.val) / 2048, by have := lt_of_lt_of_eq t.isLt N_0; omega⟩ ⟨(512 * t.val + p.val) % 2048, by omega⟩ j) := by
  have h : Norm.rinv (fun k => (show Vec Ideal S512x1024 .f32 from iblk m c 0 t) (ix2 p k)) = RINV (m ((c : Thread nD τ).loc main_arg0)) (ix3 ⟨(512 * t.val + p.val) / 2048, by have := lt_of_lt_of_eq t.isLt N_0; omega⟩ ⟨(512 * t.val + p.val) % 2048, by omega⟩ 0) := by
    rw [row0_eq m c t p]
    exact rinv_eq _ _ _
  unfold hn
  pointwise [HN]
  exact congrArg₂ (· * ·) (congrArg₂ (· * ·) (blk0 m c t p j) h) (blk1 m c t j)

theorem ac_eq (f : Fin 4096) : ac (iblk m c 0 t) (iblk m c 1 t) (iblk m c 2 t) p f = ACT (m ((c : Thread nD τ).loc main_arg0)) (m ((c : Thread nD τ).loc main_arg1)) (m ((c : Thread nD τ).loc main_arg2)) (ix3 ⟨(512 * t.val + p.val) / 2048, by have := lt_of_lt_of_eq t.isLt N_0; omega⟩ ⟨(512 * t.val + p.val) % 2048, by omega⟩ f) := by
  unfold ac
  pointwise [ACT]
  exact Finset.sum_congr rfl fun k _ => congrArg₂ (· * ·) (hn_eq m c t p k) (blk2 m c t f k)

theorem yo_eq (j : Fin 1024) : yo (iblk m c 0 t) (iblk m c 1 t) (iblk m c 2 t) (iblk m c 3 t) p j = YO (m ((c : Thread nD τ).loc main_arg0)) (m ((c : Thread nD τ).loc main_arg1)) (m ((c : Thread nD τ).loc main_arg2)) (m ((c : Thread nD τ).loc main_arg3)) (ix3 ⟨(512 * t.val + p.val) / 2048, by have := lt_of_lt_of_eq t.isLt N_0; omega⟩ ⟨(512 * t.val + p.val) % 2048, by omega⟩ j) := by
  unfold yo
  pointwise [YO]
  exact congrArg₂ (· + ·) (blk0 m c t p j) (Finset.sum_congr rfl fun f _ => congrArg₂ (· * ·)
    (congrArg (fun w => max w 0 * max w 0) (ac_eq m c t p f)) (blk3 m c t f j))

end

theorem final_4 (c : Dev nD) : (dats m 0 c).arrAt 4 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  idx_vars y
  have e : ((View.whole main_v7_0).slice (win0_4.rect t)).emb (ix2 y0 y1)
      = (ix2 ⟨512 * t.val + y0.val, by have := lt_of_lt_of_eq t.isLt N_0; omega⟩ y1 : S8192x1024.Idx) := by
    blk_ext [idx t]
  rw [e]
  pointwise [REF4]
  exact yo_eq m c t y0 y1

theorem final_5 (c : Dev nD) : (dats m 0 c).arrAt 5 (cfgs 0).N = REF5 (m ((c : Thread nD τ).loc main_arg0)) (m ((c : Thread nD τ).loc main_arg1)) := by
  refine (dats m 0 c).arrAt_eq_of_covers 5 _ (by decide +kernel) fun t hf y => ?_
  blk_simp
  rw [after0_5, out5]
  idx_vars y
  have e : ((View.whole main_v7_1).slice (win0_5.rect t)).emb (ix2 y0 y1)
      = (ix2 ⟨512 * t.val + y0.val, by have := lt_of_lt_of_eq t.isLt N_0; omega⟩ y1 : S8192x1024.Idx) := by
    blk_ext [idx t]
  rw [e]
  pointwise [REF5]
  exact hn_eq m c t y0 y1

theorem final_6 (c : Dev nD) : (dats m 0 c).arrAt 6 (cfgs 0).N = REF6 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out6]
  idx_vars y
  have e : ((View.whole main_v7_2).slice (win0_6.rect t)).emb (ix2 y0 y1)
      = (ix2 ⟨512 * t.val + y0.val, by have := lt_of_lt_of_eq t.isLt N_0; omega⟩ y1 : S8192x4096.Idx) := by
    blk_ext [idx t]
  rw [e]
  pointwise [REF6]
  exact ac_eq m c t y0 y1

end Cert.Kernel10Ideal.Fwd

end
-- ==== Proof.Layer.lean ====
/-
  The weight gradients' calls of layer 0 (programs `Kernel11` to `Kernel14`): they have the text of layer 1's calls
  (programs `Kernel4` to `Kernel7`) apart from the call's name, so their bodies are equal.
-/
module

public import proofs.«01_k».proof.Proof.Gen.Kernel11Ideal
public import proofs.«01_k».proof.Proof.Gen.Kernel4Ideal
public import proofs.«01_k».proof.Proof.Gen.Kernel12Ideal
public import proofs.«01_k».proof.Proof.Gen.Kernel5Ideal
public import proofs.«01_k».proof.Proof.Gen.Kernel13Ideal
public import proofs.«01_k».proof.Proof.Gen.Kernel6Ideal
public import proofs.«01_k».proof.Proof.Gen.Kernel14Ideal
public import proofs.«01_k».proof.Proof.Gen.Kernel7Ideal

@[expose] public section

noncomputable section

namespace Cert.Layer

open Idealize.ShloMosaic

variable {F : FTy → Type} [FloatOps F]

theorem body_11 : Kernel11Ideal.defs₀ (F := F) = Kernel4Ideal.defs₀ (F := F) := by
  refine congrArg Defs.onTc (funext fun a => funext fun b => ?_)
  match a, b with
  | 0, b => rfl

theorem defs_11 : Kernel11Ideal.defs (F := F) = Kernel4Ideal.defs (F := F) :=
  congrArg (Pipeline.defs (Kernel4Ideal.pcfgs (F := F))) body_11

theorem body_12 : Kernel12Ideal.defs₀ (F := F) = Kernel5Ideal.defs₀ (F := F) := by
  refine congrArg Defs.onTc (funext fun a => funext fun b => ?_)
  match a, b with
  | 0, b => rfl

theorem defs_12 : Kernel12Ideal.defs (F := F) = Kernel5Ideal.defs (F := F) :=
  congrArg (Pipeline.defs (Kernel5Ideal.pcfgs (F := F))) body_12

theorem body_13 : Kernel13Ideal.defs₀ (F := F) = Kernel6Ideal.defs₀ (F := F) := by
  refine congrArg Defs.onTc (funext fun a => funext fun b => ?_)
  match a, b with
  | 0, b => rfl

theorem defs_13 : Kernel13Ideal.defs (F := F) = Kernel6Ideal.defs (F := F) :=
  congrArg (Pipeline.defs (Kernel6Ideal.pcfgs (F := F))) body_13

theorem body_14 : Kernel14Ideal.defs₀ (F := F) = Kernel7Ideal.defs₀ (F := F) := by
  refine congrArg Defs.onTc (funext fun a => funext fun b => ?_)
  match a, b with
  | 0, b => rfl

theorem defs_14 : Kernel14Ideal.defs (F := F) = Kernel7Ideal.defs (F := F) :=
  congrArg (Pipeline.defs (Kernel7Ideal.pcfgs (F := F))) body_14

end Cert.Layer

end
-- ==== Proof.lean ====
/-
  The certificate: the frames of the fourteen kernels (at machine words and over the extended reals) and of their
  references, and the value claims, each from the run of its two programs and the theorem about its kernel's results.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel4Ideal.Value
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel5Ideal.Value
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel6Ideal.Value
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel7Ideal.Value
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel8Ideal.Value
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel9Ideal.Value
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel10Ideal.Value
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Mixer
public import proofs.«01_k».proof.Proof.MlpGrad
public import proofs.«01_k».proof.Proof.InprojGrad
public import proofs.«01_k».proof.Proof.DownGrad
public import proofs.«01_k».proof.Proof.UpGrad
public import proofs.«01_k».proof.Proof.GateGrad
public import proofs.«01_k».proof.Proof.QkvGrad
public import proofs.«01_k».proof.Proof.MlpFwd
public import proofs.«01_k».proof.Proof.InprojFwd
public import proofs.«01_k».proof.Proof.MlpFwd0
public import proofs.«01_k».proof.Proof.Layer
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

noncomputable section

namespace Cert.Proof

open Idealize.ShloMosaic Idealize.ShloMosaic.TcCoe Idealize.SL.Sem

theorem ref_frame_1 : Cert.quiescent_ReferenceIdeal := by
  intro m g _
  run_from Cert.ReferenceIdeal.Value.run m g
  · simp
  · exact sem_eq_zero_of_no_sems (sig := Cert.ReferenceIdeal.sig) (by decide) _

theorem ref_frame_2 : Cert.quiescent_Reference2Ideal := by
  intro m g _
  run_from Cert.Reference2Ideal.Value.run m g
  · simp
  · exact sem_eq_zero_of_no_sems (sig := Cert.Reference2Ideal.sig) (by decide) _

theorem ref_frame_3 : Cert.quiescent_Reference3Ideal := by
  intro m g _
  run_from Cert.Reference3Ideal.Value.run m g
  · simp
  · exact sem_eq_zero_of_no_sems (sig := Cert.Reference3Ideal.sig) (by decide) _

theorem ref_frame_4 : Cert.quiescent_Reference4Ideal := by
  intro m g _
  run_from Cert.Reference4Ideal.Value.run m g
  · simp
  · exact sem_eq_zero_of_no_sems (sig := Cert.Reference4Ideal.sig) (by decide) _

theorem ref_frame_5 : Cert.quiescent_Reference5Ideal := by
  intro m g _
  run_from Cert.Reference5Ideal.Value.run m g
  · simp
  · exact sem_eq_zero_of_no_sems (sig := Cert.Reference5Ideal.sig) (by decide) _

theorem ref_frame_6 : Cert.quiescent_Reference6Ideal := by
  intro m g _
  run_from Cert.Reference6Ideal.Value.run m g
  · simp
  · exact sem_eq_zero_of_no_sems (sig := Cert.Reference6Ideal.sig) (by decide) _

theorem ref_frame_7 : Cert.quiescent_Reference7Ideal := by
  intro m g _
  run_from Cert.Reference7Ideal.Value.run m g
  · simp
  · exact sem_eq_zero_of_no_sems (sig := Cert.Reference7Ideal.sig) (by decide) _

theorem ref_frame_8 : Cert.quiescent_Reference8Ideal := by
  intro m g _
  run_from Cert.Reference8Ideal.Value.run m g
  · simp
  · exact sem_eq_zero_of_no_sems (sig := Cert.Reference8Ideal.sig) (by decide) _

theorem ref_frame_9 : Cert.quiescent_Reference9Ideal := by
  intro m g _
  run_from Cert.Reference9Ideal.Value.run m g
  · simp
  · exact sem_eq_zero_of_no_sems (sig := Cert.Reference9Ideal.sig) (by decide) _

theorem ref_frame_10 : Cert.quiescent_Reference10Ideal := by
  intro m g _
  run_from Cert.Reference10Ideal.Value.run m g
  · simp
  · exact sem_eq_zero_of_no_sems (sig := Cert.Reference10Ideal.sig) (by decide) _

set_option maxHeartbeats 4000000 in
theorem algebraic_1 : Cert.algebraic_KernelIdeal_ReferenceIdeal := by
  pair_intro
  · exact Cert.KernelIdeal.Value.run_blocks m g
  · refine Idealize.ShloMosaic.θ_run_mono (Cert.ReferenceIdeal.Value.run m' g') fun r hr c => ?_
    have ha := hagree c
    refine ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩
    · rw [Cert.KernelIdeal.Mixer.final_14 m c, ← ha.1, ← ha.2.1, ← ha.2.2.1, ← ha.2.2.2.1, ← ha.2.2.2.2.1, ← ha.2.2.2.2.2.1, ← ha.2.2.2.2.2.2.1, ← ha.2.2.2.2.2.2.2.1, ← ha.2.2.2.2.2.2.2.2]
      rfl
    · rw [Cert.KernelIdeal.Mixer.final_15 m c, ← ha.1, ← ha.2.1, ← ha.2.2.2.1, ← ha.2.2.2.2.2.1, ← ha.2.2.2.2.2.2.1]
      rfl
    · rw [Cert.KernelIdeal.Mixer.final_16 m c, ← ha.1, ← ha.2.1, ← ha.2.2.2.2.2.1, ← ha.2.2.2.2.2.2.1]
      rfl
    · rw [Cert.KernelIdeal.Mixer.final_17 m c, ← ha.1, ← ha.2.1, ← ha.2.2.2.2.2.1, ← ha.2.2.2.2.2.2.1]
      rfl
    · rw [Cert.KernelIdeal.Mixer.final_18 m c, ← ha.1]
      rfl
    · rw [Cert.KernelIdeal.Mixer.final_19 m c, ← ha.1, ← ha.2.1, ← ha.2.2.1, ← ha.2.2.2.1, ← ha.2.2.2.2.1, ← ha.2.2.2.2.2.1, ← ha.2.2.2.2.2.2.1, ← ha.2.2.2.2.2.2.2.1, ← ha.2.2.2.2.2.2.2.2]
      rfl

set_option maxHeartbeats 2000000 in
theorem algebraic_2 : Cert.algebraic_Kernel2Ideal_Reference2Ideal := by
  pair_intro
  · run_from Cert.Kernel2Ideal.Gen.run_main m g
  · refine Idealize.ShloMosaic.θ_run_mono (Cert.Reference2Ideal.Value.run m' g') fun r hr c => ?_
    have ha := hagree c
    refine ⟨(hr c).1.trans ?_, (hr c).2.1.trans ?_, (hr c).2.2.1.trans ?_, (hr c).2.2.2.1.trans ?_, (hr c).2.2.2.2⟩
    · rw [Cert.Kernel2Ideal.Mlp.final_6 m c, ← ha.1, ← ha.2.1, ← ha.2.2.1, ← ha.2.2.2.1, ← ha.2.2.2.2]
      rfl
    · rw [Cert.Kernel2Ideal.Mlp.final_7 m c, ← ha.1, ← ha.2.1, ← ha.2.2.1, ← ha.2.2.2.1, ← ha.2.2.2.2]
      rfl
    · rw [Cert.Kernel2Ideal.Mlp.final_8 m c, ← ha.1]
      rfl
    · rw [Cert.Kernel2Ideal.Mlp.final_9 m c, ← ha.1, ← ha.2.1, ← ha.2.2.1, ← ha.2.2.2.1, ← ha.2.2.2.2]
      rfl

set_option maxHeartbeats 4000000 in
theorem algebraic_3 : Cert.algebraic_Kernel3Ideal_Reference3Ideal := by
  pair_intro
  · run_from Cert.Kernel3Ideal.Gen.run_main m g
  · refine Idealize.ShloMosaic.θ_run_mono (Cert.Reference3Ideal.Value.run m' g') fun r hr c => ?_
    have ha := hagree c
    refine ⟨(hr c).1.trans ?_, (hr c).2.1.trans ?_, (hr c).2.2⟩
    · rw [Cert.Kernel3Ideal.Inproj.final_8 m c, ← ha.1, ← ha.2.1, ← ha.2.2.1, ← ha.2.2.2.1, ← ha.2.2.2.2.1, ← ha.2.2.2.2.2.1, ← ha.2.2.2.2.2.2.1, ← ha.2.2.2.2.2.2.2]
      rfl
    · rw [Cert.Kernel3Ideal.Inproj.final_9 m c, ← ha.1, ← ha.2.1, ← ha.2.2.1, ← ha.2.2.2.1, ← ha.2.2.2.2.1, ← ha.2.2.2.2.2.2.2]
      rfl

theorem algebraic_4 : Cert.algebraic_Kernel4Ideal_Reference4Ideal := by
  pair_intro
  · run_from Cert.Kernel4Ideal.Gen.run_main m g
  · run_from Cert.Reference4Ideal.Value.run m' g'
    exact (Cert.Kernel4Ideal.Down.final m c).symm

theorem algebraic_5 : Cert.algebraic_Kernel5Ideal_Reference5Ideal := by
  pair_intro
  · run_from Cert.Kernel5Ideal.Gen.run_main m g
  · run_from Cert.Reference5Ideal.Value.run m' g'
    exact (Cert.Kernel5Ideal.Up.final m c).symm

/-- The mask's one side condition. -/
instance on_gate_rows : Cert.On_gate_rows.Facts := ⟨by decide⟩

/-- The mask is the rows from 1536 on. -/
theorem gate_row (X0 X1) (i : (⟨2, ![6656, 1024]⟩ : Shape).Idx) (h : Cert.On_gate_rows.fn (F := Ideal) X0 X1 i = 1#1) :
    1536 ≤ (i 0).val := by
  have key : ∀ n : ℕ, n < 6656 → (1536#32).toInt ≤ (BitVec.ofNat 32 n).toInt → 1536 ≤ n := fun n hn hle => by
    rw [show (1536#32).toInt = 1536 by decide, BitVec.toInt_eq_toNat_of_lt (by rw [BitVec.toNat_ofNat]; omega), BitVec.toNat_ofNat] at hle
    omega
  refine key _ (i 0).isLt (IntOp.cmpi_sge.mp (Eq.trans ?_ h))
  simp only [Cert.On_gate_rows.fn]
  pointwise []

theorem algebraic_6 : Cert.algebraic_Kernel6Ideal_Reference6Ideal_on_gate_rows := by
  intro m g m' g' hpre hagree
  refine ⟨fun c => (Cert.Kernel6Ideal.Gen.dats m 0 c).arrAt 2 (Cert.Kernel6Ideal.cfgs 0).N, ?_, ?_⟩
  · run_from Cert.Kernel6Ideal.Gen.run_main m g
    exact fun _ _ => trivial
  · run_from Cert.Reference6Ideal.Value.run m' g'
    intro i h
    rw [Cert.Kernel6Ideal.Gate.final m c]
    exact (if_pos (gate_row _ _ i h)).symm

theorem algebraic_7 : Cert.algebraic_Kernel7Ideal_Reference7Ideal := by
  pair_intro
  · run_from Cert.Kernel7Ideal.Gen.run_main m g
  · run_from Cert.Reference7Ideal.Value.run m' g'
    rw [Cert.Kernel7Ideal.Qkv.final m c, ← (hagree c).2.2.2.2]
    rfl

set_option maxHeartbeats 4000000 in
theorem algebraic_8 : Cert.algebraic_Kernel8Ideal_Reference8Ideal := by
  pair_intro
  · run_from Cert.Kernel8Ideal.Gen.run_main m g
  · refine Idealize.ShloMosaic.θ_run_mono (Cert.Reference8Ideal.Value.run m' g') fun r hr c => ?_
    have ha := hagree c
    refine ⟨(hr c).1.trans ?_, (hr c).2.1.trans ?_, (hr c).2.2.1.trans ?_, (hr c).2.2.2.1.trans ?_, (hr c).2.2.2.2⟩
    · rw [Cert.Kernel8Ideal.Fwd.final_6 m c, ← ha.1, ← ha.2.1, ← ha.2.2.1, ← ha.2.2.2.1, ← ha.2.2.2.2.1, ← ha.2.2.2.2.2]
      rfl
    · rw [Cert.Kernel8Ideal.Fwd.final_7 m c, ← ha.1, ← ha.2.1]
      rfl
    · rw [Cert.Kernel8Ideal.Fwd.final_8 m c, ← ha.1, ← ha.2.1, ← ha.2.2.1]
      rfl
    · rw [Cert.Kernel8Ideal.Fwd.final_9 m c, ← ha.1, ← ha.2.1, ← ha.2.2.1, ← ha.2.2.2.1, ← ha.2.2.2.2.1, ← ha.2.2.2.2.2]
      rfl

set_option maxHeartbeats 4000000 in
theorem algebraic_9 : Cert.algebraic_Kernel9Ideal_Reference9Ideal := by
  pair_intro
  · run_from Cert.Kernel9Ideal.Gen.run_main m g
  · refine Idealize.ShloMosaic.θ_run_mono (Cert.Reference9Ideal.Value.run m' g') fun r hr c => ?_
    have ha := hagree c
    refine ⟨(hr c).1.trans ?_, (hr c).2.1.trans ?_, (hr c).2.2.1.trans ?_, (hr c).2.2.2.1.trans ?_, (hr c).2.2.2.2.1.trans ?_, (hr c).2.2.2.2.2⟩
    · rw [Cert.Kernel9Ideal.Inf.final_3 m c, ← ha.1, ← ha.2.1, ← ha.2.2]
      rfl
    · rw [Cert.Kernel9Ideal.Inf.final_4 m c, ← ha.1, ← ha.2.1, ← ha.2.2]
      rfl
    · rw [Cert.Kernel9Ideal.Inf.final_5 m c, ← ha.1, ← ha.2.1, ← ha.2.2]
      rfl
    · rw [Cert.Kernel9Ideal.Inf.final_6 m c, ← ha.1, ← ha.2.1, ← ha.2.2]
      rfl
    · rw [Cert.Kernel9Ideal.Inf.final_7 m c, ← ha.1, ← ha.2.1]
      rfl

set_option maxHeartbeats 4000000 in
theorem algebraic_10 : Cert.algebraic_Kernel10Ideal_Reference10Ideal := by
  pair_intro
  · run_from Cert.Kernel10Ideal.Gen.run_main m g
  · refine Idealize.ShloMosaic.θ_run_mono (Cert.Reference10Ideal.Value.run m' g') fun r hr c => ?_
    have ha := hagree c
    refine ⟨(hr c).1.trans ?_, (hr c).2.1.trans ?_, (hr c).2.2.1.trans ?_, (hr c).2.2.2⟩
    · rw [Cert.Kernel10Ideal.Fwd.final_4 m c, ← ha.1, ← ha.2.1, ← ha.2.2.1, ← ha.2.2.2]
      rfl
    · rw [Cert.Kernel10Ideal.Fwd.final_5 m c, ← ha.1, ← ha.2.1]
      rfl
    · rw [Cert.Kernel10Ideal.Fwd.final_6 m c, ← ha.1, ← ha.2.1, ← ha.2.2.1]
      rfl

theorem algebraic_11 : Cert.algebraic_Kernel11Ideal_Reference4Ideal := fun m g m' g' hp ha => by
  obtain ⟨v, h1, h2⟩ := algebraic_4 m g m' g' hp ha
  exact ⟨v, (congrArg (fun d => θ_run d (onTc (τ := Cert.Kernel11Ideal.τ) (Cert.Kernel11Ideal.main (F := Ideal))) ⟨m, fun _ => 0, g⟩ _)
    Cert.Layer.defs_11).mpr h1, h2⟩

theorem algebraic_12 : Cert.algebraic_Kernel12Ideal_Reference5Ideal := fun m g m' g' hp ha => by
  obtain ⟨v, h1, h2⟩ := algebraic_5 m g m' g' hp ha
  exact ⟨v, (congrArg (fun d => θ_run d (onTc (τ := Cert.Kernel12Ideal.τ) (Cert.Kernel12Ideal.main (F := Ideal))) ⟨m, fun _ => 0, g⟩ _)
    Cert.Layer.defs_12).mpr h1, h2⟩

theorem algebraic_13 : Cert.algebraic_Kernel13Ideal_Reference6Ideal_on_gate_rows := fun m g m' g' hp ha => by
  obtain ⟨v, h1, h2⟩ := algebraic_6 m g m' g' hp ha
  exact ⟨v, (congrArg (fun d => θ_run d (onTc (τ := Cert.Kernel13Ideal.τ) (Cert.Kernel13Ideal.main (F := Ideal))) ⟨m, fun _ => 0, g⟩ _)
    Cert.Layer.defs_13).mpr h1, h2⟩

theorem algebraic_14 : Cert.algebraic_Kernel14Ideal_Reference7Ideal := fun m g m' g' hp ha => by
  obtain ⟨v, h1, h2⟩ := algebraic_7 m g m' g' hp ha
  exact ⟨v, (congrArg (fun d => θ_run d (onTc (τ := Cert.Kernel14Ideal.τ) (Cert.Kernel14Ideal.main (F := Ideal))) ⟨m, fun _ => 0, g⟩ _)
    Cert.Layer.defs_14).mpr h1, h2⟩

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Kernel12.Gen.facts,
  Cert.Kernel12Ideal.Gen.facts,
  Cert.Kernel13.Gen.facts,
  Cert.Kernel13Ideal.Gen.facts,
  Cert.Kernel14.Gen.facts,
  Cert.Kernel14Ideal.Gen.facts,
  on_gate_rows,
  fun m ρ _ => Cert.Kernel.Gen.frame m ρ,
  fun m ρ _ => Cert.KernelIdeal.Gen.frame m ρ,
  ref_frame_1,
  fun m ρ _ => Cert.Kernel2.Gen.frame m ρ,
  fun m ρ _ => Cert.Kernel2Ideal.Gen.frame m ρ,
  ref_frame_2,
  fun m ρ _ => Cert.Kernel3.Gen.frame m ρ,
  fun m ρ _ => Cert.Kernel3Ideal.Gen.frame m ρ,
  ref_frame_3,
  fun m ρ _ => Cert.Kernel4.Gen.frame m ρ,
  fun m ρ _ => Cert.Kernel4Ideal.Gen.frame m ρ,
  ref_frame_4,
  fun m ρ _ => Cert.Kernel5.Gen.frame m ρ,
  fun m ρ _ => Cert.Kernel5Ideal.Gen.frame m ρ,
  ref_frame_5,
  fun m ρ _ => Cert.Kernel6.Gen.frame m ρ,
  fun m ρ _ => Cert.Kernel6Ideal.Gen.frame m ρ,
  ref_frame_6,
  fun m ρ _ => Cert.Kernel7.Gen.frame m ρ,
  fun m ρ _ => Cert.Kernel7Ideal.Gen.frame m ρ,
  ref_frame_7,
  fun m ρ _ => Cert.Kernel8.Gen.frame m ρ,
  fun m ρ _ => Cert.Kernel8Ideal.Gen.frame m ρ,
  ref_frame_8,
  fun m ρ _ => Cert.Kernel9.Gen.frame m ρ,
  fun m ρ _ => Cert.Kernel9Ideal.Gen.frame m ρ,
  ref_frame_9,
  fun m ρ _ => Cert.Kernel10.Gen.frame m ρ,
  fun m ρ _ => Cert.Kernel10Ideal.Gen.frame m ρ,
  ref_frame_10,
  fun m ρ _ => Cert.Kernel11.Gen.frame m ρ,
  fun m ρ _ => Cert.Kernel11Ideal.Gen.frame m ρ,
  fun m ρ _ => Cert.Kernel12.Gen.frame m ρ,
  fun m ρ _ => Cert.Kernel12Ideal.Gen.frame m ρ,
  fun m ρ _ => Cert.Kernel13.Gen.frame m ρ,
  fun m ρ _ => Cert.Kernel13Ideal.Gen.frame m ρ,
  fun m ρ _ => Cert.Kernel14.Gen.frame m ρ,
  fun m ρ _ => Cert.Kernel14Ideal.Gen.frame m ρ,
  trivial,
  algebraic_1,
  trivial,
  algebraic_2,
  trivial,
  algebraic_3,
  trivial,
  algebraic_4,
  trivial,
  algebraic_5,
  trivial,
  algebraic_6,
  trivial,
  algebraic_7,
  trivial,
  algebraic_8,
  trivial,
  algebraic_9,
  trivial,
  algebraic_10,
  trivial,
  algebraic_11,
  trivial,
  algebraic_12,
  trivial,
  algebraic_13,
  trivial,
  algebraic_14⟩

end Cert.Proof

end
